-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_and_values_tame [hPre_gates_and_values_tame : Cert.Pre_gates_and_values_tame.Facts] (m : (ℓ : Loc Cert.KernelIdeal.nD Cert.KernelIdeal.τ Cert.KernelIdeal.sig) → Buf (Elt Ideal) ℓ) : Prop :=
  ∀ c : Dev Cert.KernelIdeal.nD,
    (Cert.Pre_gates_and_values_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_and_values_tame [hPre_gates_and_values_tame : Cert.Pre_gates_and_values_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_and_values_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_and_values_tame [hKernelIdeal : Cert.KernelIdeal.Facts] [hPre_gates_and_values_tame : Cert.Pre_gates_and_values_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_and_values_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_and_values_tame [hReferenceIdeal : Cert.ReferenceIdeal.Facts] [hPre_gates_and_values_tame : Cert.Pre_gates_and_values_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_and_values_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def preserves_Kernel_KernelIdeal : Prop :=
  True

def algebraic_KernelIdeal_ReferenceIdeal_pre_gates_and_values_tame [hKernelIdeal : Cert.KernelIdeal.Facts] [hReferenceIdeal : Cert.ReferenceIdeal.Facts] [hPre_gates_and_values_tame : Cert.Pre_gates_and_values_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_and_values_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v218) = v0 c
          ∧ r.2.mem ((c.tc : Thread Cert.Reference4Ideal.nD Cert.Reference4Ideal.τ).loc Cert.Reference4Ideal.main_v221) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_and_values_tame : Cert.Pre_gates_and_values_tame.Facts) (hPre_experts_in_range : Cert.Pre_experts_in_range.Facts),
    quiescent_Kernel (hKernel := hKernel)
    ∧ quiescent_KernelIdeal (hKernelIdeal := hKernelIdeal)
    ∧ quiescent_KernelIdeal_pre_gates_and_values_tame (hKernelIdeal := hKernelIdeal) (hPre_gates_and_values_tame := hPre_gates_and_values_tame)
    ∧ quiescent_ReferenceIdeal (hReferenceIdeal := hReferenceIdeal)
    ∧ quiescent_ReferenceIdeal_pre_gates_and_values_tame (hReferenceIdeal := hReferenceIdeal) (hPre_gates_and_values_tame := hPre_gates_and_values_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_gates_and_values_tame (hKernelIdeal := hKernelIdeal) (hReferenceIdeal := hReferenceIdeal) (hPre_gates_and_values_tame := hPre_gates_and_values_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal)
-- ==== Pre_experts_in_range.lean ====
abbrev S552 : Shape := ⟨1, ![552]⟩
abbrev S1 : Shape := ⟨1, ![1]⟩
abbrev S141312x1024 : Shape := ⟨2, ![141312, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S552 : S_.BroadcastsInDim S552 (![] : Fin 0 → Fin S552.rank)
  reducesTo_S552_S_d0 : S552.ReducesTo [0] S_
  h_S_ : 0 < S_.numel

variable [Facts]

def fn {F : FTy → Type} [FloatOps F] (main_arg0 : IVec S552 32) (main_arg1 : IVec S1 32) (main_arg2 : FVec F S141312x1024 .f32) (main_arg3 : FVec F S4x32x1024x2048 .f32) (main_arg4 : FVec F S4x32x2048 .f32) (main_arg5 : FVec F S4x32x1024x1024 .f32) (main_arg6 : FVec F S4x32x1024 .f32) : IVec S_ 1 :=
  let main_c : IVec S_ 32 := constantI S_ 32 0#32
  let main_v0 : IVec S552 32 := broadcastInDim S552 ![] bcast_S_S552 main_c
  let main_v1 : IVec S552 1 := cmpi .sge main_arg0 main_v0
  let main_c_0 : IVec S_ 1 := constantI S_ 1 1#1
  let main_v2 : IVec S_ 1 := (fun x v => Host.reduce IntOp.andi x v reducesTo_S552_S_d0 h_S_) main_v1 main_c_0
  let main_c_1 : IVec S_ 32 := constantI S_ 32 32#32
  let main_v3 : IVec S552 32 := broadcastInDim S552 ![] bcast_S_S552 main_c_1
  let main_v4 : IVec S552 1 := cmpi .slt main_arg0 main_v3
  let main_c_2 : IVec S_ 1 := constantI S_ 1 1#1
  let main_v5 : IVec S_ 1 := (fun x v => Host.reduce IntOp.andi x v reducesTo_S552_S_d0 h_S_) main_v4 main_c_2
  let main_v6 : IVec S_ 1 := andi main_v2 main_v5
  main_v6
-- ==== Pre_gates_and_values_tame.lean ====
abbrev S2x16384x5120 : Shape := ⟨3, ![2, 16384, 5120]⟩
abbrev S2x256x5120 : Shape := ⟨3, ![2, 256, 5120]⟩
abbrev S2x512 : Shape := ⟨2, ![2, 512]⟩
abbrev S2x2x4x128x128 : Shape := ⟨5, ![2, 2, 4, 128, 128]⟩
abbrev S2x16384x1024 : Shape := ⟨3, ![2, 16384, 1024]⟩
abbrev S_ : Shape := ⟨0, ![]⟩

class Facts : Prop where
  slices_S2x16384x5120_S2x16384x1024_0_0_512 : S2x16384x5120.Slices ![0, 0, 512] S2x16384x1024
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x2x4x128x128 : S_.BroadcastsInDim S2x2x4x128x128 (![] : Fin 0 → Fin S2x2x4x128x128.rank)
  reducesTo_S2x2x4x128x128_S_d0_1_2_3_4 : S2x2x4x128x128.ReducesTo [0, 1, 2, 3, 4] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_v13 : IVec S_ 1) (main_v15 : IVec S2x512 1) (main_c_5 : IVec S_ 1) : IVec S_ 1 :=
  let main_v16 : IVec S_ 1 := (fun x v => Host.reduce IntOp.andi x v reducesTo_S2x512_S_d0_1 h_S_) main_v15 main_c_5
  let main_v17 : IVec S_ 1 := andi main_v13 main_v16
  main_v17

def fn {F : FTy → Type} [FloatOps F] (main_arg0 : FVec F S2x16384x5120 .f32) (main_arg1 : FVec F S2x256x5120 .f32) (main_arg2 : FVec F S2x512 .f32) (main_arg3 : FVec F S2x2x4x128x128 .f32) : IVec S_ 1 :=
  let main_v0 : FVec F S2x16384x1024 .f32 := (extractStridedSlice S2x16384x1024 ![0, 0, 512] · slices_S2x16384x5120_S2x16384x1024_0_0_512) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_c : IVec S_ 1 := constantI S_ 1 1#1
  let main_v4 : IVec S_ 1 := (fun x v => Host.reduce IntOp.andi x v reducesTo_S2x16384x1024_S_d0_1_2 h_S_) main_v3 main_c
  let main_v5 : FVec F S2x2x4x128x128 .f32 := Host.absf main_arg3
  let main_cst_0 : FVec F S_ .f32 := constant S_ .f32 0x7F800000#32
  let main_v6 : FVec F S2x2x4x128x128 .f32 := broadcastInDim S2x2x4x128x128 ![] bcast_S_S2x2x4x128x128 main_cst_0
  let main_v7 : IVec S2x2x4x128x128 1 := cmpf .olt main_v5 main_v6
  let main_c_1 : IVec S_ 1 := constantI S_ 1 1#1
  let main_v8 : IVec S_ 1 := (fun x v => Host.reduce IntOp.andi x v reducesTo_S2x2x4x128x128_S_d0_1_2_3_4 h_S_) main_v7 main_c_1
  let main_v9 : IVec S_ 1 := andi main_v4 main_v8
  let main_cst_2 : FVec F S_ .f32 := constant S_ .f32 0x3C000000#32
  let main_v10 : FVec F S2x512 .f32 := broadcastInDim S2x512 ![] bcast_S_S2x512 main_cst_2
  let main_v11 : IVec S2x512 1 := cmpf .oge main_arg2 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v9 main_v12
  let main_cst_4 : FVec F S_ .f32 := constant S_ .f32 0x3F800000#32
  let main_v14 : FVec F S2x512 .f32 := broadcastInDim S2x512 ![] bcast_S_S2x512 main_cst_4
  let main_v15 : IVec S2x512 1 := cmpf .ole main_arg2 main_v14
  let main_c_5 : IVec S_ 1 := constantI S_ 1 1#1
  fn_part1 (F := F) main_v13 main_v15 main_c_5
-- ==== Kernel.lean ====
abbrev S2x16384x5120 : Shape := ⟨3, ![2, 16384, 5120]⟩
abbrev S2x256x5120 : Shape := ⟨3, ![2, 256, 5120]⟩
abbrev S2x512 : Shape := ⟨2, ![2, 512]⟩
abbrev S2x2x4x128x128 : Shape := ⟨5, ![2, 2, 4, 128, 128]⟩
abbrev S32768x5120 : Shape := ⟨2, ![32768, 5120]⟩
abbrev S512x5120 : Shape := ⟨2, ![512, 5120]⟩
abbrev S33280x5120 : Shape := ⟨2, ![33280, 5120]⟩
abbrev S2x16384x512 : Shape := ⟨3, ![2, 16384, 512]⟩
abbrev S128x512 : Shape := ⟨2, ![128, 512]⟩
abbrev S2x128x512 : Shape := ⟨3, ![2, 128, 512]⟩
abbrev S1x512 : Shape := ⟨2, ![1, 512]⟩
abbrev S128x128 : Shape := ⟨2, ![128, 128]⟩
abbrev S1x1x1x128x128 : Shape := ⟨5, ![1, 1, 1, 128, 128]⟩
abbrev S1x128 : Shape := ⟨2, ![1, 128]⟩
abbrev S16x128 : Shape := ⟨2, ![16, 128]⟩
abbrev S1x128x128 : Shape := ⟨3, ![1, 128, 128]⟩

abbrev nBuf : Space → Nat
  | .hbm => 11
  | .vmem => 32
  | .smem => 0
  | _ => 0

abbrev bufTy : (tb : Table) → Fin (tcTables nBuf tb) → BufTy
  | .hbm, ⟨0, _⟩ => ⟨S2x16384x5120, .f32⟩
  | .hbm, ⟨1, _⟩ => ⟨S2x256x5120, .f32⟩
  | .hbm, ⟨2, _⟩ => ⟨S2x512, .f32⟩
  | .hbm, ⟨3, _⟩ => ⟨S2x2x4x128x128, .f32⟩
  | .hbm, ⟨4, _⟩ => ⟨S32768x5120, .f32⟩
  | .hbm, ⟨5, _⟩ => ⟨S512x5120, .f32⟩
  | .hbm, ⟨6, _⟩ => ⟨S33280x5120, .f32⟩
  | .hbm, ⟨7, _⟩ => ⟨S2x2x4x128x128, .f32⟩
  | .hbm, ⟨8, _⟩ => ⟨S2x16384x512, .f32⟩
  | .hbm, ⟨9, _⟩ => ⟨S2x16384x512, .f32⟩
  | .hbm, ⟨10, _⟩ => ⟨S2x2x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S2x512, .f32⟩
  | .local _ .vmem, ⟨25, _⟩ => ⟨S2x2x4x128x128, .f32⟩
  | .local _ .vmem, ⟨26, _⟩ => ⟨S2x128x512, .f32⟩
  | .local _ .vmem, ⟨27, _⟩ => ⟨S2x128x512, .f32⟩
  | .local _ .vmem, ⟨28, _⟩ => ⟨S2x128x512, .f32⟩
  | .local _ .vmem, ⟨29, _⟩ => ⟨S2x128x512, .f32⟩
  | .local _ .vmem, ⟨30, _⟩ => ⟨S2x2x4x128x128, .f32⟩
  | .local _ .vmem, ⟨31, _⟩ => ⟨S2x2x4x128x128, .f32⟩
  | _, _ => ⟨S2x16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v2731 : BitVec 1 := Scalar.cmpi .eq arg0 c127_i32
  let v2732 : BitVec 32 := Scalar.extui v2731
  let c0_i32_597 : BitVec 32 := 0#32
  let v2733 : BitVec 1 := Scalar.cmpi .ne v2732 c0_i32_597
  v2733

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let v1 : BitVec 32 := Scalar.addi c0_i32 v0
  let c1_i32 : BitVec 32 := 1#32
  let c0_i32_0 : BitVec 32 := 0#32
  ![v1.toNat, c1_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let v1 : BitVec 32 := Scalar.addi c0_i32 v0
  let c2_i32 : BitVec 32 := 2#32
  let c0_i32_0 : BitVec 32 := 0#32
  ![v1.toNat, c2_i32.toNat]

def cc0_transform_5 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let v1 : BitVec 32 := Scalar.addi c0_i32 v0
  let c4_i32 : BitVec 32 := 4#32
  let c0_i32_0 : BitVec 32 := 0#32
  ![v1.toNat, c4_i32.toNat]

def cc0_transform_6 (i : grid0.Coords) : Fin 2 → Nat :=
  let arg0 : BitVec 32 := BitVec.ofNat 32 (i 0).val
  let c128_i32 : BitVec 32 := 128#32
  let v0 : BitVec 32 := Scalar.addi c128_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c128_i32 : BitVec 32 := 128#32
  let v0 : BitVec 32 := Scalar.addi c128_i32 arg0
  let c2_i32 : BitVec 32 := 2#32
  let c0_i32 : BitVec 32 := 0#32
  ![v0.toNat, c2_i32.toNat]

def cc0_transform_8 (i : grid0.Coords) : Fin 2 → Nat :=
  let arg0 : BitVec 32 := BitVec.ofNat 32 (i 0).val
  let c128_i32 : BitVec 32 := 128#32
  let v0 : BitVec 32 := Scalar.addi c128_i32 arg0
  let c3_i32 : BitVec 32 := 3#32
  let c0_i32 : BitVec 32 := 0#32
  ![v0.toNat, c3_i32.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c128_i32 : BitVec 32 := 128#32
  let v1 : BitVec 32 := Scalar.addi c128_i32 v0
  let c1_i32 : BitVec 32 := 1#32
  let c0_i32 : BitVec 32 := 0#32
  ![v1.toNat, c1_i32.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c128_i32 : BitVec 32 := 128#32
  let v1 : BitVec 32 := Scalar.addi c128_i32 v0
  let c2_i32 : BitVec 32 := 2#32
  let c0_i32 : BitVec 32 := 0#32
  ![v1.toNat, c2_i32.toNat]

def cc0_transform_11 (i : grid0.Coords) : Fin 2 → Nat :=
  let arg0 : BitVec 32 := BitVec.ofNat 32 (i 0).val
  let c127_i32 : BitVec 32 := 127#32
  let v0 : BitVec 32 := Scalar.subi c127_i32 arg0
  let c128_i32 : BitVec 32 := 128#32
  let v1 : BitVec 32 := Scalar.addi c128_i32 v0
  let c4_i32 : BitVec 32 := 4#32
  let c0_i32 : BitVec 32 := 0#32
  ![v1.toNat, c4_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2x4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x2x4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2x16384x5120 : Shape := ⟨3, ![2, 16384, 5120]⟩
abbrev S2x256x5120 : Shape := ⟨3, ![2, 256, 5120]⟩
abbrev S2x512 : Shape := ⟨2, ![2, 512]⟩
abbrev S2x2x4x128x128 : Shape := ⟨5, ![2, 2, 4, 128, 128]⟩
abbrev S2x16384x512 : Shape := ⟨3, ![2, 16384, 512]⟩
abbrev S2x16384x2560 : Shape := ⟨3, ![2, 16384, 2560]⟩
abbrev S2x16384x4x128 : Shape := ⟨4, ![2, 16384, 4, 128]⟩
abbrev S2x4x16384x128 : Shape := ⟨4, ![2, 4, 16384, 128]⟩
abbrev S1x512 : Shape := ⟨2, ![1, 512]⟩
abbrev S512 : Shape := ⟨1, ![512]⟩
abbrev S4x1x128 : Shape := ⟨3, ![4, 1, 128]⟩
abbrev S_ : Shape := ⟨0, ![]⟩
abbrev S1x4x1x128 : Shape := ⟨4, ![1, 4, 1, 128]⟩
abbrev S4x4x16384x128 : Shape := ⟨4, ![4, 4, 16384, 128]⟩
abbrev S2x1x4x128x128 : Shape := ⟨5, ![2, 1, 4, 128, 128]⟩
abbrev S2x4x128x128 : Shape := ⟨4, ![2, 4, 128, 128]⟩
abbrev S4x4x128x128 : Shape := ⟨4, ![4, 4, 128, 128]⟩
abbrev S64x64 : Shape := ⟨2, ![64, 64]⟩
abbrev S64x64x1 : Shape := ⟨3, ![64, 64, 1]⟩
abbrev S4x4x256x64x128 : Shape := ⟨5, ![4, 4, 256, 64, 128]⟩
abbrev S256x4x4x64x128 : Shape := ⟨5, ![256, 4, 4, 64, 128]⟩
abbrev S1x4x4x64x128 : Shape := ⟨5, ![1, 4, 4, 64, 128]⟩
abbrev S4x4x64x128 : Shape := ⟨4, ![4, 4, 64, 128]⟩
abbrev S4x4x64x1x128 : Shape := ⟨5, ![4, 4, 64, 1, 128]⟩
abbrev S4x4x1x64x128 : Shape := ⟨5, ![4, 4, 1, 64, 128]⟩
abbrev S4x4x64x64x128 : Shape := ⟨5, ![4, 4, 64, 64, 128]⟩
abbrev S1x1x64x64x1 : Shape := ⟨5, ![1, 1, 64, 64, 1]⟩
abbrev S4x4x64x64 : Shape := ⟨4, ![4, 4, 64, 64]⟩
abbrev S4x4x1x128 : Shape := ⟨4, ![4, 4, 1, 128]⟩
abbrev S4x4x128 : Shape := ⟨3, ![4, 4, 128]⟩
abbrev S4x4x128x1 : Shape := ⟨4, ![4, 4, 128, 1]⟩

abbrev nBuf : Space → Nat
  | .hbm => 227
  | .vmem => 0
  | .smem => 0
  | _ => 0

abbrev hbmTy0_0 (i : Nat) : BufTy := match i % 128 with
  | 0 => ⟨S2x16384x5120, .f32⟩
  | 1 => ⟨S2x256x5120, .f32⟩
  | 2 => ⟨S2x512, .f32⟩
  | 3 => ⟨S2x2x4x128x128, .f32⟩
  | 4 => ⟨S2x16384x512, .f32⟩
  | 5 => ⟨S2x16384x512, .f32⟩
  | 6 => ⟨S2x16384x512, .f32⟩
  | 7 => ⟨S2x16384x512, .f32⟩
  | 8 => ⟨S2x16384x512, .f32⟩
  | 9 => ⟨S2x16384x2560, .f32⟩
  | 10 => ⟨S2x16384x4x128, .f32⟩
  | 11 => ⟨S2x4x16384x128, .f32⟩
  | 12 => ⟨S2x16384x4x128, .f32⟩
  | 13 => ⟨S2x4x16384x128, .f32⟩
  | 14 => ⟨S2x16384x4x128, .f32⟩
  | 15 => ⟨S2x4x16384x128, .f32⟩
  | 16 => ⟨S1x512, .f32⟩
  | 17 => ⟨S512, .f32⟩
  | 18 => ⟨S4x1x128, .f32⟩
  | 19 => ⟨S_, .f32⟩
  | 20 => ⟨S4x1x128, .f32⟩
  | 21 => ⟨S4x1x128, .f32⟩
  | 22 => ⟨S2x4x16384x128, .f32⟩
  | 23 => ⟨S2x4x16384x128, .f32⟩
  | 24 => ⟨S_, .f32⟩
  | 25 => ⟨S2x4x16384x128, .f32⟩
  | 26 => ⟨S2x4x16384x128, .f32⟩
  | 27 => ⟨S_, .f32⟩
  | 28 => ⟨S2x4x16384x128, .f32⟩
  | 29 => ⟨S2x4x16384x128, .f32⟩
  | 30 => ⟨S1x4x1x128, .f32⟩
  | 31 => ⟨S2x4x16384x128, .f32⟩
  | 32 => ⟨S2x4x16384x128, .f32⟩
  | 33 => ⟨S1x4x1x128, .f32⟩
  | 34 => ⟨S2x4x16384x128, .f32⟩
  | 35 => ⟨S2x4x16384x128, .f32⟩
  | 36 => ⟨S2x4x16384x128, .f32⟩
  | 37 => ⟨S_, .f32⟩
  | 38 => ⟨S4x1x128, .f32⟩
  | 39 => ⟨S4x1x128, .f32⟩
  | 40 => ⟨S2x4x16384x128, .f32⟩
  | 41 => ⟨S2x4x16384x128, .f32⟩
  | 42 => ⟨S2x4x16384x128, .f32⟩
  | 43 => ⟨S_, .f32⟩
  | 44 => ⟨S2x4x16384x128, .f32⟩
  | 45 => ⟨S2x4x16384x128, .f32⟩
  | 46 => ⟨S_, .f32⟩
  | 47 => ⟨S2x4x16384x128, .f32⟩
  | 48 => ⟨S2x4x16384x128, .f32⟩
  | 49 => ⟨S1x4x1x128, .f32⟩
  | 50 => ⟨S2x4x16384x128, .f32⟩
  | 51 => ⟨S2x4x16384x128, .f32⟩
  | 52 => ⟨S2x16384x4x128, .f32⟩
  | 53 => ⟨S2x4x16384x128, .f32⟩
  | 54 => ⟨S1x512, .f32⟩
  | 55 => ⟨S512, .f32⟩
  | 56 => ⟨S4x1x128, .f32⟩
  | 57 => ⟨S_, .f32⟩
  | 58 => ⟨S4x1x128, .f32⟩
  | 59 => ⟨S4x1x128, .f32⟩
  | 60 => ⟨S2x4x16384x128, .f32⟩
  | 61 => ⟨S2x4x16384x128, .f32⟩
  | 62 => ⟨S_, .f32⟩
  | 63 => ⟨S2x4x16384x128, .f32⟩
  | 64 => ⟨S2x4x16384x128, .f32⟩
  | 65 => ⟨S_, .f32⟩
  | 66 => ⟨S2x4x16384x128, .f32⟩
  | 67 => ⟨S2x4x16384x128, .f32⟩
  | 68 => ⟨S1x4x1x128, .f32⟩
  | 69 => ⟨S2x4x16384x128, .f32⟩
  | 70 => ⟨S2x4x16384x128, .f32⟩
  | 71 => ⟨S1x4x1x128, .f32⟩
  | 72 => ⟨S2x4x16384x128, .f32⟩
  | 73 => ⟨S2x4x16384x128, .f32⟩
  | 74 => ⟨S2x4x16384x128, .f32⟩
  | 75 => ⟨S_, .f32⟩
  | 76 => ⟨S4x1x128, .f32⟩
  | 77 => ⟨S4x1x128, .f32⟩
  | 78 => ⟨S2x4x16384x128, .f32⟩
  | 79 => ⟨S2x4x16384x128, .f32⟩
  | 80 => ⟨S2x4x16384x128, .f32⟩
  | 81 => ⟨S_, .f32⟩
  | 82 => ⟨S2x4x16384x128, .f32⟩
  | 83 => ⟨S2x4x16384x128, .f32⟩
  | 84 => ⟨S_, .f32⟩
  | 85 => ⟨S2x4x16384x128, .f32⟩
  | 86 => ⟨S2x4x16384x128, .f32⟩
  | 87 => ⟨S1x4x1x128, .f32⟩
  | 88 => ⟨S2x4x16384x128, .f32⟩
  | 89 => ⟨S2x4x16384x128, .f32⟩
  | 90 => ⟨S2x4x16384x128, .f32⟩
  | 91 => ⟨S4x4x16384x128, .f32⟩
  | 92 => ⟨S2x4x16384x128, .f32⟩
  | 93 => ⟨S4x4x16384x128, .f32⟩
  | 94 => ⟨S2x4x16384x128, .f32⟩
  | 95 => ⟨S4x4x16384x128, .f32⟩
  | 96 => ⟨S2x4x16384x128, .f32⟩
  | 97 => ⟨S4x4x16384x128, .f32⟩
  | 98 => ⟨S2x1x4x128x128, .f32⟩
  | 99 => ⟨S2x4x128x128, .f32⟩
  | 100 => ⟨S2x1x4x128x128, .f32⟩
  | 101 => ⟨S2x4x128x128, .f32⟩
  | 102 => ⟨S4x4x128x128, .f32⟩
  | 103 => ⟨S_, .i1⟩
  | 104 => ⟨S64x64, .i1⟩
  | 105 => ⟨S64x64, .i32⟩
  | 106 => ⟨S_, .i32⟩
  | 107 => ⟨S64x64, .i32⟩
  | 108 => ⟨S64x64, .i32⟩
  | 109 => ⟨S64x64, .i32⟩
  | 110 => ⟨S64x64, .i1⟩
  | 111 => ⟨S_, .i1⟩
  | 112 => ⟨S64x64, .i1⟩
  | 113 => ⟨S64x64, .i1⟩
  | 114 => ⟨S64x64x1, .i1⟩
  | 115 => ⟨S64x64x1, .f32⟩
  | 116 => ⟨S4x4x256x64x128, .f32⟩
  | 117 => ⟨S256x4x4x64x128, .f32⟩
  | 118 => ⟨S4x4x256x64x128, .f32⟩
  | 119 => ⟨S256x4x4x64x128, .f32⟩
  | 120 => ⟨S4x4x256x64x128, .f32⟩
  | 121 => ⟨S256x4x4x64x128, .f32⟩
  | 122 => ⟨S4x4x256x64x128, .f32⟩
  | 123 => ⟨S256x4x4x64x128, .f32⟩
  | 124 => ⟨S_, .f32⟩
  | 125 => ⟨S256x4x4x64x128, .f32⟩
  | 126 => ⟨S_, .i32⟩
  | 127 => ⟨S256x4x4x64x128, .f32⟩
  | _ => ⟨S2x16384x5120, .f32⟩

abbrev hbmTy0_1 (i : Nat) : BufTy := match i % 128 with
  | 0 => ⟨S256x4x4x64x128, .f32⟩
  | 1 => ⟨S256x4x4x64x128, .f32⟩
  | 2 => ⟨S256x4x4x64x128, .f32⟩
  | 3 => ⟨S64x64x1, .i1⟩
  | 4 => ⟨S64x64x1, .f32⟩
  | 5 => ⟨S_, .i32⟩
  | 6 => ⟨S4x4x128x128, .f32⟩
  | 7 => ⟨S256x4x4x64x128, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S1x4x4x64x128, .f32⟩
  | 15 => ⟨S4x4x64x128, .f32⟩
  | 16 => ⟨S_, .i32⟩
  | 17 => ⟨S_, .i32⟩
  | 18 => ⟨S_, .i32⟩
  | 19 => ⟨S_, .i32⟩
  | 20 => ⟨S1x4x4x64x128, .f32⟩
  | 21 => ⟨S4x4x64x128, .f32⟩
  | 22 => ⟨S_, .i32⟩
  | 23 => ⟨S_, .i32⟩
  | 24 => ⟨S_, .i32⟩
  | 25 => ⟨S_, .i32⟩
  | 26 => ⟨S1x4x4x64x128, .f32⟩
  | 27 => ⟨S4x4x64x128, .f32⟩
  | 28 => ⟨S_, .i32⟩
  | 29 => ⟨S_, .i32⟩
  | 30 => ⟨S_, .i32⟩
  | 31 => ⟨S_, .i32⟩
  | 32 => ⟨S1x4x4x64x128, .f32⟩
  | 33 => ⟨S4x4x64x128, .f32⟩
  | 34 => ⟨S_, .f32⟩
  | 35 => ⟨S_, .f32⟩
  | 36 => ⟨S4x4x64x128, .f32⟩
  | 37 => ⟨S4x4x64x1x128, .f32⟩
  | 38 => ⟨S4x4x1x64x128, .f32⟩
  | 39 => ⟨S4x4x64x64x128, .f32⟩
  | 40 => ⟨S4x4x64x64x128, .f32⟩
  | 41 => ⟨S4x4x64x64x128, .f32⟩
  | 42 => ⟨S_, .f32⟩
  | 43 => ⟨S_, .f32⟩
  | 44 => ⟨S4x4x64x64x128, .i1⟩
  | 45 => ⟨S4x4x64x64x128, .f32⟩
  | 46 => ⟨S4x4x64x64x128, .f32⟩
  | 47 => ⟨S4x4x64x64x128, .f32⟩
  | 48 => ⟨S1x1x64x64x1, .f32⟩
  | 49 => ⟨S4x4x64x64x128, .f32⟩
  | 50 => ⟨S4x4x64x64x128, .f32⟩
  | 51 => ⟨S4x4x64x1x128, .f32⟩
  | 52 => ⟨S4x4x1x64x128, .f32⟩
  | 53 => ⟨S4x4x64x64x128, .f32⟩
  | 54 => ⟨S4x4x64x64x128, .f32⟩
  | 55 => ⟨S4x4x64x64x128, .f32⟩
  | 56 => ⟨S4x4x64x64x128, .f32⟩
  | 57 => ⟨S_, .f32⟩
  | 58 => ⟨S4x4x64x64, .f32⟩
  | 59 => ⟨S4x4x64x128, .f32⟩
  | 60 => ⟨S4x4x64x128, .f32⟩
  | 61 => ⟨S4x4x64x128, .f32⟩
  | 62 => ⟨S4x4x64x128, .f32⟩
  | 63 => ⟨S4x4x64x128, .f32⟩
  | 64 => ⟨S4x4x1x128, .f32⟩
  | 65 => ⟨S4x4x1x128, .f32⟩
  | 66 => ⟨S4x4x128, .f32⟩
  | 67 => ⟨S4x4x128x1, .f32⟩
  | 68 => ⟨S4x4x128x128, .f32⟩
  | 69 => ⟨S4x4x128x128, .f32⟩
  | 70 => ⟨S4x4x64x128, .f32⟩
  | 71 => ⟨S4x4x64x128, .f32⟩
  | 72 => ⟨S4x4x64x128, .f32⟩
  | 73 => ⟨S4x4x64x128, .f32⟩
  | 74 => ⟨S4x4x128x128, .f32⟩
  | 75 => ⟨S4x4x128x128, .f32⟩
  | 76 => ⟨S1x4x4x64x128, .f32⟩
  | 77 => ⟨S_, .i32⟩
  | 78 => ⟨S_, .i32⟩
  | 79 => ⟨S_, .i32⟩
  | 80 => ⟨S_, .i32⟩
  | 81 => ⟨S256x4x4x64x128, .f32⟩
  | 82 => ⟨S_, .i32⟩
  | 83 => ⟨S_, .i32⟩
  | 84 => ⟨S4x4x256x64x128, .f32⟩
  | 85 => ⟨S4x4x16384x128, .f32⟩
  | 86 => ⟨S4x4x128x128, .f32⟩
  | 87 => ⟨S2x4x16384x128, .f32⟩
  | 88 => ⟨S2x16384x4x128, .f32⟩
  | 89 => ⟨S2x16384x512, .f32⟩
  | 90 => ⟨S2x4x16384x128, .f32⟩
  | 91 => ⟨S2x4x16384x128, .f32⟩
  | 92 => ⟨S2x16384x4x128, .f32⟩
  | 93 => ⟨S2x16384x512, .f32⟩
  | 94 => ⟨S2x4x128x128, .f32⟩
  | 95 => ⟨S2x4x128x128, .f32⟩
  | 96 => ⟨S2x1x4x128x128, .f32⟩
  | 97 => ⟨S2x1x4x128x128, .f32⟩
  | 98 => ⟨S2x2x4x128x128, .f32⟩
  | _ => ⟨S2x16384x5120, .f32⟩

abbrev hbmTy (i : Nat) : BufTy := match i / 128 with
  | 0 => hbmTy0_0 i
  | 1 => hbmTy0_1 i
  | _ => ⟨S2x16384x5120, .f32⟩

abbrev bufTy : (tb : Table) → Fin (tcTables nBuf tb) → BufTy
  | .hbm, ⟨i, _⟩ => hbmTy i
  | _, _ => ⟨S2x16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_cst_10 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_c : Ref sig .tc := ⟨.hbm, 103, rfl⟩
abbrev main_v87 : Ref sig .tc := ⟨.hbm, 104, rfl⟩
abbrev main_call4_v0 : Ref sig .tc := ⟨.hbm, 105, rfl⟩
abbrev main_call4_c : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_c_0 : Ref sig .tc := ⟨.hbm, 111, rfl⟩
abbrev main_call4_v5 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_11 : Ref sig .tc := ⟨.hbm, 124, rfl⟩
abbrev main_v99 : Ref sig .tc := ⟨.hbm, 125, rfl⟩
abbrev main_c_12 : Ref sig .tc := ⟨.hbm, 126, rfl⟩
abbrev main_v100_0 : Ref sig .tc := ⟨.hbm, 127, rfl⟩
abbrev main_v100_1 : Ref sig .tc := ⟨.hbm, 128, rfl⟩
abbrev main_v100_2 : Ref sig .tc := ⟨.hbm, 129, rfl⟩
abbrev main_v100_3 : Ref sig .tc := ⟨.hbm, 130, rfl⟩
abbrev main_v100_4 : Ref sig .tc := ⟨.hbm, 131, rfl⟩
abbrev main_v100_5 : Ref sig .tc := ⟨.hbm, 132, rfl⟩
abbrev main_v100_6 : Ref sig .tc := ⟨.hbm, 133, rfl⟩
abbrev main_v100_7 : Ref sig .tc := ⟨.hbm, 134, rfl⟩
abbrev main_v100_8 : Ref sig .tc := ⟨.hbm, 135, rfl⟩
abbrev main_while0c_c_21 : Ref sig .tc := ⟨.hbm, 136, rfl⟩
abbrev main_while0c_v116 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_c_2 : Ref sig .tc := ⟨.hbm, 141, rfl⟩
abbrev main_while0b_call5_v0 : Ref sig .tc := ⟨.hbm, 142, rfl⟩
abbrev main_while0b_v116 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_c_2 : Ref sig .tc := ⟨.hbm, 147, rfl⟩
abbrev main_while0b_call6_v0 : Ref sig .tc := ⟨.hbm, 148, rfl⟩
abbrev main_while0b_v117 : Ref sig .tc := ⟨.hbm, 149, rfl⟩
abbrev main_while0b_call7_c : Ref sig .tc := ⟨.hbm, 150, rfl⟩
abbrev main_while0b_call7_c_0 : Ref sig .tc := ⟨.hbm, 151, rfl⟩
abbrev main_while0b_call7_c_1 : Ref sig .tc := ⟨.hbm, 152, rfl⟩
abbrev main_while0b_call7_c_2 : Ref sig .tc := ⟨.hbm, 153, rfl⟩
abbrev main_while0b_call7_v0 : Ref sig .tc := ⟨.hbm, 154, rfl⟩
abbrev main_while0b_v118 : Ref sig .tc := ⟨.hbm, 155, rfl⟩
abbrev main_while0b_call8_c : Ref sig .tc := ⟨.hbm, 156, rfl⟩
abbrev main_while0b_call8_c_0 : Ref sig .tc := ⟨.hbm, 157, rfl⟩
abbrev main_while0b_call8_c_1 : Ref sig .tc := ⟨.hbm, 158, rfl⟩
abbrev main_while0b_call8_c_2 : Ref sig .tc := ⟨.hbm, 159, rfl⟩
abbrev main_while0b_call8_v0 : Ref sig .tc := ⟨.hbm, 160, rfl⟩
abbrev main_while0b_v119 : Ref sig .tc := ⟨.hbm, 161, rfl⟩
abbrev main_while0b_call9_call0_cst : Ref sig .tc := ⟨.hbm, 162, rfl⟩
abbrev main_while0b_call9_call0_v0 : Ref sig .tc := ⟨.hbm, 163, rfl⟩
abbrev main_while0b_v120 : Ref sig .tc := ⟨.hbm, 164, rfl⟩
abbrev main_while0b_v121 : Ref sig .tc := ⟨.hbm, 165, rfl⟩
abbrev main_while0b_v122 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_cst_21 : Ref sig .tc := ⟨.hbm, 170, rfl⟩
abbrev main_while0b_call10_v0 : Ref sig .tc := ⟨.hbm, 171, rfl⟩
abbrev main_while0b_call10_v1 : Ref sig .tc := ⟨.hbm, 172, rfl⟩
abbrev main_while0b_call10_v2 : Ref sig .tc := ⟨.hbm, 173, rfl⟩
abbrev main_while0b_v126 : Ref sig .tc := ⟨.hbm, 174, rfl⟩
abbrev main_while0b_v127 : Ref sig .tc := ⟨.hbm, 175, rfl⟩
abbrev main_while0b_v128 : Ref sig .tc := ⟨.hbm, 176, rfl⟩
abbrev main_while0b_v129 : Ref sig .tc := ⟨.hbm, 177, rfl⟩
abbrev main_while0b_v130 : Ref sig .tc := ⟨.hbm, 178, rfl⟩
abbrev main_while0b_v131 : Ref sig .tc := ⟨.hbm, 179, rfl⟩
abbrev main_while0b_v132 : Ref sig .tc := ⟨.hbm, 180, rfl⟩
abbrev main_while0b_v133 : Ref sig .tc := ⟨.hbm, 181, rfl⟩
abbrev main_while0b_v134 : Ref sig .tc := ⟨.hbm, 182, rfl⟩
abbrev main_while0b_v135 : Ref sig .tc := ⟨.hbm, 183, rfl⟩
abbrev main_while0b_v136 : Ref sig .tc := ⟨.hbm, 184, rfl⟩
abbrev main_while0b_cst_22 : Ref sig .tc := ⟨.hbm, 185, rfl⟩
abbrev main_while0b_v137 : Ref sig .tc := ⟨.hbm, 186, rfl⟩
abbrev main_while0b_v138 : Ref sig .tc := ⟨.hbm, 187, rfl⟩
abbrev main_while0b_v139 : Ref sig .tc := ⟨.hbm, 188, rfl⟩
abbrev main_while0b_v140 : Ref sig .tc := ⟨.hbm, 189, rfl⟩
abbrev main_while0b_v141 : Ref sig .tc := ⟨.hbm, 190, rfl⟩
abbrev main_while0b_v142 : Ref sig .tc := ⟨.hbm, 191, rfl⟩
abbrev main_while0b_v143 : Ref sig .tc := ⟨.hbm, 192, rfl⟩
abbrev main_while0b_v144 : Ref sig .tc := ⟨.hbm, 193, rfl⟩
abbrev main_while0b_v145 : Ref sig .tc := ⟨.hbm, 194, rfl⟩
abbrev main_while0b_v146 : Ref sig .tc := ⟨.hbm, 195, rfl⟩
abbrev main_while0b_v147 : Ref sig .tc := ⟨.hbm, 196, rfl⟩
abbrev main_while0b_v148 : Ref sig .tc := ⟨.hbm, 197, rfl⟩
abbrev main_while0b_v149 : Ref sig .tc := ⟨.hbm, 198, rfl⟩
abbrev main_while0b_v150 : Ref sig .tc := ⟨.hbm, 199, rfl⟩
abbrev main_while0b_v151 : Ref sig .tc := ⟨.hbm, 200, rfl⟩
abbrev main_while0b_v152 : Ref sig .tc := ⟨.hbm, 201, rfl⟩
abbrev main_while0b_v153 : Ref sig .tc := ⟨.hbm, 202, rfl⟩
abbrev main_while0b_v154 : Ref sig .tc := ⟨.hbm, 203, rfl⟩
abbrev main_while0b_call11_v0 : Ref sig .tc := ⟨.hbm, 204, rfl⟩
abbrev main_while0b_call11_c : Ref sig .tc := ⟨.hbm, 205, rfl⟩
abbrev main_while0b_call11_c_0 : Ref sig .tc := ⟨.hbm, 206, rfl⟩
abbrev main_while0b_call11_c_1 : Ref sig .tc := ⟨.hbm, 207, rfl⟩
abbrev main_while0b_call11_c_2 : Ref sig .tc := ⟨.hbm, 208, rfl⟩
abbrev main_while0b_v155 : Ref sig .tc := ⟨.hbm, 209, rfl⟩
abbrev main_while0b_c_23 : Ref sig .tc := ⟨.hbm, 210, rfl⟩
abbrev main_while0b_v156 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x5120 : Shape := ⟨2, ![1024, 5120]⟩
abbrev S32768x1024 : Shape := ⟨2, ![32768, 1024]⟩
abbrev S512x1024 : Shape := ⟨2, ![512, 1024]⟩
abbrev S33280x1024 : Shape := ⟨2, ![33280, 1024]⟩
abbrev S1x6144 : Shape := ⟨2, ![1, 6144]⟩
abbrev S3x6144 : Shape := ⟨2, ![3, 6144]⟩
abbrev S3x1x6144 : Shape := ⟨3, ![3, 1, 6144]⟩
abbrev S1x1024 : Shape := ⟨2, ![1, 1024]⟩
abbrev S33280x5120 : Shape := ⟨2, ![33280, 5120]⟩
abbrev S33280x512 : Shape := ⟨2, ![33280, 512]⟩
abbrev S256x1024 : Shape := ⟨2, ![256, 1024]⟩
abbrev S1x1x6144 : Shape := ⟨3, ![1, 1, 6144]⟩
abbrev S256x5120 : Shape := ⟨2, ![256, 5120]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x5120, .f32⟩
  | .hbm, ⟨6, _⟩ => ⟨S32768x1024, .f32⟩
  | .hbm, ⟨7, _⟩ => ⟨S512x1024, .f32⟩
  | .hbm, ⟨8, _⟩ => ⟨S33280x1024, .f32⟩
  | .hbm, ⟨9, _⟩ => ⟨S1x6144, .f32⟩
  | .hbm, ⟨10, _⟩ => ⟨S3x6144, .f32⟩
  | .hbm, ⟨11, _⟩ => ⟨S3x1x6144, .f32⟩
  | .hbm, ⟨12, _⟩ => ⟨S1024x5120, .bf16⟩
  | .hbm, ⟨13, _⟩ => ⟨S1x1024, .f32⟩
  | .hbm, ⟨14, _⟩ => ⟨S33280x5120, .f32⟩
  | .hbm, ⟨15, _⟩ => ⟨S33280x512, .bf16⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5120, .bf16⟩
  | .local _ .vmem, ⟨6, _⟩ => ⟨S256x5120, .f32⟩
  | .local _ .vmem, ⟨7, _⟩ => ⟨S256x5120, .f32⟩
  | .local _ .vmem, ⟨8, _⟩ => ⟨S256x512, .bf16⟩
  | .local _ .vmem, ⟨9, _⟩ => ⟨S256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 1 := Scalar.cmpi .slt arg0 c128_i32
  let c64_i32 : BitVec 32 := 64#32
  let v1 : BitVec 32 := Scalar.divsi arg0 c64_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi arg0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x5120 : Shape := ⟨2, ![1024, 5120]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x5120 : Shape := ⟨3, ![2, 16384, 5120]⟩
abbrev S2x256x5120 : Shape := ⟨3, ![2, 256, 5120]⟩
abbrev S32768x5120 : Shape := ⟨2, ![32768, 5120]⟩
abbrev S512x5120 : Shape := ⟨2, ![512, 5120]⟩
abbrev S33280x5120 : Shape := ⟨2, ![33280, 5120]⟩
abbrev S33280x512 : Shape := ⟨2, ![33280, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x5120, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S2x16384x1024, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x256x1024, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x1024, .f32⟩
  | .hbm, ⟨54, _⟩ => ⟨S2x256x1024, .f32⟩
  | .hbm, ⟨55, _⟩ => ⟨S1x1x1024, .f32⟩
  | .hbm, ⟨56, _⟩ => ⟨S2x256x1024, .f32⟩
  | .hbm, ⟨57, _⟩ => ⟨S2x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S2x256x1024, .f32⟩
  | .hbm, ⟨63, _⟩ => ⟨S2x256x1024, .f32⟩
  | .hbm, ⟨64, _⟩ => ⟨S1x1x1024, .f32⟩
  | .hbm, ⟨65, _⟩ => ⟨S2x256x1024, .f32⟩
  | .hbm, ⟨66, _⟩ => ⟨S2x256x1024, .f32⟩
  | .hbm, ⟨67, _⟩ => ⟨S2x16384x5120, .f32⟩
  | .hbm, ⟨68, _⟩ => ⟨S2x256x5120, .f32⟩
  | .hbm, ⟨69, _⟩ => ⟨S32768x5120, .f32⟩
  | .hbm, ⟨70, _⟩ => ⟨S512x5120, .f32⟩
  | .hbm, ⟨71, _⟩ => ⟨S33280x5120, .f32⟩
  | .hbm, ⟨72, _⟩ => ⟨S33280x512, .f32⟩
  | .hbm, ⟨73, _⟩ => ⟨S33280x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel3.lean ====
abbrev S552 : Shape := ⟨1, ![552]⟩
abbrev S1 : Shape := ⟨1, ![1]⟩
abbrev S141312x1024 : Shape := ⟨2, ![141312, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x256x2048 : Shape := ⟨4, ![1, 1, 256, 2048]⟩
abbrev S256x2048 : Shape := ⟨2, ![256, 2048]⟩
abbrev S1x1x256x1024 : Shape := ⟨4, ![1, 1, 256, 1024]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S141312x1024, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S141312x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S552, .i32⟩
  | .local _ .smem, ⟨1, _⟩ => ⟨S1, .i32⟩
  | _, _ => ⟨S141312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![552], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S552.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S552.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S552.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S552.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S552) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S552 : Shape := ⟨1, ![552]⟩
abbrev S1 : Shape := ⟨1, ![1]⟩
abbrev S141312x1024 : Shape := ⟨2, ![141312, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S552x256x1024 : Shape := ⟨3, ![552, 256, 1024]⟩
abbrev S_ : Shape := ⟨0, ![]⟩
abbrev S552x1 : Shape := ⟨2, ![552, 1]⟩
abbrev S552x3 : Shape := ⟨2, ![552, 3]⟩
abbrev S552x1x1024x2048 : Shape := ⟨4, ![552, 1, 1024, 2048]⟩
abbrev S552x1024x2048 : Shape := ⟨3, ![552, 1024, 2048]⟩
abbrev S552x256x2048 : Shape := ⟨3, ![552, 256, 2048]⟩
abbrev S552x2 : Shape := ⟨2, ![552, 2]⟩
abbrev S552x1x2048 : Shape := ⟨3, ![552, 1, 2048]⟩
abbrev S552x2048 : Shape := ⟨2, ![552, 2048]⟩
abbrev S552x1x1024x1024 : Shape := ⟨4, ![552, 1, 1024, 1024]⟩
abbrev S552x1024x1024 : Shape := ⟨3, ![552, 1024, 1024]⟩
abbrev S552x1x1024 : Shape := ⟨3, ![552, 1, 1024]⟩
abbrev S552x1024 : Shape := ⟨2, ![552, 1024]⟩
abbrev S552x1x1 : Shape := ⟨3, ![552, 1, 1]⟩

abbrev nBuf : Space → Nat
  | .hbm => 162
  | .vmem => 0
  | .smem => 0
  | _ => 0

abbrev hbmTy0_0 (i : Nat) : BufTy := match i % 128 with
  | 0 => ⟨S552, .i32⟩
  | 1 => ⟨S1, .i32⟩
  | 2 => ⟨S141312x1024, .f32⟩
  | 3 => ⟨S4x32x1024x2048, .f32⟩
  | 4 => ⟨S4x32x2048, .f32⟩
  | 5 => ⟨S4x32x1024x1024, .f32⟩
  | 6 => ⟨S4x32x1024, .f32⟩
  | 7 => ⟨S1x32x1024x2048, .f32⟩
  | 8 => ⟨S32x1024x2048, .f32⟩
  | 9 => ⟨S1x32x2048, .f32⟩
  | 10 => ⟨S32x2048, .f32⟩
  | 11 => ⟨S1x32x1024x1024, .f32⟩
  | 12 => ⟨S32x1024x1024, .f32⟩
  | 13 => ⟨S1x32x1024, .f32⟩
  | 14 => ⟨S32x1024, .f32⟩
  | 15 => ⟨S552x256x1024, .f32⟩
  | 16 => ⟨S_, .i32⟩
  | 17 => ⟨S552, .i32⟩
  | 18 => ⟨S552, .i1⟩
  | 19 => ⟨S_, .i32⟩
  | 20 => ⟨S552, .i32⟩
  | 21 => ⟨S552, .i32⟩
  | 22 => ⟨S552, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S552x1, .i32⟩
  | 40 => ⟨S552x1, .i32⟩
  | 41 => ⟨S552x1, .i32⟩
  | 42 => ⟨S552x3, .i32⟩
  | 43 => ⟨S552x1x1024x2048, .f32⟩
  | 44 => ⟨S552x1024x2048, .f32⟩
  | 45 => ⟨S552x256x2048, .f32⟩
  | 46 => ⟨S_, .i32⟩
  | 47 => ⟨S552, .i32⟩
  | 48 => ⟨S552, .i1⟩
  | 49 => ⟨S_, .i32⟩
  | 50 => ⟨S552, .i32⟩
  | 51 => ⟨S552, .i32⟩
  | 52 => ⟨S552, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S552x1, .i32⟩
  | 62 => ⟨S552x1, .i32⟩
  | 63 => ⟨S552x2, .i32⟩
  | 64 => ⟨S552x1x2048, .f32⟩
  | 65 => ⟨S552x2048, .f32⟩
  | 66 => ⟨S552x1x2048, .f32⟩
  | 67 => ⟨S552x256x2048, .f32⟩
  | 68 => ⟨S552x256x2048, .f32⟩
  | 69 => ⟨S552x256x1024, .f32⟩
  | 70 => ⟨S552x256x1024, .f32⟩
  | 71 => ⟨S_, .f32⟩
  | 72 => ⟨S552x256x1024, .f32⟩
  | 73 => ⟨S552x256x1024, .f32⟩
  | 74 => ⟨S_, .f32⟩
  | 75 => ⟨S_, .f32⟩
  | 76 => ⟨S_, .f32⟩
  | 77 => ⟨S552x256x1024, .f32⟩
  | 78 => ⟨S552x256x1024, .f32⟩
  | 79 => ⟨S_, .f32⟩
  | 80 => ⟨S552x256x1024, .f32⟩
  | 81 => ⟨S552x256x1024, .f32⟩
  | 82 => ⟨S_, .f32⟩
  | 83 => ⟨S552x256x1024, .f32⟩
  | 84 => ⟨S552x256x1024, .f32⟩
  | 85 => ⟨S552x256x1024, .f32⟩
  | 86 => ⟨S552x256x1024, .f32⟩
  | 87 => ⟨S_, .f32⟩
  | 88 => ⟨S552x256x1024, .f32⟩
  | 89 => ⟨S552x256x1024, .f32⟩
  | 90 => ⟨S_, .f32⟩
  | 91 => ⟨S552x256x1024, .f32⟩
  | 92 => ⟨S552x256x1024, .f32⟩
  | 93 => ⟨S552x256x1024, .f32⟩
  | 94 => ⟨S_, .f32⟩
  | 95 => ⟨S552x256x1024, .f32⟩
  | 96 => ⟨S552x256x1024, .f32⟩
  | 97 => ⟨S552x256x1024, .f32⟩
  | 98 => ⟨S_, .i32⟩
  | 99 => ⟨S552, .i32⟩
  | 100 => ⟨S552, .i1⟩
  | 101 => ⟨S_, .i32⟩
  | 102 => ⟨S552, .i32⟩
  | 103 => ⟨S552, .i32⟩
  | 104 => ⟨S552, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S552x1, .i32⟩
  | 122 => ⟨S552x1, .i32⟩
  | 123 => ⟨S552x1, .i32⟩
  | 124 => ⟨S552x3, .i32⟩
  | 125 => ⟨S552x1x1024x1024, .f32⟩
  | 126 => ⟨S552x1024x1024, .f32⟩
  | 127 => ⟨S552x256x1024, .f32⟩
  | _ => ⟨S552, .i32⟩

abbrev hbmTy0_1 (i : Nat) : BufTy := match i % 128 with
  | 0 => ⟨S_, .i32⟩
  | 1 => ⟨S552, .i32⟩
  | 2 => ⟨S552, .i1⟩
  | 3 => ⟨S_, .i32⟩
  | 4 => ⟨S552, .i32⟩
  | 5 => ⟨S552, .i32⟩
  | 6 => ⟨S552, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S552x1, .i32⟩
  | 16 => ⟨S552x1, .i32⟩
  | 17 => ⟨S552x2, .i32⟩
  | 18 => ⟨S552x1x1024, .f32⟩
  | 19 => ⟨S552x1024, .f32⟩
  | 20 => ⟨S552x1x1024, .f32⟩
  | 21 => ⟨S552x256x1024, .f32⟩
  | 22 => ⟨S552x256x1024, .f32⟩
  | 23 => ⟨S552, .i32⟩
  | 24 => ⟨S_, .i32⟩
  | 25 => ⟨S552, .i32⟩
  | 26 => ⟨S552, .i1⟩
  | 27 => ⟨S552x1x1, .i1⟩
  | 28 => ⟨S_, .f32⟩
  | 29 => ⟨S_, .f32⟩
  | 30 => ⟨S552x256x1024, .i1⟩
  | 31 => ⟨S552x256x1024, .f32⟩
  | 32 => ⟨S552x256x1024, .f32⟩
  | 33 => ⟨S141312x1024, .f32⟩
  | _ => ⟨S552, .i32⟩

abbrev hbmTy (i : Nat) : BufTy := match i / 128 with
  | 0 => hbmTy0_0 i
  | 1 => hbmTy0_1 i
  | _ => ⟨S552, .i32⟩

abbrev bufTy : (tb : Table) → Fin (tcTables nBuf tb) → BufTy
  | .hbm, ⟨i, _⟩ => hbmTy i
  | _, _ => ⟨S552, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_c_2 : Ref sig .tc := ⟨.hbm, 24, rfl⟩
abbrev main_v14 : Ref sig .tc := ⟨.hbm, 25, rfl⟩
abbrev main_c_3 : Ref sig .tc := ⟨.hbm, 26, rfl⟩
abbrev main_c_4 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_c_6 : Ref sig .tc := ⟨.hbm, 31, rfl⟩
abbrev main_c_7 : Ref sig .tc := ⟨.hbm, 32, rfl⟩
abbrev main_v17 : Ref sig .tc := ⟨.hbm, 33, rfl⟩
abbrev main_c_8 : Ref sig .tc := ⟨.hbm, 34, rfl⟩
abbrev main_c_9 : Ref sig .tc := ⟨.hbm, 35, rfl⟩
abbrev main_v18 : Ref sig .tc := ⟨.hbm, 36, rfl⟩
abbrev main_c_10 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_11 : Ref sig .tc := ⟨.hbm, 46, rfl⟩
abbrev main_v27 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_13 : Ref sig .tc := ⟨.hbm, 53, rfl⟩
abbrev main_c_14 : Ref sig .tc := ⟨.hbm, 54, rfl⟩
abbrev main_v32 : Ref sig .tc := ⟨.hbm, 55, rfl⟩
abbrev main_c_15 : Ref sig .tc := ⟨.hbm, 56, rfl⟩
abbrev main_c_16 : Ref sig .tc := ⟨.hbm, 57, rfl⟩
abbrev main_v33 : Ref sig .tc := ⟨.hbm, 58, rfl⟩
abbrev main_c_17 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst : Ref sig .tc := ⟨.hbm, 71, rfl⟩
abbrev main_v45 : Ref sig .tc := ⟨.hbm, 72, rfl⟩
abbrev main_v46 : Ref sig .tc := ⟨.hbm, 73, rfl⟩
abbrev main_cst_18 : Ref sig .tc := ⟨.hbm, 74, rfl⟩
abbrev main_cst_19 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v47 : Ref sig .tc := ⟨.hbm, 81, rfl⟩
abbrev main_cst_20 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_21 : Ref sig .tc := ⟨.hbm, 87, rfl⟩
abbrev main_v52 : Ref sig .tc := ⟨.hbm, 88, rfl⟩
abbrev main_v53 : Ref sig .tc := ⟨.hbm, 89, rfl⟩
abbrev main_cst_22 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_23 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_24 : Ref sig .tc := ⟨.hbm, 98, rfl⟩
abbrev main_v60 : Ref sig .tc := ⟨.hbm, 99, rfl⟩
abbrev main_v61 : Ref sig .tc := ⟨.hbm, 100, rfl⟩
abbrev main_c_25 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_26 : Ref sig .tc := ⟨.hbm, 105, rfl⟩
abbrev main_c_27 : Ref sig .tc := ⟨.hbm, 106, rfl⟩
abbrev main_v65 : Ref sig .tc := ⟨.hbm, 107, rfl⟩
abbrev main_c_28 : Ref sig .tc := ⟨.hbm, 108, rfl⟩
abbrev main_c_29 : Ref sig .tc := ⟨.hbm, 109, rfl⟩
abbrev main_v66 : Ref sig .tc := ⟨.hbm, 110, rfl⟩
abbrev main_c_30 : Ref sig .tc := ⟨.hbm, 111, rfl⟩
abbrev main_v67 : Ref sig .tc := ⟨.hbm, 112, rfl⟩
abbrev main_c_31 : Ref sig .tc := ⟨.hbm, 113, rfl⟩
abbrev main_c_32 : Ref sig .tc := ⟨.hbm, 114, rfl⟩
abbrev main_v68 : Ref sig .tc := ⟨.hbm, 115, rfl⟩
abbrev main_c_33 : Ref sig .tc := ⟨.hbm, 116, rfl⟩
abbrev main_c_34 : Ref sig .tc := ⟨.hbm, 117, rfl⟩
abbrev main_v69 : Ref sig .tc := ⟨.hbm, 118, rfl⟩
abbrev main_c_35 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_36 : Ref sig .tc := ⟨.hbm, 128, rfl⟩
abbrev main_v78 : Ref sig .tc := ⟨.hbm, 129, rfl⟩
abbrev main_v79 : Ref sig .tc := ⟨.hbm, 130, rfl⟩
abbrev main_c_37 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_38 : Ref sig .tc := ⟨.hbm, 135, rfl⟩
abbrev main_c_39 : Ref sig .tc := ⟨.hbm, 136, rfl⟩
abbrev main_v83 : Ref sig .tc := ⟨.hbm, 137, rfl⟩
abbrev main_c_40 : Ref sig .tc := ⟨.hbm, 138, rfl⟩
abbrev main_c_41 : Ref sig .tc := ⟨.hbm, 139, rfl⟩
abbrev main_v84 : Ref sig .tc := ⟨.hbm, 140, rfl⟩
abbrev main_c_42 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_43 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_v99 : Ref sig .tc := ⟨.hbm, 160, rfl⟩
abbrev main_v100 : Ref sig .tc := ⟨.hbm, 161, rfl⟩

abbrev nD : Nat := 1
abbrev τ : Topo := Topo.v7x

variable {F : FTy → Type} [FloatOps F]
-- ==== Kernel4.lean ====
abbrev S33280x1024 : Shape := ⟨2, ![33280, 1024]⟩
abbrev S33280x5120 : Shape := ⟨2, ![33280, 5120]⟩
abbrev S33280x512 : Shape := ⟨2, ![33280, 512]⟩
abbrev S32768x512 : Shape := ⟨2, ![32768, 512]⟩
abbrev S512x512 : Shape := ⟨2, ![512, 512]⟩
abbrev S2x6144 : Shape := ⟨2, ![2, 6144]⟩
abbrev S6144 : Shape := ⟨1, ![6144]⟩
abbrev S512 : Shape := ⟨1, ![512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x6144 : Shape := ⟨2, ![1, 6144]⟩
abbrev S3x6144 : Shape := ⟨2, ![3, 6144]⟩
abbrev S3x1x6144 : Shape := ⟨3, ![3, 1, 6144]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512 : Shape := ⟨2, ![1, 512]⟩
abbrev S1x1024 : Shape := ⟨2, ![1, 1024]⟩
abbrev S33280x128 : Shape := ⟨2, ![33280, 128]⟩
abbrev S256x1024 : Shape := ⟨2, ![256, 1024]⟩
abbrev S256x512 : Shape := ⟨2, ![256, 512]⟩
abbrev S1x1x6144 : Shape := ⟨3, ![1, 1, 6144]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 50
  | .vmem => 42
  | .smem => 0
  | _ => 0

abbrev bufTy : (tb : Table) → Fin (tcTables nBuf tb) → BufTy
  | .hbm, ⟨0, _⟩ => ⟨S33280x1024, .f32⟩
  | .hbm, ⟨1, _⟩ => ⟨S33280x5120, .f32⟩
  | .hbm, ⟨2, _⟩ => ⟨S33280x512, .f32⟩
  | .hbm, ⟨3, _⟩ => ⟨S32768x512, .f32⟩
  | .hbm, ⟨4, _⟩ => ⟨S32768x512, .f32⟩
  | .hbm, ⟨5, _⟩ => ⟨S512x512, .f32⟩
  | .hbm, ⟨6, _⟩ => ⟨S512x512, .f32⟩
  | .hbm, ⟨7, _⟩ => ⟨S2x6144, .f32⟩
  | .hbm, ⟨8, _⟩ => ⟨S6144, .f32⟩
  | .hbm, ⟨9, _⟩ => ⟨S512, .f32⟩
  | .hbm, ⟨10, _⟩ => ⟨S512x512, .f32⟩
  | .hbm, ⟨11, _⟩ => ⟨S128, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x32, .f32⟩
  | .hbm, ⟨17, _⟩ => ⟨S32, .f32⟩
  | .hbm, ⟨18, _⟩ => ⟨S1x6144, .f32⟩
  | .hbm, ⟨19, _⟩ => ⟨S3x6144, .f32⟩
  | .hbm, ⟨20, _⟩ => ⟨S3x1x6144, .f32⟩
  | .hbm, ⟨21, _⟩ => ⟨S_, .f32⟩
  | .hbm, ⟨22, _⟩ => ⟨S1024x128, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x512, .f32⟩
  | .hbm, ⟨39, _⟩ => ⟨S512x512, .bf16⟩
  | .hbm, ⟨40, _⟩ => ⟨S1x128, .f32⟩
  | .hbm, ⟨41, _⟩ => ⟨S512x1024, .bf16⟩
  | .hbm, ⟨42, _⟩ => ⟨S512x1024, .bf16⟩
  | .hbm, ⟨43, _⟩ => ⟨S1024x1024, .bf16⟩
  | .hbm, ⟨44, _⟩ => ⟨S1x1024, .f32⟩
  | .hbm, ⟨45, _⟩ => ⟨S33280x1024, .f32⟩
  | .hbm, ⟨46, _⟩ => ⟨S33280x1024, .f32⟩
  | .hbm, ⟨47, _⟩ => ⟨S33280x128, .f32⟩
  | .hbm, ⟨48, _⟩ => ⟨S33280x128, .i32⟩
  | .hbm, ⟨49, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x1x6144, .f32⟩
  | .local _ .vmem, ⟨21, _⟩ => ⟨S1x1x6144, .f32⟩
  | .local _ .vmem, ⟨22, _⟩ => ⟨S1x512, .f32⟩
  | .local _ .vmem, ⟨23, _⟩ => ⟨S512x512, .bf16⟩
  | .local _ .vmem, ⟨24, _⟩ => ⟨S1x128, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1x1024, .f32⟩
  | .local _ .vmem, ⟨29, _⟩ => ⟨S1024x128, .bf16⟩
  | .local _ .vmem, ⟨30, _⟩ => ⟨S1024x128, .bf16⟩
  | .local _ .vmem, ⟨31, _⟩ => ⟨S1x128, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x128, .f32⟩
  | .local _ .vmem, ⟨37, _⟩ => ⟨S256x128, .f32⟩
  | .local _ .vmem, ⟨38, _⟩ => ⟨S256x128, .i32⟩
  | .local _ .vmem, ⟨39, _⟩ => ⟨S256x128, .i32⟩
  | .local _ .vmem, ⟨40, _⟩ => ⟨S1x128, .f32⟩
  | .local _ .vmem, ⟨41, _⟩ => ⟨S1x128, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c128_i32 : BitVec 32 := 128#32
  let v0 : BitVec 1 := Scalar.cmpi .slt arg0 c128_i32
  let c64_i32 : BitVec 32 := 64#32
  let v1 : BitVec 32 := Scalar.divsi arg0 c64_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi arg0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x6144 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x128 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== Reference4Ideal.lean ====
abbrev S33280x1024 : Shape := ⟨2, ![33280, 1024]⟩
abbrev S33280x5120 : Shape := ⟨2, ![33280, 5120]⟩
abbrev S33280x512 : Shape := ⟨2, ![33280, 512]⟩
abbrev S32768x512 : Shape := ⟨2, ![32768, 512]⟩
abbrev S512x512 : Shape := ⟨2, ![512, 512]⟩
abbrev S2x6144 : Shape := ⟨2, ![2, 6144]⟩
abbrev S6144 : Shape := ⟨1, ![6144]⟩
abbrev S512 : Shape := ⟨1, ![512]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S2x1x6144 : Shape := ⟨3, ![2, 1, 6144]⟩
abbrev S2x1x1024 : Shape := ⟨3, ![2, 1, 1024]⟩
abbrev S32768x1024 : Shape := ⟨2, ![32768, 1024]⟩
abbrev S2x16384x1024 : Shape := ⟨3, ![2, 16384, 1024]⟩
abbrev S32768x5120 : Shape := ⟨2, ![32768, 5120]⟩
abbrev S2x16384x5120 : Shape := ⟨3, ![2, 16384, 5120]⟩
abbrev S2x16384x512 : Shape := ⟨3, ![2, 16384, 512]⟩
abbrev S2x16384x32x16 : Shape := ⟨4, ![2, 16384, 32, 16]⟩
abbrev S32x16 : Shape := ⟨2, ![32, 16]⟩
abbrev S1x1x32x16 : Shape := ⟨4, ![1, 1, 32, 16]⟩
abbrev S_ : Shape := ⟨0, ![]⟩
abbrev S2x16384x4x128 : Shape := ⟨4, ![2, 16384, 4, 128]⟩
abbrev S2x4x16384x128 : Shape := ⟨4, ![2, 4, 16384, 128]⟩
abbrev S2x4x16384 : Shape := ⟨3, ![2, 4, 16384]⟩
abbrev S2x4x16384x1 : Shape := ⟨4, ![2, 4, 16384, 1]⟩
abbrev S1x1x1x128 : Shape := ⟨4, ![1, 1, 1, 128]⟩
abbrev S2x16384 : Shape := ⟨2, ![2, 16384]⟩
abbrev S2x16384x1 : Shape := ⟨3, ![2, 16384, 1]⟩
abbrev S1x1x1024 : Shape := ⟨3, ![1, 1, 1024]⟩
abbrev S2x256x1024 : Shape := ⟨3, ![2, 256, 1024]⟩
abbrev S512x5120 : Shape := ⟨2, ![512, 5120]⟩
abbrev S2x256x5120 : Shape := ⟨3, ![2, 256, 5120]⟩
abbrev S2x256x512 : Shape := ⟨3, ![2, 256, 512]⟩
abbrev S2x256x32x16 : Shape := ⟨4, ![2, 256, 32, 16]⟩
abbrev S2x256x4x128 : Shape := ⟨4, ![2, 256, 4, 128]⟩
abbrev S2x4x256x128 : Shape := ⟨4, ![2, 4, 256, 128]⟩
abbrev S2x4x256 : Shape := ⟨3, ![2, 4, 256]⟩
abbrev S2x4x256x1 : Shape := ⟨4, ![2, 4, 256, 1]⟩
abbrev S2x256 : Shape := ⟨2, ![2, 256]⟩
abbrev S2x256x1 : Shape := ⟨3, ![2, 256, 1]⟩

abbrev nBuf : Space → Nat
  | .hbm => 290
  | .vmem => 0
  | .smem => 0
  | _ => 0

abbrev hbmTy0_0 (i : Nat) : BufTy := match i % 128 with
  | 0 => ⟨S33280x1024, .f32⟩
  | 1 => ⟨S33280x5120, .f32⟩
  | 2 => ⟨S33280x512, .f32⟩
  | 3 => ⟨S32768x512, .f32⟩
  | 4 => ⟨S32768x512, .f32⟩
  | 5 => ⟨S512x512, .f32⟩
  | 6 => ⟨S512x512, .f32⟩
  | 7 => ⟨S2x6144, .f32⟩
  | 8 => ⟨S6144, .f32⟩
  | 9 => ⟨S512, .f32⟩
  | 10 => ⟨S512x512, .f32⟩
  | 11 => ⟨S128, .f32⟩
  | 12 => ⟨S512x1024, .f32⟩
  | 13 => ⟨S512x1024, .f32⟩
  | 14 => ⟨S1024x1024, .f32⟩
  | 15 => ⟨S1024, .f32⟩
  | 16 => ⟨S1024x32, .f32⟩
  | 17 => ⟨S32, .f32⟩
  | 18 => ⟨S2x1x6144, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S2x1x1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S32768x1024, .f32⟩
  | 32 => ⟨S2x16384x1024, .f32⟩
  | 33 => ⟨S32768x5120, .f32⟩
  | 34 => ⟨S2x16384x5120, .f32⟩
  | 35 => ⟨S32768x512, .f32⟩
  | 36 => ⟨S2x16384x512, .f32⟩
  | 37 => ⟨S32768x512, .f32⟩
  | 38 => ⟨S2x16384x512, .f32⟩
  | 39 => ⟨S2x16384x512, .f32⟩
  | 40 => ⟨S2x16384x512, .f32⟩
  | 41 => ⟨S2x16384x1024, .f32⟩
  | 42 => ⟨S2x16384x1024, .f32⟩
  | 43 => ⟨S2x16384x32x16, .f32⟩
  | 44 => ⟨S2x16384x32x16, .f32⟩
  | 45 => ⟨S32x16, .f32⟩
  | 46 => ⟨S1x1x32x16, .f32⟩
  | 47 => ⟨S2x16384x32x16, .f32⟩
  | 48 => ⟨S2x16384x32x16, .f32⟩
  | 49 => ⟨S2x16384x32x16, .f32⟩
  | 50 => ⟨S2x16384x512, .f32⟩
  | 51 => ⟨S2x16384x512, .f32⟩
  | 52 => ⟨S2x16384x512, .f32⟩
  | 53 => ⟨S_, .f32⟩
  | 54 => ⟨S2x16384x512, .f32⟩
  | 55 => ⟨S2x16384x512, .f32⟩
  | 56 => ⟨S2x16384x512, .f32⟩
  | 57 => ⟨S_, .f32⟩
  | 58 => ⟨S2x16384x512, .f32⟩
  | 59 => ⟨S2x16384x512, .f32⟩
  | 60 => ⟨S2x16384x512, .f32⟩
  | 61 => ⟨S_, .f32⟩
  | 62 => ⟨S2x16384x512, .f32⟩
  | 63 => ⟨S2x16384x512, .f32⟩
  | 64 => ⟨S_, .f32⟩
  | 65 => ⟨S2x16384x512, .f32⟩
  | 66 => ⟨S2x16384x512, .f32⟩
  | 67 => ⟨S2x16384x512, .f32⟩
  | 68 => ⟨S2x16384x512, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S_, .f32⟩
  | 75 => ⟨S2x16384x512, .f32⟩
  | 76 => ⟨S2x16384x512, .f32⟩
  | 77 => ⟨S2x16384x512, .f32⟩
  | 78 => ⟨S2x16384x4x128, .f32⟩
  | 79 => ⟨S2x4x16384x128, .f32⟩
  | 80 => ⟨S2x4x16384x128, .f32⟩
  | 81 => ⟨S_, .f32⟩
  | 82 => ⟨S2x4x16384, .f32⟩
  | 83 => ⟨S2x4x16384x1, .f32⟩
  | 84 => ⟨S_, .f32⟩
  | 85 => ⟨S2x4x16384x1, .f32⟩
  | 86 => ⟨S2x4x16384x1, .f32⟩
  | 87 => ⟨S_, .f32⟩
  | 88 => ⟨S2x4x16384x1, .f32⟩
  | 89 => ⟨S2x4x16384x1, .f32⟩
  | 90 => ⟨S2x4x16384x1, .f32⟩
  | 91 => ⟨S2x4x16384x128, .f32⟩
  | 92 => ⟨S2x4x16384x128, .f32⟩
  | 93 => ⟨S1x1x1x128, .f32⟩
  | 94 => ⟨S2x4x16384x128, .f32⟩
  | 95 => ⟨S2x4x16384x128, .f32⟩
  | 96 => ⟨S2x16384x4x128, .f32⟩
  | 97 => ⟨S2x16384x512, .f32⟩
  | 98 => ⟨S2x16384x512, .f32⟩
  | 99 => ⟨S2x16384x512, .f32⟩
  | 100 => ⟨S_, .f32⟩
  | 101 => ⟨S2x16384x512, .f32⟩
  | 102 => ⟨S2x16384x512, .f32⟩
  | 103 => ⟨S_, .f32⟩
  | 104 => ⟨S2x16384x512, .f32⟩
  | 105 => ⟨S2x16384x512, .f32⟩
  | 106 => ⟨S2x16384x512, .f32⟩
  | 107 => ⟨S2x16384x512, .f32⟩
  | 108 => ⟨S2x16384x1024, .f32⟩
  | 109 => ⟨S2x16384x1024, .f32⟩
  | 110 => ⟨S_, .f32⟩
  | 111 => ⟨S2x16384x1024, .f32⟩
  | 112 => ⟨S2x16384x1024, .f32⟩
  | 113 => ⟨S_, .f32⟩
  | 114 => ⟨S2x16384x1024, .f32⟩
  | 115 => ⟨S2x16384x1024, .f32⟩
  | 116 => ⟨S2x16384x1024, .f32⟩
  | 117 => ⟨S2x16384x1024, .f32⟩
  | 118 => ⟨S2x16384x1024, .f32⟩
  | 119 => ⟨S2x16384x1024, .f32⟩
  | 120 => ⟨S_, .f32⟩
  | 121 => ⟨S2x16384x1024, .f32⟩
  | 122 => ⟨S2x16384x1024, .f32⟩
  | 123 => ⟨S_, .f32⟩
  | 124 => ⟨S2x16384x1024, .f32⟩
  | 125 => ⟨S2x16384x1024, .f32⟩
  | 126 => ⟨S2x16384x1024, .f32⟩
  | 127 => ⟨S2x16384x1024, .f32⟩
  | _ => ⟨S33280x1024, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S2x16384x1024, .f32⟩
  | 4 => ⟨S2x16384x1024, .f32⟩
  | 5 => ⟨S2x16384x1024, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S_, .f32⟩
  | 13 => ⟨S2x16384x1, .f32⟩
  | 14 => ⟨S2x16384x1, .f32⟩
  | 15 => ⟨S2x16384x1, .f32⟩
  | 16 => ⟨S2x16384x1024, .f32⟩
  | 17 => ⟨S2x16384x1024, .f32⟩
  | 18 => ⟨S1x1x1024, .f32⟩
  | 19 => ⟨S2x16384x1024, .f32⟩
  | 20 => ⟨S2x16384x1024, .f32⟩
  | 21 => ⟨S_, .f32⟩
  | 22 => ⟨S2x1x1024, .f32⟩
  | 23 => ⟨S2x1x1024, .f32⟩
  | 24 => ⟨S2x16384x1024, .f32⟩
  | 25 => ⟨S2x16384x1024, .f32⟩
  | 26 => ⟨S2x16384x1024, .f32⟩
  | 27 => ⟨S2x16384x1024, .f32⟩
  | 28 => ⟨S512x1024, .f32⟩
  | 29 => ⟨S2x256x1024, .f32⟩
  | 30 => ⟨S512x5120, .f32⟩
  | 31 => ⟨S2x256x5120, .f32⟩
  | 32 => ⟨S512x512, .f32⟩
  | 33 => ⟨S2x256x512, .f32⟩
  | 34 => ⟨S512x512, .f32⟩
  | 35 => ⟨S2x256x512, .f32⟩
  | 36 => ⟨S2x256x512, .f32⟩
  | 37 => ⟨S2x256x512, .f32⟩
  | 38 => ⟨S2x256x1024, .f32⟩
  | 39 => ⟨S2x256x1024, .f32⟩
  | 40 => ⟨S2x256x32x16, .f32⟩
  | 41 => ⟨S2x256x32x16, .f32⟩
  | 42 => ⟨S32x16, .f32⟩
  | 43 => ⟨S1x1x32x16, .f32⟩
  | 44 => ⟨S2x256x32x16, .f32⟩
  | 45 => ⟨S2x256x32x16, .f32⟩
  | 46 => ⟨S2x256x32x16, .f32⟩
  | 47 => ⟨S2x256x512, .f32⟩
  | 48 => ⟨S2x256x512, .f32⟩
  | 49 => ⟨S2x256x512, .f32⟩
  | 50 => ⟨S_, .f32⟩
  | 51 => ⟨S2x256x512, .f32⟩
  | 52 => ⟨S2x256x512, .f32⟩
  | 53 => ⟨S2x256x512, .f32⟩
  | 54 => ⟨S_, .f32⟩
  | 55 => ⟨S2x256x512, .f32⟩
  | 56 => ⟨S2x256x512, .f32⟩
  | 57 => ⟨S2x256x512, .f32⟩
  | 58 => ⟨S_, .f32⟩
  | 59 => ⟨S2x256x512, .f32⟩
  | 60 => ⟨S2x256x512, .f32⟩
  | 61 => ⟨S_, .f32⟩
  | 62 => ⟨S2x256x512, .f32⟩
  | 63 => ⟨S2x256x512, .f32⟩
  | 64 => ⟨S2x256x512, .f32⟩
  | 65 => ⟨S2x256x512, .f32⟩
  | 66 => ⟨S2x256x512, .f32⟩
  | 67 => ⟨S2x256x512, .f32⟩
  | 68 => ⟨S_, .f32⟩
  | 69 => ⟨S2x256x512, .f32⟩
  | 70 => ⟨S2x256x512, .f32⟩
  | 71 => ⟨S_, .f32⟩
  | 72 => ⟨S2x256x512, .f32⟩
  | 73 => ⟨S2x256x512, .f32⟩
  | 74 => ⟨S2x256x512, .f32⟩
  | 75 => ⟨S2x256x4x128, .f32⟩
  | 76 => ⟨S2x4x256x128, .f32⟩
  | 77 => ⟨S2x4x256x128, .f32⟩
  | 78 => ⟨S_, .f32⟩
  | 79 => ⟨S2x4x256, .f32⟩
  | 80 => ⟨S2x4x256x1, .f32⟩
  | 81 => ⟨S_, .f32⟩
  | 82 => ⟨S2x4x256x1, .f32⟩
  | 83 => ⟨S2x4x256x1, .f32⟩
  | 84 => ⟨S_, .f32⟩
  | 85 => ⟨S2x4x256x1, .f32⟩
  | 86 => ⟨S2x4x256x1, .f32⟩
  | 87 => ⟨S2x4x256x1, .f32⟩
  | 88 => ⟨S2x4x256x128, .f32⟩
  | 89 => ⟨S2x4x256x128, .f32⟩
  | 90 => ⟨S1x1x1x128, .f32⟩
  | 91 => ⟨S2x4x256x128, .f32⟩
  | 92 => ⟨S2x4x256x128, .f32⟩
  | 93 => ⟨S2x256x4x128, .f32⟩
  | 94 => ⟨S2x256x512, .f32⟩
  | 95 => ⟨S2x256x512, .f32⟩
  | 96 => ⟨S2x256x512, .f32⟩
  | 97 => ⟨S_, .f32⟩
  | 98 => ⟨S2x256x512, .f32⟩
  | 99 => ⟨S2x256x512, .f32⟩
  | 100 => ⟨S_, .f32⟩
  | 101 => ⟨S2x256x512, .f32⟩
  | 102 => ⟨S2x256x512, .f32⟩
  | 103 => ⟨S2x256x512, .f32⟩
  | 104 => ⟨S2x256x512, .f32⟩
  | 105 => ⟨S2x256x1024, .f32⟩
  | 106 => ⟨S2x256x1024, .f32⟩
  | 107 => ⟨S_, .f32⟩
  | 108 => ⟨S2x256x1024, .f32⟩
  | 109 => ⟨S2x256x1024, .f32⟩
  | 110 => ⟨S_, .f32⟩
  | 111 => ⟨S2x256x1024, .f32⟩
  | 112 => ⟨S2x256x1024, .f32⟩
  | 113 => ⟨S2x256x1024, .f32⟩
  | 114 => ⟨S2x256x1024, .f32⟩
  | 115 => ⟨S2x256x1024, .f32⟩
  | 116 => ⟨S2x256x1024, .f32⟩
  | 117 => ⟨S_, .f32⟩
  | 118 => ⟨S2x256x1024, .f32⟩
  | 119 => ⟨S2x256x1024, .f32⟩
  | 120 => ⟨S_, .f32⟩
  | 121 => ⟨S2x256x1024, .f32⟩
  | 122 => ⟨S2x256x1024, .f32⟩
  | 123 => ⟨S2x256x1024, .f32⟩
  | 124 => ⟨S2x256x1024, .f32⟩
  | 125 => ⟨S2x256x1024, .f32⟩
  | 126 => ⟨S2x256x1024, .f32⟩
  | 127 => ⟨S1x1x1024, .f32⟩
  | _ => ⟨S33280x1024, .f32⟩

abbrev hbmTy0_2 (i : Nat) : BufTy := match i % 128 with
  | 0 => ⟨S2x256x1024, .f32⟩
  | 1 => ⟨S2x256x1024, .f32⟩
  | 2 => ⟨S2x256x1024, .f32⟩
  | 3 => ⟨S2x256x1024, .f32⟩
  | 4 => ⟨S_, .f32⟩
  | 5 => ⟨S2x256, .f32⟩
  | 6 => ⟨S2x256x1, .f32⟩
  | 7 => ⟨S_, .f32⟩
  | 8 => ⟨S2x256x1, .f32⟩
  | 9 => ⟨S2x256x1, .f32⟩
  | 10 => ⟨S_, .f32⟩
  | 11 => ⟨S2x256x1, .f32⟩
  | 12 => ⟨S2x256x1, .f32⟩
  | 13 => ⟨S2x256x1, .f32⟩
  | 14 => ⟨S2x256x1024, .f32⟩
  | 15 => ⟨S2x256x1024, .f32⟩
  | 16 => ⟨S1x1x1024, .f32⟩
  | 17 => ⟨S2x256x1024, .f32⟩
  | 18 => ⟨S2x256x1024, .f32⟩
  | 19 => ⟨S_, .f32⟩
  | 20 => ⟨S1024, .f32⟩
  | 21 => ⟨S1024, .f32⟩
  | 22 => ⟨S1x1x1024, .f32⟩
  | 23 => ⟨S2x256x1024, .f32⟩
  | 24 => ⟨S2x256x1024, .f32⟩
  | 25 => ⟨S1x1x1024, .f32⟩
  | 26 => ⟨S2x256x1024, .f32⟩
  | 27 => ⟨S2x256x1024, .f32⟩
  | 28 => ⟨S32768x1024, .f32⟩
  | 29 => ⟨S512x1024, .f32⟩
  | 30 => ⟨S33280x1024, .f32⟩
  | 31 => ⟨S32768x1024, .f32⟩
  | 32 => ⟨S512x1024, .f32⟩
  | 33 => ⟨S33280x1024, .f32⟩
  | _ => ⟨S33280x1024, .f32⟩

abbrev hbmTy (i : Nat) : BufTy := match i / 128 with
  | 0 => hbmTy0_0 i
  | 1 => hbmTy0_1 i
  | 2 => hbmTy0_2 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_v50 : Ref sig .tc := ⟨.hbm, 73, rfl⟩
abbrev main_cst_4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_8 : Ref sig .tc := ⟨.hbm, 110, rfl⟩
abbrev main_v75 : Ref sig .tc := ⟨.hbm, 111, rfl⟩
abbrev main_v76 : Ref sig .tc := ⟨.hbm, 112, rfl⟩
abbrev main_cst_9 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_10 : Ref sig .tc := ⟨.hbm, 120, rfl⟩
abbrev main_v83 : Ref sig .tc := ⟨.hbm, 121, rfl⟩
abbrev main_v84 : Ref sig .tc := ⟨.hbm, 122, rfl⟩
abbrev main_cst_11 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_12 : Ref sig .tc := ⟨.hbm, 134, rfl⟩
abbrev main_v95 : Ref sig .tc := ⟨.hbm, 135, rfl⟩
abbrev main_v96 : Ref sig .tc := ⟨.hbm, 136, rfl⟩
abbrev main_cst_13 : Ref sig .tc := ⟨.hbm, 137, rfl⟩
abbrev main_v97 : Ref sig .tc := ⟨.hbm, 138, rfl⟩
abbrev main_v98 : Ref sig .tc := ⟨.hbm, 139, rfl⟩
abbrev main_cst_14 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_15 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_16 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_17 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_18 : Ref sig .tc := ⟨.hbm, 186, rfl⟩
abbrev main_v141 : Ref sig .tc := ⟨.hbm, 187, rfl⟩
abbrev main_v142 : Ref sig .tc := ⟨.hbm, 188, rfl⟩
abbrev main_cst_19 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_20 : Ref sig .tc := ⟨.hbm, 196, rfl⟩
abbrev main_v149 : Ref sig .tc := ⟨.hbm, 197, rfl⟩
abbrev main_v150 : Ref sig .tc := ⟨.hbm, 198, rfl⟩
abbrev main_cst_21 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_22 : Ref sig .tc := ⟨.hbm, 206, rfl⟩
abbrev main_v157 : Ref sig .tc := ⟨.hbm, 207, rfl⟩
abbrev main_v158 : Ref sig .tc := ⟨.hbm, 208, rfl⟩
abbrev main_cst_23 : Ref sig .tc := ⟨.hbm, 209, rfl⟩
abbrev main_v159 : Ref sig .tc := ⟨.hbm, 210, rfl⟩
abbrev main_v160 : Ref sig .tc := ⟨.hbm, 211, rfl⟩
abbrev main_cst_24 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_call1_v0 : Ref sig .tc := ⟨.hbm, 223, rfl⟩
abbrev main_call1_v1 : Ref sig .tc := ⟨.hbm, 224, rfl⟩
abbrev main_call1_cst : Ref sig .tc := ⟨.hbm, 225, rfl⟩
abbrev main_call1_v2 : Ref sig .tc := ⟨.hbm, 226, rfl⟩
abbrev main_call1_v3 : Ref sig .tc := ⟨.hbm, 227, rfl⟩
abbrev main_call1_cst_0 : Ref sig .tc := ⟨.hbm, 228, rfl⟩
abbrev main_call1_v4 : Ref sig .tc := ⟨.hbm, 229, rfl⟩
abbrev main_call1_v5 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_25 : Ref sig .tc := ⟨.hbm, 235, rfl⟩
abbrev main_v175 : Ref sig .tc := ⟨.hbm, 236, rfl⟩
abbrev main_v176 : Ref sig .tc := ⟨.hbm, 237, rfl⟩
abbrev main_cst_26 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_cst_27 : Ref sig .tc := ⟨.hbm, 245, rfl⟩
abbrev main_v183 : Ref sig .tc := ⟨.hbm, 246, rfl⟩
abbrev main_v184 : Ref sig .tc := ⟨.hbm, 247, rfl⟩
abbrev main_cst_28 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_29 : Ref sig .tc := ⟨.hbm, 260, rfl⟩
abbrev main_v196 : Ref sig .tc := ⟨.hbm, 261, rfl⟩
abbrev main_v197 : Ref sig .tc := ⟨.hbm, 262, rfl⟩
abbrev main_cst_30 : Ref sig .tc := ⟨.hbm, 263, rfl⟩
abbrev main_v198 : Ref sig .tc := ⟨.hbm, 264, rfl⟩
abbrev main_v199 : Ref sig .tc := ⟨.hbm, 265, rfl⟩
abbrev main_cst_31 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_cst_32 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩

abbrev nD : Nat := 1
abbrev τ : Topo := Topo.v7x

variable {F : FTy → Type} [FloatOps F]
-- ==== Proof.Head.lean ====
module

public import proofs.«01_k».proof.Proof.Gen.KernelIdeal.Value

/-! What the scan kernel's body computes for one head of one direction, as functions of the blocks it loads: written once,
    the sixteen heads of the body are instances. -/

@[expose] public section

noncomputable section

namespace Hgrn.Ker

open Idealize.ShloMosaic Idealize.ShloMosaic.TcCoe Idealize.SL.Sem
open Cert.KernelIdeal Cert.KernelIdeal.Gen

variable {F : FTy → Type} [FloatOps F]

/-- The input share of the gate: `(1 - lb) · σ(-x)`. -/
def gateK (lb : Vec F S1x512 .f32) (x : Vec F S128x512 .f32) : FVec F S128x512 .f32 :=
  mulf (broadcastTo S128x512 (subf (broadcast S1x512 (Scalar.ofBits .f32 0x3F800000#32)) lb) broadcasts_S1x512_S128x512)
    (logistic (subf (broadcast S128x512 (Scalar.ofBits .f32 0x00000000#32)) (shapeCast S128x512 x shapeCasts_S128x512_S128x512)))

/-- The decay's exponent: `log (lb + (1 - lb) · σ(x))`. -/
def gateLog (lb : Vec F S1x512 .f32) (x : Vec F S128x512 .f32) : FVec F S128x512 .f32 :=
  log (addf (broadcastTo S128x512 lb broadcasts_S1x512_S128x512)
    (mulf (broadcastTo S128x512 (subf (broadcast S1x512 (Scalar.ofBits .f32 0x3F800000#32)) lb) broadcasts_S1x512_S128x512)
      (logistic (shapeCast S128x512 x shapeCasts_S128x512_S128x512))))

/-- Rows up to the row, itself included. -/
def upTo : IVec S128x128 1 :=
  cmpi .sle (iota .tc S128x128 32 [1] iota_S128x128_d1_w32) (iota .tc S128x128 32 [0] iota_S128x128_d0_w32)

/-- Rows from the row on. -/
def fromOn : IVec S128x128 1 :=
  cmpi .sge (iota .tc S128x128 32 [1] iota_S128x128_d1_w32) (iota .tc S128x128 32 [0] iota_S128x128_d0_w32)

/-- A mask's running sum of `g`, as three products: `g` in three parts. -/
def running (mask : IVec S128x128 1) (g : FVec F S128x512 .f32) : FVec F S128x512 .f32 :=
  addf (addf (addf (broadcast S128x512 (Scalar.ofBits .f32 0x00000000#32))
      (matmul dot_S128x128_S128x512_S128x512_1_0_0_1_n_n none (truncf .bf16 (sitofp .f32 (extui 32 mask natLt_1_32)) bitsLt_bf16_f32)
        (truncf .bf16 g bitsLt_bf16_f32) (constant S128x512 .f32 0x00000000#32)))
      (matmul dot_S128x128_S128x512_S128x512_1_0_0_1_n_n none (truncf .bf16 (sitofp .f32 (extui 32 mask natLt_1_32)) bitsLt_bf16_f32)
        (truncf .bf16 (subf g (extf .f32 (truncf .bf16 g bitsLt_bf16_f32) bitsLt_bf16_f32)) bitsLt_bf16_f32)
        (constant S128x512 .f32 0x00000000#32)))
      (matmul dot_S128x128_S128x512_S128x512_1_0_0_1_n_n none (truncf .bf16 (sitofp .f32 (extui 32 mask natLt_1_32)) bitsLt_bf16_f32)
        (truncf .bf16 (subf (subf g (extf .f32 (truncf .bf16 g bitsLt_bf16_f32) bitsLt_bf16_f32))
          (extf .f32 (truncf .bf16 (subf g (extf .f32 (truncf .bf16 g bitsLt_bf16_f32) bitsLt_bf16_f32)) bitsLt_bf16_f32) bitsLt_bf16_f32)) bitsLt_bf16_f32)
        (constant S128x512 .f32 0x00000000#32))

/-- One run of 16 query rows against all the keys, both read against the reference row `ref`. -/
def scores16 (q k c : FVec F S128x128 .f32) (ref : FVec F S1x128 .f32) (lo : ℕ) (h : S128x128.Slices ![lo, 0] S16x128) : FVec F S16x128 .f32 :=
  matmul dot_S16x128_S128x128_S16x128_1_1_0_0_n_n none
    (truncf .bf16 (mulf (extractStridedSlice S16x128 ![lo, 0] q h)
      (exp (subf (extractStridedSlice S16x128 ![lo, 0] c h) (broadcastTo S16x128 ref broadcasts_S1x128_S16x128)))) bitsLt_bf16_f32)
    (truncf .bf16 (mulf k (exp (minimumf (subf (broadcastTo S128x128 ref broadcasts_S1x128_S128x128) c)
      (broadcast S128x128 (Scalar.ofBits .f32 0x42A00000#32))))) bitsLt_bf16_f32)
    (constant S16x128 .f32 0x00000000#32)

/-- A head's scores, eight runs of 16 rows, each with its own reference row, the mask applied. -/
def scores (mask : IVec S128x128 1) (r0 r1 r2 r3 r4 r5 r6 r7 : FVec F S1x128 .f32) (q k c : FVec F S128x128 .f32) : FVec F S128x128 .f32 :=
  select mask
    (concatenate S128x128 0
      [⟨S16x128, scores16 q k c r0 0 slices_S128x128_o0_0_S16x128⟩, ⟨S16x128, scores16 q k c r1 16 slices_S128x128_o16_0_S16x128⟩,
        ⟨S16x128, scores16 q k c r2 32 slices_S128x128_o32_0_S16x128⟩, ⟨S16x128, scores16 q k c r3 48 slices_S128x128_o48_0_S16x128⟩,
        ⟨S16x128, scores16 q k c r4 64 slices_S128x128_o64_0_S16x128⟩, ⟨S16x128, scores16 q k c r5 80 slices_S128x128_o80_0_S16x128⟩,
        ⟨S16x128, scores16 q k c r6 96 slices_S128x128_o96_0_S16x128⟩, ⟨S16x128, scores16 q k c r7 112 slices_S128x128_o112_0_S16x128⟩]
      concatenates_S16x128_S16x128_S16x128_S16x128_S16x128_S16x128_S16x128_S16x128_S128x128_d0)
    (broadcast S128x128 (Scalar.ofBits .f32 0x00000000#32))

/-- A head's output rows: the old state seen by the decayed queries, and the scores times the values. -/
def headOut (s : FVec F S128x128 .f32) (qd v st : FVec F S128x128 .f32) : FVec F S128x128 .f32 :=
  addf (matmul dot_S128x128_S128x128_S128x128_1_1_0_0_n_n none (truncf .bf16 qd bitsLt_bf16_f32) (truncf .bf16 st bitsLt_bf16_f32)
      (constant S128x128 .f32 0x00000000#32))
    (matmul dot_S128x128_S128x128_S128x128_1_0_0_1_n_n none (truncf .bf16 s bitsLt_bf16_f32) (truncf .bf16 v bitsLt_bf16_f32)
      (constant S128x128 .f32 0x00000000#32))

/-- A head's next state: the old one decayed over the block, and the block's values against its keys. -/
def headNext (kh v st : FVec F S128x128 .f32) (et : FVec F S1x128 .f32) : FVec F S128x128 .f32 :=
  addf (mulf st (broadcastTo S128x128 et broadcasts_S1x128_S128x128))
    (matmul dot_S128x128_S128x128_S128x128_0_0_1_1_n_n none (truncf .bf16 v bitsLt_bf16_f32) (truncf .bf16 kh bitsLt_bf16_f32)
      (constant S128x128 .f32 0x00000000#32))

/-- The 128 columns of one head. -/
abbrev cols (o : ℕ) (h : S128x512.Slices ![0, o] S128x128) (x : FVec F S128x512 .f32) : FVec F S128x128 .f32 :=
  extractStridedSlice S128x128 ![0, o] x h

/-- One row of a head's running sums. -/
abbrev row (r : ℕ) (h : S128x128.Slices ![r, 0] S1x128) (c : FVec F S128x128 .f32) : FVec F S1x128 .f32 :=
  extractStridedSlice S1x128 ![r, 0] c h

abbrev zeroRow : FVec F S1x128 .f32 := broadcast S1x128 (Scalar.ofBits .f32 0x00000000#32)

/-- Forward in time: each run of rows is read against the running sum of the row before it. -/
def scoresFwd (q k c : FVec F S128x128 .f32) : FVec F S128x128 .f32 :=
  scores upTo zeroRow (row 15 slices_S128x128_o15_0_S1x128 c) (row 31 slices_S128x128_o31_0_S1x128 c)
    (row 47 slices_S128x128_o47_0_S1x128 c) (row 63 slices_S128x128_o63_0_S1x128 c) (row 79 slices_S128x128_o79_0_S1x128 c)
    (row 95 slices_S128x128_o95_0_S1x128 c) (row 111 slices_S128x128_o111_0_S1x128 c) q k c

/-- Backward in time: each run of rows is read against the running sum of the row after it. -/
def scoresBwd (q k c : FVec F S128x128 .f32) : FVec F S128x128 .f32 :=
  scores fromOn (row 16 slices_S128x128_o16_0_S1x128 c) (row 32 slices_S128x128_o32_0_S1x128 c) (row 48 slices_S128x128_o48_0_S1x128 c)
    (row 64 slices_S128x128_o64_0_S1x128 c) (row 80 slices_S128x128_o80_0_S1x128 c) (row 96 slices_S128x128_o96_0_S1x128 c)
    (row 112 slices_S128x128_o112_0_S1x128 c) zeroRow q k c

/-- The queries decayed to the block's start. -/
def decayedQ (q c : FVec F S128x512 .f32) : FVec F S128x512 .f32 := mulf (shapeCast S128x512 q shapeCasts_S128x512_S128x512) (exp c)

/-- The keys decayed to the block's end. -/
def decayedK (k c : FVec F S128x512 .f32) (tot : FVec F S1x512 .f32) : FVec F S128x512 .f32 :=
  mulf k (exp (subf (broadcastTo S128x512 tot broadcasts_S1x512_S128x512) c))

abbrev plain (x : Vec F S128x512 .f32) : FVec F S128x512 .f32 := shapeCast S128x512 x shapeCasts_S128x512_S128x512

abbrev stateOf (st : Vec F S1x1x1x128x128 .f32) : FVec F S128x128 .f32 := shapeCast S128x128 st shapeCasts_S1x1x1x128x128_S128x128

def cumFwd (lb : Vec F S1x512 .f32) (x : Vec F S128x512 .f32) : FVec F S128x512 .f32 := running upTo (gateLog lb x)
def cumBwd (lb : Vec F S1x512 .f32) (x : Vec F S128x512 .f32) : FVec F S128x512 .f32 := running fromOn (gateLog lb x)
def totFwd (lb : Vec F S1x512 .f32) (x : Vec F S128x512 .f32) : FVec F S1x512 .f32 :=
  extractStridedSlice S1x512 ![127, 0] (cumFwd lb x) slices_S128x512_o127_0_S1x512
def totBwd (lb : Vec F S1x512 .f32) (x : Vec F S128x512 .f32) : FVec F S1x512 .f32 :=
  extractStridedSlice S1x512 ![0, 0] (cumBwd lb x) slices_S128x512_o0_0_S1x512

def outFwd (o : ℕ) (h : S128x512.Slices ![0, o] S128x128) (lb : Vec F S1x512 .f32) (q v x : Vec F S128x512 .f32)
    (st : Vec F S1x1x1x128x128 .f32) : FVec F S1x128x128 .f32 :=
  shapeCast S1x128x128 (headOut (scoresFwd (cols o h (plain q)) (cols o h (gateK lb x)) (cols o h (cumFwd lb x)))
    (cols o h (decayedQ q (cumFwd lb x))) (cols o h (plain v)) (stateOf st)) shapeCasts_S128x128_S1x128x128

def outBwd (o : ℕ) (h : S128x512.Slices ![0, o] S128x128) (lb : Vec F S1x512 .f32) (q v x : Vec F S128x512 .f32)
    (st : Vec F S1x1x1x128x128 .f32) : FVec F S1x128x128 .f32 :=
  shapeCast S1x128x128 (headOut (scoresBwd (cols o h (plain q)) (cols o h (gateK lb x)) (cols o h (cumBwd lb x)))
    (cols o h (decayedQ q (cumBwd lb x))) (cols o h (plain v)) (stateOf st)) shapeCasts_S128x128_S1x128x128

def nextFwd (o : ℕ) (h : S128x512.Slices ![0, o] S128x128) (h' : S1x512.Slices ![0, o] S1x128) (lb : Vec F S1x512 .f32)
    (v x : Vec F S128x512 .f32) (st : Vec F S1x1x1x128x128 .f32) : FVec F S1x1x1x128x128 .f32 :=
  shapeCast S1x1x1x128x128 (headNext (cols o h (decayedK (gateK lb x) (cumFwd lb x) (totFwd lb x))) (cols o h (plain v)) (stateOf st)
    (extractStridedSlice S1x128 ![0, o] (exp (totFwd lb x)) h')) shapeCasts_S128x128_S1x1x1x128x128

def nextBwd (o : ℕ) (h : S128x512.Slices ![0, o] S128x128) (h' : S1x512.Slices ![0, o] S1x128) (lb : Vec F S1x512 .f32)
    (v x : Vec F S128x512 .f32) (st : Vec F S1x1x1x128x128 .f32) : FVec F S1x1x1x128x128 .f32 :=
  shapeCast S1x1x1x128x128 (headNext (cols o h (decayedK (gateK lb x) (cumBwd lb x) (totBwd lb x))) (cols o h (plain v)) (stateOf st)
    (extractStridedSlice S1x128 ![0, o] (exp (totBwd lb x)) h')) shapeCasts_S128x128_S1x1x1x128x128

end Hgrn.Ker
-- ==== Proof.Pieces.lean ====
module

public import proofs.«01_k».proof.Proof.Head
public import Idealize.ShloMosaic.Lib.Pipeline.ReadBack

/-! The pieces the scan kernel's body stores at each kind of grid point: the first, which loads the starting state, the middle
    ones, and the last, which also writes the final state. -/

@[expose] public section
noncomputable section
open Idealize.ShloMosaic Idealize.ShloMosaic.TcCoe Idealize.SL.Sem
namespace Hgrn.Ker
open Cert.KernelIdeal Cert.KernelIdeal.Gen
variable {F : FTy → Type} [FloatOps F]

theorem zero2 : (![0, 0] : Fin 2 → Nat) = fun _ => 0 := funext fun a => by fin_cases a <;> rfl

theorem ldBlock (x : Vec F S128x512 .f32) : View.ld x (Rect.unit ![0, 0] ![128, 512] inb_S128x512_S128x512_0_0) = x :=
  View.ld_unit_zero zero2 _ x

abbrev lbRow0 (x : Vec F S2x512 .f32) : Vec F S1x512 .f32 := View.ld x (Rect.unit ![0, 0] ![1, 512] inb_S2x512_S1x512_0_0)
abbrev lbRow1 (x : Vec F S2x512 .f32) : Vec F S1x512 .f32 := View.ld x (Rect.unit ![1, 0] ![1, 512] inb_S2x512_S1x512_1_0)
abbrev st000 (s : Vec F S2x2x4x128x128 .f32) : Vec F S1x1x1x128x128 .f32 := View.ld s (Rect.unit ![0, 0, 0, 0, 0] ![1, 1, 1, 128, 128] inb_S2x2x4x128x128_S1x1x1x128x128_0_0_0_0_0)
abbrev st001 (s : Vec F S2x2x4x128x128 .f32) : Vec F S1x1x1x128x128 .f32 := View.ld s (Rect.unit ![0, 0, 1, 0, 0] ![1, 1, 1, 128, 128] inb_S2x2x4x128x128_S1x1x1x128x128_0_0_1_0_0)
abbrev st002 (s : Vec F S2x2x4x128x128 .f32) : Vec F S1x1x1x128x128 .f32 := View.ld s (Rect.unit ![0, 0, 2, 0, 0] ![1, 1, 1, 128, 128] inb_S2x2x4x128x128_S1x1x1x128x128_0_0_2_0_0)
abbrev st003 (s : Vec F S2x2x4x128x128 .f32) : Vec F S1x1x1x128x128 .f32 := View.ld s (Rect.unit ![0, 0, 3, 0, 0] ![1, 1, 1, 128, 128] inb_S2x2x4x128x128_S1x1x1x128x128_0_0_3_0_0)
abbrev st010 (s : Vec F S2x2x4x128x128 .f32) : Vec F S1x1x1x128x128 .f32 := View.ld s (Rect.unit ![0, 1, 0, 0, 0] ![1, 1, 1, 128, 128] inb_S2x2x4x128x128_S1x1x1x128x128_0_1_0_0_0)
abbrev st011 (s : Vec F S2x2x4x128x128 .f32) : Vec F S1x1x1x128x128 .f32 := View.ld s (Rect.unit ![0, 1, 1, 0, 0] ![1, 1, 1, 128, 128] inb_S2x2x4x128x128_S1x1x1x128x128_0_1_1_0_0)
abbrev st012 (s : Vec F S2x2x4x128x128 .f32) : Vec F S1x1x1x128x128 .f32 := View.ld s (Rect.unit ![0, 1, 2, 0, 0] ![1, 1, 1, 128, 128] inb_S2x2x4x128x128_S1x1x1x128x128_0_1_2_0_0)
abbrev st013 (s : Vec F S2x2x4x128x128 .f32) : Vec F S1x1x1x128x128 .f32 := View.ld s (Rect.unit ![0, 1, 3, 0, 0] ![1, 1, 1, 128, 128] inb_S2x2x4x128x128_S1x1x1x128x128_0_1_3_0_0)
abbrev st100 (s : Vec F S2x2x4x128x128 .f32) : Vec F S1x1x1x128x128 .f32 := View.ld s (Rect.unit ![1, 0, 0, 0, 0] ![1, 1, 1, 128, 128] inb_S2x2x4x128x128_S1x1x1x128x128_1_0_0_0_0)
abbrev st101 (s : Vec F S2x2x4x128x128 .f32) : Vec F S1x1x1x128x128 .f32 := View.ld s (Rect.unit ![1, 0, 1, 0, 0] ![1, 1, 1, 128, 128] inb_S2x2x4x128x128_S1x1x1x128x128_1_0_1_0_0)
abbrev st102 (s : Vec F S2x2x4x128x128 .f32) : Vec F S1x1x1x128x128 .f32 := View.ld s (Rect.unit ![1, 0, 2, 0, 0] ![1, 1, 1, 128, 128] inb_S2x2x4x128x128_S1x1x1x128x128_1_0_2_0_0)
abbrev st103 (s : Vec F S2x2x4x128x128 .f32) : Vec F S1x1x1x128x128 .f32 := View.ld s (Rect.unit ![1, 0, 3, 0, 0] ![1, 1, 1, 128, 128] inb_S2x2x4x128x128_S1x1x1x128x128_1_0_3_0_0)
abbrev st110 (s : Vec F S2x2x4x128x128 .f32) : Vec F S1x1x1x128x128 .f32 := View.ld s (Rect.unit ![1, 1, 0, 0, 0] ![1, 1, 1, 128, 128] inb_S2x2x4x128x128_S1x1x1x128x128_1_1_0_0_0)
abbrev st111 (s : Vec F S2x2x4x128x128 .f32) : Vec F S1x1x1x128x128 .f32 := View.ld s (Rect.unit ![1, 1, 1, 0, 0] ![1, 1, 1, 128, 128] inb_S2x2x4x128x128_S1x1x1x128x128_1_1_1_0_0)
abbrev st112 (s : Vec F S2x2x4x128x128 .f32) : Vec F S1x1x1x128x128 .f32 := View.ld s (Rect.unit ![1, 1, 2, 0, 0] ![1, 1, 1, 128, 128] inb_S2x2x4x128x128_S1x1x1x128x128_1_1_2_0_0)
abbrev st113 (s : Vec F S2x2x4x128x128 .f32) : Vec F S1x1x1x128x128 .f32 := View.ld s (Rect.unit ![1, 1, 3, 0, 0] ![1, 1, 1, 128, 128] inb_S2x2x4x128x128_S1x1x1x128x128_1_1_3_0_0)

theorem ldState (x : Vec F S2x2x4x128x128 .f32) :
    View.ld x (Rect.unit ![0, 0, 0, 0, 0] ![2, 2, 4, 128, 128] inb_S2x2x4x128x128_S2x2x4x128x128_0_0_0_0_0) = x :=
  View.ld_unit_zero (funext fun a => by fin_cases a <;> rfl) _ x

theorem castState (x : Vec F S2x2x4x128x128 .f32) : k0_pay2 x = x := by
  unfold k0_pay2
  dsimp only
  rw [shapeCast_self, shapeCast_self]

def outsFwd (lb : Vec F S2x512 .f32) (q0 v0 f0 q1 v1 f1 : Vec F S128x512 .f32) (s : Vec F S2x2x4x128x128 .f32) :
    List (View.Piece (Elt F) S2x128x512 .f32) :=
  [⟨Rect.unit ![1, 0, 384] ![1, 128, 128] inb_S2x128x512_S1x128x128_1_0_384, outFwd 384 slices_S128x512_o0_384_S128x128 (lbRow0 lb) q1 v1 f1 (st103 s)⟩,
      ⟨Rect.unit ![1, 0, 256] ![1, 128, 128] inb_S2x128x512_S1x128x128_1_0_256, outFwd 256 slices_S128x512_o0_256_S128x128 (lbRow0 lb) q1 v1 f1 (st102 s)⟩,
      ⟨Rect.unit ![1, 0, 128] ![1, 128, 128] inb_S2x128x512_S1x128x128_1_0_128, outFwd 128 slices_S128x512_o0_128_S128x128 (lbRow0 lb) q1 v1 f1 (st101 s)⟩,
      ⟨Rect.unit ![1, 0, 0] ![1, 128, 128] inb_S2x128x512_S1x128x128_1_0_0, outFwd 0 slices_S128x512_o0_0_S128x128 (lbRow0 lb) q1 v1 f1 (st100 s)⟩,
      ⟨Rect.unit ![0, 0, 384] ![1, 128, 128] inb_S2x128x512_S1x128x128_0_0_384, outFwd 384 slices_S128x512_o0_384_S128x128 (lbRow0 lb) q0 v0 f0 (st003 s)⟩,
      ⟨Rect.unit ![0, 0, 256] ![1, 128, 128] inb_S2x128x512_S1x128x128_0_0_256, outFwd 256 slices_S128x512_o0_256_S128x128 (lbRow0 lb) q0 v0 f0 (st002 s)⟩,
      ⟨Rect.unit ![0, 0, 128] ![1, 128, 128] inb_S2x128x512_S1x128x128_0_0_128, outFwd 128 slices_S128x512_o0_128_S128x128 (lbRow0 lb) q0 v0 f0 (st001 s)⟩,
      ⟨Rect.unit ![0, 0, 0] ![1, 128, 128] inb_S2x128x512_S1x128x128_0_0_0, outFwd 0 slices_S128x512_o0_0_S128x128 (lbRow0 lb) q0 v0 f0 (st000 s)⟩]
def outsBwd (lb : Vec F S2x512 .f32) (q0 v0 f0 q1 v1 f1 : Vec F S128x512 .f32) (s : Vec F S2x2x4x128x128 .f32) :
    List (View.Piece (Elt F) S2x128x512 .f32) :=
  [⟨Rect.unit ![1, 0, 384] ![1, 128, 128] inb_S2x128x512_S1x128x128_1_0_384, outBwd 384 slices_S128x512_o0_384_S128x128 (lbRow1 lb) q1 v1 f1 (st113 s)⟩,
      ⟨Rect.unit ![1, 0, 256] ![1, 128, 128] inb_S2x128x512_S1x128x128_1_0_256, outBwd 256 slices_S128x512_o0_256_S128x128 (lbRow1 lb) q1 v1 f1 (st112 s)⟩,
      ⟨Rect.unit ![1, 0, 128] ![1, 128, 128] inb_S2x128x512_S1x128x128_1_0_128, outBwd 128 slices_S128x512_o0_128_S128x128 (lbRow1 lb) q1 v1 f1 (st111 s)⟩,
      ⟨Rect.unit ![1, 0, 0] ![1, 128, 128] inb_S2x128x512_S1x128x128_1_0_0, outBwd 0 slices_S128x512_o0_0_S128x128 (lbRow1 lb) q1 v1 f1 (st110 s)⟩,
      ⟨Rect.unit ![0, 0, 384] ![1, 128, 128] inb_S2x128x512_S1x128x128_0_0_384, outBwd 384 slices_S128x512_o0_384_S128x128 (lbRow1 lb) q0 v0 f0 (st013 s)⟩,
      ⟨Rect.unit ![0, 0, 256] ![1, 128, 128] inb_S2x128x512_S1x128x128_0_0_256, outBwd 256 slices_S128x512_o0_256_S128x128 (lbRow1 lb) q0 v0 f0 (st012 s)⟩,
      ⟨Rect.unit ![0, 0, 128] ![1, 128, 128] inb_S2x128x512_S1x128x128_0_0_128, outBwd 128 slices_S128x512_o0_128_S128x128 (lbRow1 lb) q0 v0 f0 (st011 s)⟩,
      ⟨Rect.unit ![0, 0, 0] ![1, 128, 128] inb_S2x128x512_S1x128x128_0_0_0, outBwd 0 slices_S128x512_o0_0_S128x128 (lbRow1 lb) q0 v0 f0 (st010 s)⟩]
def states (lb : Vec F S2x512 .f32) (v0 f0 v1 f1 v2 f2 v3 f3 : Vec F S128x512 .f32) (s : Vec F S2x2x4x128x128 .f32) :
    List (View.Piece (Elt F) S2x2x4x128x128 .f32) :=
  [⟨Rect.unit ![1, 1, 3, 0, 0] ![1, 1, 1, 128, 128] inb_S2x2x4x128x128_S1x1x1x128x128_1_1_3_0_0, nextBwd 384 slices_S128x512_o0_384_S128x128 slices_S1x512_o0_384_S1x128 (lbRow1 lb) v3 f3 (st113 s)⟩,
      ⟨Rect.unit ![1, 1, 2, 0, 0] ![1, 1, 1, 128, 128] inb_S2x2x4x128x128_S1x1x1x128x128_1_1_2_0_0, nextBwd 256 slices_S128x512_o0_256_S128x128 slices_S1x512_o0_256_S1x128 (lbRow1 lb) v3 f3 (st112 s)⟩,
      ⟨Rect.unit ![1, 1, 1, 0, 0] ![1, 1, 1, 128, 128] inb_S2x2x4x128x128_S1x1x1x128x128_1_1_1_0_0, nextBwd 128 slices_S128x512_o0_128_S128x128 slices_S1x512_o0_128_S1x128 (lbRow1 lb) v3 f3 (st111 s)⟩,
      ⟨Rect.unit ![1, 1, 0, 0, 0] ![1, 1, 1, 128, 128] inb_S2x2x4x128x128_S1x1x1x128x128_1_1_0_0_0, nextBwd 0 slices_S128x512_o0_0_S128x128 slices_S1x512_o0_0_S1x128 (lbRow1 lb) v3 f3 (st110 s)⟩,
      ⟨Rect.unit ![1, 0, 3, 0, 0] ![1, 1, 1, 128, 128] inb_S2x2x4x128x128_S1x1x1x128x128_1_0_3_0_0, nextFwd 384 slices_S128x512_o0_384_S128x128 slices_S1x512_o0_384_S1x128 (lbRow0 lb) v2 f2 (st103 s)⟩,
      ⟨Rect.unit ![1, 0, 2, 0, 0] ![1, 1, 1, 128, 128] inb_S2x2x4x128x128_S1x1x1x128x128_1_0_2_0_0, nextFwd 256 slices_S128x512_o0_256_S128x128 slices_S1x512_o0_256_S1x128 (lbRow0 lb) v2 f2 (st102 s)⟩,
      ⟨Rect.unit ![1, 0, 1, 0, 0] ![1, 1, 1, 128, 128] inb_S2x2x4x128x128_S1x1x1x128x128_1_0_1_0_0, nextFwd 128 slices_S128x512_o0_128_S128x128 slices_S1x512_o0_128_S1x128 (lbRow0 lb) v2 f2 (st101 s)⟩,
      ⟨Rect.unit ![1, 0, 0, 0, 0] ![1, 1, 1, 128, 128] inb_S2x2x4x128x128_S1x1x1x128x128_1_0_0_0_0, nextFwd 0 slices_S128x512_o0_0_S128x128 slices_S1x512_o0_0_S1x128 (lbRow0 lb) v2 f2 (st100 s)⟩,
      ⟨Rect.unit ![0, 1, 3, 0, 0] ![1, 1, 1, 128, 128] inb_S2x2x4x128x128_S1x1x1x128x128_0_1_3_0_0, nextBwd 384 slices_S128x512_o0_384_S128x128 slices_S1x512_o0_384_S1x128 (lbRow1 lb) v1 f1 (st013 s)⟩,
      ⟨Rect.unit ![0, 1, 2, 0, 0] ![1, 1, 1, 128, 128] inb_S2x2x4x128x128_S1x1x1x128x128_0_1_2_0_0, nextBwd 256 slices_S128x512_o0_256_S128x128 slices_S1x512_o0_256_S1x128 (lbRow1 lb) v1 f1 (st012 s)⟩,
      ⟨Rect.unit ![0, 1, 1, 0, 0] ![1, 1, 1, 128, 128] inb_S2x2x4x128x128_S1x1x1x128x128_0_1_1_0_0, nextBwd 128 slices_S128x512_o0_128_S128x128 slices_S1x512_o0_128_S1x128 (lbRow1 lb) v1 f1 (st011 s)⟩,
      ⟨Rect.unit ![0, 1, 0, 0, 0] ![1, 1, 1, 128, 128] inb_S2x2x4x128x128_S1x1x1x128x128_0_1_0_0_0, nextBwd 0 slices_S128x512_o0_0_S128x128 slices_S1x512_o0_0_S1x128 (lbRow1 lb) v1 f1 (st010 s)⟩,
      ⟨Rect.unit ![0, 0, 3, 0, 0] ![1, 1, 1, 128, 128] inb_S2x2x4x128x128_S1x1x1x128x128_0_0_3_0_0, nextFwd 384 slices_S128x512_o0_384_S128x128 slices_S1x512_o0_384_S1x128 (lbRow0 lb) v0 f0 (st003 s)⟩,
      ⟨Rect.unit ![0, 0, 2, 0, 0] ![1, 1, 1, 128, 128] inb_S2x2x4x128x128_S1x1x1x128x128_0_0_2_0_0, nextFwd 256 slices_S128x512_o0_256_S128x128 slices_S1x512_o0_256_S1x128 (lbRow0 lb) v0 f0 (st002 s)⟩,
      ⟨Rect.unit ![0, 0, 1, 0, 0] ![1, 1, 1, 128, 128] inb_S2x2x4x128x128_S1x1x1x128x128_0_0_1_0_0, nextFwd 128 slices_S128x512_o0_128_S128x128 slices_S1x512_o0_128_S1x128 (lbRow0 lb) v0 f0 (st001 s)⟩,
      ⟨Rect.unit ![0, 0, 0, 0, 0] ![1, 1, 1, 128, 128] inb_S2x2x4x128x128_S1x1x1x128x128_0_0_0_0_0, nextFwd 0 slices_S128x512_o0_0_S128x128 slices_S1x512_o0_0_S1x128 (lbRow0 lb) v0 f0 (st000 s)⟩]

theorem pieces_B_14 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_B c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).1 = outsFwd x12 x0 x1 x2 x6 x7 x8 xs0 := by
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_B_15 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_B c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).2.1 = outsBwd x12 x3 x4 x5 x9 x10 x11 xs0 := by
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_B_st (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_B c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).2.2.2.1 = states x12 x1 x2 x4 x5 x7 x8 x10 x11 xs0 := by
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_C_14 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_C c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).1 = outsFwd x12 x0 x1 x2 x6 x7 x8 xs0 := by
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_C_15 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_C c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).2.1 = outsBwd x12 x3 x4 x5 x9 x10 x11 xs0 := by
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_C_st (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_C c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).2.2.2.1 = states x12 x1 x2 x4 x5 x7 x8 x10 x11 xs0 := by
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_C_16 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : ¬cond0_0 i) (hc1 : cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) (xs0 : Vec F S2x2x4x128x128 .f32) :
    (kernelRun0_C c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13 xs0).2.2.1 = [⟨Rect.unit ![0, 0, 0, 0, 0] ![2, 2, 4, 128, 128] inb_S2x2x4x128x128_S2x2x4x128x128_0_0_0_0_0,
      a18.view.readCov (Val := Elt F) (states x12 x1 x2 x4 x5 x7 x8 x10 x11 xs0) (Rect.unit ![0, 0, 0, 0, 0] ![2, 2, 4, 128, 128] inb_S2x2x4x128x128_S2x2x4x128x128_0_0_0_0_0).toLoadRect⟩] := by
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_A_14 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) :
    (kernelRun0_A c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13).1 = outsFwd x12 x0 x1 x2 x6 x7 x8 x13 := by
  unfold kernelRun0_A
  dsimp only
  sl_unfold_words
  simp (disch := decide) only [↓ View.readCov_skip, ↓ View.readCov_fill, castState, ldState, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_A_15 (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) :
    (kernelRun0_A c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13).2.1 = outsBwd x12 x3 x4 x5 x9 x10 x11 x13 := by
  unfold kernelRun0_A
  dsimp only
  sl_unfold_words
  simp (disch := decide) only [↓ View.readCov_skip, ↓ View.readCov_fill, castState, ldState, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

theorem pieces_A_st (c : Dev nD) (i : grid0.Coords) (a1 : Memref sig .tc .vmem S128x512 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x512 .f32) (h11 : a11.IsWhole) (a12 : Memref sig .tc .vmem S128x512 .f32) (h12 : a12.IsWhole) (a13 : Memref sig .tc .vmem S2x512 .f32) (h13 : a13.IsWhole) (a14 : Memref sig .tc .vmem S2x2x4x128x128 .f32) (h14 : a14.IsWhole) (a15 : Memref sig .tc .vmem S2x128x512 .f32) (h15 : a15.IsWhole) (a16 : Memref sig .tc .vmem S2x128x512 .f32) (h16 : a16.IsWhole) (a17 : Memref sig .tc .vmem S2x2x4x128x128 .f32) (h17 : a17.IsWhole) (a18 : Memref sig .tc .vmem S2x2x4x128x128 .f32) (h18 : a18.IsWhole) (hc0 : cond0_0 i) (hc1 : ¬cond0_1 i) (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x512 .f32) (x9 : Vec F S128x512 .f32) (x10 : Vec F S128x512 .f32) (x11 : Vec F S128x512 .f32) (x12 : Vec F S2x512 .f32) (x13 : Vec F S2x2x4x128x128 .f32) :
    (kernelRun0_A c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 x10 x11 x12 x13).2.2.2.1 = states x12 x1 x2 x4 x5 x7 x8 x10 x11 x13 ++ [⟨Rect.unit ![0, 0, 0, 0, 0] ![2, 2, 4, 128, 128] inb_S2x2x4x128x128_S2x2x4x128x128_0_0_0_0_0, x13⟩] := by
  unfold kernelRun0_A
  dsimp only
  sl_unfold_words
  simp (disch := decide) only [↓ View.readCov_skip, ↓ View.readCov_fill, castState, ldState, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h18.read_unread, ldBlock]
  rfl

end Hgrn.Ker
-- ==== Proof.Rec.lean ====
module

public import Mathlib.Analysis.SpecialFunctions.Log.Basic
public import Mathlib.Analysis.SpecialFunctions.Exp

/-! The gated recurrence over the reals, and what one chunk of it computes. One stream: a decay exponent `g`, a key `k`,
    a query `q` per time and key channel, a value `v` per time and value channel, a starting state `s0`. -/

@[expose] public section

namespace Hgrn

open Finset

noncomputable section

variable {D E : Type} [Fintype D]

/-- The state after `n` steps: `S ↦ exp g · S + k ⊗ v`. -/
def st (g k : ℕ → D → ℝ) (v : ℕ → E → ℝ) (s0 : D → E → ℝ) : ℕ → D → E → ℝ
  | 0 => s0
  | n + 1 => fun d e => Real.exp (g n d) * st g k v s0 n d e + k n d * v n e

/-- The output at time `n`: the query against the state after the step. -/
def out (g k q : ℕ → D → ℝ) (v : ℕ → E → ℝ) (s0 : D → E → ℝ) (n : ℕ) (e : E) : ℝ :=
  ∑ d, q n d * st g k v s0 (n + 1) d e

/-- The exponents of the `m` times from `T` on, added. -/
def pre (g : ℕ → D → ℝ) (T m : ℕ) (d : D) : ℝ := ∑ i ∈ range m, g (T + i) d

theorem pre_zero (g : ℕ → D → ℝ) (T : ℕ) (d : D) : pre g T 0 d = 0 := by simp [pre]

theorem pre_succ (g : ℕ → D → ℝ) (T m : ℕ) (d : D) : pre g T (m + 1) d = pre g T m d + g (T + m) d := by
  simp [pre, sum_range_succ]

variable (g k q : ℕ → D → ℝ) (v : ℕ → E → ℝ) (s0 : D → E → ℝ)

/-- The state `m` steps into a chunk, from the state at its start. -/
theorem st_chunk (T m : ℕ) (d : D) (e : E) :
    st g k v s0 (T + m) d e = Real.exp (pre g T m d) * st g k v s0 T d e
      + ∑ s ∈ range m, k (T + s) d * Real.exp (pre g T m d - pre g T (s + 1) d) * v (T + s) e := by
  induction m with
  | zero => simp [pre_zero]
  | succ m ih =>
    have h1 : st g k v s0 (T + (m + 1)) d e
        = Real.exp (g (T + m) d) * st g k v s0 (T + m) d e + k (T + m) d * v (T + m) e := rfl
    rw [h1, ih, sum_range_succ, pre_succ, Real.exp_add, sub_self, Real.exp_zero, mul_add, mul_sum]
    have h2 : ∀ s ∈ range m, Real.exp (g (T + m) d) * (k (T + s) d * Real.exp (pre g T m d - pre g T (s + 1) d) * v (T + s) e)
        = k (T + s) d * Real.exp (pre g T m d + g (T + m) d - pre g T (s + 1) d) * v (T + s) e := by
      intro s _
      rw [show pre g T m d + g (T + m) d - pre g T (s + 1) d = g (T + m) d + (pre g T m d - pre g T (s + 1) d) by ring,
        Real.exp_add]
      ring
    rw [sum_congr rfl h2]
    ring

/-- The output at place `j` of a chunk: the state at the chunk's start seen through the decay, and the pairs inside. -/
theorem out_chunk (T j : ℕ) (e : E) :
    out g k q v s0 (T + j) e = ∑ d, q (T + j) d * Real.exp (pre g T (j + 1) d) * st g k v s0 T d e
      + ∑ s ∈ range (j + 1), (∑ d, q (T + j) d * k (T + s) d * Real.exp (pre g T (j + 1) d - pre g T (s + 1) d)) * v (T + s) e := by
  have h1 : out g k q v s0 (T + j) e = ∑ d, q (T + j) d * st g k v s0 (T + (j + 1)) d e := rfl
  rw [h1]
  simp only [st_chunk, mul_add, sum_add_distrib, mul_sum, sum_mul]
  congr 1
  · exact sum_congr rfl fun d _ => by ring
  · rw [sum_comm]
    exact sum_congr rfl fun s _ => sum_congr rfl fun d _ => by ring

/-- A sum over the first `j + 1` of `N` places is the sum over all with the others left out. -/
theorem sum_upto {N : ℕ} (j : Fin N) (f : ℕ → ℝ) :
    ∑ s ∈ range (j.val + 1), f s = ∑ s : Fin N, if s.val ≤ j.val then f s.val else 0 := by
  rw [Fin.sum_univ_eq_sum_range (fun s => if s ≤ j.val then f s else 0) N, ← sum_filter]
  congr 1
  ext s
  simp only [mem_range, mem_filter]
  have := j.isLt
  omega

/-- All the exponents of a stretch below zero: a longer sum is smaller. -/
theorem pre_antitone (h : ∀ n d, g n d ≤ 0) (T : ℕ) (d : D) {a b : ℕ} (hab : a ≤ b) : pre g T b d ≤ pre g T a d := by
  induction b, hab using Nat.le_induction with
  | base => exact le_rfl
  | succ b _ ih =>
    have h1 := h (T + b) d
    rw [pre_succ]
    linarith

/-- Exponents no smaller than `-c`: over `m` more places the sum falls by at most `m · c`. -/
theorem pre_drop (c : ℝ) (h : ∀ n d, -c ≤ g n d) (T : ℕ) (d : D) (a m : ℕ) : pre g T a d - pre g T (a + m) d ≤ m * c := by
  induction m with
  | zero => simp
  | succ m ih =>
    have h1 := h (T + (a + m)) d
    rw [← add_assoc, pre_succ]
    push_cast
    linarith

/-- Read against the sum just before its run of 16, no exponent of a kept pair reaches 80: the cap never acts. -/
theorem cap_idle (h0 : ∀ n d, g n d ≤ 0) (h1 : ∀ n d, -5 ≤ g n d) (T : ℕ) (d : D) (j s : ℕ) (hs : s ≤ j) :
    min (pre g T (16 * (j / 16)) d - pre g T (s + 1) d) 80 = pre g T (16 * (j / 16)) d - pre g T (s + 1) d := by
  apply min_eq_left
  by_cases h : s + 1 ≤ 16 * (j / 16)
  · have := pre_antitone g h0 T d h
    linarith
  · obtain ⟨m, hm⟩ : ∃ m, s + 1 = 16 * (j / 16) + m := ⟨s + 1 - 16 * (j / 16), by omega⟩
    have h2 : m ≤ 16 := by omega
    have h3 := pre_drop g 5 h1 T d (16 * (j / 16)) m
    have h4 : (m : ℝ) ≤ 16 := by exact_mod_cast h2
    rw [hm]
    linarith

/-- One kept pair's score, computed against the sum before the row's run of 16, is the plain one. -/
theorem score_eq (h0 : ∀ n d, g n d ≤ 0) (h1 : ∀ n d, -5 ≤ g n d) (T j s : ℕ) (hs : s ≤ j) (x y : D → ℝ) :
    ∑ d, x d * Real.exp (pre g T (j + 1) d - pre g T (16 * (j / 16)) d)
        * (y d * Real.exp (min (pre g T (16 * (j / 16)) d - pre g T (s + 1) d) 80))
      = ∑ d, x d * y d * Real.exp (pre g T (j + 1) d - pre g T (s + 1) d) := by
  refine sum_congr rfl fun d _ => ?_
  rw [cap_idle g h0 h1 T d j s hs,
    show pre g T (j + 1) d - pre g T (s + 1) d
      = (pre g T (j + 1) d - pre g T (16 * (j / 16)) d) + (pre g T (16 * (j / 16)) d - pre g T (s + 1) d) by ring, Real.exp_add]
  ring

/-- What the kernel computes for row `j` of a chunk of `N`: the state at the start seen through the decay, and the capped
    scores of the rows up to it. -/
theorem out_capped (h0 : ∀ n d, g n d ≤ 0) (h1 : ∀ n d, -5 ≤ g n d) {N : ℕ} (T : ℕ) (j : Fin N) (e : E) :
    out g k q v s0 (T + j) e = ∑ d, q (T + j) d * Real.exp (pre g T (j + 1) d) * st g k v s0 T d e
      + ∑ s : Fin N, (if s.val ≤ j.val then
          ∑ d, q (T + j) d * Real.exp (pre g T (j + 1) d - pre g T (16 * (j.val / 16)) d)
            * (k (T + s) d * Real.exp (min (pre g T (16 * (j.val / 16)) d - pre g T (s + 1) d) 80)) else 0) * v (T + s) e := by
  rw [out_chunk, sum_upto j]
  congr 1
  refine sum_congr rfl fun s _ => ?_
  by_cases hs : s.val ≤ j.val
  · rw [if_pos hs, if_pos hs, score_eq g h0 h1 T j s hs]
  · rw [if_neg hs, if_neg hs, zero_mul]

/-- The state at a chunk's end, over the chunk's places. -/
theorem st_chunk_fin (T N : ℕ) (d : D) (e : E) :
    st g k v s0 (T + N) d e = Real.exp (pre g T N d) * st g k v s0 T d e
      + ∑ s : Fin N, k (T + s) d * Real.exp (pre g T N d - pre g T (s + 1) d) * v (T + s) e := by
  rw [st_chunk]
  congr 1
  exact (Fin.sum_univ_eq_sum_range (fun s => k (T + s) d * Real.exp (pre g T N d - pre g T (s + 1) d) * v (T + s) e) N).symm

/-- The output over a chunk's places, the pairs with the later row left out. -/
theorem out_chunk_fin {N : ℕ} (T : ℕ) (j : Fin N) (e : E) :
    out g k q v s0 (T + j) e = ∑ d, q (T + j) d * Real.exp (pre g T (j + 1) d) * st g k v s0 T d e
      + ∑ s : Fin N, (if s.val ≤ j.val then
          ∑ d, q (T + j) d * k (T + s) d * Real.exp (pre g T (j + 1) d - pre g T (s + 1) d) else 0) * v (T + s) e := by
  rw [out_chunk, sum_upto j]
  congr 1
  refine sum_congr rfl fun s _ => ?_
  by_cases hs : s.val ≤ j.val
  · rw [if_pos hs, if_pos hs]
  · rw [if_neg hs, if_neg hs, zero_mul]

/-- A running sum over a chunk's places. -/
theorem pre_fin {N : ℕ} (T : ℕ) (j : Fin N) (d : D) :
    pre g T (j + 1) d = ∑ s : Fin N, if s.val ≤ j.val then g (T + s) d else 0 :=
  sum_upto j fun s => g (T + s) d

end

end Hgrn
-- ==== Proof.Read.lean ====
module

public import proofs.«01_k».proof.Proof.Pieces
public import proofs.«01_k».proof.Proof.Rec
public import Idealize.ShloMosaic.Lib.Pointwise
public import Idealize.ShloMosaic.Lib.WordCmp

/-! The head functions of the scan kernel, read over the extended reals: with real operands every entry is the coercion of a
    real expression. -/

@[expose] public section

noncomputable section

namespace Hgrn.Ker

open Idealize.ShloMosaic Idealize.ShloMosaic.TcCoe Idealize.SL.Sem
open Cert.KernelIdeal Cert.KernelIdeal.Gen

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The logistic function of an extended real: a real from 0 to 1. -/
def sg (x : EReal) : ℝ := (Ideal.logistic x).toReal

theorem sg_spec (x : EReal) : Ideal.logistic x = (sg x : EReal) ∧ 0 ≤ sg x ∧ sg x ≤ 1 := by
  unfold sg
  induction x using EReal.rec with
  | bot => rw [Ideal.logistic_bot]; norm_num
  | top => rw [Ideal.logistic_top]; norm_num
  | coe r =>
    rw [Ideal.logistic_coe, EReal.toReal_coe]
    have := Real.exp_pos (-r)
    exact ⟨rfl, by positivity, inv_le_one_of_one_le₀ (by linarith)⟩

def kOf (lb : ℝ) (x : EReal) : ℝ := (1 - lb) * sg (-x)
def gOf (lb : ℝ) (x : EReal) : ℝ := Real.log (lb + (1 - lb) * sg x)

theorem fOf_range {lb : ℝ} (x : EReal) (h0 : 1 / 128 ≤ lb) (h1 : lb ≤ 1) :
    1 / 128 ≤ lb + (1 - lb) * sg x ∧ lb + (1 - lb) * sg x ≤ 1 := by
  obtain ⟨_, h2, h3⟩ := sg_spec x
  constructor <;> nlinarith

theorem gOf_le {lb : ℝ} (x : EReal) (h0 : 1 / 128 ≤ lb) (h1 : lb ≤ 1) : gOf lb x ≤ 0 := by
  obtain ⟨h2, h3⟩ := fOf_range x h0 h1
  exact Real.log_nonpos (by linarith) h3

theorem gOf_ge {lb : ℝ} (x : EReal) (h0 : 1 / 128 ≤ lb) (h1 : lb ≤ 1) : -5 ≤ gOf lb x := by
  obtain ⟨h2, h3⟩ := fOf_range x h0 h1
  unfold gOf
  rw [Real.le_log_iff_exp_le (by linarith), Real.exp_neg]
  refine le_trans ?_ h2
  have he : (128 : ℝ) ≤ Real.exp 5 := by
    have h : (1.625 : ℝ) ≤ Real.exp (1 / 2) := by
      have := Real.quadratic_le_exp_of_nonneg (x := 1 / 2) (by norm_num)
      linarith
    have h5 : Real.exp 5 = Real.exp (1 / 2) ^ 10 := by rw [← Real.exp_nat_mul]; norm_num
    rw [h5]
    refine le_trans ?_ (pow_le_pow_left₀ (by norm_num) h 10)
    norm_num
  rw [one_div]
  exact inv_anti₀ (by norm_num) he

section Gates

variable {lb : Vec Ideal S1x512 .f32} {x : Vec Ideal S128x512 .f32} {LB : Fin 512 → ℝ}

theorem gateK_apply (hlb : ∀ c, lb (ix2 0 c) = (LB c : EReal)) (r : Fin 128) (c : Fin 512) :
    gateK lb x (ix2 r c) = (kOf (LB c) (x (ix2 r c)) : EReal) := by
  pointwise [gateK]
  rw [hlb, zero_sub, (sg_spec _).1, kOf, EReal.coe_mul, EReal.coe_sub, EReal.coe_one]

theorem gateLog_apply (hlb : ∀ c, lb (ix2 0 c) = (LB c : EReal)) (h0 : ∀ c, 1 / 128 ≤ LB c) (h1 : ∀ c, LB c ≤ 1)
    (r : Fin 128) (c : Fin 512) : gateLog lb x (ix2 r c) = (gOf (LB c) (x (ix2 r c)) : EReal) := by
  pointwise [gateLog]
  have h2 := (fOf_range (x (ix2 r c)) (h0 c) (h1 c)).1
  rw [hlb, (sg_spec _).1, ← EReal.coe_one, ← EReal.coe_sub, ← EReal.coe_mul, ← EReal.coe_add, Ideal.log_coe, if_neg (by linarith), gOf]

end Gates

theorem upTo_apply (r s : Fin 128) : upTo (ix2 r s) = 1 ↔ s.val ≤ r.val := by
  pointwise [upTo]
  exact WordCmp.cmpi_sle_ofNat_eq_one_iff (by omega) (by omega)

theorem fromOn_apply (r s : Fin 128) : fromOn (ix2 r s) = 1 ↔ r.val ≤ s.val := by
  pointwise [fromOn]
  exact WordCmp.cmpi_sge_ofNat_eq_one_iff (by omega) (by omega)

theorem bit_float (b : BitVec 1) : FloatOps.sitofp (F := Ideal) FTy.f32 (BitVec.setWidth 32 b) = ((if b = 1 then 1 else 0 : ℝ) : EReal) := by
  have h : b = 0 ∨ b = 1 := by
    revert b
    decide
  rcases h with rfl | rfl
  · show (((BitVec.setWidth 32 (0 : BitVec 1)).toInt : ℝ) : EReal) = _
    rw [show (BitVec.setWidth 32 (0 : BitVec 1)).toInt = 0 by decide, if_neg (by decide)]
    norm_num
  · show (((BitVec.setWidth 32 (1 : BitVec 1)).toInt : ℝ) : EReal) = _
    rw [show (BitVec.setWidth 32 (1 : BitVec 1)).toInt = 1 by decide, if_pos rfl]
    norm_num

theorem running_apply {g : FVec Ideal S128x512 .f32} {G : Fin 128 → Fin 512 → ℝ} (hg : ∀ r c, g (ix2 r c) = (G r c : EReal))
    (mask : IVec S128x128 1) (r : Fin 128) (c : Fin 512) :
    running mask g (ix2 r c) = ((∑ s, if mask (ix2 r s) = 1 then G s c else 0 : ℝ) : EReal) := by
  pointwise [running]
  simp only [hg, bit_float, ← EReal.coe_sub, sub_self, ← EReal.coe_mul, mul_zero, ite_mul, one_mul, zero_mul, ← coe_sum, Finset.sum_const_zero,
    ← EReal.coe_add, add_zero]

theorem eighty : Ideal.ofBits FTy.f32 0x42A00000#32 = ((80 : ℝ) : EReal) := by
  simp [Ideal.ofBits, Ideal.ieee, -EReal.coe_mul]; norm_num

theorem scores16_apply {q k c : FVec Ideal S128x128 .f32} {ref : FVec Ideal S1x128 .f32} {Q K C : Fin 128 → Fin 128 → ℝ} {R : Fin 128 → ℝ}
    (hq : ∀ r d, q (ix2 r d) = (Q r d : EReal)) (hk : ∀ r d, k (ix2 r d) = (K r d : EReal)) (hc : ∀ r d, c (ix2 r d) = (C r d : EReal))
    (hr : ∀ d, ref (ix2 0 d) = (R d : EReal)) (lo : ℕ) (h : S128x128.Slices ![lo, 0] S16x128) (a : Fin 16) (s j : Fin 128) (hj : j.val = lo + a.val) :
    scores16 q k c ref lo h (ix2 a s) = ((∑ d, Q j d * Real.exp (C j d - R d) * (K s d * Real.exp (min (R d - C s d) 80)) : ℝ) : EReal) := by
  have hmin : ∀ x y : ℝ, min (x : EReal) (y : EReal) = ((min x y : ℝ) : EReal) := fun x y => (EReal.coe_strictMono.monotone.map_min).symm
  pointwise [scores16]
  simp only [← hj, Fin.eta, hq, hk, hc, hr, eighty, ← EReal.coe_sub, hmin, Ideal.exp_coe, ← EReal.coe_mul, ← coe_sum]

theorem scores_apply {q k c : FVec Ideal S128x128 .f32} {r0 r1 r2 r3 r4 r5 r6 r7 : FVec Ideal S1x128 .f32} {Q K C : Fin 128 → Fin 128 → ℝ} {R : ℕ → Fin 128 → ℝ}
    (hq : ∀ r d, q (ix2 r d) = (Q r d : EReal)) (hk : ∀ r d, k (ix2 r d) = (K r d : EReal)) (hc : ∀ r d, c (ix2 r d) = (C r d : EReal))
    (h0 : ∀ d, r0 (ix2 0 d) = (R 0 d : EReal)) (h1 : ∀ d, r1 (ix2 0 d) = (R 1 d : EReal)) (h2 : ∀ d, r2 (ix2 0 d) = (R 2 d : EReal))
    (h3 : ∀ d, r3 (ix2 0 d) = (R 3 d : EReal)) (h4 : ∀ d, r4 (ix2 0 d) = (R 4 d : EReal)) (h5 : ∀ d, r5 (ix2 0 d) = (R 5 d : EReal))
    (h6 : ∀ d, r6 (ix2 0 d) = (R 6 d : EReal)) (h7 : ∀ d, r7 (ix2 0 d) = (R 7 d : EReal)) (mask : IVec S128x128 1) (j s : Fin 128) :
    scores mask r0 r1 r2 r3 r4 r5 r6 r7 q k c (ix2 j s)
      = ((if mask (ix2 j s) = 1 then ∑ d, Q j d * Real.exp (C j d - R (j.val / 16) d) * (K s d * Real.exp (min (R (j.val / 16) d - C s d) 80))
          else 0 : ℝ) : EReal) := by
  pointwise [scores]
  unfold Scalar.select
  by_cases hm : mask (ix2 j s) = 1
  · rw [if_pos hm, if_pos hm]
    have hj := j.isLt
    by_cases a0 : j.val < 16
    · rw [dif_pos a0, scores16_apply hq hk hc h0 _ _ _ s j (by simp), show j.val / 16 = 0 by omega]
    rw [dif_neg a0]
    by_cases a1 : j.val - 16 < 16
    · rw [dif_pos a1, scores16_apply hq hk hc h1 _ _ _ s j (by simp; omega), show j.val / 16 = 1 by omega]
    rw [dif_neg a1]
    by_cases a2 : j.val - 16 - 16 < 16
    · rw [dif_pos a2, scores16_apply hq hk hc h2 _ _ _ s j (by simp; omega), show j.val / 16 = 2 by omega]
    rw [dif_neg a2]
    by_cases a3 : j.val - 16 - 16 - 16 < 16
    · rw [dif_pos a3, scores16_apply hq hk hc h3 _ _ _ s j (by simp; omega), show j.val / 16 = 3 by omega]
    rw [dif_neg a3]
    by_cases a4 : j.val - 16 - 16 - 16 - 16 < 16
    · rw [dif_pos a4, scores16_apply hq hk hc h4 _ _ _ s j (by simp; omega), show j.val / 16 = 4 by omega]
    rw [dif_neg a4]
    by_cases a5 : j.val - 16 - 16 - 16 - 16 - 16 < 16
    · rw [dif_pos a5, scores16_apply hq hk hc h5 _ _ _ s j (by simp; omega), show j.val / 16 = 5 by omega]
    rw [dif_neg a5]
    by_cases a6 : j.val - 16 - 16 - 16 - 16 - 16 - 16 < 16
    · rw [dif_pos a6, scores16_apply hq hk hc h6 _ _ _ s j (by simp; omega), show j.val / 16 = 6 by omega]
    rw [dif_neg a6]
    rw [scores16_apply hq hk hc h7 _ _ _ s j (by simp; omega), show j.val / 16 = 7 by omega]
  · rw [if_neg hm, if_neg hm, EReal.coe_zero]

theorem headOut_apply {s qd v st : FVec Ideal S128x128 .f32} {S Q V T : Fin 128 → Fin 128 → ℝ}
    (hs : ∀ r d, s (ix2 r d) = (S r d : EReal)) (hq : ∀ r d, qd (ix2 r d) = (Q r d : EReal)) (hv : ∀ r d, v (ix2 r d) = (V r d : EReal))
    (ht : ∀ r d, st (ix2 r d) = (T r d : EReal)) (j e : Fin 128) :
    headOut s qd v st (ix2 j e) = ((∑ d, Q j d * T e d + ∑ x, S j x * V x e : ℝ) : EReal) := by
  pointwise [headOut]
  simp only [hs, hq, hv, ht, ← EReal.coe_mul, ← coe_sum, ← EReal.coe_add]

theorem headNext_apply {kh v st : FVec Ideal S128x128 .f32} {et : FVec Ideal S1x128 .f32} {K V T : Fin 128 → Fin 128 → ℝ} {E : Fin 128 → ℝ}
    (hk : ∀ r d, kh (ix2 r d) = (K r d : EReal)) (hv : ∀ r d, v (ix2 r d) = (V r d : EReal))
    (ht : ∀ r d, st (ix2 r d) = (T r d : EReal)) (he : ∀ d, et (ix2 0 d) = (E d : EReal)) (e d : Fin 128) :
    headNext kh v st et (ix2 e d) = ((T e d * E d + ∑ x, V x e * K x d : ℝ) : EReal) := by
  pointwise [headNext]
  simp only [hk, hv, ht, he, ← EReal.coe_mul, ← coe_sum, ← EReal.coe_add]

section Stream

variable {lb : Vec Ideal S1x512 .f32} {qb vb x : Vec Ideal S128x512 .f32} {stb : Vec Ideal S1x1x1x128x128 .f32} {LB : Fin 512 → ℝ}
  {g k q v : ℕ → Fin 128 → ℝ} {s0 : Fin 128 → Fin 128 → ℝ}

theorem row_apply (r : ℕ) (hr : r < 128) (h : S128x128.Slices ![r, 0] S1x128) (c : FVec Ideal S128x128 .f32) (d : Fin 128) :
    row r h c (ix2 0 d) = c (ix2 ⟨r, hr⟩ d) := by
  pointwise

theorem cols_apply (o : ℕ) (ho : o + 128 ≤ 512) (h : S128x512.Slices ![0, o] S128x128) (y : FVec Ideal S128x512 .f32) (r d : Fin 128) :
    cols o h y (ix2 r d) = y (ix2 r ⟨o + d, by omega⟩) := by
  pointwise

theorem decayedQ_apply (c : FVec Ideal S128x512 .f32) (r : Fin 128) (a : Fin 512) :
    decayedQ qb c (ix2 r a) = qb (ix2 r a) * Ideal.exp (c (ix2 r a)) := by
  pointwise [decayedQ]

theorem decayedK_apply (kk c : FVec Ideal S128x512 .f32) (tot : FVec Ideal S1x512 .f32) (r : Fin 128) (a : Fin 512) :
    decayedK kk c tot (ix2 r a) = kk (ix2 r a) * Ideal.exp (tot (ix2 0 a) - c (ix2 r a)) := by
  pointwise [decayedK]

theorem plain_apply (y : FVec Ideal S128x512 .f32) (r : Fin 128) (a : Fin 512) : plain y (ix2 r a) = y (ix2 r a) := by
  pointwise

theorem stateOf_apply (e d : Fin 128) : stateOf stb (ix2 e d) = stb (ix5 0 0 0 e d) := by
  pointwise

theorem cumFwd_apply (hlb : ∀ c, lb (ix2 0 c) = (LB c : EReal)) (h0 : ∀ c, 1 / 128 ≤ LB c) (h1 : ∀ c, LB c ≤ 1) (T o : ℕ) (ho : o + 128 ≤ 512)
    (hg : ∀ r d : Fin 128, gOf (LB ⟨o + d, by omega⟩) (x (ix2 r ⟨o + d, by omega⟩)) = g (T + r) d) (r d : Fin 128) :
    cumFwd lb x (ix2 r ⟨o + d, by omega⟩) = (pre g T (r + 1) d : EReal) := by
  rw [cumFwd, running_apply (gateLog_apply hlb h0 h1), pre_fin]
  simp only [upTo_apply, hg]

theorem cumBwd_apply (hlb : ∀ c, lb (ix2 0 c) = (LB c : EReal)) (h0 : ∀ c, 1 / 128 ≤ LB c) (h1 : ∀ c, LB c ≤ 1) (T o : ℕ) (ho : o + 128 ≤ 512)
    (hg : ∀ r d : Fin 128, gOf (LB ⟨o + d, by omega⟩) (x (ix2 r ⟨o + d, by omega⟩)) = g (T + r.rev) d) (r d : Fin 128) :
    cumBwd lb x (ix2 r ⟨o + d, by omega⟩) = (pre g T (r.rev + 1) d : EReal) := by
  rw [cumBwd, running_apply (gateLog_apply hlb h0 h1), pre_fin]
  simp only [fromOn_apply, hg]
  congr 1
  refine Fintype.sum_equiv Fin.revPerm _ _ fun s => ?_
  rw [Fin.revPerm_apply]
  exact if_congr (by rw [Fin.val_rev, Fin.val_rev]; omega) rfl rfl

theorem outFwd_apply (hlb : ∀ c, lb (ix2 0 c) = (LB c : EReal)) (h0 : ∀ c, 1 / 128 ≤ LB c) (h1 : ∀ c, LB c ≤ 1) (T o : ℕ) (ho : o + 128 ≤ 512)
    (h : S128x512.Slices ![0, o] S128x128)
    (hg : ∀ r d : Fin 128, gOf (LB ⟨o + d, by omega⟩) (x (ix2 r ⟨o + d, by omega⟩)) = g (T + r) d)
    (hk : ∀ r d : Fin 128, kOf (LB ⟨o + d, by omega⟩) (x (ix2 r ⟨o + d, by omega⟩)) = k (T + r) d)
    (hq : ∀ r d : Fin 128, qb (ix2 r ⟨o + d, by omega⟩) = (q (T + r) d : EReal))
    (hv : ∀ r d : Fin 128, vb (ix2 r ⟨o + d, by omega⟩) = (v (T + r) d : EReal))
    (hs : ∀ e d : Fin 128, stb (ix5 0 0 0 e d) = (st g k v s0 T d e : EReal))
    (g0 : ∀ n d, g n d ≤ 0) (g1 : ∀ n d, -5 ≤ g n d) (r e : Fin 128) :
    outFwd o h lb qb vb x stb (ix3 0 r e) = (out g k q v s0 (T + r) e : EReal) := by
  have hc : ∀ r d : Fin 128, cols o h (cumFwd lb x) (ix2 r d) = (pre g T (r + 1) d : EReal) := fun r d => by
    rw [cols_apply o ho, cumFwd_apply hlb h0 h1 T o ho hg]
  have hQ : ∀ r d : Fin 128, cols o h (plain qb) (ix2 r d) = (q (T + r) d : EReal) := fun r d => by
    rw [cols_apply o ho, plain_apply, hq]
  have hV : ∀ r d : Fin 128, cols o h (plain vb) (ix2 r d) = (v (T + r) d : EReal) := fun r d => by
    rw [cols_apply o ho, plain_apply, hv]
  have hK : ∀ r d : Fin 128, cols o h (gateK lb x) (ix2 r d) = (k (T + r) d : EReal) := fun r d => by
    rw [cols_apply o ho, gateK_apply hlb, hk]
  have hD : ∀ r d : Fin 128, cols o h (decayedQ qb (cumFwd lb x)) (ix2 r d) = ((q (T + r) d * Real.exp (pre g T (r + 1) d) : ℝ) : EReal) := fun r d => by
    rw [cols_apply o ho, decayedQ_apply, hq, cumFwd_apply hlb h0 h1 T o ho hg, Ideal.exp_coe, EReal.coe_mul]
  have hS : ∀ e d : Fin 128, stateOf stb (ix2 e d) = (st g k v s0 T d e : EReal) := fun e d => by
    rw [stateOf_apply, hs]
  have hrow : ∀ (i : ℕ) (hi : i < 128) (hh : S128x128.Slices ![i, 0] S1x128) (d : Fin 128),
      row i hh (cols o h (cumFwd lb x)) (ix2 0 d) = (pre g T (i + 1) d : EReal) := fun i hi hh d => by
    rw [row_apply i hi, hc]
  have hsc := scores_apply (R := fun n d => pre g T (16 * n) d) hQ hK hc (r0 := zeroRow)
    (fun d => by
      rw [show 16 * 0 = 0 from rfl, pre_zero]
      exact Ideal.ofBits_zero_f32)
    (hrow 15 (by omega) slices_S128x128_o15_0_S1x128) (hrow 31 (by omega) slices_S128x128_o31_0_S1x128)
    (hrow 47 (by omega) slices_S128x128_o47_0_S1x128) (hrow 63 (by omega) slices_S128x128_o63_0_S1x128)
    (hrow 79 (by omega) slices_S128x128_o79_0_S1x128) (hrow 95 (by omega) slices_S128x128_o95_0_S1x128)
    (hrow 111 (by omega) slices_S128x128_o111_0_S1x128) upTo
  have hcast : outFwd o h lb qb vb x stb (ix3 0 r e)
      = headOut (scoresFwd (cols o h (plain qb)) (cols o h (gateK lb x)) (cols o h (cumFwd lb x)))
          (cols o h (decayedQ qb (cumFwd lb x))) (cols o h (plain vb)) (stateOf stb) (ix2 r e) := by
    pointwise [outFwd]
  rw [hcast, scoresFwd, headOut_apply hsc hD hV hS, out_capped g k q v s0 g0 g1 T r e]
  simp only [upTo_apply]

theorem outBwd_apply (hlb : ∀ c, lb (ix2 0 c) = (LB c : EReal)) (h0 : ∀ c, 1 / 128 ≤ LB c) (h1 : ∀ c, LB c ≤ 1) (T o : ℕ) (ho : o + 128 ≤ 512)
    (h : S128x512.Slices ![0, o] S128x128)
    (hg : ∀ r d : Fin 128, gOf (LB ⟨o + d, by omega⟩) (x (ix2 r ⟨o + d, by omega⟩)) = g (T + r.rev) d)
    (hk : ∀ r d : Fin 128, kOf (LB ⟨o + d, by omega⟩) (x (ix2 r ⟨o + d, by omega⟩)) = k (T + r.rev) d)
    (hq : ∀ r d : Fin 128, qb (ix2 r ⟨o + d, by omega⟩) = (q (T + r.rev) d : EReal))
    (hv : ∀ r d : Fin 128, vb (ix2 r ⟨o + d, by omega⟩) = (v (T + r.rev) d : EReal))
    (hs : ∀ e d : Fin 128, stb (ix5 0 0 0 e d) = (st g k v s0 T d e : EReal))
    (g0 : ∀ n d, g n d ≤ 0) (g1 : ∀ n d, -5 ≤ g n d) (r e : Fin 128) :
    outBwd o h lb qb vb x stb (ix3 0 r e) = (out g k q v s0 (T + r.rev) e : EReal) := by
  have hc : ∀ r d : Fin 128, cols o h (cumBwd lb x) (ix2 r d) = (pre g T (r.rev + 1) d : EReal) := fun r d => by
    rw [cols_apply o ho, cumBwd_apply hlb h0 h1 T o ho hg]
  have hQ : ∀ r d : Fin 128, cols o h (plain qb) (ix2 r d) = (q (T + r.rev) d : EReal) := fun r d => by
    rw [cols_apply o ho, plain_apply, hq]
  have hV : ∀ r d : Fin 128, cols o h (plain vb) (ix2 r d) = (v (T + r.rev) d : EReal) := fun r d => by
    rw [cols_apply o ho, plain_apply, hv]
  have hK : ∀ r d : Fin 128, cols o h (gateK lb x) (ix2 r d) = (k (T + r.rev) d : EReal) := fun r d => by
    rw [cols_apply o ho, gateK_apply hlb, hk]
  have hD : ∀ r d : Fin 128, cols o h (decayedQ qb (cumBwd lb x)) (ix2 r d) = ((q (T + r.rev) d * Real.exp (pre g T (r.rev + 1) d) : ℝ) : EReal) := fun r d => by
    rw [cols_apply o ho, decayedQ_apply, hq, cumBwd_apply hlb h0 h1 T o ho hg, Ideal.exp_coe, EReal.coe_mul]
  have hS : ∀ e d : Fin 128, stateOf stb (ix2 e d) = (st g k v s0 T d e : EReal) := fun e d => by
    rw [stateOf_apply, hs]
  have hrow : ∀ (i : ℕ) (hi : i < 128) (hh : S128x128.Slices ![i, 0] S1x128) (d : Fin 128),
      row i hh (cols o h (cumBwd lb x)) (ix2 0 d) = (pre g T (128 - i) d : EReal) := fun i hi hh d => by
    rw [row_apply i hi, hc, Fin.val_rev, show 128 - (i + 1) + 1 = 128 - i by omega]
  have hsc := scores_apply (R := fun n d => pre g T (16 * (7 - n)) d) hQ hK hc
    (hrow 16 (by omega) slices_S128x128_o16_0_S1x128) (hrow 32 (by omega) slices_S128x128_o32_0_S1x128)
    (hrow 48 (by omega) slices_S128x128_o48_0_S1x128) (hrow 64 (by omega) slices_S128x128_o64_0_S1x128)
    (hrow 80 (by omega) slices_S128x128_o80_0_S1x128) (hrow 96 (by omega) slices_S128x128_o96_0_S1x128)
    (hrow 112 (by omega) slices_S128x128_o112_0_S1x128) (r7 := zeroRow)
    (fun d => by
      rw [show 16 * (7 - 7) = 0 from rfl, pre_zero]
      exact Ideal.ofBits_zero_f32) fromOn
  have hcast : outBwd o h lb qb vb x stb (ix3 0 r e)
      = headOut (scoresBwd (cols o h (plain qb)) (cols o h (gateK lb x)) (cols o h (cumBwd lb x)))
          (cols o h (decayedQ qb (cumBwd lb x))) (cols o h (plain vb)) (stateOf stb) (ix2 r e) := by
    pointwise [outBwd]
  rw [hcast, scoresBwd, headOut_apply hsc hD hV hS, out_capped g k q v s0 g0 g1 T r.rev e]
  simp only [fromOn_apply]
  congr 2
  refine Fintype.sum_equiv Fin.revPerm _ _ fun s => ?_
  rw [Fin.revPerm_apply, show 7 - r.val / 16 = r.rev.val / 16 by rw [Fin.val_rev]; omega]
  congr 1
  exact if_congr (by rw [Fin.val_rev, Fin.val_rev]; omega) rfl rfl

theorem nextFwd_apply (hlb : ∀ c, lb (ix2 0 c) = (LB c : EReal)) (h0 : ∀ c, 1 / 128 ≤ LB c) (h1 : ∀ c, LB c ≤ 1) (T o : ℕ) (ho : o + 128 ≤ 512)
    (h : S128x512.Slices ![0, o] S128x128) (h' : S1x512.Slices ![0, o] S1x128)
    (hg : ∀ r d : Fin 128, gOf (LB ⟨o + d, by omega⟩) (x (ix2 r ⟨o + d, by omega⟩)) = g (T + r) d)
    (hk : ∀ r d : Fin 128, kOf (LB ⟨o + d, by omega⟩) (x (ix2 r ⟨o + d, by omega⟩)) = k (T + r) d)
    (hv : ∀ r d : Fin 128, vb (ix2 r ⟨o + d, by omega⟩) = (v (T + r) d : EReal))
    (hs : ∀ e d : Fin 128, stb (ix5 0 0 0 e d) = (st g k v s0 T d e : EReal)) (e d : Fin 128) :
    nextFwd o h h' lb vb x stb (ix5 0 0 0 e d) = (st g k v s0 (T + 128) d e : EReal) := by
  have hT : ∀ d : Fin 128, totFwd lb x (ix2 0 ⟨o + d, by omega⟩) = (pre g T 128 d : EReal) := fun d => by
    have e1 : totFwd lb x (ix2 0 ⟨o + d, by omega⟩) = cumFwd lb x (ix2 127 ⟨o + d, by omega⟩) := by
      pointwise [totFwd]
    rw [e1, cumFwd_apply hlb h0 h1 T o ho hg]
    rfl
  have hV : ∀ r d : Fin 128, cols o h (plain vb) (ix2 r d) = (v (T + r) d : EReal) := fun r d => by
    rw [cols_apply o ho, plain_apply, hv]
  have hK : ∀ r d : Fin 128, cols o h (decayedK (gateK lb x) (cumFwd lb x) (totFwd lb x)) (ix2 r d)
      = ((k (T + r) d * Real.exp (pre g T 128 d - pre g T (r + 1) d) : ℝ) : EReal) := fun r d => by
    rw [cols_apply o ho, decayedK_apply, gateK_apply hlb, hk, hT, cumFwd_apply hlb h0 h1 T o ho hg, ← EReal.coe_sub, Ideal.exp_coe, EReal.coe_mul]
  have hS : ∀ e d : Fin 128, stateOf stb (ix2 e d) = (st g k v s0 T d e : EReal) := fun e d => by
    rw [stateOf_apply, hs]
  have hE : ∀ d : Fin 128, extractStridedSlice S1x128 ![0, o] (exp (totFwd lb x)) h' (ix2 0 d) = (Real.exp (pre g T 128 d) : EReal) := fun d => by
    have e1 : extractStridedSlice S1x128 ![0, o] (exp (totFwd lb x)) h' (ix2 0 d) = Ideal.exp (totFwd lb x (ix2 0 ⟨o + d, by omega⟩)) := by
      pointwise
    rw [e1, hT, Ideal.exp_coe]
  have hcast : nextFwd o h h' lb vb x stb (ix5 0 0 0 e d)
      = headNext (cols o h (decayedK (gateK lb x) (cumFwd lb x) (totFwd lb x))) (cols o h (plain vb)) (stateOf stb)
          (extractStridedSlice S1x128 ![0, o] (exp (totFwd lb x)) h') (ix2 e d) := by
    pointwise [nextFwd]
  rw [hcast, headNext_apply hK hV hS hE, st_chunk_fin g k v s0 T 128 d e, mul_comm]
  congr 2
  exact Finset.sum_congr rfl fun s _ => by ring

theorem nextBwd_apply (hlb : ∀ c, lb (ix2 0 c) = (LB c : EReal)) (h0 : ∀ c, 1 / 128 ≤ LB c) (h1 : ∀ c, LB c ≤ 1) (T o : ℕ) (ho : o + 128 ≤ 512)
    (h : S128x512.Slices ![0, o] S128x128) (h' : S1x512.Slices ![0, o] S1x128)
    (hg : ∀ r d : Fin 128, gOf (LB ⟨o + d, by omega⟩) (x (ix2 r ⟨o + d, by omega⟩)) = g (T + r.rev) d)
    (hk : ∀ r d : Fin 128, kOf (LB ⟨o + d, by omega⟩) (x (ix2 r ⟨o + d, by omega⟩)) = k (T + r.rev) d)
    (hv : ∀ r d : Fin 128, vb (ix2 r ⟨o + d, by omega⟩) = (v (T + r.rev) d : EReal))
    (hs : ∀ e d : Fin 128, stb (ix5 0 0 0 e d) = (st g k v s0 T d e : EReal)) (e d : Fin 128) :
    nextBwd o h h' lb vb x stb (ix5 0 0 0 e d) = (st g k v s0 (T + 128) d e : EReal) := by
  have hT : ∀ d : Fin 128, totBwd lb x (ix2 0 ⟨o + d, by omega⟩) = (pre g T 128 d : EReal) := fun d => by
    have e1 : totBwd lb x (ix2 0 ⟨o + d, by omega⟩) = cumBwd lb x (ix2 0 ⟨o + d, by omega⟩) := by
      pointwise [totBwd]
    rw [e1, cumBwd_apply hlb h0 h1 T o ho hg]
    rfl
  have hV : ∀ r d : Fin 128, cols o h (plain vb) (ix2 r d) = (v (T + r.rev) d : EReal) := fun r d => by
    rw [cols_apply o ho, plain_apply, hv]
  have hK : ∀ r d : Fin 128, cols o h (decayedK (gateK lb x) (cumBwd lb x) (totBwd lb x)) (ix2 r d)
      = ((k (T + r.rev) d * Real.exp (pre g T 128 d - pre g T (r.rev + 1) d) : ℝ) : EReal) := fun r d => by
    rw [cols_apply o ho, decayedK_apply, gateK_apply hlb, hk, hT, cumBwd_apply hlb h0 h1 T o ho hg, ← EReal.coe_sub, Ideal.exp_coe, EReal.coe_mul]
  have hS : ∀ e d : Fin 128, stateOf stb (ix2 e d) = (st g k v s0 T d e : EReal) := fun e d => by
    rw [stateOf_apply, hs]
  have hE : ∀ d : Fin 128, extractStridedSlice S1x128 ![0, o] (exp (totBwd lb x)) h' (ix2 0 d) = (Real.exp (pre g T 128 d) : EReal) := fun d => by
    have e1 : extractStridedSlice S1x128 ![0, o] (exp (totBwd lb x)) h' (ix2 0 d) = Ideal.exp (totBwd lb x (ix2 0 ⟨o + d, by omega⟩)) := by
      pointwise
    rw [e1, hT, Ideal.exp_coe]
  have hcast : nextBwd o h h' lb vb x stb (ix5 0 0 0 e d)
      = headNext (cols o h (decayedK (gateK lb x) (cumBwd lb x) (totBwd lb x))) (cols o h (plain vb)) (stateOf stb)
          (extractStridedSlice S1x128 ![0, o] (exp (totBwd lb x)) h') (ix2 e d) := by
    pointwise [nextBwd]
  rw [hcast, headNext_apply hK hV hS hE, st_chunk_fin g k v s0 T 128 d e, mul_comm]
  congr 2
  refine Fintype.sum_equiv Fin.revPerm _ _ fun s => ?_
  rw [Fin.revPerm_apply]
  ring

end Stream

end Hgrn.Ker
-- ==== Proof.Steps.lean ====
module

public import proofs.«01_k».proof.Proof.Read
public import Idealize.ShloMosaic.Lib.Claim
public import Idealize.ShloMosaic.Lib.Pipeline.ValueKit

/-! What each grid point of the scan kernel leaves: its two output blocks and the carried state, over the state before it. -/

@[expose] public section

noncomputable section

namespace Hgrn.Ker

open Idealize.ShloMosaic Idealize.ShloMosaic.TcCoe Idealize.SL.Sem
open Cert.KernelIdeal Cert.KernelIdeal.Gen

section Covers

variable {F : FTy → Type} [FloatOps F]
variable (lb : Vec F S2x512 .f32) (a b d e f g h k : Vec F S128x512 .f32) (s : Vec F S2x2x4x128x128 .f32)

theorem coverFwd (y : S2x128x512.Idx) : ∃ p ∈ outsFwd lb a b d e f g s, y ∈ p.1.set :=
  View.cover_of_tiledL (outsFwd lb a b d e f g s) S1x128x128.size (by sl_kernel_rfl) y

theorem coverBwd (y : S2x128x512.Idx) : ∃ p ∈ outsBwd lb a b d e f g s, y ∈ p.1.set :=
  View.cover_of_tiledL (outsBwd lb a b d e f g s) S1x128x128.size (by sl_kernel_rfl) y

theorem coverStates (y : S2x2x4x128x128.Idx) : ∃ p ∈ states lb a b d e f g h k s, y ∈ p.1.set :=
  View.cover_of_tiledL (states lb a b d e f g h k s) S1x1x1x128x128.size (by sl_kernel_rfl) y

/-- What covering pieces leave does not depend on what stood before. -/
theorem canon_append (L L' : List (View.Piece (Elt F) S2x2x4x128x128 .f32)) (hc : ∀ y, ∃ p ∈ L, y ∈ p.1.set) :
    View.canon (L ++ L') = View.canon L := by
  funext y
  have key : ∀ (L : List (View.Piece (Elt F) S2x2x4x128x128 .f32)) (y : S2x2x4x128x128.Idx), (∃ p ∈ L, y ∈ p.1.set) →
      View.canon (L ++ L') y = View.canon L y := by
    intro L
    induction L with
    | nil => intro y h; obtain ⟨p, hp, _⟩ := h; exact absurd hp List.not_mem_nil
    | cons p L ih =>
      intro y h
      by_cases hm : y ∈ p.1.set
      · obtain ⟨x, rfl⟩ := p.1.exists_idx_of_mem hm
        exact (View.canon_cons_emb p.1 p.2 (L ++ L') x).trans (View.canon_cons_emb p.1 p.2 L x).symm
      · rw [List.cons_append, View.canon_cons_of_not_mem p _ hm, View.canon_cons_of_not_mem p _ hm]
        refine ih y ?_
        obtain ⟨q, hq, hy⟩ := h
        rcases List.mem_cons.mp hq with rfl | hq
        · exact absurd hy hm
        · exact ⟨q, hq, hy⟩
  exact key L y (hc y)

end Covers

variable {F : FTy → Type} [FloatOps F] (m : (ℓ : Loc nD τ sig) → Buf (Elt F) ℓ) (c : Dev nD)

/-- The state a grid point starts from: the starting state at the first, what the point before left at the others. -/
def before (t : Fin cfg0.N) : Vec F S2x2x4x128x128 .f32 :=
  if t.val % 128 = 0 then iblk m c 13 t
  else (outsAt0 m c (t.val - 1) (Nat.lt_of_le_of_lt (Nat.sub_le _ _) t.isLt)).2.2.2

abbrev fwdPieces (t : Fin cfg0.N) : List (View.Piece (Elt F) S2x128x512 .f32) :=
  outsFwd (iblk m c 12 t) (iblk m c 0 t) (iblk m c 1 t) (iblk m c 2 t) (iblk m c 6 t) (iblk m c 7 t) (iblk m c 8 t) (before m c t)
abbrev bwdPieces (t : Fin cfg0.N) : List (View.Piece (Elt F) S2x128x512 .f32) :=
  outsBwd (iblk m c 12 t) (iblk m c 3 t) (iblk m c 4 t) (iblk m c 5 t) (iblk m c 9 t) (iblk m c 10 t) (iblk m c 11 t) (before m c t)
abbrev statePieces (t : Fin cfg0.N) : List (View.Piece (Elt F) S2x2x4x128x128 .f32) :=
  states (iblk m c 12 t) (iblk m c 1 t) (iblk m c 2 t) (iblk m c 4 t) (iblk m c 5 t) (iblk m c 7 t) (iblk m c 8 t)
    (iblk m c 10 t) (iblk m c 11 t) (before m c t)

theorem at_fwd (t : Fin cfg0.N) : (outsAt0 m c t.val t.isLt).1 = View.canon (fwdPieces m c t) := by
  have hN : t.val < 128 := lt_of_lt_of_eq t.isLt (show cfg0.N = 128 from N_0)
  unfold fwdPieces before
  by_cases h0 : t.val % 128 = 0
  · have h1 : ¬t.val % 128 = 127 := by omega
    rw [outsAt0_A m c t h0 h1, if_pos h0]
    dsimp only
    rw [out0_A_14, pieces_A_14, View.read_writes_eq_canon _ _ _ (coverFwd _ _ _ _ _ _ _ _)]
  · by_cases h1 : t.val % 128 = 127
    · rw [outsAt0_C m c t h0 h1, if_neg h0]
      dsimp only
      rw [out0_C_14, pieces_C_14, View.read_writes_eq_canon _ _ _ (coverFwd _ _ _ _ _ _ _ _ )]
    · rw [outsAt0_B m c t h0 h1, if_neg h0]
      dsimp only
      rw [out0_B_14, pieces_B_14, View.read_writes_eq_canon _ _ _ (coverFwd _ _ _ _ _ _ _ _ )]

theorem at_bwd (t : Fin cfg0.N) : (outsAt0 m c t.val t.isLt).2.1 = View.canon (bwdPieces m c t) := by
  have hN : t.val < 128 := lt_of_lt_of_eq t.isLt (show cfg0.N = 128 from N_0)
  unfold bwdPieces before
  by_cases h0 : t.val % 128 = 0
  · have h1 : ¬t.val % 128 = 127 := by omega
    rw [outsAt0_A m c t h0 h1, if_pos h0]
    dsimp only
    rw [out0_A_15, pieces_A_15, View.read_writes_eq_canon _ _ _ (coverBwd _ _ _ _ _ _ _ _)]
  · by_cases h1 : t.val % 128 = 127
    · rw [outsAt0_C m c t h0 h1, if_neg h0]
      dsimp only
      rw [out0_C_15, pieces_C_15, View.read_writes_eq_canon _ _ _ (coverBwd _ _ _ _ _ _ _ _ )]
    · rw [outsAt0_B m c t h0 h1, if_neg h0]
      dsimp only
      rw [out0_B_15, pieces_B_15, View.read_writes_eq_canon _ _ _ (coverBwd _ _ _ _ _ _ _ _ )]

theorem at_state (t : Fin cfg0.N) : (outsAt0 m c t.val t.isLt).2.2.2 = View.canon (statePieces m c t) := by
  have hN : t.val < 128 := lt_of_lt_of_eq t.isLt (show cfg0.N = 128 from N_0)
  unfold statePieces before
  by_cases h0 : t.val % 128 = 0
  · have h1 : ¬t.val % 128 = 127 := by omega
    rw [outsAt0_A m c t h0 h1, if_pos h0]
    dsimp only
    rw [sout0_A_0, pieces_A_st, View.read_writes_eq_canon _ _ _ (fun y => (coverStates _ _ _ _ _ _ _ _ _ _ y).imp fun p h => ⟨List.mem_append_left _ h.1, h.2⟩), canon_append _ _ (coverStates _ _ _ _ _ _ _ _ _ _)]
  · by_cases h1 : t.val % 128 = 127
    · rw [outsAt0_C m c t h0 h1, if_neg h0]
      dsimp only
      rw [sout0_C_0, pieces_C_st, View.read_writes_eq_canon _ _ _ (coverStates _ _ _ _ _ _ _ _ _ _ )]
    · rw [outsAt0_B m c t h0 h1, if_neg h0]
      dsimp only
      rw [sout0_B_0, pieces_B_st, View.read_writes_eq_canon _ _ _ (coverStates _ _ _ _ _ _ _ _ _ _ )]

theorem at_last (t : Fin cfg0.N) (h1 : t.val % 128 = 127) : (outsAt0 m c t.val t.isLt).2.2.1 = View.canon (statePieces m c t) := by
  have h0 : ¬t.val % 128 = 0 := by omega
  unfold statePieces before
  rw [outsAt0_C m c t h0 h1, if_neg h0]
  dsimp only
  have hz : (![0, 0, 0, 0, 0] : Fin 5 → Nat) = fun _ => 0 := by decide
  rw [out0_C_16, pieces_C_16, View.read_writes_eq_canon _ _ _ (fun y => View.cover_of_tiledL _ S2x2x4x128x128.size (by sl_kernel_rfl) y)]
  rw [View.readCov_eq_canon']
  refine (View.canon_cons_unit_zero (S := S2x2x4x128x128) hz _ _ _).trans ?_
  funext y
  congr 1
  funext a
  apply Fin.ext
  rw [Rect.idx_unit_val]
  fin_cases a <;> exact Nat.zero_add _

end Hgrn.Ker
-- ==== Proof.Blocks.lean ====
module

public import proofs.«01_k».proof.Proof.Steps
public import Idealize.ShloMosaic.Lib.Claim
public import Idealize.ShloMosaic.Lib.Pipeline.ValueKit

/-! The blocks the scan kernel is handed, as entries of its arguments. -/

@[expose] public section

noncomputable section

namespace Hgrn.Ker

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (c : Dev nD)

theorem point_lt (t : Fin cfg0.N) : t.val < 128 := lt_of_lt_of_eq t.isLt (show cfg0.N = 128 from N_0)

/-- The projections, batches one after the other. -/
theorem rows_apply (b : Fin 2) (n : Fin 16384) (j : Fin 5120) (i : S33280x5120.Idx) (hi : (i 0).val = b.val * 16384 + n.val)
    (hj : (i 1).val = j.val) : V m c main_v2 i = m (c.tc.loc main_arg0) (ix3 b n j) := by
  entry_read
  refine (concatenate_pair_apply_left (s₁ := S32768x5120) (0 : Fin S33280x5120.rank) _ _ _ i rfl
    (ix2 ⟨b.val * 16384 + n.val, by omega⟩ j : S32768x5120.Idx) ?_).trans ?_
  · intro a
    match a with
    | ⟨0, _⟩ => exact hi.symm
    | ⟨1, _⟩ => exact hj.symm
  · refine shapeCast_apply _ _ _ (ix3 b n j) ?_
    refine (Shape.rowMajor_val_three (d := ![2, 16384, 5120]) (ix3 b n j)).trans
      (Eq.trans ?_ (Shape.rowMajor_val_two (d := ![32768, 5120]) (ix2 ⟨b.val * 16384 + n.val, by omega⟩ j)).symm)
    rfl

/-- The starting states with their last two axes exchanged. -/
theorem start_apply (b d : Fin 2) (h : Fin 4) (e k : Fin 128) :
    V m c main_v3 (ix5 b d h e k) = m (c.tc.loc main_arg3) (ix5 b d h k e) := by
  entry_read
  pointwise

theorem idx_0 : ∀ t : Fin cfg0.N, win0_0.index t = ![t.val + 0, 1] :=
  (by decide +kernel : ∀ t : Fin grid0.N, win0_0.index t = ![t.val + 0, 1])

theorem iblk_0 (t : Fin cfg0.N) (r : Fin 128) (x : Fin 512) : iblk m c 0 t (ix2 r x)
    = m (c.tc.loc main_arg0) (ix3 0 ⟨128 * t.val + r.val, by have := point_lt t; omega⟩ ⟨512 + x.val, by omega⟩) := by
  have ht := point_lt t
  unfold iblk
  rw [View.read_apply]
  refine rows_apply m c _ _ _ _ ?_ ?_
  · show win0_0.index t 0 * 128 + 1 * r.val = _
    rw [idx_0 t]
    show (t.val + 0) * 128 + 1 * r.val = 0 * 16384 + (128 * t.val + r.val)
    omega
  · show win0_0.index t 1 * 512 + 1 * x.val = _
    rw [idx_0 t]
    show 1 * 512 + 1 * x.val = 512 + x.val
    omega

theorem idx_1 : ∀ t : Fin cfg0.N, win0_1.index t = ![t.val + 0, 2] :=
  (by decide +kernel : ∀ t : Fin grid0.N, win0_1.index t = ![t.val + 0, 2])

theorem iblk_1 (t : Fin cfg0.N) (r : Fin 128) (x : Fin 512) : iblk m c 1 t (ix2 r x)
    = m (c.tc.loc main_arg0) (ix3 0 ⟨128 * t.val + r.val, by have := point_lt t; omega⟩ ⟨1024 + x.val, by omega⟩) := by
  have ht := point_lt t
  unfold iblk
  rw [View.read_apply]
  refine rows_apply m c _ _ _ _ ?_ ?_
  · show win0_1.index t 0 * 128 + 1 * r.val = _
    rw [idx_1 t]
    show (t.val + 0) * 128 + 1 * r.val = 0 * 16384 + (128 * t.val + r.val)
    omega
  · show win0_1.index t 1 * 512 + 1 * x.val = _
    rw [idx_1 t]
    show 2 * 512 + 1 * x.val = 1024 + x.val
    omega

theorem idx_2 : ∀ t : Fin cfg0.N, win0_2.index t = ![t.val + 0, 3] :=
  (by decide +kernel : ∀ t : Fin grid0.N, win0_2.index t = ![t.val + 0, 3])

theorem iblk_2 (t : Fin cfg0.N) (r : Fin 128) (x : Fin 512) : iblk m c 2 t (ix2 r x)
    = m (c.tc.loc main_arg0) (ix3 0 ⟨128 * t.val + r.val, by have := point_lt t; omega⟩ ⟨1536 + x.val, by omega⟩) := by
  have ht := point_lt t
  unfold iblk
  rw [View.read_apply]
  refine rows_apply m c _ _ _ _ ?_ ?_
  · show win0_2.index t 0 * 128 + 1 * r.val = _
    rw [idx_2 t]
    show (t.val + 0) * 128 + 1 * r.val = 0 * 16384 + (128 * t.val + r.val)
    omega
  · show win0_2.index t 1 * 512 + 1 * x.val = _
    rw [idx_2 t]
    show 3 * 512 + 1 * x.val = 1536 + x.val
    omega

theorem idx_3 : ∀ t : Fin cfg0.N, win0_3.index t = ![127 - t.val, 1] :=
  (by decide +kernel : ∀ t : Fin grid0.N, win0_3.index t = ![127 - t.val, 1])

theorem iblk_3 (t : Fin cfg0.N) (r : Fin 128) (x : Fin 512) : iblk m c 3 t (ix2 r x)
    = m (c.tc.loc main_arg0) (ix3 0 ⟨128 * (127 - t.val) + r.val, by have := point_lt t; omega⟩ ⟨512 + x.val, by omega⟩) := by
  have ht := point_lt t
  unfold iblk
  rw [View.read_apply]
  refine rows_apply m c _ _ _ _ ?_ ?_
  · show win0_3.index t 0 * 128 + 1 * r.val = _
    rw [idx_3 t]
    show (127 - t.val) * 128 + 1 * r.val = 0 * 16384 + (128 * (127 - t.val) + r.val)
    omega
  · show win0_3.index t 1 * 512 + 1 * x.val = _
    rw [idx_3 t]
    show 1 * 512 + 1 * x.val = 512 + x.val
    omega

theorem idx_4 : ∀ t : Fin cfg0.N, win0_4.index t = ![127 - t.val, 2] :=
  (by decide +kernel : ∀ t : Fin grid0.N, win0_4.index t = ![127 - t.val, 2])

theorem iblk_4 (t : Fin cfg0.N) (r : Fin 128) (x : Fin 512) : iblk m c 4 t (ix2 r x)
    = m (c.tc.loc main_arg0) (ix3 0 ⟨128 * (127 - t.val) + r.val, by have := point_lt t; omega⟩ ⟨1024 + x.val, by omega⟩) := by
  have ht := point_lt t
  unfold iblk
  rw [View.read_apply]
  refine rows_apply m c _ _ _ _ ?_ ?_
  · show win0_4.index t 0 * 128 + 1 * r.val = _
    rw [idx_4 t]
    show (127 - t.val) * 128 + 1 * r.val = 0 * 16384 + (128 * (127 - t.val) + r.val)
    omega
  · show win0_4.index t 1 * 512 + 1 * x.val = _
    rw [idx_4 t]
    show 2 * 512 + 1 * x.val = 1024 + x.val
    omega

theorem idx_5 : ∀ t : Fin cfg0.N, win0_5.index t = ![127 - t.val, 4] :=
  (by decide +kernel : ∀ t : Fin grid0.N, win0_5.index t = ![127 - t.val, 4])

theorem iblk_5 (t : Fin cfg0.N) (r : Fin 128) (x : Fin 512) : iblk m c 5 t (ix2 r x)
    = m (c.tc.loc main_arg0) (ix3 0 ⟨128 * (127 - t.val) + r.val, by have := point_lt t; omega⟩ ⟨2048 + x.val, by omega⟩) := by
  have ht := point_lt t
  unfold iblk
  rw [View.read_apply]
  refine rows_apply m c _ _ _ _ ?_ ?_
  · show win0_5.index t 0 * 128 + 1 * r.val = _
    rw [idx_5 t]
    show (127 - t.val) * 128 + 1 * r.val = 0 * 16384 + (128 * (127 - t.val) + r.val)
    omega
  · show win0_5.index t 1 * 512 + 1 * x.val = _
    rw [idx_5 t]
    show 4 * 512 + 1 * x.val = 2048 + x.val
    omega

theorem idx_6 : ∀ t : Fin cfg0.N, win0_6.index t = ![t.val + 128, 1] :=
  (by decide +kernel : ∀ t : Fin grid0.N, win0_6.index t = ![t.val + 128, 1])

theorem iblk_6 (t : Fin cfg0.N) (r : Fin 128) (x : Fin 512) : iblk m c 6 t (ix2 r x)
    = m (c.tc.loc main_arg0) (ix3 1 ⟨128 * t.val + r.val, by have := point_lt t; omega⟩ ⟨512 + x.val, by omega⟩) := by
  have ht := point_lt t
  unfold iblk
  rw [View.read_apply]
  refine rows_apply m c _ _ _ _ ?_ ?_
  · show win0_6.index t 0 * 128 + 1 * r.val = _
    rw [idx_6 t]
    show (t.val + 128) * 128 + 1 * r.val = 1 * 16384 + (128 * t.val + r.val)
    omega
  · show win0_6.index t 1 * 512 + 1 * x.val = _
    rw [idx_6 t]
    show 1 * 512 + 1 * x.val = 512 + x.val
    omega

theorem idx_7 : ∀ t : Fin cfg0.N, win0_7.index t = ![t.val + 128, 2] :=
  (by decide +kernel : ∀ t : Fin grid0.N, win0_7.index t = ![t.val + 128, 2])

theorem iblk_7 (t : Fin cfg0.N) (r : Fin 128) (x : Fin 512) : iblk m c 7 t (ix2 r x)
    = m (c.tc.loc main_arg0) (ix3 1 ⟨128 * t.val + r.val, by have := point_lt t; omega⟩ ⟨1024 + x.val, by omega⟩) := by
  have ht := point_lt t
  unfold iblk
  rw [View.read_apply]
  refine rows_apply m c _ _ _ _ ?_ ?_
  · show win0_7.index t 0 * 128 + 1 * r.val = _
    rw [idx_7 t]
    show (t.val + 128) * 128 + 1 * r.val = 1 * 16384 + (128 * t.val + r.val)
    omega
  · show win0_7.index t 1 * 512 + 1 * x.val = _
    rw [idx_7 t]
    show 2 * 512 + 1 * x.val = 1024 + x.val
    omega

theorem idx_8 : ∀ t : Fin cfg0.N, win0_8.index t = ![t.val + 128, 3] :=
  (by decide +kernel : ∀ t : Fin grid0.N, win0_8.index t = ![t.val + 128, 3])

theorem iblk_8 (t : Fin cfg0.N) (r : Fin 128) (x : Fin 512) : iblk m c 8 t (ix2 r x)
    = m (c.tc.loc main_arg0) (ix3 1 ⟨128 * t.val + r.val, by have := point_lt t; omega⟩ ⟨1536 + x.val, by omega⟩) := by
  have ht := point_lt t
  unfold iblk
  rw [View.read_apply]
  refine rows_apply m c _ _ _ _ ?_ ?_
  · show win0_8.index t 0 * 128 + 1 * r.val = _
    rw [idx_8 t]
    show (t.val + 128) * 128 + 1 * r.val = 1 * 16384 + (128 * t.val + r.val)
    omega
  · show win0_8.index t 1 * 512 + 1 * x.val = _
    rw [idx_8 t]
    show 3 * 512 + 1 * x.val = 1536 + x.val
    omega

theorem idx_9 : ∀ t : Fin cfg0.N, win0_9.index t = ![255 - t.val, 1] :=
  (by decide +kernel : ∀ t : Fin grid0.N, win0_9.index t = ![255 - t.val, 1])

theorem iblk_9 (t : Fin cfg0.N) (r : Fin 128) (x : Fin 512) : iblk m c 9 t (ix2 r x)
    = m (c.tc.loc main_arg0) (ix3 1 ⟨128 * (127 - t.val) + r.val, by have := point_lt t; omega⟩ ⟨512 + x.val, by omega⟩) := by
  have ht := point_lt t
  unfold iblk
  rw [View.read_apply]
  refine rows_apply m c _ _ _ _ ?_ ?_
  · show win0_9.index t 0 * 128 + 1 * r.val = _
    rw [idx_9 t]
    show (255 - t.val) * 128 + 1 * r.val = 1 * 16384 + (128 * (127 - t.val) + r.val)
    omega
  · show win0_9.index t 1 * 512 + 1 * x.val = _
    rw [idx_9 t]
    show 1 * 512 + 1 * x.val = 512 + x.val
    omega

theorem idx_10 : ∀ t : Fin cfg0.N, win0_10.index t = ![255 - t.val, 2] :=
  (by decide +kernel : ∀ t : Fin grid0.N, win0_10.index t = ![255 - t.val, 2])

theorem iblk_10 (t : Fin cfg0.N) (r : Fin 128) (x : Fin 512) : iblk m c 10 t (ix2 r x)
    = m (c.tc.loc main_arg0) (ix3 1 ⟨128 * (127 - t.val) + r.val, by have := point_lt t; omega⟩ ⟨1024 + x.val, by omega⟩) := by
  have ht := point_lt t
  unfold iblk
  rw [View.read_apply]
  refine rows_apply m c _ _ _ _ ?_ ?_
  · show win0_10.index t 0 * 128 + 1 * r.val = _
    rw [idx_10 t]
    show (255 - t.val) * 128 + 1 * r.val = 1 * 16384 + (128 * (127 - t.val) + r.val)
    omega
  · show win0_10.index t 1 * 512 + 1 * x.val = _
    rw [idx_10 t]
    show 2 * 512 + 1 * x.val = 1024 + x.val
    omega

theorem idx_11 : ∀ t : Fin cfg0.N, win0_11.index t = ![255 - t.val, 4] :=
  (by decide +kernel : ∀ t : Fin grid0.N, win0_11.index t = ![255 - t.val, 4])

theorem iblk_11 (t : Fin cfg0.N) (r : Fin 128) (x : Fin 512) : iblk m c 11 t (ix2 r x)
    = m (c.tc.loc main_arg0) (ix3 1 ⟨128 * (127 - t.val) + r.val, by have := point_lt t; omega⟩ ⟨2048 + x.val, by omega⟩) := by
  have ht := point_lt t
  unfold iblk
  rw [View.read_apply]
  refine rows_apply m c _ _ _ _ ?_ ?_
  · show win0_11.index t 0 * 128 + 1 * r.val = _
    rw [idx_11 t]
    show (255 - t.val) * 128 + 1 * r.val = 1 * 16384 + (128 * (127 - t.val) + r.val)
    omega
  · show win0_11.index t 1 * 512 + 1 * x.val = _
    rw [idx_11 t]
    show 4 * 512 + 1 * x.val = 2048 + x.val
    omega

theorem idx_12 : ∀ t : Fin cfg0.N, win0_12.index t = ![0, 0] :=
  (by decide +kernel : ∀ t : Fin grid0.N, win0_12.index t = ![0, 0])

theorem iblk_12 (t : Fin cfg0.N) (d : Fin 2) (x : Fin 512) : iblk m c 12 t (ix2 d x) = m (c.tc.loc main_arg2) (ix2 d x) := by
  unfold iblk
  rw [View.read_apply]
  show V m c main_arg2 _ = _
  rw [V_main_arg2]
  congr 1
  funext a
  apply Fin.ext
  match a with
  | ⟨0, _⟩ => show win0_12.index t 0 * 2 + 1 * d.val = d.val; rw [idx_12 t]; show 0 * 2 + 1 * d.val = d.val; omega
  | ⟨1, _⟩ => show win0_12.index t 1 * 512 + 1 * x.val = x.val; rw [idx_12 t]; show 0 * 512 + 1 * x.val = x.val; omega

theorem idx_13 : ∀ t : Fin cfg0.N, win0_13.index t = ![0, 0, 0, 0, 0] :=
  (by decide +kernel : ∀ t : Fin grid0.N, win0_13.index t = ![0, 0, 0, 0, 0])

theorem iblk_13 (t : Fin cfg0.N) (b d : Fin 2) (h : Fin 4) (e k : Fin 128) :
    iblk m c 13 t (ix5 b d h e k) = m (c.tc.loc main_arg3) (ix5 b d h k e) := by
  refine Eq.trans ?_ (start_apply m c b d h e k)
  unfold iblk
  rw [View.read_apply]
  show V m c main_v3 _ = _
  congr 1
  funext a
  apply Fin.ext
  match a with
  | ⟨0, _⟩ => show win0_13.index t 0 * 2 + 1 * b.val = b.val; rw [idx_13 t]; show 0 * 2 + 1 * b.val = b.val; omega
  | ⟨1, _⟩ => show win0_13.index t 1 * 2 + 1 * d.val = d.val; rw [idx_13 t]; show 0 * 2 + 1 * d.val = d.val; omega
  | ⟨2, _⟩ => show win0_13.index t 2 * 4 + 1 * h.val = h.val; rw [idx_13 t]; show 0 * 4 + 1 * h.val = h.val; omega
  | ⟨3, _⟩ => show win0_13.index t 3 * 128 + 1 * e.val = e.val; rw [idx_13 t]; show 0 * 128 + 1 * e.val = e.val; omega
  | ⟨4, _⟩ => show win0_13.index t 4 * 128 + 1 * k.val = k.val; rw [idx_13 t]; show 0 * 128 + 1 * k.val = k.val; omega

end Hgrn.Ker
-- ==== Proof.Streams.lean ====
module

public import proofs.«01_k».proof.Proof.Read

/-! The streams of the scan, per batch, direction and head, as read off the arguments: what both programs compute is the
    recurrence of Rec.lean over them. -/

@[expose] public section

noncomputable section

namespace Hgrn

/-- The arguments at an index: the projections (batch, position, channel), the lower bounds (direction, channel), the starting
    states (batch, direction, head, key channel, value channel). -/
structure Data where
  Z : Fin 2 → Fin 16384 → Fin 5120 → EReal
  B : Fin 2 → Fin 512 → EReal
  S : Fin 2 → Fin 2 → Fin 4 → Fin 128 → Fin 128 → EReal

/-- Queries, values and starting states are finite; the lower bounds are between 1/128 and 1. -/
structure Data.Tame (D : Data) : Prop where
  fin : ∀ b n c, 512 ≤ c.val → c.val < 1536 → D.Z b n c = ((D.Z b n c).toReal : EReal)
  start : ∀ b d h k e, D.S b d h k e = ((D.S b d h k e).toReal : EReal)
  lb : ∀ d c, D.B d c = ((D.B d c).toReal : EReal)
  lo : ∀ d c, 1 / 128 ≤ (D.B d c).toReal
  hi : ∀ d c, (D.B d c).toReal ≤ 1

/-- The position a direction meets at time `n`. -/
def posAt (d : Fin 2) (n : ℕ) : Fin 16384 := if d = 0 then ⟨n % 16384, by omega⟩ else ⟨16383 - n % 16384, by omega⟩

theorem posAt_fwd (n : ℕ) (hn : n < 16384) : (posAt 0 n).val = n := Nat.mod_eq_of_lt hn
theorem posAt_bwd (n : ℕ) (hn : n < 16384) : (posAt 1 n).val = 16383 - n := by
  show 16383 - n % 16384 = _
  rw [Nat.mod_eq_of_lt hn]

namespace Data

variable (D : Data) (b d : Fin 2) (h : Fin 4)

def lbR (d : Fin 2) (c : Fin 512) : ℝ := (D.B d c).toReal

def gS (n : ℕ) (k : Fin 128) : ℝ :=
  Ker.gOf (D.lbR d ⟨128 * h.val + k.val, by omega⟩) (D.Z b (posAt d n) ⟨1536 + 512 * d.val + (128 * h.val + k.val), by omega⟩)
def kS (n : ℕ) (k : Fin 128) : ℝ :=
  Ker.kOf (D.lbR d ⟨128 * h.val + k.val, by omega⟩) (D.Z b (posAt d n) ⟨1536 + 512 * d.val + (128 * h.val + k.val), by omega⟩)
def qS (n : ℕ) (k : Fin 128) : ℝ := (D.Z b (posAt d n) ⟨512 + (128 * h.val + k.val), by omega⟩).toReal
def vS (n : ℕ) (e : Fin 128) : ℝ := (D.Z b (posAt d n) ⟨1024 + (128 * h.val + e.val), by omega⟩).toReal
def sS (k e : Fin 128) : ℝ := (D.S b d h k e).toReal

/-- The state after `n` steps. -/
def St (n : ℕ) (k e : Fin 128) : ℝ := st (D.gS b d h) (D.kS b d h) (D.vS b d h) (D.sS b d h) n k e
/-- The output at time `n`. -/
def Out (n : ℕ) (e : Fin 128) : ℝ := out (D.gS b d h) (D.kS b d h) (D.qS b d h) (D.vS b d h) (D.sS b d h) n e

variable {D}

theorem gS_le (hD : D.Tame) (n : ℕ) (k : Fin 128) : D.gS b d h n k ≤ 0 := Ker.gOf_le _ (hD.lo d _) (hD.hi d _)
theorem gS_ge (hD : D.Tame) (n : ℕ) (k : Fin 128) : -5 ≤ D.gS b d h n k := Ker.gOf_ge _ (hD.lo d _) (hD.hi d _)

theorem q_eq (hD : D.Tame) (n : ℕ) (k : Fin 128) (p : Fin 16384) (c : Fin 5120) (hp : p.val = (posAt d n).val)
    (hc : c.val = 512 + (128 * h.val + k.val)) : D.Z b p c = (D.qS b d h n k : EReal) := by
  have ep : posAt d n = p := (Fin.ext hp).symm
  have ec : ⟨512 + (128 * h.val + k.val), by omega⟩ = c := (Fin.ext hc).symm
  rw [qS, ep, ec]
  exact hD.fin b _ _ (by omega) (by omega)

theorem v_eq (hD : D.Tame) (n : ℕ) (k : Fin 128) (p : Fin 16384) (c : Fin 5120) (hp : p.val = (posAt d n).val)
    (hc : c.val = 1024 + (128 * h.val + k.val)) : D.Z b p c = (D.vS b d h n k : EReal) := by
  have ep : posAt d n = p := (Fin.ext hp).symm
  have ec : ⟨1024 + (128 * h.val + k.val), by omega⟩ = c := (Fin.ext hc).symm
  rw [vS, ep, ec]
  exact hD.fin b _ _ (by omega) (by omega)

theorem g_eq (n : ℕ) (k : Fin 128) (x : Fin 512) (p : Fin 16384) (c : Fin 5120) (hx : x.val = 128 * h.val + k.val)
    (hp : p.val = (posAt d n).val) (hc : c.val = 1536 + 512 * d.val + (128 * h.val + k.val)) :
    Ker.gOf (D.lbR d x) (D.Z b p c) = D.gS b d h n k := by
  have ep : posAt d n = p := (Fin.ext hp).symm
  have ex : ⟨128 * h.val + k.val, by omega⟩ = x := (Fin.ext hx).symm
  have ec : ⟨1536 + 512 * d.val + (128 * h.val + k.val), by omega⟩ = c := (Fin.ext hc).symm
  rw [gS, ep, ex, ec]

theorem k_eq (n : ℕ) (k : Fin 128) (x : Fin 512) (p : Fin 16384) (c : Fin 5120) (hx : x.val = 128 * h.val + k.val)
    (hp : p.val = (posAt d n).val) (hc : c.val = 1536 + 512 * d.val + (128 * h.val + k.val)) :
    Ker.kOf (D.lbR d x) (D.Z b p c) = D.kS b d h n k := by
  have ep : posAt d n = p := (Fin.ext hp).symm
  have ex : ⟨128 * h.val + k.val, by omega⟩ = x := (Fin.ext hx).symm
  have ec : ⟨1536 + 512 * d.val + (128 * h.val + k.val), by omega⟩ = c := (Fin.ext hc).symm
  rw [kS, ep, ex, ec]

theorem St_zero (hD : D.Tame) (k e : Fin 128) : D.S b d h k e = (D.St b d h 0 k e : EReal) := hD.start b d h k e

end Data

end Hgrn
-- ==== Proof.Sweep.lean ====
module

public import proofs.«01_k».proof.Proof.Blocks
public import proofs.«01_k».proof.Proof.Streams
public import Idealize.ShloMosaic.Lib.Pipeline.ReadBack

/-! What each grid point of the scan kernel leaves, over the streams: the two output blocks and the carried state. -/

@[expose] public section

noncomputable section

namespace Hgrn.Ker

open Idealize.ShloMosaic Idealize.ShloMosaic.TcCoe Idealize.SL.Sem
open Cert.KernelIdeal Cert.KernelIdeal.Gen

/-- The outputs of direction `d` over the 128 times from `T` on, at a block's index: row `r` is time `T + r` going forward,
    `T + 127 - r` going backward. -/
def outTarget (D : Data) (d : Fin 2) (T : ℕ) (y : S2x128x512.Idx) : EReal :=
  (D.Out (y 0) d ⟨(y 2).val / 128, by have : (y 2).val < 512 := (y 2).isLt; omega⟩
    (T + if d = 0 then (y 1).val else 127 - (y 1).val) ⟨(y 2).val % 128, by omega⟩ : EReal)

/-- The carried states after `T` steps, value channels before key channels. -/
def stTarget (D : Data) (T : ℕ) (y : S2x2x4x128x128.Idx) : EReal := (D.St (y 0) (y 1) (y 2) T (y 4) (y 3) : EReal)

theorem outTarget_fwd (D : Data) (T : ℕ) (y : S2x128x512.Idx) (b : Fin 2) (h : Fin 4) (r e : Fin 128)
    (h0 : (y 0).val = b.val) (h1 : (y 1).val = r.val) (h2 : (y 2).val = 128 * h.val + e.val) :
    outTarget D 0 T y = (D.Out b 0 h (T + r) e : EReal) := by
  unfold outTarget
  rw [if_pos rfl, h1, show (y 0 : Fin 2) = b from Fin.ext h0]
  congr 2
  · exact Fin.ext (by show (y 2).val / 128 = h.val; omega)
  · exact Fin.ext (by show (y 2).val % 128 = e.val; omega)

theorem outTarget_bwd (D : Data) (T : ℕ) (y : S2x128x512.Idx) (b : Fin 2) (h : Fin 4) (r e : Fin 128)
    (h0 : (y 0).val = b.val) (h1 : (y 1).val = r.val) (h2 : (y 2).val = 128 * h.val + e.val) :
    outTarget D 1 T y = (D.Out b 1 h (T + r.rev) e : EReal) := by
  unfold outTarget
  rw [if_neg (by decide), h1, show (y 0 : Fin 2) = b from Fin.ext h0, show 127 - r.val = r.rev.val by rw [Fin.val_rev]; omega]
  congr 2
  · exact Fin.ext (by show (y 2).val / 128 = h.val; omega)
  · exact Fin.ext (by show (y 2).val % 128 = e.val; omega)

theorem stTarget_eq (D : Data) (T : ℕ) (y : S2x2x4x128x128.Idx) (b d : Fin 2) (h : Fin 4) (e k : Fin 128)
    (h0 : (y 0).val = b.val) (h1 : (y 1).val = d.val) (h2 : (y 2).val = h.val) (h3 : (y 3).val = e.val) (h4 : (y 4).val = k.val) :
    stTarget D T y = (D.St b d h T k e : EReal) := by
  unfold stTarget
  rw [show (y 0 : Fin 2) = b from Fin.ext h0, show (y 1 : Fin 2) = d from Fin.ext h1, show (y 2 : Fin 4) = h from Fin.ext h2,
    show (y 3 : Fin 128) = e from Fin.ext h3, show (y 4 : Fin 128) = k from Fin.ext h4]

/-- A vector index of a 1×128×128 block by its last two coordinates. -/
theorem idx3 (x : S1x128x128.Idx) : ∃ r e : Fin 128, x = ix3 0 r e :=
  ⟨x 1, x 2, funext fun a => match a with
    | ⟨0, _⟩ => Subsingleton.elim (α := Fin 1) _ _
    | ⟨1, _⟩ => rfl
    | ⟨2, _⟩ => rfl⟩

theorem idx5 (x : S1x1x1x128x128.Idx) : ∃ e k : Fin 128, x = ix5 0 0 0 e k :=
  ⟨x 3, x 4, funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
    | ⟨4, _⟩ => rfl⟩

theorem lbRow0_apply (x : Vec Ideal S2x512 .f32) (c : Fin 512) : lbRow0 x (ix2 0 c) = x (ix2 0 c) := by
  refine (View.ld_apply _ _ _).trans ?_
  congr 1
  funext a
  apply Fin.ext
  match a with
  | ⟨0, _⟩ => rfl
  | ⟨1, _⟩ => show 0 + 1 * c.val = c.val; omega

theorem lbRow1_apply (x : Vec Ideal S2x512 .f32) (c : Fin 512) : lbRow1 x (ix2 0 c) = x (ix2 1 c) := by
  refine (View.ld_apply _ _ _).trans ?_
  congr 1
  funext a
  apply Fin.ext
  match a with
  | ⟨0, _⟩ => rfl
  | ⟨1, _⟩ => show 0 + 1 * c.val = c.val; omega

theorem st000_apply (s : Vec Ideal S2x2x4x128x128 .f32) (e k : Fin 128) : st000 s (ix5 0 0 0 e k) = s (ix5 0 0 0 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st001_apply (s : Vec Ideal S2x2x4x128x128 .f32) (e k : Fin 128) : st001 s (ix5 0 0 0 e k) = s (ix5 0 0 1 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st002_apply (s : Vec Ideal S2x2x4x128x128 .f32) (e k : Fin 128) : st002 s (ix5 0 0 0 e k) = s (ix5 0 0 2 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st003_apply (s : Vec Ideal S2x2x4x128x128 .f32) (e k : Fin 128) : st003 s (ix5 0 0 0 e k) = s (ix5 0 0 3 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st010_apply (s : Vec Ideal S2x2x4x128x128 .f32) (e k : Fin 128) : st010 s (ix5 0 0 0 e k) = s (ix5 0 1 0 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st011_apply (s : Vec Ideal S2x2x4x128x128 .f32) (e k : Fin 128) : st011 s (ix5 0 0 0 e k) = s (ix5 0 1 1 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st012_apply (s : Vec Ideal S2x2x4x128x128 .f32) (e k : Fin 128) : st012 s (ix5 0 0 0 e k) = s (ix5 0 1 2 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st013_apply (s : Vec Ideal S2x2x4x128x128 .f32) (e k : Fin 128) : st013 s (ix5 0 0 0 e k) = s (ix5 0 1 3 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st100_apply (s : Vec Ideal S2x2x4x128x128 .f32) (e k : Fin 128) : st100 s (ix5 0 0 0 e k) = s (ix5 1 0 0 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st101_apply (s : Vec Ideal S2x2x4x128x128 .f32) (e k : Fin 128) : st101 s (ix5 0 0 0 e k) = s (ix5 1 0 1 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st102_apply (s : Vec Ideal S2x2x4x128x128 .f32) (e k : Fin 128) : st102 s (ix5 0 0 0 e k) = s (ix5 1 0 2 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st103_apply (s : Vec Ideal S2x2x4x128x128 .f32) (e k : Fin 128) : st103 s (ix5 0 0 0 e k) = s (ix5 1 0 3 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st110_apply (s : Vec Ideal S2x2x4x128x128 .f32) (e k : Fin 128) : st110 s (ix5 0 0 0 e k) = s (ix5 1 1 0 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st111_apply (s : Vec Ideal S2x2x4x128x128 .f32) (e k : Fin 128) : st111 s (ix5 0 0 0 e k) = s (ix5 1 1 1 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st112_apply (s : Vec Ideal S2x2x4x128x128 .f32) (e k : Fin 128) : st112 s (ix5 0 0 0 e k) = s (ix5 1 1 2 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

theorem st113_apply (s : Vec Ideal S2x2x4x128x128 .f32) (e k : Fin 128) : st113 s (ix5 0 0 0 e k) = s (ix5 1 1 3 e k) := by
  refine (View.ld_apply _ _ _).trans ?_
  congr 1
  funext a
  apply Fin.ext
  match a with
  | ⟨0, _⟩ => rfl
  | ⟨1, _⟩ => rfl
  | ⟨2, _⟩ => rfl
  | ⟨3, _⟩ => show 0 + 1 * e.val = e.val; omega
  | ⟨4, _⟩ => show 0 + 1 * k.val = k.val; omega

section Piece

variable {D : Data} (hD : D.Tame) (t : ℕ) (ht : t < 128) (b : Fin 2) (h : Fin 4) (o : ℕ) (ho : o = 128 * h.val)
variable (h1 : S128x512.Slices ![0, o] S128x128) (h2 : S1x512.Slices ![0, o] S1x128) (lb : Vec Ideal S1x512 .f32)
variable (q v f : Vec Ideal S128x512 .f32) (s : Vec Ideal S1x1x1x128x128 .f32)

include hD ht ho

theorem outFwd_piece (hq : ∀ (r : Fin 128) (x : Fin 512), q (ix2 r x) = D.Z b ⟨128 * t + r.val, by omega⟩ ⟨512 + x.val, by omega⟩)
    (hlb : ∀ c, lb (ix2 0 c) = D.B 0 c)
    (hv : ∀ (r : Fin 128) (x : Fin 512), v (ix2 r x) = D.Z b ⟨128 * t + r.val, by omega⟩ ⟨1024 + x.val, by omega⟩)
    (hf : ∀ (r : Fin 128) (x : Fin 512), f (ix2 r x) = D.Z b ⟨128 * t + r.val, by omega⟩ ⟨1536 + x.val, by omega⟩)
    (hs : ∀ e k, s (ix5 0 0 0 e k) = (D.St b 0 h (128 * t) k e : EReal)) (r e : Fin 128) :
    outFwd o h1 lb q v f s (ix3 0 r e) = (D.Out b 0 h (128 * t + r) e : EReal) :=
  outFwd_apply (LB := D.lbR 0) (fun c => (hlb c).trans (hD.lb 0 c)) (fun c => hD.lo 0 c) (fun c => hD.hi 0 c) (128 * t) o (by omega) h1
    (fun r k => by rw [hf]; exact Data.g_eq b 0 h _ k _ _ _ (by show o + k.val = _; rw [ho]) (by rw [posAt_fwd _ (by omega)]) (by show 1536 + (o + k.val) = 1536 + 512 * 0 + (128 * h.val + k.val); rw [ho]))
    (fun r k => by rw [hf]; exact Data.k_eq b 0 h _ k _ _ _ (by show o + k.val = _; rw [ho]) (by rw [posAt_fwd _ (by omega)]) (by show 1536 + (o + k.val) = 1536 + 512 * 0 + (128 * h.val + k.val); rw [ho]))
    (fun r k => by rw [hq]; exact Data.q_eq b 0 h hD _ k _ _ (by rw [posAt_fwd _ (by omega)]) (by show 512 + (o + k.val) = _; rw [ho]))
    (fun r k => by rw [hv]; exact Data.v_eq b 0 h hD _ k _ _ (by rw [posAt_fwd _ (by omega)]) (by show 1024 + (o + k.val) = _; rw [ho]))
    hs (Data.gS_le b 0 h hD) (Data.gS_ge b 0 h hD) r e

theorem nextFwd_piece
    (hlb : ∀ c, lb (ix2 0 c) = D.B 0 c)
    (hv : ∀ (r : Fin 128) (x : Fin 512), v (ix2 r x) = D.Z b ⟨128 * t + r.val, by omega⟩ ⟨1024 + x.val, by omega⟩)
    (hf : ∀ (r : Fin 128) (x : Fin 512), f (ix2 r x) = D.Z b ⟨128 * t + r.val, by omega⟩ ⟨1536 + x.val, by omega⟩)
    (hs : ∀ e k, s (ix5 0 0 0 e k) = (D.St b 0 h (128 * t) k e : EReal)) (e k : Fin 128) :
    nextFwd o h1 h2 lb v f s (ix5 0 0 0 e k) = (D.St b 0 h (128 * t + 128) k e : EReal) :=
  nextFwd_apply (LB := D.lbR 0) (fun c => (hlb c).trans (hD.lb 0 c)) (fun c => hD.lo 0 c) (fun c => hD.hi 0 c) (128 * t) o (by omega) h1 h2
    (fun r k => by rw [hf]; exact Data.g_eq b 0 h _ k _ _ _ (by show o + k.val = _; rw [ho]) (by rw [posAt_fwd _ (by omega)]) (by show 1536 + (o + k.val) = 1536 + 512 * 0 + (128 * h.val + k.val); rw [ho]))
    (fun r k => by rw [hf]; exact Data.k_eq b 0 h _ k _ _ _ (by show o + k.val = _; rw [ho]) (by rw [posAt_fwd _ (by omega)]) (by show 1536 + (o + k.val) = 1536 + 512 * 0 + (128 * h.val + k.val); rw [ho]))
    (fun r k => by rw [hv]; exact Data.v_eq b 0 h hD _ k _ _ (by rw [posAt_fwd _ (by omega)]) (by show 1024 + (o + k.val) = _; rw [ho]))
    hs e k

theorem outBwd_piece (hq : ∀ (r : Fin 128) (x : Fin 512), q (ix2 r x) = D.Z b ⟨128 * (127 - t) + r.val, by omega⟩ ⟨512 + x.val, by omega⟩)
    (hlb : ∀ c, lb (ix2 0 c) = D.B 1 c)
    (hv : ∀ (r : Fin 128) (x : Fin 512), v (ix2 r x) = D.Z b ⟨128 * (127 - t) + r.val, by omega⟩ ⟨1024 + x.val, by omega⟩)
    (hf : ∀ (r : Fin 128) (x : Fin 512), f (ix2 r x) = D.Z b ⟨128 * (127 - t) + r.val, by omega⟩ ⟨2048 + x.val, by omega⟩)
    (hs : ∀ e k, s (ix5 0 0 0 e k) = (D.St b 1 h (128 * t) k e : EReal)) (r e : Fin 128) :
    outBwd o h1 lb q v f s (ix3 0 r e) = (D.Out b 1 h (128 * t + r.rev) e : EReal) :=
  outBwd_apply (LB := D.lbR 1) (fun c => (hlb c).trans (hD.lb 1 c)) (fun c => hD.lo 1 c) (fun c => hD.hi 1 c) (128 * t) o (by omega) h1
    (fun r k => by rw [hf]; exact Data.g_eq b 1 h _ k _ _ _ (by show o + k.val = _; rw [ho]) (by rw [posAt_bwd _ (by rw [Fin.val_rev]; omega)]; show 128 * (127 - t) + r.val = 16383 - (128 * t + r.rev.val); rw [Fin.val_rev]; omega) (by show 2048 + (o + k.val) = 1536 + 512 * 1 + (128 * h.val + k.val); rw [ho]))
    (fun r k => by rw [hf]; exact Data.k_eq b 1 h _ k _ _ _ (by show o + k.val = _; rw [ho]) (by rw [posAt_bwd _ (by rw [Fin.val_rev]; omega)]; show 128 * (127 - t) + r.val = 16383 - (128 * t + r.rev.val); rw [Fin.val_rev]; omega) (by show 2048 + (o + k.val) = 1536 + 512 * 1 + (128 * h.val + k.val); rw [ho]))
    (fun r k => by rw [hq]; exact Data.q_eq b 1 h hD _ k _ _ (by rw [posAt_bwd _ (by rw [Fin.val_rev]; omega)]; show 128 * (127 - t) + r.val = 16383 - (128 * t + r.rev.val); rw [Fin.val_rev]; omega) (by show 512 + (o + k.val) = _; rw [ho]))
    (fun r k => by rw [hv]; exact Data.v_eq b 1 h hD _ k _ _ (by rw [posAt_bwd _ (by rw [Fin.val_rev]; omega)]; show 128 * (127 - t) + r.val = 16383 - (128 * t + r.rev.val); rw [Fin.val_rev]; omega) (by show 1024 + (o + k.val) = _; rw [ho]))
    hs (Data.gS_le b 1 h hD) (Data.gS_ge b 1 h hD) r e

theorem nextBwd_piece
    (hlb : ∀ c, lb (ix2 0 c) = D.B 1 c)
    (hv : ∀ (r : Fin 128) (x : Fin 512), v (ix2 r x) = D.Z b ⟨128 * (127 - t) + r.val, by omega⟩ ⟨1024 + x.val, by omega⟩)
    (hf : ∀ (r : Fin 128) (x : Fin 512), f (ix2 r x) = D.Z b ⟨128 * (127 - t) + r.val, by omega⟩ ⟨2048 + x.val, by omega⟩)
    (hs : ∀ e k, s (ix5 0 0 0 e k) = (D.St b 1 h (128 * t) k e : EReal)) (e k : Fin 128) :
    nextBwd o h1 h2 lb v f s (ix5 0 0 0 e k) = (D.St b 1 h (128 * t + 128) k e : EReal) :=
  nextBwd_apply (LB := D.lbR 1) (fun c => (hlb c).trans (hD.lb 1 c)) (fun c => hD.lo 1 c) (fun c => hD.hi 1 c) (128 * t) o (by omega) h1 h2
    (fun r k => by rw [hf]; exact Data.g_eq b 1 h _ k _ _ _ (by show o + k.val = _; rw [ho]) (by rw [posAt_bwd _ (by rw [Fin.val_rev]; omega)]; show 128 * (127 - t) + r.val = 16383 - (128 * t + r.rev.val); rw [Fin.val_rev]; omega) (by show 2048 + (o + k.val) = 1536 + 512 * 1 + (128 * h.val + k.val); rw [ho]))
    (fun r k => by rw [hf]; exact Data.k_eq b 1 h _ k _ _ _ (by show o + k.val = _; rw [ho]) (by rw [posAt_bwd _ (by rw [Fin.val_rev]; omega)]; show 128 * (127 - t) + r.val = 16383 - (128 * t + r.rev.val); rw [Fin.val_rev]; omega) (by show 2048 + (o + k.val) = 1536 + 512 * 1 + (128 * h.val + k.val); rw [ho]))
    (fun r k => by rw [hv]; exact Data.v_eq b 1 h hD _ k _ _ (by rw [posAt_bwd _ (by rw [Fin.val_rev]; omega)]; show 128 * (127 - t) + r.val = 16383 - (128 * t + r.rev.val); rw [Fin.val_rev]; omega) (by show 1024 + (o + k.val) = _; rw [ho]))
    hs e k

end Piece

variable (m : (ℓ : Loc nD τ sig) → Buf (Elt Ideal) ℓ) (c : Dev nD)

/-- The kernel's arguments, at an index. -/
def dataK : Data where
  Z b n j := m (c.tc.loc main_arg0) (ix3 b n j)
  B d j := m (c.tc.loc main_arg2) (ix2 d j)
  S b d h k e := m (c.tc.loc main_arg3) (ix5 b d h k e)

variable (hD : (dataK m c).Tame) (t : Fin cfg0.N)
  (hs : ∀ b d h e k, before m c t (ix5 b d h e k) = ((dataK m c).St b d h (128 * t.val) k e : EReal))

include hD hs

theorem fwd_at (y : S2x128x512.Idx) : View.canon (fwdPieces m c t) y = outTarget (dataK m c) 0 (128 * t.val) y := by
  have ht := point_lt t
  refine View.canon_apply_of_pieces _ _ (View.PiecesOf.mem (Val := Elt Ideal) (G := outTarget (dataK m c) 0 (128 * t.val)) ?_) y (coverFwd _ _ _ _ _ _ _ _ y)
  unfold outsFwd
  refine ⟨?_, ?_, ?_, ?_, ?_, ?_, ?_, ?_, trivial⟩
  · intro x
    obtain ⟨r, e, rfl⟩ := idx3 x
    refine (outFwd_piece hD t.val ht 1 3 384 rfl _ _ _ _ _ _ (iblk_6 m c t) (fun j => (lbRow0_apply _ j).trans (iblk_12 m c t 0 j)) (iblk_7 m c t) (iblk_8 m c t)
      (fun e k => (st103_apply _ e k).trans (hs 1 0 3 e k)) r e).trans
      (outTarget_fwd _ _ _ 1 3 r e rfl (by show 0 + 1 * r.val = r.val; omega) (by show 384 + 1 * e.val = 128 * 3 + e.val; omega)).symm
  · intro x
    obtain ⟨r, e, rfl⟩ := idx3 x
    refine (outFwd_piece hD t.val ht 1 2 256 rfl _ _ _ _ _ _ (iblk_6 m c t) (fun j => (lbRow0_apply _ j).trans (iblk_12 m c t 0 j)) (iblk_7 m c t) (iblk_8 m c t)
      (fun e k => (st102_apply _ e k).trans (hs 1 0 2 e k)) r e).trans
      (outTarget_fwd _ _ _ 1 2 r e rfl (by show 0 + 1 * r.val = r.val; omega) (by show 256 + 1 * e.val = 128 * 2 + e.val; omega)).symm
  · intro x
    obtain ⟨r, e, rfl⟩ := idx3 x
    refine (outFwd_piece hD t.val ht 1 1 128 rfl _ _ _ _ _ _ (iblk_6 m c t) (fun j => (lbRow0_apply _ j).trans (iblk_12 m c t 0 j)) (iblk_7 m c t) (iblk_8 m c t)
      (fun e k => (st101_apply _ e k).trans (hs 1 0 1 e k)) r e).trans
      (outTarget_fwd _ _ _ 1 1 r e rfl (by show 0 + 1 * r.val = r.val; omega) (by show 128 + 1 * e.val = 128 * 1 + e.val; omega)).symm
  · intro x
    obtain ⟨r, e, rfl⟩ := idx3 x
    refine (outFwd_piece hD t.val ht 1 0 0 rfl _ _ _ _ _ _ (iblk_6 m c t) (fun j => (lbRow0_apply _ j).trans (iblk_12 m c t 0 j)) (iblk_7 m c t) (iblk_8 m c t)
      (fun e k => (st100_apply _ e k).trans (hs 1 0 0 e k)) r e).trans
      (outTarget_fwd _ _ _ 1 0 r e rfl (by show 0 + 1 * r.val = r.val; omega) (by show 0 + 1 * e.val = 128 * 0 + e.val; omega)).symm
  · intro x
    obtain ⟨r, e, rfl⟩ := idx3 x
    refine (outFwd_piece hD t.val ht 0 3 384 rfl _ _ _ _ _ _ (iblk_0 m c t) (fun j => (lbRow0_apply _ j).trans (iblk_12 m c t 0 j)) (iblk_1 m c t) (iblk_2 m c t)
      (fun e k => (st003_apply _ e k).trans (hs 0 0 3 e k)) r e).trans
      (outTarget_fwd _ _ _ 0 3 r e rfl (by show 0 + 1 * r.val = r.val; omega) (by show 384 + 1 * e.val = 128 * 3 + e.val; omega)).symm
  · intro x
    obtain ⟨r, e, rfl⟩ := idx3 x
    refine (outFwd_piece hD t.val ht 0 2 256 rfl _ _ _ _ _ _ (iblk_0 m c t) (fun j => (lbRow0_apply _ j).trans (iblk_12 m c t 0 j)) (iblk_1 m c t) (iblk_2 m c t)
      (fun e k => (st002_apply _ e k).trans (hs 0 0 2 e k)) r e).trans
      (outTarget_fwd _ _ _ 0 2 r e rfl (by show 0 + 1 * r.val = r.val; omega) (by show 256 + 1 * e.val = 128 * 2 + e.val; omega)).symm
  · intro x
    obtain ⟨r, e, rfl⟩ := idx3 x
    refine (outFwd_piece hD t.val ht 0 1 128 rfl _ _ _ _ _ _ (iblk_0 m c t) (fun j => (lbRow0_apply _ j).trans (iblk_12 m c t 0 j)) (iblk_1 m c t) (iblk_2 m c t)
      (fun e k => (st001_apply _ e k).trans (hs 0 0 1 e k)) r e).trans
      (outTarget_fwd _ _ _ 0 1 r e rfl (by show 0 + 1 * r.val = r.val; omega) (by show 128 + 1 * e.val = 128 * 1 + e.val; omega)).symm
  · intro x
    obtain ⟨r, e, rfl⟩ := idx3 x
    refine (outFwd_piece hD t.val ht 0 0 0 rfl _ _ _ _ _ _ (iblk_0 m c t) (fun j => (lbRow0_apply _ j).trans (iblk_12 m c t 0 j)) (iblk_1 m c t) (iblk_2 m c t)
      (fun e k => (st000_apply _ e k).trans (hs 0 0 0 e k)) r e).trans
      (outTarget_fwd _ _ _ 0 0 r e rfl (by show 0 + 1 * r.val = r.val; omega) (by show 0 + 1 * e.val = 128 * 0 + e.val; omega)).symm

theorem bwd_at (y : S2x128x512.Idx) : View.canon (bwdPieces m c t) y = outTarget (dataK m c) 1 (128 * t.val) y := by
  have ht := point_lt t
  refine View.canon_apply_of_pieces _ _ (View.PiecesOf.mem (Val := Elt Ideal) (G := outTarget (dataK m c) 1 (128 * t.val)) ?_) y (coverBwd _ _ _ _ _ _ _ _ y)
  unfold outsBwd
  refine ⟨?_, ?_, ?_, ?_, ?_, ?_, ?_, ?_, trivial⟩
  · intro x
    obtain ⟨r, e, rfl⟩ := idx3 x
    refine (outBwd_piece hD t.val ht 1 3 384 rfl _ _ _ _ _ _ (iblk_9 m c t) (fun j => (lbRow1_apply _ j).trans (iblk_12 m c t 1 j)) (iblk_10 m c t) (iblk_11 m c t)
      (fun e k => (st113_apply _ e k).trans (hs 1 1 3 e k)) r e).trans
      (outTarget_bwd _ _ _ 1 3 r e rfl (by show 0 + 1 * r.val = r.val; omega) (by show 384 + 1 * e.val = 128 * 3 + e.val; omega)).symm
  · intro x
    obtain ⟨r, e, rfl⟩ := idx3 x
    refine (outBwd_piece hD t.val ht 1 2 256 rfl _ _ _ _ _ _ (iblk_9 m c t) (fun j => (lbRow1_apply _ j).trans (iblk_12 m c t 1 j)) (iblk_10 m c t) (iblk_11 m c t)
      (fun e k => (st112_apply _ e k).trans (hs 1 1 2 e k)) r e).trans
      (outTarget_bwd _ _ _ 1 2 r e rfl (by show 0 + 1 * r.val = r.val; omega) (by show 256 + 1 * e.val = 128 * 2 + e.val; omega)).symm
  · intro x
    obtain ⟨r, e, rfl⟩ := idx3 x
    refine (outBwd_piece hD t.val ht 1 1 128 rfl _ _ _ _ _ _ (iblk_9 m c t) (fun j => (lbRow1_apply _ j).trans (iblk_12 m c t 1 j)) (iblk_10 m c t) (iblk_11 m c t)
      (fun e k => (st111_apply _ e k).trans (hs 1 1 1 e k)) r e).trans
      (outTarget_bwd _ _ _ 1 1 r e rfl (by show 0 + 1 * r.val = r.val; omega) (by show 128 + 1 * e.val = 128 * 1 + e.val; omega)).symm
  · intro x
    obtain ⟨r, e, rfl⟩ := idx3 x
    refine (outBwd_piece hD t.val ht 1 0 0 rfl _ _ _ _ _ _ (iblk_9 m c t) (fun j => (lbRow1_apply _ j).trans (iblk_12 m c t 1 j)) (iblk_10 m c t) (iblk_11 m c t)
      (fun e k => (st110_apply _ e k).trans (hs 1 1 0 e k)) r e).trans
      (outTarget_bwd _ _ _ 1 0 r e rfl (by show 0 + 1 * r.val = r.val; omega) (by show 0 + 1 * e.val = 128 * 0 + e.val; omega)).symm
  · intro x
    obtain ⟨r, e, rfl⟩ := idx3 x
    refine (outBwd_piece hD t.val ht 0 3 384 rfl _ _ _ _ _ _ (iblk_3 m c t) (fun j => (lbRow1_apply _ j).trans (iblk_12 m c t 1 j)) (iblk_4 m c t) (iblk_5 m c t)
      (fun e k => (st013_apply _ e k).trans (hs 0 1 3 e k)) r e).trans
      (outTarget_bwd _ _ _ 0 3 r e rfl (by show 0 + 1 * r.val = r.val; omega) (by show 384 + 1 * e.val = 128 * 3 + e.val; omega)).symm
  · intro x
    obtain ⟨r, e, rfl⟩ := idx3 x
    refine (outBwd_piece hD t.val ht 0 2 256 rfl _ _ _ _ _ _ (iblk_3 m c t) (fun j => (lbRow1_apply _ j).trans (iblk_12 m c t 1 j)) (iblk_4 m c t) (iblk_5 m c t)
      (fun e k => (st012_apply _ e k).trans (hs 0 1 2 e k)) r e).trans
      (outTarget_bwd _ _ _ 0 2 r e rfl (by show 0 + 1 * r.val = r.val; omega) (by show 256 + 1 * e.val = 128 * 2 + e.val; omega)).symm
  · intro x
    obtain ⟨r, e, rfl⟩ := idx3 x
    refine (outBwd_piece hD t.val ht 0 1 128 rfl _ _ _ _ _ _ (iblk_3 m c t) (fun j => (lbRow1_apply _ j).trans (iblk_12 m c t 1 j)) (iblk_4 m c t) (iblk_5 m c t)
      (fun e k => (st011_apply _ e k).trans (hs 0 1 1 e k)) r e).trans
      (outTarget_bwd _ _ _ 0 1 r e rfl (by show 0 + 1 * r.val = r.val; omega) (by show 128 + 1 * e.val = 128 * 1 + e.val; omega)).symm
  · intro x
    obtain ⟨r, e, rfl⟩ := idx3 x
    refine (outBwd_piece hD t.val ht 0 0 0 rfl _ _ _ _ _ _ (iblk_3 m c t) (fun j => (lbRow1_apply _ j).trans (iblk_12 m c t 1 j)) (iblk_4 m c t) (iblk_5 m c t)
      (fun e k => (st010_apply _ e k).trans (hs 0 1 0 e k)) r e).trans
      (outTarget_bwd _ _ _ 0 0 r e rfl (by show 0 + 1 * r.val = r.val; omega) (by show 0 + 1 * e.val = 128 * 0 + e.val; omega)).symm

theorem state_at (y : S2x2x4x128x128.Idx) : View.canon (statePieces m c t) y = stTarget (dataK m c) (128 * t.val + 128) y := by
  have ht := point_lt t
  refine View.canon_apply_of_pieces _ _ (View.PiecesOf.mem (Val := Elt Ideal) (G := stTarget (dataK m c) (128 * t.val + 128)) ?_) y (coverStates _ _ _ _ _ _ _ _ _ _ y)
  unfold states
  refine ⟨?_, ?_, ?_, ?_, ?_, ?_, ?_, ?_, ?_, ?_, ?_, ?_, ?_, ?_, ?_, ?_, trivial⟩
  · intro x
    obtain ⟨e, k, rfl⟩ := idx5 x
    refine (nextBwd_piece hD t.val ht 1 3 384 rfl _ _ _ _ _ _ (fun j => (lbRow1_apply _ j).trans (iblk_12 m c t 1 j)) (iblk_10 m c t) (iblk_11 m c t)
      (fun e k => (st113_apply _ e k).trans (hs 1 1 3 e k)) e k).trans
      (stTarget_eq _ _ _ 1 1 3 e k rfl rfl rfl (by show 0 + 1 * e.val = e.val; omega) (by show 0 + 1 * k.val = k.val; omega)).symm
  · intro x
    obtain ⟨e, k, rfl⟩ := idx5 x
    refine (nextBwd_piece hD t.val ht 1 2 256 rfl _ _ _ _ _ _ (fun j => (lbRow1_apply _ j).trans (iblk_12 m c t 1 j)) (iblk_10 m c t) (iblk_11 m c t)
      (fun e k => (st112_apply _ e k).trans (hs 1 1 2 e k)) e k).trans
      (stTarget_eq _ _ _ 1 1 2 e k rfl rfl rfl (by show 0 + 1 * e.val = e.val; omega) (by show 0 + 1 * k.val = k.val; omega)).symm
  · intro x
    obtain ⟨e, k, rfl⟩ := idx5 x
    refine (nextBwd_piece hD t.val ht 1 1 128 rfl _ _ _ _ _ _ (fun j => (lbRow1_apply _ j).trans (iblk_12 m c t 1 j)) (iblk_10 m c t) (iblk_11 m c t)
      (fun e k => (st111_apply _ e k).trans (hs 1 1 1 e k)) e k).trans
      (stTarget_eq _ _ _ 1 1 1 e k rfl rfl rfl (by show 0 + 1 * e.val = e.val; omega) (by show 0 + 1 * k.val = k.val; omega)).symm
  · intro x
    obtain ⟨e, k, rfl⟩ := idx5 x
    refine (nextBwd_piece hD t.val ht 1 0 0 rfl _ _ _ _ _ _ (fun j => (lbRow1_apply _ j).trans (iblk_12 m c t 1 j)) (iblk_10 m c t) (iblk_11 m c t)
      (fun e k => (st110_apply _ e k).trans (hs 1 1 0 e k)) e k).trans
      (stTarget_eq _ _ _ 1 1 0 e k rfl rfl rfl (by show 0 + 1 * e.val = e.val; omega) (by show 0 + 1 * k.val = k.val; omega)).symm
  · intro x
    obtain ⟨e, k, rfl⟩ := idx5 x
    refine (nextFwd_piece hD t.val ht 1 3 384 rfl _ _ _ _ _ _ (fun j => (lbRow0_apply _ j).trans (iblk_12 m c t 0 j)) (iblk_7 m c t) (iblk_8 m c t)
      (fun e k => (st103_apply _ e k).trans (hs 1 0 3 e k)) e k).trans
      (stTarget_eq _ _ _ 1 0 3 e k rfl rfl rfl (by show 0 + 1 * e.val = e.val; omega) (by show 0 + 1 * k.val = k.val; omega)).symm
  · intro x
    obtain ⟨e, k, rfl⟩ := idx5 x
    refine (nextFwd_piece hD t.val ht 1 2 256 rfl _ _ _ _ _ _ (fun j => (lbRow0_apply _ j).trans (iblk_12 m c t 0 j)) (iblk_7 m c t) (iblk_8 m c t)
      (fun e k => (st102_apply _ e k).trans (hs 1 0 2 e k)) e k).trans
      (stTarget_eq _ _ _ 1 0 2 e k rfl rfl rfl (by show 0 + 1 * e.val = e.val; omega) (by show 0 + 1 * k.val = k.val; omega)).symm
  · intro x
    obtain ⟨e, k, rfl⟩ := idx5 x
    refine (nextFwd_piece hD t.val ht 1 1 128 rfl _ _ _ _ _ _ (fun j => (lbRow0_apply _ j).trans (iblk_12 m c t 0 j)) (iblk_7 m c t) (iblk_8 m c t)
      (fun e k => (st101_apply _ e k).trans (hs 1 0 1 e k)) e k).trans
      (stTarget_eq _ _ _ 1 0 1 e k rfl rfl rfl (by show 0 + 1 * e.val = e.val; omega) (by show 0 + 1 * k.val = k.val; omega)).symm
  · intro x
    obtain ⟨e, k, rfl⟩ := idx5 x
    refine (nextFwd_piece hD t.val ht 1 0 0 rfl _ _ _ _ _ _ (fun j => (lbRow0_apply _ j).trans (iblk_12 m c t 0 j)) (iblk_7 m c t) (iblk_8 m c t)
      (fun e k => (st100_apply _ e k).trans (hs 1 0 0 e k)) e k).trans
      (stTarget_eq _ _ _ 1 0 0 e k rfl rfl rfl (by show 0 + 1 * e.val = e.val; omega) (by show 0 + 1 * k.val = k.val; omega)).symm
  · intro x
    obtain ⟨e, k, rfl⟩ := idx5 x
    refine (nextBwd_piece hD t.val ht 0 3 384 rfl _ _ _ _ _ _ (fun j => (lbRow1_apply _ j).trans (iblk_12 m c t 1 j)) (iblk_4 m c t) (iblk_5 m c t)
      (fun e k => (st013_apply _ e k).trans (hs 0 1 3 e k)) e k).trans
      (stTarget_eq _ _ _ 0 1 3 e k rfl rfl rfl (by show 0 + 1 * e.val = e.val; omega) (by show 0 + 1 * k.val = k.val; omega)).symm
  · intro x
    obtain ⟨e, k, rfl⟩ := idx5 x
    refine (nextBwd_piece hD t.val ht 0 2 256 rfl _ _ _ _ _ _ (fun j => (lbRow1_apply _ j).trans (iblk_12 m c t 1 j)) (iblk_4 m c t) (iblk_5 m c t)
      (fun e k => (st012_apply _ e k).trans (hs 0 1 2 e k)) e k).trans
      (stTarget_eq _ _ _ 0 1 2 e k rfl rfl rfl (by show 0 + 1 * e.val = e.val; omega) (by show 0 + 1 * k.val = k.val; omega)).symm
  · intro x
    obtain ⟨e, k, rfl⟩ := idx5 x
    refine (nextBwd_piece hD t.val ht 0 1 128 rfl _ _ _ _ _ _ (fun j => (lbRow1_apply _ j).trans (iblk_12 m c t 1 j)) (iblk_4 m c t) (iblk_5 m c t)
      (fun e k => (st011_apply _ e k).trans (hs 0 1 1 e k)) e k).trans
      (stTarget_eq _ _ _ 0 1 1 e k rfl rfl rfl (by show 0 + 1 * e.val = e.val; omega) (by show 0 + 1 * k.val = k.val; omega)).symm
  · intro x
    obtain ⟨e, k, rfl⟩ := idx5 x
    refine (nextBwd_piece hD t.val ht 0 0 0 rfl _ _ _ _ _ _ (fun j => (lbRow1_apply _ j).trans (iblk_12 m c t 1 j)) (iblk_4 m c t) (iblk_5 m c t)
      (fun e k => (st010_apply _ e k).trans (hs 0 1 0 e k)) e k).trans
      (stTarget_eq _ _ _ 0 1 0 e k rfl rfl rfl (by show 0 + 1 * e.val = e.val; omega) (by show 0 + 1 * k.val = k.val; omega)).symm
  · intro x
    obtain ⟨e, k, rfl⟩ := idx5 x
    refine (nextFwd_piece hD t.val ht 0 3 384 rfl _ _ _ _ _ _ (fun j => (lbRow0_apply _ j).trans (iblk_12 m c t 0 j)) (iblk_1 m c t) (iblk_2 m c t)
      (fun e k => (st003_apply _ e k).trans (hs 0 0 3 e k)) e k).trans
      (stTarget_eq _ _ _ 0 0 3 e k rfl rfl rfl (by show 0 + 1 * e.val = e.val; omega) (by show 0 + 1 * k.val = k.val; omega)).symm
  · intro x
    obtain ⟨e, k, rfl⟩ := idx5 x
    refine (nextFwd_piece hD t.val ht 0 2 256 rfl _ _ _ _ _ _ (fun j => (lbRow0_apply _ j).trans (iblk_12 m c t 0 j)) (iblk_1 m c t) (iblk_2 m c t)
      (fun e k => (st002_apply _ e k).trans (hs 0 0 2 e k)) e k).trans
      (stTarget_eq _ _ _ 0 0 2 e k rfl rfl rfl (by show 0 + 1 * e.val = e.val; omega) (by show 0 + 1 * k.val = k.val; omega)).symm
  · intro x
    obtain ⟨e, k, rfl⟩ := idx5 x
    refine (nextFwd_piece hD t.val ht 0 1 128 rfl _ _ _ _ _ _ (fun j => (lbRow0_apply _ j).trans (iblk_12 m c t 0 j)) (iblk_1 m c t) (iblk_2 m c t)
      (fun e k => (st001_apply _ e k).trans (hs 0 0 1 e k)) e k).trans
      (stTarget_eq _ _ _ 0 0 1 e k rfl rfl rfl (by show 0 + 1 * e.val = e.val; omega) (by show 0 + 1 * k.val = k.val; omega)).symm
  · intro x
    obtain ⟨e, k, rfl⟩ := idx5 x
    refine (nextFwd_piece hD t.val ht 0 0 0 rfl _ _ _ _ _ _ (fun j => (lbRow0_apply _ j).trans (iblk_12 m c t 0 j)) (iblk_1 m c t) (iblk_2 m c t)
      (fun e k => (st000_apply _ e k).trans (hs 0 0 0 e k)) e k).trans
      (stTarget_eq _ _ _ 0 0 0 e k rfl rfl rfl (by show 0 + 1 * e.val = e.val; omega) (by show 0 + 1 * k.val = k.val; omega)).symm

end Hgrn.Ker
-- ==== Proof.Arrays.lean ====
module

public import proofs.«01_k».proof.Proof.Sweep
public import Idealize.ShloMosaic.Lib.Pipeline.ValueKit

/-! The scan kernel's three result arrays over the streams. -/

@[expose] public section

noncomputable section

namespace Hgrn

/-- The outputs of a direction, at a result's index. -/
def outArr (D : Data) (d : Fin 2) (b : Fin 2) (p : Fin 16384) (j : Fin 512) : EReal :=
  (D.Out b d ⟨j.val / 128, by omega⟩ (if d = 0 then p.val else 16383 - p.val) ⟨j.val % 128, by omega⟩ : EReal)

/-- The states at the end, value channels before key channels. -/
def stArr (D : Data) (b d : Fin 2) (h : Fin 4) (e k : Fin 128) : EReal := (D.St b d h 16384 k e : EReal)

namespace Ker

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD) (hD : (dataK m c).Tame)

include hD

theorem before_eq : ∀ (n : ℕ) (hn : n < cfg0.N) (b d : Fin 2) (h : Fin 4) (e k : Fin 128),
    before m c ⟨n, hn⟩ (ix5 b d h e k) = ((dataK m c).St b d h (128 * n) k e : EReal)
  | 0, hn, b, d, h, e, k => by
    unfold before
    rw [if_pos (by rfl)]
    exact (iblk_13 m c ⟨0, hn⟩ b d h e k).trans (Data.St_zero (D := dataK m c) b d h hD k e)
  | n + 1, hn, b, d, h, e, k => by
    have hN : n + 1 < 128 := point_lt ⟨n + 1, hn⟩
    have hn' : n < cfg0.N := Nat.lt_of_succ_lt hn
    unfold before
    rw [if_neg (show ¬(n + 1) % 128 = 0 by omega)]
    have h1 := congrFun (at_state m c ⟨n, hn'⟩) (ix5 b d h e k)
    exact (h1.trans (state_at m c hD ⟨n, hn'⟩ (before_eq n hn') (ix5 b d h e k)))

omit hD in
theorem outArr_of (D : Data) (d : Fin 2) (t : ℕ) (ht : t < 128) (y : S2x128x512.Idx) (b : Fin 2) (p : Fin 16384) (j : Fin 512)
    (hb : b.val = (y 0).val) (hp : p.val = 128 * (if d = 0 then t else 127 - t) + (y 1).val) (hj : j.val = (y 2).val) :
    outTarget D d (128 * t) y = outArr D d b p j := by
  have h1 : (y 1).val < 128 := (y 1).isLt
  unfold outTarget outArr
  rw [show (y 0 : Fin 2) = b from Fin.ext hb.symm]
  by_cases hd : d = 0
  · rw [if_pos hd] at hp
    rw [if_pos hd, if_pos hd, hp]
    simp only [hj]
  · rw [if_neg hd] at hp
    rw [if_neg hd, if_neg hd, hp, show 16383 - (128 * (127 - t) + (y 1).val) = 128 * t + (127 - (y 1).val) by omega]
    simp only [hj]

omit hD in
theorem idx_14 : ∀ t : Fin cfg0.N, win0_14.index t = ![0, t.val, 0] :=
  (by decide +kernel : ∀ t : Fin grid0.N, win0_14.index t = ![0, t.val, 0])
omit hD in
theorem idx_15 : ∀ t : Fin cfg0.N, win0_15.index t = ![0, 127 - t.val, 0] :=
  (by decide +kernel : ∀ t : Fin grid0.N, win0_15.index t = ![0, 127 - t.val, 0])
omit hD in
theorem idx_16 : ∀ t : Fin cfg0.N, win0_16.index t = ![0, 0, 0, 0, 0] :=
  (by decide +kernel : ∀ t : Fin grid0.N, win0_16.index t = ![0, 0, 0, 0, 0])

theorem arr14 : (dats m 0 c).arrAt 14 cfg0.N = fun y : S2x16384x512.Idx => outArr (dataK m c) 0 (y 0) (y 1) (y 2) := by
  refine (dats m 0 c).arrAt_eq_of_covers 14 _ (by decide +kernel) fun t hf y => ?_
  blk_simp
  rw [after0_14, at_fwd]
  refine (fwd_at m c hD t (before_eq m c hD t.val t.isLt) y).trans (outArr_of _ _ t.val (point_lt t) y _ _ _ ?_ ?_ ?_)
  · show win0_14.index t 0 * 2 + 1 * (y 0).val = (y 0).val
    rw [idx_14 t]
    show 0 * 2 + 1 * (y 0).val = (y 0).val
    omega
  · show win0_14.index t 1 * 128 + 1 * (y 1).val = 128 * t.val + (y 1).val
    rw [idx_14 t]
    show t.val * 128 + 1 * (y 1).val = 128 * t.val + (y 1).val
    omega
  · show win0_14.index t 2 * 512 + 1 * (y 2).val = (y 2).val
    rw [idx_14 t]
    show 0 * 512 + 1 * (y 2).val = (y 2).val
    omega

theorem arr15 : (dats m 0 c).arrAt 15 cfg0.N = fun y : S2x16384x512.Idx => outArr (dataK m c) 1 (y 0) (y 1) (y 2) := by
  refine (dats m 0 c).arrAt_eq_of_covers 15 _ (by decide +kernel) fun t hf y => ?_
  blk_simp
  rw [after0_15, at_bwd]
  refine (bwd_at m c hD t (before_eq m c hD t.val t.isLt) y).trans (outArr_of _ _ t.val (point_lt t) y _ _ _ ?_ ?_ ?_)
  · show win0_15.index t 0 * 2 + 1 * (y 0).val = (y 0).val
    rw [idx_15 t]
    show 0 * 2 + 1 * (y 0).val = (y 0).val
    omega
  · show win0_15.index t 1 * 128 + 1 * (y 1).val = 128 * (127 - t.val) + (y 1).val
    rw [idx_15 t]
    show (127 - t.val) * 128 + 1 * (y 1).val = 128 * (127 - t.val) + (y 1).val
    omega
  · show win0_15.index t 2 * 512 + 1 * (y 2).val = (y 2).val
    rw [idx_15 t]
    show 0 * 512 + 1 * (y 2).val = (y 2).val
    omega

theorem arr16 : (dats m 0 c).arrAt 16 cfg0.N = fun y : S2x2x4x128x128.Idx => stArr (dataK m c) (y 0) (y 1) (y 2) (y 3) (y 4) := by
  refine (dats m 0 c).arrAt_eq_of_covers 16 _ (by decide +kernel) fun t hf y => ?_
  have h1 : t.val % 128 = 127 := (flush0_16 t).mp hf
  have ht : t.val < 128 := point_lt t
  blk_simp
  rw [after0_16, at_last m c t h1]
  refine (state_at m c hD t (before_eq m c hD t.val t.isLt) y).trans ?_
  rw [show 128 * t.val + 128 = 16384 by omega]
  unfold stArr
  refine stTarget_eq _ _ _ _ _ _ _ _ ?_ ?_ ?_ ?_ ?_
  · show (y 0).val = win0_16.index t 0 * 2 + 1 * (y 0).val
    rw [idx_16 t]
    show (y 0).val = 0 * 2 + 1 * (y 0).val
    omega
  · show (y 1).val = win0_16.index t 1 * 2 + 1 * (y 1).val
    rw [idx_16 t]
    show (y 1).val = 0 * 2 + 1 * (y 1).val
    omega
  · show (y 2).val = win0_16.index t 2 * 4 + 1 * (y 2).val
    rw [idx_16 t]
    show (y 2).val = 0 * 4 + 1 * (y 2).val
    omega
  · show (y 3).val = win0_16.index t 3 * 128 + 1 * (y 3).val
    rw [idx_16 t]
    show (y 3).val = 0 * 128 + 1 * (y 3).val
    omega
  · show (y 4).val = win0_16.index t 4 * 128 + 1 * (y 4).val
    rw [idx_16 t]
    show (y 4).val = 0 * 128 + 1 * (y 4).val
    omega

end Ker

end Hgrn
-- ==== Proof.RefRun.lean ====
module

public import proofs.«01_k».proof.Proof.Gen.ReferenceIdeal.Run
public import proofs.«01_k».proof.Proof.Gen.ReferenceIdeal.Step

/-! The reference's loop as a sequence of states: what a valuation holds after `k` trips. -/

@[expose] public section

set_option maxRecDepth 8192

noncomputable section

namespace Hgrn.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the loop's buffers are the fields of `s`, its constants and its counter what they are. -/
structure At (V : Valuation τ sig (Elt F)) (s : State F) (j : ℕ) : Prop where
  q : V (Proc.devRef .tc main_v100_0) = s.main_v100_0
  k : V (Proc.devRef .tc main_v100_1) = s.main_v100_1
  v : V (Proc.devRef .tc main_v100_2) = s.main_v100_2
  g : V (Proc.devRef .tc main_v100_3) = s.main_v100_3
  tri : V (Proc.devRef .tc main_v100_4) = Cert.ReferenceIdeal.Step.K_main_v89 (F := F)
  ones : V (Proc.devRef .tc main_v100_5) = Cert.ReferenceIdeal.Step.K_main_v90 (F := F)
  count : V (Proc.devRef .tc main_v100_6) = constantI S_ 32 (BitVec.ofNat 32 j)
  acc : V (Proc.devRef .tc main_v100_7) = s.main_v100_7
  outs : V (Proc.devRef .tc main_v100_8) = s.main_v100_8

variable {V : Valuation τ sig (Elt F)} {s : State F} {j : ℕ}

theorem acc_step (h : At V s j) : step_main_v100_7 V = (step j s).main_v100_7 := by
  unfold step_main_v100_7
  simp only [res_main_while0b_v116, res_main_while0b_v117, res_main_while0b_v118, res_main_while0b_v120, res_main_while0b_v143,
    h.q, h.k, h.v, h.g, h.tri, h.ones, h.count, h.acc]
  rfl

theorem outs_step (h : At V s j) : step_main_v100_8 V = (step j s).main_v100_8 := by
  unfold step_main_v100_8
  simp only [res_main_while0b_v116, res_main_while0b_v117, res_main_while0b_v118, res_main_while0b_v120, res_main_while0b_v143,
    h.q, h.k, h.v, h.g, h.tri, h.ones, h.count, h.acc, h.outs]
  rfl

theorem count_step (h : At V s j) : step_main_v100_6 V = constantI S_ 32 (BitVec.ofNat 32 (j + 1)) := by
  unfold step_main_v100_6
  rw [h.count]
  funext i
  exact (BitVec.ofNat_add j 1).symm

/-- One trip takes one state to the next. -/
theorem At.next (h : At V s j) : At (STEP V) (step j s) (j + 1) where
  q := (STEP_main_v100_0 V).trans h.q
  k := (STEP_main_v100_1 V).trans h.k
  v := (STEP_main_v100_2 V).trans h.v
  g := (STEP_main_v100_3 V).trans h.g
  tri := (STEP_main_v100_4 V).trans h.tri
  ones := (STEP_main_v100_5 V).trans h.ones
  count := (STEP_main_v100_6 V).trans (count_step h)
  acc := (STEP_main_v100_7 V).trans (acc_step h)
  outs := (STEP_main_v100_8 V).trans (outs_step h)

variable (m : (ℓ : Loc nD τ sig) → Buf (Elt F) ℓ)

/-- The states of the loop, from the memory the run starts in. -/
def states (c : Dev nD) : ℕ → State F
  | 0 => init (m ((c.tc : Thread nD τ).loc main_arg0)) (m ((c.tc : Thread nD τ).loc main_arg2)) (m ((c.tc : Thread nD τ).loc main_arg3))
  | n + 1 => step n (states c n)

set_option maxRecDepth 65536 in
set_option maxHeartbeats 600000 in
theorem at_entry (c : Dev nD) : At (entryContents preI m c) (states m c 0) 0 := by
  constructor <;> (simp only [entryContents, afterL_cons, afterL_nil]; after_reads_simp) <;> rfl

theorem at_trip (c : Dev nD) (k : ℕ) : At (STEP^[k] (entryContents preI m c)) (states m c k) k := by
  induction k with
  | zero => exact at_entry m c
  | succ k ih => rw [Function.iterate_succ_apply']; exact ih.next

theorem read_fwd (h : At V s j) : out_main_v106 V = Cert.ReferenceIdeal.Step.R_main_v106 s := by
  unfold out_main_v106
  rw [h.outs]
  rfl

theorem read_bwd (h : At V s j) : out_main_v110 V = Cert.ReferenceIdeal.Step.R_main_v110 s := by
  unfold out_main_v110
  rw [h.outs]
  rfl

theorem read_fin (h : At V s j) : out_main_v115 V = Cert.ReferenceIdeal.Step.R_main_v115 s := by
  unfold out_main_v115
  rw [h.acc]
  rfl

/-- Every run of the reference ends with its results read off state 256, its arguments as they were. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v106) = Cert.ReferenceIdeal.Step.R_main_v106 (states m c 256)
      ∧ r.2.mem ((c.tc : Thread nD τ).loc main_v110) = Cert.ReferenceIdeal.Step.R_main_v110 (states m c 256)
      ∧ r.2.mem ((c.tc : Thread nD τ).loc main_v115) = Cert.ReferenceIdeal.Step.R_main_v115 (states m c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (read_fwd (at_trip m c 256)), (h c).2.1.trans (read_bwd (at_trip m c 256)),
      (h c).2.2.1.trans (read_fin (at_trip m c 256)), (h c).2.2.2⟩) (Value.run m ρ)

end Hgrn.Ref
-- ==== Proof.RefStep.lean ====
module

public import proofs.«01_k».proof.Proof.RefRun
public import proofs.«01_k».proof.Proof.Streams
public import Idealize.ShloMosaic.Lib.Pointwise
public import Idealize.ShloMosaic.Lib.WordCmp
public import Idealize.ShloMosaic.Lib.DynamicIndex

/-! One trip of the reference's loop, read over the reals: from blocks and a state that are real, the trip writes the outputs of
    64 times of the recurrence of Rec.lean and the state 64 steps later. -/

@[expose] public section

noncomputable section

namespace Hgrn.Ref

open Idealize.ShloMosaic Idealize.ShloMosaic.TcCoe Idealize.SL.Sem
open Cert.ReferenceIdeal Cert.ReferenceIdeal.Gen Cert.ReferenceIdeal.Step
open Hgrn.Ker (coe_sum)

variable (s : State Ideal) (j : ℕ)

/-- The starts of a trip's block: its number, then zeros. -/
theorem trip_start (hj : j < 256) (z1 z2 z3 z4 : (⟨S_, .i32⟩ : BufTy).Contents (Elt Ideal)) (h1 : z1 = constantI S_ 32 0#32)
    (h2 : z2 = constantI S_ 32 0#32) (h3 : z3 = constantI S_ 32 0#32) (h4 : z4 = constantI S_ 32 0#32) (a : Fin S256x4x4x64x128.rank) :
    ((![(constantI S_ 32 (BitVec.ofNat 32 j) : (⟨S_, .i32⟩ : BufTy).Contents (Elt Ideal)), z1, z2, z3, z4] :
      Fin 5 → (⟨S_, .i32⟩ : BufTy).Contents (Elt Ideal)) a (Shape.Idx.first h_S_)).toInt = ((![j, 0, 0, 0, 0] : Fin 5 → ℕ) a : Int) := by
  subst h1 h2 h3 h4
  match a with
  | ⟨0, _⟩ => exact toInt_ofNat_of_lt (by omega)
  | ⟨1, _⟩ => rfl
  | ⟨2, _⟩ => rfl
  | ⟨3, _⟩ => rfl
  | ⟨4, _⟩ => rfl

theorem trip_fits (hj : j < 256) : S256x4x4x64x128.Slices (![j, 0, 0, 0, 0] : Fin 5 → ℕ) S1x4x4x64x128 := by
  refine ⟨rfl, fun a => ?_⟩
  match a with
  | ⟨0, _⟩ => show j + 1 ≤ 256; omega
  | ⟨1, _⟩ => show 0 + 4 ≤ 4; omega
  | ⟨2, _⟩ => show 0 + 4 ≤ 4; omega
  | ⟨3, _⟩ => show 0 + 64 ≤ 64; omega
  | ⟨4, _⟩ => show 0 + 128 ≤ 128; omega

variable (hj : j < 256) (B h : Fin 4)

theorem block_apply (x : S256x4x4x64x128.Idx → EReal) (t : Fin 64) (c : Fin 128) :
    shapeCast S4x4x64x128 (extractStridedSlice S1x4x4x64x128 (![j, 0, 0, 0, 0] : Fin 5 → ℕ) x (trip_fits j hj))
      shapeCasts_S1x4x4x64x128_S4x4x64x128 (ix4 B h t c) = x (ix5 ⟨j, hj⟩ B h t c) := by
  refine (shapeCast_apply _ _ _ (ix5 0 B h t c) ?_).trans ?_
  · exact (Shape.rowMajor_val_five (d := ![1, 4, 4, 64, 128]) (ix5 0 B h t c)).trans
      (Eq.trans (by show ((((0 * 4 + B.val) * 4 + h.val) * 64 + t.val) * 128 + c.val) = (((B.val) * 4 + h.val) * 64 + t.val) * 128 + c.val; omega)
        (Shape.rowMajor_val_four (d := ![4, 4, 64, 128]) (ix4 B h t c)).symm)
  · refine congrArg x (funext fun a => Fin.ext ?_)
    match a with
    | ⟨0, _⟩ => exact Nat.add_zero j
    | ⟨1, _⟩ => exact Nat.zero_add _
    | ⟨2, _⟩ => exact Nat.zero_add _
    | ⟨3, _⟩ => exact Nat.zero_add _
    | ⟨4, _⟩ => exact Nat.zero_add _

section
include hj

theorem b5_apply (t : Fin 64) (c : Fin 128) : b5 j s (ix4 B h t c) = s.main_v100_0 (ix5 ⟨j, hj⟩ B h t c) := by
  unfold b5 b4
  rw [WordCmp.dynamicSlice_eq_extract _ _ _ _ _ (trip_fits j hj) (trip_start j hj (b0 j s) (b1 j s) (b2 j s) (b3 j s) rfl rfl rfl rfl)]
  exact block_apply j hj B h _ t c

theorem b11_apply (t : Fin 64) (c : Fin 128) : b11 j s (ix4 B h t c) = s.main_v100_1 (ix5 ⟨j, hj⟩ B h t c) := by
  unfold b11 b10
  rw [WordCmp.dynamicSlice_eq_extract _ _ _ _ _ (trip_fits j hj) (trip_start j hj (b6 j s) (b7 j s) (b8 j s) (b9 j s) rfl rfl rfl rfl)]
  exact block_apply j hj B h _ t c

theorem b17_apply (t : Fin 64) (c : Fin 128) : b17 j s (ix4 B h t c) = s.main_v100_2 (ix5 ⟨j, hj⟩ B h t c) := by
  unfold b17 b16
  rw [WordCmp.dynamicSlice_eq_extract _ _ _ _ _ (trip_fits j hj) (trip_start j hj (b12 j s) (b13 j s) (b14 j s) (b15 j s) rfl rfl rfl rfl)]
  exact block_apply j hj B h _ t c

theorem b23_apply (t : Fin 64) (c : Fin 128) : b23 j s (ix4 B h t c) = s.main_v100_3 (ix5 ⟨j, hj⟩ B h t c) := by
  unfold b23 b22
  rw [WordCmp.dynamicSlice_eq_extract _ _ _ _ _ (trip_fits j hj) (trip_start j hj (b18 j s) (b19 j s) (b20 j s) (b21 j s) rfl rfl rfl rfl)]
  exact block_apply j hj B h _ t c

end

theorem foldl_add {ι : Type} (l : List ι) (f : ι → EReal) (x : EReal) : l.foldl (fun r n => r + f n) x = x + (l.map f).sum := by
  induction l generalizing x with
  | nil => simp
  | cons a l ih => rw [List.foldl_cons, ih, List.map_cons, List.sum_cons, add_assoc]

/-- The places of a window of 64 times. -/
abbrev Win : Shape := ⟨4, ![1, 1, 64, 1]⟩

theorem win_place (n : Fin Win.numel) : (Win.rowMajor.symm n 2).val = n.val := by
  have h1 := Shape.rowMajor_val_four (d := ![1, 1, 64, 1]) (Win.rowMajor.symm n)
  rw [Equiv.apply_symm_apply] at h1
  have h2 : ((Win.rowMajor.symm n) 0).val < 1 := ((Win.rowMajor.symm n) 0).isLt
  have h3 : ((Win.rowMajor.symm n) 1).val < 1 := ((Win.rowMajor.symm n) 1).isLt
  have h4 : ((Win.rowMajor.symm n) 3).val < 1 := ((Win.rowMajor.symm n) 3).isLt
  have h5 : n.val = (((Win.rowMajor.symm n 0).val * 1 + (Win.rowMajor.symm n 1).val) * 64 + (Win.rowMajor.symm n 2).val) * 1
    + (Win.rowMajor.symm n 3).val := h1
  omega

/-- A running sum over 64 times, at time `t`. -/
theorem running (x : S4x4x64x128.Idx → EReal) (t : Fin 64) (c : Fin 128) :
    Ideal.hostReduceWindowAdd ![1, 1, 64, 1] ![1, 1, 1, 1] ![0, 0, 63, 0] ![0, 0, 0, 0]
      reduceWindows_S4x4x64x128_S4x4x64x128_w1s1p0_0_w1s1p0_0_w64s1p63_0_w1s1p0_0 x 0 (ix4 B h t c)
      = ∑ u : Fin 64, if u.val ≤ t.val then x (ix4 B h u c) else 0 := by
  unfold Ideal.hostReduceWindowAdd Host.reduceWindow
  refine (foldl_add (List.finRange Win.numel) _ _).trans ?_
  rw [zero_add, ← List.ofFn_eq_map, List.sum_ofFn]
  have hN : Win.numel = 64 := by decide
  refine Fintype.sum_equiv ((finCongr hN).trans (Equiv.addRight (t + 1))) _ _ fun n => ?_
  have hn : n.val < 64 := lt_of_lt_of_eq n.isLt hN
  have e : (((finCongr hN).trans (Equiv.addRight (t + 1))) n).val = (n.val + (t.val + 1)) % 64 := by
    show ((finCongr hN n) + (t + 1) : Fin 64).val = _
    rw [Fin.val_add, Fin.val_add]
    show (n.val + (t.val + 1) % 64) % 64 = _
    omega
  have p0 : (Win.rowMajor.symm n 0).val = 0 := by
    have : (Win.rowMajor.symm n 0).val < 1 := (Win.rowMajor.symm n 0).isLt
    omega
  have p1 : (Win.rowMajor.symm n 1).val = 0 := by
    have : (Win.rowMajor.symm n 1).val < 1 := (Win.rowMajor.symm n 1).isLt
    omega
  have p3 : (Win.rowMajor.symm n 3).val = 0 := by
    have : (Win.rowMajor.symm n 3).val < 1 := (Win.rowMajor.symm n 3).isLt
    omega
  have p2 := win_place n
  by_cases hc : 63 ≤ t.val + n.val
  · rw [if_pos (by rw [e]; omega), dif_pos]
    · refine congrArg x (funext fun a => Fin.ext ?_)
      match a with
      | ⟨0, _⟩ => show B.val * 1 + (Win.rowMajor.symm n 0).val - 0 = B.val; omega
      | ⟨1, _⟩ => show h.val * 1 + (Win.rowMajor.symm n 1).val - 0 = h.val; omega
      | ⟨2, _⟩ =>
        show t.val * 1 + (Win.rowMajor.symm n 2).val - 63 = (((finCongr hN).trans (Equiv.addRight (t + 1))) n).val
        rw [e]; omega
      | ⟨3, _⟩ => show c.val * 1 + (Win.rowMajor.symm n 3).val - 0 = c.val; omega
    · intro a
      match a with
      | ⟨0, _⟩ => show 0 ≤ B.val * 1 + (Win.rowMajor.symm n 0).val ∧ B.val * 1 + (Win.rowMajor.symm n 0).val - 0 < 4; omega
      | ⟨1, _⟩ => show 0 ≤ h.val * 1 + (Win.rowMajor.symm n 1).val ∧ h.val * 1 + (Win.rowMajor.symm n 1).val - 0 < 4; omega
      | ⟨2, _⟩ => show 63 ≤ t.val * 1 + (Win.rowMajor.symm n 2).val ∧ t.val * 1 + (Win.rowMajor.symm n 2).val - 63 < 64; omega
      | ⟨3, _⟩ => show 0 ≤ c.val * 1 + (Win.rowMajor.symm n 3).val ∧ c.val * 1 + (Win.rowMajor.symm n 3).val - 0 < 128; omega
  · rw [if_neg (by rw [e]; omega), dif_neg]
    intro ha
    have h2 : 63 ≤ t.val * 1 + (Win.rowMajor.symm n 2).val := (ha 2).1
    omega

theorem tri_apply (t u : Fin 64) : K_main_v89 (F := Ideal) (ix3 t u 0) = if u.val ≤ t.val then 1#1 else 0#1 := by
  have hc : K_main_call4_v4 (F := Ideal) (ix2 t u) = if u.val ≤ t.val then 1#1 else 0#1 := by
    pointwise [K_main_call4_v4, K_main_call4_v3, K_main_call4_v2, K_main_call4_v1, K_main_call4_v0, K_main_call4_c]
    rw [show IntOp.addi (BitVec.ofNat 32 t.val) 0#32 = BitVec.ofNat 32 t.val from BitVec.add_zero _]
    by_cases hu : u.val ≤ t.val
    · rw [if_pos hu]
      exact (WordCmp.cmpi_sge_ofNat_eq_one_iff (by omega) (by omega)).mpr hu
    · rw [if_neg hu]
      refine (BitVec.eq_zero_or_eq_one _).resolve_right fun h1 => hu ?_
      exact (WordCmp.cmpi_sge_ofNat_eq_one_iff (by omega) (by omega)).mp h1
  pointwise [K_main_v89, K_main_v88, K_main_v87, K_main_c, K_main_call4_v5, K_main_call4_c_0]
  rw [hc]
  by_cases hu : u.val ≤ t.val
  · rw [if_pos hu]
    rfl
  · rw [if_neg hu]
    rfl

/-- The trip's blocks, over the reals. -/
structure Blk (g k q v : ℕ → Fin 128 → ℝ) : Prop where
  q : ∀ t c, s.main_v100_0 (ix5 ⟨j, hj⟩ B h t c) = (q (64 * j + t.val) c : EReal)
  k : ∀ t c, s.main_v100_1 (ix5 ⟨j, hj⟩ B h t c) = (k (64 * j + t.val) c : EReal)
  v : ∀ t c, s.main_v100_2 (ix5 ⟨j, hj⟩ B h t c) = (v (64 * j + t.val) c : EReal)
  g : ∀ t c, s.main_v100_3 (ix5 ⟨j, hj⟩ B h t c) = (g (64 * j + t.val) c : EReal)

variable {s j hj B h} {g k q v : ℕ → Fin 128 → ℝ} {s0 : Fin 128 → Fin 128 → ℝ}

theorem sums_apply (H : Blk s j hj B h g k q v) (t : Fin 64) (c : Fin 128) :
    b26 j s (ix4 B h t c) = (pre g (64 * j) (t.val + 1) c : EReal) := by
  have e0 : b25 j s (Shape.Idx.first h_S_) = (0 : EReal) := by
    pointwise [b25, b24]
  unfold b26 Host.reduceWindowAdd
  rw [Ideal.hostReduceWindowAdd_def, e0]
  refine (running B h _ t c).trans ?_
  rw [pre_fin, coe_sum]
  refine Finset.sum_congr rfl fun u _ => ?_
  rw [b23_apply s j hj, H.g]
  by_cases hu : u.val ≤ t.val
  · rw [if_pos hu, if_pos hu]
  · rw [if_neg hu, if_neg hu, EReal.coe_zero]

theorem pair_apply (H : Blk s j hj B h g k q v) (t u : Fin 64) (c : Fin 128) : b46 j s (ix5 B h t u c)
    = ((if u.val ≤ t.val then q (64 * j + t.val) c * k (64 * j + u.val) c
        * Real.exp (pre g (64 * j) (t.val + 1) c - pre g (64 * j) (u.val + 1) c) else 0 : ℝ) : EReal) := by
  pointwise [b46, b45, b44, b43, b42, b41, b40, b39, b38, b37, b36, b35, b34, b33, b32, b31, b30, b29, b28, b27, K_main_v90]
  rw [b5_apply s j hj, b11_apply s j hj, H.q, H.k, sums_apply H, sums_apply H, tri_apply]
  by_cases hu : u.val ≤ t.val
  · rw [if_pos hu, if_pos hu]
    show _ * (Ideal.exp ((pre g (64 * j) (t.val + 1) c : EReal) - (pre g (64 * j) (u.val + 1) c : EReal)) * (((1 : ℕ) : ℝ) : EReal)) = _
    rw [← EReal.coe_sub, Ideal.exp_coe, ← EReal.coe_mul, ← EReal.coe_mul, ← EReal.coe_mul, Nat.cast_one, mul_one]
  · rw [if_neg hu, if_neg hu]
    show _ * (Ideal.exp (0 : EReal) * (((0 : ℕ) : ℝ) : EReal)) = _
    rw [Nat.cast_zero, EReal.coe_zero, mul_zero, mul_zero]

theorem score_apply (H : Blk s j hj B h g k q v) (t u : Fin 64) : b48 j s (ix4 B h t u)
    = ((if u.val ≤ t.val then ∑ c, q (64 * j + t.val) c * k (64 * j + u.val) c
        * Real.exp (pre g (64 * j) (t.val + 1) c - pre g (64 * j) (u.val + 1) c) else 0 : ℝ) : EReal) := by
  have e0 : b47 j s (Shape.Idx.first h_S_) = (0 : EReal) := by
    pointwise [b47]
  pointwise [b48]
  rw [e0, zero_add, Finset.sum_congr rfl fun c _ => pair_apply H t u c, ← coe_sum]
  by_cases hu : u.val ≤ t.val
  · simp only [if_pos hu]
  · simp only [if_neg hu, Finset.sum_const_zero]

/-- What the trip writes at its place. -/
theorem outs_apply (H : Blk s j hj B h g k q v)
    (hs : ∀ c e, s.main_v100_7 (ix4 B h c e) = (st g k v s0 (64 * j) c e : EReal)) (t : Fin 64) (e : Fin 128) :
    b53 j s (ix4 B h t e) = (out g k q v s0 (64 * j + t.val) e : EReal) := by
  have h1 : b49 j s (ix4 B h t e) = ((∑ u : Fin 64, (if u.val ≤ t.val then ∑ c, q (64 * j + t.val) c * k (64 * j + u.val) c
        * Real.exp (pre g (64 * j) (t.val + 1) c - pre g (64 * j) (u.val + 1) c) else 0) * v (64 * j + u.val) e : ℝ) : EReal) := by
    pointwise [b49]
    rw [coe_sum]
    refine Finset.sum_congr rfl fun u _ => ?_
    rw [score_apply H, b17_apply s j hj, H.v, ← EReal.coe_mul]
  have h2 : b52 j s (ix4 B h t e) = ((∑ c, q (64 * j + t.val) c * Real.exp (pre g (64 * j) (t.val + 1) c)
      * st g k v s0 (64 * j) c e : ℝ) : EReal) := by
    pointwise [b52, b51, b50]
    rw [coe_sum]
    refine Finset.sum_congr rfl fun c _ => ?_
    rw [b5_apply s j hj, H.q, sums_apply H, hs, Ideal.exp_coe, ← EReal.coe_mul, ← EReal.coe_mul]
  pointwise [b53]
  rw [h1, h2, ← EReal.coe_add, out_chunk_fin, add_comm]

/-- The state the trip leaves. -/
theorem acc_apply (H : Blk s j hj B h g k q v)
    (hs : ∀ c e, s.main_v100_7 (ix4 B h c e) = (st g k v s0 (64 * j) c e : EReal)) (c e : Fin 128) :
    b65 j s (ix4 B h c e) = (st g k v s0 (64 * j + 64) c e : EReal) := by
  pointwise [b65, b64, b63, b62, b61, b60, b59, b58, b57, b56, b55, b54]
  rw [sums_apply H, hs, st_chunk_fin, EReal.coe_add, coe_sum, Ideal.exp_coe, ← EReal.coe_mul]
  refine congrArg₂ _ rfl (Finset.sum_congr rfl fun u _ => ?_)
  rw [b11_apply s j hj, H.k, sums_apply H, b17_apply s j hj, H.v, ← EReal.coe_sub, Ideal.exp_coe, ← EReal.coe_mul, ← EReal.coe_mul]
  rfl

variable (s j B h)
include hj in
/-- The buffer of outputs after the trip: the trip's place is new, the others as before. -/
theorem b71_apply (n : Fin 256) (t : Fin 64) (e : Fin 128) :
    b71 j s (ix5 n B h t e) = if n.val = j then b53 j s (ix4 B h t e) else s.main_v100_8 (ix5 n B h t e) := by
  have e66 : ∀ z : Fin 1, b66 j s (ix5 z B h t e) = b53 j s (ix4 B h t e) := by
    intro z
    pointwise [b66]
  unfold b71
  rw [WordCmp.dynamicUpdateSlice_eq_update _ _ _ _ _ (trip_fits j hj) (trip_start j hj (b67 j s) (b68 j s) (b69 j s) (b70 j s) rfl rfl rfl rfl)]
  unfold updateSlice
  by_cases hn : n.val = j
  · rw [if_pos hn, dif_pos]
    · rw [← e66 0]
      refine congrArg _ (funext fun a => Fin.ext ?_)
      match a with
      | ⟨0, _⟩ => show n.val - j = 0; omega
      | ⟨1, _⟩ => exact Nat.sub_zero _
      | ⟨2, _⟩ => exact Nat.sub_zero _
      | ⟨3, _⟩ => exact Nat.sub_zero _
      | ⟨4, _⟩ => exact Nat.sub_zero _
    · intro a
      match a with
      | ⟨0, _⟩ => show j ≤ n.val ∧ n.val < j + 1; omega
      | ⟨1, _⟩ => show 0 ≤ B.val ∧ B.val < 0 + 4; omega
      | ⟨2, _⟩ => show 0 ≤ h.val ∧ h.val < 0 + 4; omega
      | ⟨3, _⟩ => show 0 ≤ t.val ∧ t.val < 0 + 64; omega
      | ⟨4, _⟩ => show 0 ≤ e.val ∧ e.val < 0 + 128; omega
  · rw [if_neg hn, dif_neg]
    intro ha
    have h0 : j ≤ n.val ∧ n.val < j + 1 := ha 0
    omega

end Hgrn.Ref
-- ==== Proof.RefBlocks.lean ====
module

public import proofs.«01_k».proof.Proof.RefStep

/-! What the reference's loop starts from: its four stacked blocks and its starting state, over the reals. -/

@[expose] public section

noncomputable section

namespace Hgrn.Ref

open Idealize.ShloMosaic Idealize.ShloMosaic.TcCoe Idealize.SL.Sem
open Cert.ReferenceIdeal Cert.ReferenceIdeal.Gen Cert.ReferenceIdeal.Step
open Hgrn.Ker (sg sg_spec gOf kOf fOf_range)

/-- A batch and a direction as one of four rows. -/
abbrev row (b d : Fin 2) : Fin 4 := ⟨2 * d.val + b.val, by omega⟩

/-- Two directions stacked, the second backwards. -/
theorem stacked (x y : S2x4x16384x128.Idx → EReal) (b d : Fin 2) (h : Fin 4) (n : Fin 16384) (c : Fin 128) :
    concatenate S4x4x16384x128 0 [⟨S2x4x16384x128, x⟩, ⟨S2x4x16384x128, Host.reverse [2] y⟩]
      concatenates_S2x4x16384x128_S2x4x16384x128_S4x4x16384x128_d0 (ix4 (row b d) h n c)
      = if d = 0 then x (ix4 b h (posAt 0 n.val) c) else y (ix4 b h (posAt 1 n.val) c) := by
  have h0 : n = posAt 0 n.val := Fin.ext (posAt_fwd _ n.isLt).symm
  have h1 : n.rev = posAt 1 n.val := Fin.ext ((Fin.val_rev n).trans ((posAt_bwd _ n.isLt).trans (by omega)).symm)
  rw [← h0, ← h1]
  pointwise
  match d with
  | 0 =>
    refine (dif_pos (show 2 * 0 + b.val < 2 by omega)).trans (Eq.trans ?_ (if_pos rfl).symm)
    refine congrArg x (funext fun a => Fin.ext ?_)
    match a with
    | ⟨0, _⟩ => show 2 * 0 + b.val = b.val; omega
    | ⟨1, _⟩ => rfl
    | ⟨2, _⟩ => rfl
    | ⟨3, _⟩ => rfl
  | 1 =>
    refine (dif_neg (show ¬ 2 * 1 + b.val < 2 by omega)).trans (Eq.trans ?_ (if_neg (by decide)).symm)
    refine congrArg y (funext fun a => Fin.ext ?_)
    match a with
    | ⟨0, _⟩ => show 2 * 1 + b.val - 2 = b.val; omega
    | ⟨1, _⟩ => rfl
    | ⟨2, _⟩ => rfl
    | ⟨3, _⟩ => rfl

/-- Cut into blocks of 64 times, the blocks first. -/
theorem blocked (x : S4x4x16384x128.Idx → EReal) (j : Fin 256) (B h : Fin 4) (t : Fin 64) (c : Fin 128) :
    transpose S256x4x4x64x128 [2, 0, 1, 3, 4] (shapeCast S4x4x256x64x128 x shapeCasts_S4x4x16384x128_S4x4x256x64x128)
      transposes_S4x4x256x64x128_S256x4x4x64x128_2_0_1_3_4 (ix5 j B h t c) = x (ix4 B h ⟨64 * j.val + t.val, by omega⟩ c) := by
  generalize hy : shapeCast S4x4x256x64x128 x shapeCasts_S4x4x16384x128_S4x4x256x64x128 = y
  have e : transpose S256x4x4x64x128 [2, 0, 1, 3, 4] y
      transposes_S4x4x256x64x128_S256x4x4x64x128_2_0_1_3_4 (ix5 j B h t c) = y (ix5 B h j t c) := by
    pointwise
  rw [e, ← hy]
  refine shapeCast_apply _ _ _ (ix4 B h ⟨64 * j.val + t.val, by omega⟩ c) ?_
  refine (Shape.rowMajor_val_four (d := ![4, 4, 16384, 128]) (ix4 B h ⟨64 * j.val + t.val, by omega⟩ c)).trans
      (Eq.trans ?_ (Shape.rowMajor_val_five (d := ![4, 4, 256, 64, 128]) (ix5 B h j t c)).symm)
  show ((B.val * 4 + h.val) * 16384 + (64 * j.val + t.val)) * 128 + c.val
    = (((B.val * 4 + h.val) * 256 + j.val) * 64 + t.val) * 128 + c.val
  omega

/-- The logistic function, spelled out. -/
theorem sg_read (x : EReal) : Ideal.div 1 (1 + Ideal.exp (-x)) = (sg x : EReal) := (sg_spec x).1

theorem g_read (lb : ℝ) (x : EReal) (h0 : 1 / 128 ≤ lb) (h1 : lb ≤ 1) :
    Ideal.log ((lb : EReal) + (1 - (lb : EReal)) * Ideal.div 1 (1 + Ideal.exp (-x))) = (gOf lb x : EReal) := by
  obtain ⟨h2, _⟩ := fOf_range x h0 h1
  rw [sg_read, ← EReal.coe_one, ← EReal.coe_sub, ← EReal.coe_mul, ← EReal.coe_add, Ideal.log_coe, if_neg (by linarith)]
  rfl

theorem k_read (lb : ℝ) (x : EReal) :
    (1 - (lb : EReal)) * Ideal.div 1 (1 + Ideal.exp (- -x)) = (kOf lb x : EReal) := by
  rw [sg_read, ← EReal.coe_one, ← EReal.coe_sub, ← EReal.coe_mul]
  rfl

variable (a0 : (⟨S2x16384x5120, .f32⟩ : BufTy).Contents (Elt Ideal)) (a2 : (⟨S2x512, .f32⟩ : BufTy).Contents (Elt Ideal))
  (a3 : (⟨S2x2x4x128x128, .f32⟩ : BufTy).Contents (Elt Ideal))

/-- The arguments at an index. -/
def dataA : Data where
  Z b n c := a0 (ix3 b n c)
  B d c := a2 (ix2 d c)
  S b d h k e := a3 (ix5 b d h k e)

variable {a0 a2 a3} (b d : Fin 2) (h : Fin 4) (hD : (dataA a0 a2 a3).Tame)

section Heads
variable (n : Fin 16384) (c : Fin 128)

theorem v7_apply : A_main_v7 a0 a2 a3 (ix4 b h n c) = a0 (ix3 b n ⟨512 + (h.val * 128 + c.val), by omega⟩) := by
  pointwise [A_main_v7, A_main_v6, A_main_v1]
theorem v9_apply : A_main_v9 a0 a2 a3 (ix4 b h n c) = a0 (ix3 b n ⟨1024 + (h.val * 128 + c.val), by omega⟩) := by
  pointwise [A_main_v9, A_main_v8, A_main_v2]
theorem v11_apply : A_main_v11 a0 a2 a3 (ix4 b h n c) = a0 (ix3 b n ⟨1536 + (h.val * 128 + c.val), by omega⟩) := by
  pointwise [A_main_v11, A_main_v10, A_main_v3]
theorem v43_apply : A_main_v43 a0 a2 a3 (ix4 b h n c) = a0 (ix3 b n ⟨2048 + (h.val * 128 + c.val), by omega⟩) := by
  pointwise [A_main_v43, A_main_v42, A_main_v4]
theorem v14_apply : A_main_v14 a0 a2 a3 (ix3 h 0 c) = a2 (ix2 0 ⟨h.val * 128 + c.val, by omega⟩) := by
  pointwise [A_main_v14, A_main_v13, A_main_v12]
theorem v46_apply : A_main_v46 a0 a2 a3 (ix3 h 0 c) = a2 (ix2 1 ⟨h.val * 128 + c.val, by omega⟩) := by
  pointwise [A_main_v46, A_main_v45, A_main_v44]

include hD

theorem lb_eq (d : Fin 2) (c : Fin 512) : a2 (ix2 d c) = ((dataA a0 a2 a3).lbR d c : EReal) := hD.lb d c

theorem v29_apply : A_main_v29 a0 a2 a3 (ix4 b h n c)
    = (gOf ((dataA a0 a2 a3).lbR 0 ⟨h.val * 128 + c.val, by omega⟩) (a0 (ix3 b n ⟨1536 + (h.val * 128 + c.val), by omega⟩)) : EReal) := by
  pointwise [A_main_v29, A_main_v28, A_main_v27, A_main_v26, A_main_v25, A_main_v24, A_main_v23, A_main_v22, A_main_v20, A_main_v18,
    A_main_v17, A_main_v16, K_main_v15, K_main_cst, K_main_v19, K_main_v21, K_main_cst_0, K_main_cst_1]
  rw [v14_apply, v11_apply, lb_eq hD]
  exact g_read _ _ (hD.lo 0 _) (hD.hi 0 _)

theorem v41_apply : A_main_v41 a0 a2 a3 (ix4 b h n c)
    = (kOf ((dataA a0 a2 a3).lbR 0 ⟨h.val * 128 + c.val, by omega⟩) (a0 (ix3 b n ⟨1536 + (h.val * 128 + c.val), by omega⟩)) : EReal) := by
  pointwise [A_main_v41, A_main_v40, A_main_v39, A_main_v38, A_main_v36, A_main_v34, A_main_v33, A_main_v32, A_main_v31, K_main_v30,
    K_main_cst_2, K_main_v35, K_main_cst_3, K_main_v37, K_main_cst_4]
  rw [v14_apply, v11_apply, lb_eq hD]
  exact k_read _ _

theorem v61_apply : A_main_v61 a0 a2 a3 (ix4 b h n c)
    = (gOf ((dataA a0 a2 a3).lbR 1 ⟨h.val * 128 + c.val, by omega⟩) (a0 (ix3 b n ⟨2048 + (h.val * 128 + c.val), by omega⟩)) : EReal) := by
  pointwise [A_main_v61, A_main_v60, A_main_v59, A_main_v58, A_main_v57, A_main_v56, A_main_v55, A_main_v54, A_main_v52, A_main_v50,
    A_main_v49, A_main_v48, K_main_v47, K_main_cst_5, K_main_v51, K_main_v53, K_main_cst_6, K_main_cst_7]
  rw [v46_apply, v43_apply, lb_eq hD]
  exact g_read _ _ (hD.lo 1 _) (hD.hi 1 _)

theorem v73_apply : A_main_v73 a0 a2 a3 (ix4 b h n c)
    = (kOf ((dataA a0 a2 a3).lbR 1 ⟨h.val * 128 + c.val, by omega⟩) (a0 (ix3 b n ⟨2048 + (h.val * 128 + c.val), by omega⟩)) : EReal) := by
  pointwise [A_main_v73, A_main_v72, A_main_v71, A_main_v70, A_main_v68, A_main_v66, A_main_v65, A_main_v64, A_main_v63, K_main_v62,
    K_main_cst_8, K_main_v67, K_main_cst_9, K_main_v69, K_main_cst_10]
  rw [v46_apply, v43_apply, lb_eq hD]
  exact k_read _ _
end Heads

include hD
variable (j : Fin 256) (t : Fin 64) (c : Fin 128)

theorem q_block : A_main_v92 a0 a2 a3 (ix5 j (row b d) h t c) = ((dataA a0 a2 a3).qS b d h (64 * j.val + t.val) c : EReal) := by
  unfold A_main_v92 A_main_v91
  refine (blocked _ j (row b d) h t c).trans ?_
  unfold A_main_v75 A_main_v74
  refine (stacked _ _ b d h _ c).trans ?_
  match d with
  | 0 =>
    refine (if_pos rfl).trans ?_
    rw [v7_apply]
    exact Data.q_eq b 0 h hD _ c _ _ rfl (by show 512 + (h.val * 128 + c.val) = _; omega)
  | 1 =>
    refine (if_neg (by decide)).trans ?_
    rw [v7_apply]
    exact Data.q_eq b 1 h hD _ c _ _ rfl (by show 512 + (h.val * 128 + c.val) = _; omega)

theorem v_block : A_main_v96 a0 a2 a3 (ix5 j (row b d) h t c) = ((dataA a0 a2 a3).vS b d h (64 * j.val + t.val) c : EReal) := by
  unfold A_main_v96 A_main_v95
  refine (blocked _ j (row b d) h t c).trans ?_
  unfold A_main_v79 A_main_v78
  refine (stacked _ _ b d h _ c).trans ?_
  match d with
  | 0 =>
    refine (if_pos rfl).trans ?_
    rw [v9_apply]
    exact Data.v_eq b 0 h hD _ c _ _ rfl (by show 1024 + (h.val * 128 + c.val) = _; omega)
  | 1 =>
    refine (if_neg (by decide)).trans ?_
    rw [v9_apply]
    exact Data.v_eq b 1 h hD _ c _ _ rfl (by show 1024 + (h.val * 128 + c.val) = _; omega)

theorem k_block : A_main_v94 a0 a2 a3 (ix5 j (row b d) h t c) = ((dataA a0 a2 a3).kS b d h (64 * j.val + t.val) c : EReal) := by
  unfold A_main_v94 A_main_v93
  refine (blocked _ j (row b d) h t c).trans ?_
  unfold A_main_v77 A_main_v76
  refine (stacked _ _ b d h _ c).trans ?_
  match d with
  | 0 =>
    refine (if_pos rfl).trans ((v41_apply b h hD _ c).trans (congrArg _ ?_))
    exact Data.k_eq (D := dataA a0 a2 a3) b 0 h _ c _ _ _ (by show h.val * 128 + c.val = _; omega) rfl
      (by show 1536 + (h.val * 128 + c.val) = 1536 + 512 * 0 + (128 * h.val + c.val); omega)
  | 1 =>
    refine (if_neg (by decide)).trans ((v73_apply b h hD _ c).trans (congrArg _ ?_))
    exact Data.k_eq (D := dataA a0 a2 a3) b 1 h _ c _ _ _ (by show h.val * 128 + c.val = _; omega) rfl
      (by show 2048 + (h.val * 128 + c.val) = 1536 + 512 * 1 + (128 * h.val + c.val); omega)

theorem g_block : A_main_v98 a0 a2 a3 (ix5 j (row b d) h t c) = ((dataA a0 a2 a3).gS b d h (64 * j.val + t.val) c : EReal) := by
  unfold A_main_v98 A_main_v97
  refine (blocked _ j (row b d) h t c).trans ?_
  unfold A_main_v81 A_main_v80
  refine (stacked _ _ b d h _ c).trans ?_
  match d with
  | 0 =>
    refine (if_pos rfl).trans ((v29_apply b h hD _ c).trans (congrArg _ ?_))
    exact Data.g_eq (D := dataA a0 a2 a3) b 0 h _ c _ _ _ (by show h.val * 128 + c.val = _; omega) rfl
      (by show 1536 + (h.val * 128 + c.val) = 1536 + 512 * 0 + (128 * h.val + c.val); omega)
  | 1 =>
    refine (if_neg (by decide)).trans ((v61_apply b h hD _ c).trans (congrArg _ ?_))
    exact Data.g_eq (D := dataA a0 a2 a3) b 1 h _ c _ _ _ (by show h.val * 128 + c.val = _; omega) rfl
      (by show 2048 + (h.val * 128 + c.val) = 1536 + 512 * 1 + (128 * h.val + c.val); omega)

omit hD in
theorem start_read (k e : Fin 128) : A_main_v86 a0 a2 a3 (ix4 (row b d) h k e) = a3 (ix5 b d h k e) := by
  pointwise [A_main_v86, A_main_v85, A_main_v84, A_main_v83, A_main_v82]
  match d with
  | 0 =>
    refine (dif_pos (show 2 * 0 + b.val < 2 by omega)).trans ?_
    refine congrArg a3 (funext fun a => Fin.ext ?_)
    match a with
    | ⟨0, _⟩ => show 2 * 0 + b.val = b.val; omega
    | ⟨1, _⟩ => rfl
    | ⟨2, _⟩ => rfl
    | ⟨3, _⟩ => rfl
    | ⟨4, _⟩ => rfl
  | 1 =>
    refine (dif_neg (show ¬ 2 * 1 + b.val < 2 by omega)).trans ?_
    refine congrArg a3 (funext fun a => Fin.ext ?_)
    match a with
    | ⟨0, _⟩ => show 2 * 1 + b.val - 2 = b.val; omega
    | ⟨1, _⟩ => rfl
    | ⟨2, _⟩ => rfl
    | ⟨3, _⟩ => rfl
    | ⟨4, _⟩ => rfl

theorem start_block (k e : Fin 128) : A_main_v86 a0 a2 a3 (ix4 (row b d) h k e) = ((dataA a0 a2 a3).St b d h 0 k e : EReal) :=
  (start_read b d h k e).trans (Data.St_zero (D := dataA a0 a2 a3) b d h hD k e)

end Hgrn.Ref
-- ==== Proof.RefArrays.lean ====
module

public import proofs.«01_k».proof.Proof.RefBlocks
public import proofs.«01_k».proof.Proof.Arrays

/-! The reference's results: the recurrence's outputs and final state, array by array. -/

@[expose] public section

noncomputable section

namespace Hgrn.Ref

open Idealize.ShloMosaic Idealize.ShloMosaic.TcCoe Idealize.SL.Sem
open Cert.ReferenceIdeal Cert.ReferenceIdeal.Gen Cert.ReferenceIdeal.Step

/-- The loop's state before trip `n`, over the reals. -/
structure Inv (D : Data) (s : State Ideal) (n : ℕ) : Prop where
  q : ∀ b d h (j : Fin 256) (t : Fin 64) c, s.main_v100_0 (ix5 j (row b d) h t c) = (D.qS b d h (64 * j.val + t.val) c : EReal)
  k : ∀ b d h (j : Fin 256) (t : Fin 64) c, s.main_v100_1 (ix5 j (row b d) h t c) = (D.kS b d h (64 * j.val + t.val) c : EReal)
  v : ∀ b d h (j : Fin 256) (t : Fin 64) c, s.main_v100_2 (ix5 j (row b d) h t c) = (D.vS b d h (64 * j.val + t.val) c : EReal)
  g : ∀ b d h (j : Fin 256) (t : Fin 64) c, s.main_v100_3 (ix5 j (row b d) h t c) = (D.gS b d h (64 * j.val + t.val) c : EReal)
  acc : ∀ b d h k e, s.main_v100_7 (ix4 (row b d) h k e) = (D.St b d h (64 * n) k e : EReal)
  outs : ∀ b d h (j : Fin 256) (t : Fin 64) e, j.val < n →
    s.main_v100_8 (ix5 j (row b d) h t e) = (D.Out b d h (64 * j.val + t.val) e : EReal)

theorem Inv.next {D : Data} {s : State Ideal} {n : ℕ} (hn : n < 256) (H : Inv D s n) : Inv D (step n s) (n + 1) where
  q := H.q
  k := H.k
  v := H.v
  g := H.g
  acc b d h k e := by
    have hb : Blk s n hn (row b d) h (D.gS b d h) (D.kS b d h) (D.qS b d h) (D.vS b d h) :=
      ⟨H.q b d h ⟨n, hn⟩, H.k b d h ⟨n, hn⟩, H.v b d h ⟨n, hn⟩, H.g b d h ⟨n, hn⟩⟩
    exact acc_apply hb (H.acc b d h) k e
  outs b d h j t e hj := by
    have hb : Blk s n hn (row b d) h (D.gS b d h) (D.kS b d h) (D.qS b d h) (D.vS b d h) :=
      ⟨H.q b d h ⟨n, hn⟩, H.k b d h ⟨n, hn⟩, H.v b d h ⟨n, hn⟩, H.g b d h ⟨n, hn⟩⟩
    refine (b71_apply (hj := hn) s n (row b d) h j t e).trans ?_
    by_cases h1 : j.val = n
    · rw [if_pos h1, outs_apply hb (H.acc b d h) t e, h1]
      rfl
    · rw [if_neg h1]
      exact H.outs b d h j t e (by omega)

variable (m : (ℓ : Loc nD τ sig) → Buf (Elt Ideal) ℓ) (c : Dev nD)

/-- The streams read off the reference's arguments. -/
def dataR : Data := dataA (m ((c.tc : Thread nD τ).loc main_arg0)) (m ((c.tc : Thread nD τ).loc main_arg2)) (m ((c.tc : Thread nD τ).loc main_arg3))

variable {m c} (hD : (dataR m c).Tame)
include hD

theorem inv (n : ℕ) (hn : n ≤ 256) : Inv (dataR m c) (states m c n) n := by
  induction n with
  | zero =>
    exact ⟨fun b d h j t x => q_block b d h hD j t x, fun b d h j t x => k_block b d h hD j t x, fun b d h j t x => v_block b d h hD j t x,
      fun b d h j t x => g_block b d h hD j t x, fun b d h k e => start_block b d h hD k e, fun _ _ _ _ _ _ h => absurd h (Nat.not_lt_zero _)⟩
  | succ n ih => exact (ih (by omega)).next (by omega)

omit hD

/-- The blocks put back in one row of times. -/
theorem unblocked (y : S256x4x4x64x128.Idx → EReal) (B h : Fin 4) (n : Fin 16384) (x : Fin 128) :
    shapeCast S4x4x16384x128 (transpose S4x4x256x64x128 [1, 2, 0, 3, 4] y transposes_S256x4x4x64x128_S4x4x256x64x128_1_2_0_3_4)
      shapeCasts_S4x4x256x64x128_S4x4x16384x128 (ix4 B h n x)
      = y (ix5 ⟨n.val / 64, by omega⟩ B h ⟨n.val % 64, by omega⟩ x) := by
  have e : transpose S4x4x256x64x128 [1, 2, 0, 3, 4] y transposes_S256x4x4x64x128_S4x4x256x64x128_1_2_0_3_4
      (ix5 B h ⟨n.val / 64, by omega⟩ ⟨n.val % 64, by omega⟩ x) = y (ix5 ⟨n.val / 64, by omega⟩ B h ⟨n.val % 64, by omega⟩ x) := by
    pointwise
  rw [← e]
  refine shapeCast_apply _ _ _ _ ?_
  refine (Shape.rowMajor_val_five (d := ![4, 4, 256, 64, 128]) (ix5 B h ⟨n.val / 64, by omega⟩ ⟨n.val % 64, by omega⟩ x)).trans
      (Eq.trans ?_ (Shape.rowMajor_val_four (d := ![4, 4, 16384, 128]) (ix4 B h n x)).symm)
  show (((B.val * 4 + h.val) * 256 + n.val / 64) * 64 + n.val % 64) * 128 + x.val
    = ((B.val * 4 + h.val) * 16384 + n.val) * 128 + x.val
  omega

theorem fwd_cut (y : S4x4x16384x128.Idx → EReal) (b : Fin 2) (p : Fin 16384) (x : Fin 512) :
    shapeCast S2x16384x512 (transpose S2x16384x4x128 [0, 2, 1, 3] (extractStridedSlice S2x4x16384x128 ![0, 0, 0, 0] y
      slices_S4x4x16384x128_S2x4x16384x128_0_0_0_0) transposes_S2x4x16384x128_S2x16384x4x128_0_2_1_3) shapeCasts_S2x16384x4x128_S2x16384x512
      (ix3 b p x) = y (ix4 (row b 0) ⟨x.val / 128, by omega⟩ p ⟨x.val % 128, by omega⟩) := by
  pointwise
  refine congrArg y (funext fun a => Fin.ext ?_)
  match a with
  | ⟨0, _⟩ => show b.val = 2 * 0 + b.val; omega
  | ⟨1, _⟩ => rfl
  | ⟨2, _⟩ => rfl
  | ⟨3, _⟩ => rfl

theorem bwd_cut (y : S4x4x16384x128.Idx → EReal) (b : Fin 2) (p : Fin 16384) (x : Fin 512) :
    shapeCast S2x16384x512 (transpose S2x16384x4x128 [0, 2, 1, 3] (Host.reverse [2] (extractStridedSlice S2x4x16384x128 ![2, 0, 0, 0] y
      slices_S4x4x16384x128_S2x4x16384x128_2_0_0_0)) transposes_S2x4x16384x128_S2x16384x4x128_0_2_1_3) shapeCasts_S2x16384x4x128_S2x16384x512
      (ix3 b p x) = y (ix4 (row b 1) ⟨x.val / 128, by omega⟩ p.rev ⟨x.val % 128, by omega⟩) := by
  pointwise
  refine congrArg y (funext fun a => Fin.ext ?_)
  match a with
  | ⟨0, _⟩ => rfl
  | ⟨1, _⟩ => rfl
  | ⟨2, _⟩ => rfl
  | ⟨3, _⟩ => rfl

theorem fin_apply (s : State Ideal) (b d : Fin 2) (h : Fin 4) (e k : Fin 128) : R_main_v115 s (ix5 b d h e k) = s.main_v100_7 (ix4 (row b d) h k e) := by
  pointwise [R_main_v115]
  match d with
  | 0 =>
    refine (dif_pos (by decide)).trans ?_
    refine congrArg s.main_v100_7 (funext fun a => Fin.ext ?_)
    match a with
    | ⟨0, _⟩ => show b.val = 2 * 0 + b.val; omega
    | ⟨1, _⟩ => rfl
    | ⟨2, _⟩ => rfl
    | ⟨3, _⟩ => rfl
  | 1 =>
    refine (dif_neg (by decide)).trans ?_
    refine congrArg s.main_v100_7 (funext fun a => Fin.ext ?_)
    match a with
    | ⟨0, _⟩ => rfl
    | ⟨1, _⟩ => rfl
    | ⟨2, _⟩ => rfl
    | ⟨3, _⟩ => rfl

include hD

theorem fwd_array : R_main_v106 (states m c 256) = fun y : S2x16384x512.Idx => outArr (dataR m c) 0 (y 0) (y 1) (y 2) := by
  funext y
  obtain ⟨b, p, x, rfl⟩ : ∃ (b : Fin 2) (p : Fin 16384) (x : Fin 512), y = ix3 b p x := ⟨y 0, y 1, y 2, (ix3_eta y).symm⟩
  unfold R_main_v106
  refine (fwd_cut _ b p x).trans ((unblocked _ _ _ _ _).trans (((inv hD 256 le_rfl).outs b 0 _ _ _ _ (by show p.val / 64 < 256; omega)).trans ?_))
  show ((dataR m c).Out b 0 ⟨x.val / 128, _⟩ (64 * (p.val / 64) + p.val % 64) ⟨x.val % 128, _⟩ : EReal) = _
  rw [Nat.div_add_mod]
  rfl

theorem bwd_array : R_main_v110 (states m c 256) = fun y : S2x16384x512.Idx => outArr (dataR m c) 1 (y 0) (y 1) (y 2) := by
  funext y
  obtain ⟨b, p, x, rfl⟩ : ∃ (b : Fin 2) (p : Fin 16384) (x : Fin 512), y = ix3 b p x := ⟨y 0, y 1, y 2, (ix3_eta y).symm⟩
  unfold R_main_v110
  have hp : p.rev.val = 16383 - p.val := (Fin.val_rev p).trans (by omega)
  refine (bwd_cut _ b p x).trans ((unblocked _ _ _ _ _).trans (((inv hD 256 le_rfl).outs b 1 _ _ _ _ (by show p.rev.val / 64 < 256; omega)).trans ?_))
  show ((dataR m c).Out b 1 ⟨x.val / 128, _⟩ (64 * (p.rev.val / 64) + p.rev.val % 64) ⟨x.val % 128, _⟩ : EReal) = _
  rw [Nat.div_add_mod, hp]
  rfl

theorem fin_array : R_main_v115 (states m c 256) = fun y : S2x2x4x128x128.Idx => stArr (dataR m c) (y 0) (y 1) (y 2) (y 3) (y 4) := by
  funext y
  obtain ⟨b, d, h, e, k, rfl⟩ : ∃ (b d : Fin 2) (h : Fin 4) (e k : Fin 128), y = ix5 b d h e k := ⟨y 0, y 1, y 2, y 3, y 4, (ix5_eta y).symm⟩
  exact (fin_apply _ b d h e k).trans ((inv hD 256 le_rfl).acc b d h k e)

end Hgrn.Ref
-- ==== Proof.Tame.lean ====
module

public import proofs.«01_k».proof.Defs
public import proofs.«01_k».proof.Proof.Sweep
public import Idealize.ShloMosaic.Lib.ReduceAll
public import Idealize.ShloMosaic.Lib.WordCmp

/-! What the precondition says of the arguments: the entries the scan reads are finite, the lower bounds
are between 1/128 and 1. -/

@[expose] public section

noncomputable section

namespace Hgrn

open Idealize.ShloMosaic Idealize.ShloMosaic.TcCoe

/-- The precondition's shapes fit its operations. -/
theorem preFacts : Cert.Pre_gates_and_values_tame.Facts := by
  constructor <;> decide

/-- What a comparison that came out 1 says. -/
theorem lt_of_cmp {x y : EReal} (h : Ideal.cmp .olt x y = 1#1) : x < y :=
  of_decide_eq_true ((WordCmp.ofBool_eq_one_iff _).1 h)
theorem le_of_cmp {x y : EReal} (h : Ideal.cmp .ole x y = 1#1) : x ≤ y :=
  of_decide_eq_true ((WordCmp.ofBool_eq_one_iff _).1 h)
theorem ge_of_cmp {x y : EReal} (h : Ideal.cmp .oge x y = 1#1) : y ≤ x :=
  of_decide_eq_true ((WordCmp.ofBool_eq_one_iff _).1 h)

theorem bits_top : Ideal.ofBits .f32 0x7F800000#32 = ⊤ := by simp [Ideal.ofBits, Ideal.ieee]
theorem bits_one : Ideal.ofBits .f32 0x3F800000#32 = ((1 : ℝ) : EReal) := by
  simp [Ideal.ofBits, Ideal.ieee, -EReal.coe_mul]; norm_num
theorem bits_small : Ideal.ofBits .f32 0x3C000000#32 = ((1 / 128 : ℝ) : EReal) := by
  simp [Ideal.ofBits, Ideal.ieee, -EReal.coe_mul]; norm_num

/-- An entry whose size is below infinity is a real. -/
theorem real_of_abs {x : EReal} (h : max x (-x) < ⊤) : x = (x.toReal : EReal) := by
  have h1 : x ≠ ⊤ := fun e => by rw [e] at h; exact absurd (lt_of_le_of_lt (le_max_left _ _) h) (lt_irrefl _)
  have h2 : x ≠ ⊥ := fun e => by rw [e] at h; exact absurd (lt_of_le_of_lt (le_max_right _ _) h) (by simp)
  exact (EReal.coe_toReal h1 h2).symm

theorem real_between {x : EReal} {a b : ℝ} (ha : (a : EReal) ≤ x) (hb : x ≤ (b : EReal)) :
    x = (x.toReal : EReal) ∧ a ≤ x.toReal ∧ x.toReal ≤ b := by
  induction x with
  | bot => exact absurd ha (by simp)
  | top => exact absurd hb (by simp)
  | coe r => exact ⟨rfl, EReal.coe_le_coe_iff.1 ha, EReal.coe_le_coe_iff.1 hb⟩

open Cert.Pre_gates_and_values_tame in
/-- The four conditions, entry by entry. -/
theorem pre_entries [Facts] (a0 : FVec Ideal S2x16384x5120 .f32) (a1 : FVec Ideal S2x256x5120 .f32) (a2 : FVec Ideal S2x512 .f32)
    (a3 : FVec Ideal S2x2x4x128x128 .f32) (h : fn (F := Ideal) a0 a1 a2 a3 = fun _ => 1#1) :
    (∀ (b : Fin 2) (n : Fin 16384) (c : Fin 5120), 512 ≤ c.val → c.val < 1536 → a0 (ix3 b n c) = ((a0 (ix3 b n c)).toReal : EReal))
    ∧ (∀ i, a3 i = ((a3 i).toReal : EReal))
    ∧ ∀ i, a2 i = ((a2 i).toReal : EReal) ∧ 1 / 128 ≤ (a2 i).toReal ∧ (a2 i).toReal ≤ 1 := by
  have e := congrFun h (fun k => k.elim0)
  unfold fn fn_part1 at e
  obtain ⟨e13, e16⟩ := IntOp.andi_eq_one.1 e
  obtain ⟨e9, e12⟩ := IntOp.andi_eq_one.1 e13
  obtain ⟨e4, e8⟩ := IntOp.andi_eq_one.1 e9
  haveI : Subsingleton S_.Idx := ⟨fun a b => funext fun k => k.elim0⟩
  refine ⟨fun b n c hl hh => real_of_abs ?_, fun i => real_of_abs ?_, fun i => real_between ?_ ?_⟩
  · have k := lt_of_cmp (Host.reduce_andi_all _ _ _ _ _ e4 (ix3 b n (⟨c.val - 512, by omega⟩ : Fin 1024)))
    rw [← bits_top]
    refine lt_of_eq_of_lt ?_ k
    have hx : a0 (ix3 b n c) = extractStridedSlice S2x16384x1024 ![0, 0, 512] a0 Facts.slices_S2x16384x5120_S2x16384x1024_0_0_512
        (ix3 b n (⟨c.val - 512, by omega⟩ : Fin 1024)) := by
      refine (extractStridedSlice_apply _ _ _ _ _ fun j => ?_).symm
      fin_cases j
      · show b.val = 0 + b.val; omega
      · show n.val = 0 + n.val; omega
      · show c.val = 512 + (c.val - 512); omega
    rw [hx]
    rfl
  · rw [← bits_top]
    exact lt_of_cmp (Host.reduce_andi_all _ _ _ _ _ e8 i)
  · rw [← bits_small]
    exact ge_of_cmp (Host.reduce_andi_all _ _ _ _ _ e12 i)
  · rw [← bits_one]
    exact le_of_cmp (Host.reduce_andi_all _ _ _ _ _ e16 i)

/-- The kernel's arguments under the precondition. -/
theorem tame_of_pre [Cert.Pre_gates_and_values_tame.Facts]
    (m : (ℓ : Loc Cert.KernelIdeal.nD Cert.KernelIdeal.τ Cert.KernelIdeal.sig) → Buf (Elt Ideal) ℓ)
    (h : Cert.Pre_KernelIdeal_gates_and_values_tame m) (c : Dev Cert.KernelIdeal.nD) : (Ker.dataK m c).Tame := by
  obtain ⟨hz, hs, hb⟩ := pre_entries _ _ _ _ (h c)
  exact ⟨fun b n j hl hh => hz b n j hl hh, fun b d g k e => hs _, fun d j => (hb _).1, fun d j => (hb _).2.1, fun d j => (hb _).2.2⟩

end Hgrn

end
-- ==== Proof.Proj.lean ====
module

public import Idealize.ShloMosaic.Lib.Pointwise

/-! The in-projection: every row of the latent and context tokens is divided by its root mean square, scaled by the gain,
    modulated, and multiplied by the weight. -/

@[expose] public section

noncomputable section

namespace Proj

open Idealize.ShloMosaic

/-- One over the root mean square of a row. -/
def inv (x : Fin 1024 → EReal) : EReal :=
  Ideal.rsqrt (Ideal.div (∑ k, x k * x k) (Ideal.ofBits FTy.f32 0x44800000#32) + Ideal.ofBits FTy.f32 0x358637BD#32)

/-- A row normalised, scaled by the gain, and modulated: the shift is the modulation's first thousand and twenty-four
    entries, the scale the next. -/
def modulated (x g : Fin 1024 → EReal) (md : Fin 6144 → EReal) (k : Fin 1024) : EReal :=
  x k * inv x * g k * (1 + md ⟨1024 + k, by omega⟩) + md ⟨k, by omega⟩

/-- A modulated row against one column of the weight. -/
def proj (x g : Fin 1024 → EReal) (md : Fin 6144 → EReal) (w : Fin 1024 → EReal) : EReal := ∑ k, modulated x g md k * w k

/-- What the projection reads: latent tokens, context tokens, their modulations, the gain, the weight. -/
structure Data where
  lat : Fin 2 → Fin 16384 → Fin 1024 → EReal
  con : Fin 2 → Fin 256 → Fin 1024 → EReal
  modLat : Fin 2 → Fin 6144 → EReal
  modCon : Fin 6144 → EReal
  gain : Fin 1024 → EReal
  weight : Fin 1024 → Fin 5120 → EReal

/-- Row `r` of the tokens: the latent tokens of the batches one after the other, then the context tokens. -/
def Data.row (D : Data) (r : Fin 33280) (k : Fin 1024) : EReal :=
  if h : r.val < 32768 then D.lat ⟨r.val / 16384, by omega⟩ ⟨r.val % 16384, by omega⟩ k
  else D.con ⟨(r.val - 32768) / 256, by omega⟩ ⟨(r.val - 32768) % 256, by omega⟩ k

/-- The modulation of row `r`: its batch's for a latent token, the shared one for a context token. -/
def Data.md (D : Data) (r : Fin 33280) : Fin 6144 → EReal :=
  if h : r.val < 32768 then D.modLat ⟨r.val / 16384, by omega⟩ else D.modCon

/-- Entry `(r, j)` of the projections. -/
def Data.out (D : Data) (r : Fin 33280) (j : Fin 5120) : EReal := proj (D.row r) D.gain (D.md r) fun k => D.weight k j

end Proj
-- ==== Proof.ProjKer.lean ====
module

public import proofs.«01_k».proof.Proof.Gen.Kernel2Ideal.Value
public import proofs.«01_k».proof.Proof.Proj
public import Idealize.ShloMosaic.Lib.Pipeline.ValueKit

/-! The in-projection kernel: one tile, and the arrays the tiles make. -/

@[expose] public section

noncomputable section

namespace Proj.Ker

open Idealize.ShloMosaic Idealize.ShloMosaic.TcCoe Idealize.SL.Sem
open Cert.Kernel2Ideal Cert.Kernel2Ideal.Gen Cert.Kernel2Ideal.Value

theorem tile_apply (md : Vec Ideal S1x1x6144 .f32) (x : Vec Ideal S256x1024 .f32) (g : Vec Ideal S1x1024 .f32) (w : Vec Ideal S1024x5120 .bf16)
    (r : Fin 256) (j : Fin 5120) :
    k0_pay1 md x g w (ix2 r j)
      = proj (fun k => x (ix2 r k)) (fun k => g (ix2 0 k)) (fun k => md (ix3 0 0 k)) (fun k => w (ix2 k j)) := by
  pointwise [k0_pay1]
  rfl

variable (m : (ℓ : Loc nD τ sig) → Buf (Elt Ideal) ℓ) (c : Dev nD)

/-- The arguments, read by coordinates. -/
def dataK : Data where
  lat b n k := m (c.tc.loc main_arg0) (ix3 b n k)
  con b n k := m (c.tc.loc main_arg1) (ix3 b n k)
  modLat b k := m (c.tc.loc main_arg2) (ix2 b k)
  modCon k := m (c.tc.loc main_arg3) (ix1 k)
  gain k := m (c.tc.loc main_arg4) (ix1 k)
  weight k j := m (c.tc.loc main_arg5) (ix2 k j)

theorem zero2 : (![0, 0] : Fin 2 → ℕ) = fun _ => 0 := by decide
theorem zero3 : (![0, 0, 0] : Fin 3 → ℕ) = fun _ => 0 := by decide

theorem ext2 {n0 n1 : ℕ} {i j : (⟨2, ![n0, n1]⟩ : Shape).Idx} (h0 : (i 0).val = (j 0).val) (h1 : (i 1).val = (j 1).val) : i = j := by
  funext a
  match a with
  | ⟨0, _⟩ => exact Fin.ext h0
  | ⟨1, _⟩ => exact Fin.ext h1

theorem point_lt (t : Fin cfg0.N) : t.val < 130 := lt_of_lt_of_eq t.isLt (show cfg0.N = 130 from N_0)

theorem rows_apply (r : Fin 33280) (k : Fin 1024) (i : S33280x1024.Idx) (hi : (i 0).val = r.val) (hk : (i 1).val = k.val) :
    V m c main_v2 i = (dataK m c).row r k := by
  entry_read
  unfold Data.row
  by_cases h : r.val < 32768
  · rw [dif_pos h]
    refine (concatenate_pair_apply_left (s₁ := S32768x1024) (0 : Fin S33280x1024.rank) _ _ _ i rfl
      (ix2 ⟨r.val, h⟩ k : S32768x1024.Idx) ?_).trans ?_
    · intro a
      match a with
      | ⟨0, _⟩ => exact hi.symm
      | ⟨1, _⟩ => exact hk.symm
    · refine shapeCast_apply _ _ _ (ix3 ⟨r.val / 16384, by omega⟩ ⟨r.val % 16384, by omega⟩ k) ?_
      refine (Shape.rowMajor_val_three (d := ![2, 16384, 1024]) _).trans
        (Eq.trans ?_ (Shape.rowMajor_val_two (d := ![32768, 1024]) (ix2 ⟨r.val, h⟩ k)).symm)
      show (r.val / 16384 * 16384 + r.val % 16384) * 1024 + k.val = r.val * 1024 + k.val
      omega
  · rw [dif_neg h]
    refine (concatenate_pair_apply_right (s₁ := S32768x1024) (s₂ := S512x1024) (0 : Fin S33280x1024.rank) _ _ _ i rfl rfl
      (ix2 ⟨r.val - 32768, by omega⟩ k : S512x1024.Idx) ?_ ?_).trans ?_
    · intro a ha
      match a with
      | ⟨0, _⟩ => exact absurd rfl ha
      | ⟨1, _⟩ => exact hk.symm
    · show r.val - 32768 + 32768 = (i 0).val
      omega
    · refine shapeCast_apply _ _ _ (ix3 ⟨(r.val - 32768) / 256, by omega⟩ ⟨(r.val - 32768) % 256, by omega⟩ k) ?_
      refine (Shape.rowMajor_val_three (d := ![2, 256, 1024]) _).trans
        (Eq.trans ?_ (Shape.rowMajor_val_two (d := ![512, 1024]) (ix2 ⟨r.val - 32768, by omega⟩ k)).symm)
      show ((r.val - 32768) / 256 * 256 + (r.val - 32768) % 256) * 1024 + k.val = (r.val - 32768) * 1024 + k.val
      omega

theorem mods_apply (b : Fin 3) (k : Fin 6144) (i : S3x1x6144.Idx) (hb : (i 0).val = b.val) (hk : (i 2).val = k.val) :
    V m c main_v5 i = if h : b.val < 2 then (dataK m c).modLat ⟨b.val, h⟩ k else (dataK m c).modCon k := by
  have h1 : (i 1).val < 1 := (i 1).isLt
  entry_read
  refine (shapeCast_apply _ _ _ (ix2 b k : S3x6144.Idx) ?_).trans ?_
  · refine (Shape.rowMajor_val_two (d := ![3, 6144]) _).trans
      (Eq.trans ?_ (Shape.rowMajor_val_three (d := ![3, 1, 6144]) i).symm)
    show b.val * 6144 + k.val = ((i 0).val * 1 + (i 1).val) * 6144 + (i 2).val
    omega
  · pointwise
    rfl

theorem gain_apply (k : Fin 1024) : V m c main_v7 (ix2 0 k) = (dataK m c).gain k := by
  entry_read
  pointwise
  rfl

theorem weight_apply (k : Fin 1024) (j : Fin 5120) : V m c main_v6 (ix2 k j) = (dataK m c).weight k j := by
  entry_read
  pointwise
  rfl

theorem idx_0 : ∀ t : Fin cfg0.N, win0_0.index t = ![t.val, 0] :=
  (by decide +kernel : ∀ t : Fin grid0.N, win0_0.index t = ![t.val, 0])
theorem idx_1 : ∀ t : Fin cfg0.N, win0_1.index t = ![if t.val < 128 then t.val / 64 else 2, 0, 0] :=
  (by decide +kernel : ∀ t : Fin grid0.N, win0_1.index t = ![if t.val < 128 then t.val / 64 else 2, 0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![t.val, 0] :=
  (by decide +kernel : ∀ t : Fin grid0.N, win0_4.index t = ![t.val, 0])
theorem idx_5 : ∀ t : Fin cfg0.N, win0_5.index t = ![t.val, 0] :=
  (by decide +kernel : ∀ t : Fin grid0.N, win0_5.index t = ![t.val, 0])

theorem iblk_0 (t : Fin cfg0.N) (r : Fin 256) (k : Fin 1024) :
    iblk m c 0 t (ix2 r k) = (dataK m c).row ⟨256 * t.val + r.val, by have := point_lt t; omega⟩ k := by
  unfold iblk
  rw [View.read_apply]
  refine rows_apply m c _ _ _ ?_ ?_
  · show win0_0.index t 0 * 256 + 1 * r.val = _
    rw [idx_0 t]
    show t.val * 256 + 1 * r.val = 256 * t.val + r.val
    omega
  · show win0_0.index t 1 * 1024 + 1 * k.val = _
    rw [idx_0 t]
    show 0 * 1024 + 1 * k.val = k.val
    omega

theorem iblk_1 (t : Fin cfg0.N) (r : Fin 256) (k : Fin 6144) :
    iblk m c 1 t (ix3 0 0 k) = (dataK m c).md ⟨256 * t.val + r.val, by have := point_lt t; omega⟩ k := by
  have ht := point_lt t
  unfold iblk
  rw [View.read_apply]
  refine (mods_apply m c ⟨if t.val < 128 then t.val / 64 else 2, by split <;> omega⟩ k _ ?_ ?_).trans ?_
  · show win0_1.index t 0 * 1 + 1 * 0 = _
    rw [idx_1 t]
    show (if t.val < 128 then t.val / 64 else 2) * 1 + 1 * 0 = (if t.val < 128 then t.val / 64 else 2)
    omega
  · show win0_1.index t 2 * 6144 + 1 * k.val = _
    rw [idx_1 t]
    show 0 * 6144 + 1 * k.val = k.val
    omega
  · unfold Data.md
    by_cases h : t.val < 128
    · have h2 : 256 * t.val + r.val < 32768 := by omega
      have e : (256 * t.val + r.val) / 16384 = t.val / 64 := by omega
      have h3 : t.val / 64 < 2 := by omega
      simp only [h, h2, h3, if_true, dif_pos, e]
    · have h2 : ¬256 * t.val + r.val < 32768 := by omega
      simp only [h, h2, if_false, dif_neg, not_false_iff, not_lt, le_refl, lt_irrefl]

theorem iblk_2 (t : Fin cfg0.N) (k : Fin 1024) : iblk m c 2 t (ix2 0 k) = (dataK m c).gain k := by
  rw [← gain_apply]
  unfold iblk
  rw [View.read_apply]
  show V m c main_v7 _ = V m c main_v7 _
  refine congrArg (V m c main_v7) (ext2 ?_ ?_)
  · show win0_2.index t 0 * 1 + 1 * 0 = 0
    rw [idx_2 t]
    rfl
  · show win0_2.index t 1 * 1024 + 1 * k.val = k.val
    rw [idx_2 t]
    show 0 * 1024 + 1 * k.val = k.val
    omega

theorem iblk_3 (t : Fin cfg0.N) (k : Fin 1024) (j : Fin 5120) : iblk m c 3 t (ix2 k j) = (dataK m c).weight k j := by
  rw [← weight_apply]
  unfold iblk
  rw [View.read_apply]
  show V m c main_v6 _ = V m c main_v6 _
  refine congrArg (V m c main_v6) (ext2 ?_ ?_)
  · show win0_3.index t 0 * 1024 + 1 * k.val = k.val
    rw [idx_3 t]
    show 0 * 1024 + 1 * k.val = k.val
    omega
  · show win0_3.index t 1 * 5120 + 1 * j.val = j.val
    rw [idx_3 t]
    show 0 * 5120 + 1 * j.val = j.val
    omega

theorem tile_out (t : Fin cfg0.N) (r : Fin 256) (j : Fin 5120) :
    k0_pay1 (iblk m c 1 t) (iblk m c 0 t) (iblk m c 2 t) (iblk m c 3 t) (ix2 r j)
      = (dataK m c).out ⟨256 * t.val + r.val, by have := point_lt t; omega⟩ j := by
  rw [tile_apply]
  unfold Data.out
  simp only [iblk_0, iblk_1 m c t r, iblk_2, iblk_3]

theorem tile_at (t : Fin cfg0.N) (y : S256x5120.Idx) (r : Fin 33280) (j : Fin 5120) (hr : r.val = 256 * t.val + (y 0).val) (hj : j.val = (y 1).val) :
    k0_pay1 (iblk m c 1 t) (iblk m c 0 t) (iblk m c 2 t) (iblk m c 3 t) y = (dataK m c).out r j := by
  have e : y = ix2 (y 0 : Fin 256) (y 1 : Fin 5120) := ext2 rfl rfl
  refine (congrArg _ e).trans ((tile_out m c t (y 0) (y 1)).trans ?_)
  exact congrArg₂ (dataK m c).out (Fin.ext hr.symm) (Fin.ext hj.symm)

theorem arr4 : (dats m 0 c).arrAt 4 cfg0.N = fun y : S33280x5120.Idx => (dataK m c).out (y 0) (y 1) := by
  refine (dats m 0 c).arrAt_eq_of_covers 4 _ (by decide +kernel) fun t hf y => ?_
  blk_simp
  rw [after0_4]
  unfold out0_4
  rw [View.canon_cons_unit_zero zero2, View.ld_unit_zero zero3, View.ld_unit_zero zero2, View.ld_unit_zero zero2, View.ld_unit_zero zero2]
  refine tile_at m c t y _ _ ?_ ?_
  · show win0_4.index t 0 * 256 + 1 * (y 0).val = _
    rw [idx_4 t]
    show t.val * 256 + 1 * (y 0).val = 256 * t.val + (y 0).val
    omega
  · show win0_4.index t 1 * 5120 + 1 * (y 1).val = _
    rw [idx_4 t]
    show 0 * 5120 + 1 * (y 1).val = (y 1).val
    omega

theorem arr5 : (dats m 0 c).arrAt 5 cfg0.N = fun y : S33280x512.Idx => (dataK m c).out (y 0) ⟨(y 1).val, lt_trans (y 1).isLt (by decide)⟩ := by
  refine (dats m 0 c).arrAt_eq_of_covers 5 _ (by decide +kernel) fun t hf y => ?_
  blk_simp
  rw [after0_5]
  unfold out0_5
  rw [canon5_eq, View.ld_unit_zero zero3, View.ld_unit_zero zero2, View.ld_unit_zero zero2, View.ld_unit_zero zero2]
  refine tile_at m c t (ix5_0 y) _ _ ?_ ?_
  · show win0_5.index t 0 * 256 + 1 * (y 0).val = 256 * t.val + (y 0).val
    rw [idx_5 t]
    show t.val * 256 + 1 * (y 0).val = 256 * t.val + (y 0).val
    omega
  · show win0_5.index t 1 * 512 + (y 1).val = (y 1).val
    rw [idx_5 t]
    show 0 * 512 + (y 1).val = (y 1).val
    omega

end Proj.Ker
-- ==== Proof.ProjRef.lean ====
module

public import proofs.«01_k».proof.Proof.Gen.Reference2Ideal.Run
public import proofs.«01_k».proof.Proof.Proj

/-! The in-projection's reference: latent and context rows apart, then stacked. -/

@[expose] public section

noncomputable section

namespace Proj.Ref

open Idealize.ShloMosaic Idealize.ShloMosaic.TcCoe Idealize.SL.Sem
open Cert.Reference2Ideal Cert.Reference2Ideal.Gen

variable (m : (ℓ : Loc nD τ sig) → Buf (Elt Ideal) ℓ) (c : Dev nD)

/-- The arguments, read by coordinates. -/
def dataR : Data where
  lat b n k := m (c.tc.loc main_arg0) (ix3 b n k)
  con b n k := m (c.tc.loc main_arg1) (ix3 b n k)
  modLat b k := m (c.tc.loc main_arg2) (ix2 b k)
  modCon k := m (c.tc.loc main_arg3) (ix1 k)
  gain k := m (c.tc.loc main_arg4) (ix1 k)
  weight k j := m (c.tc.loc main_arg5) (ix2 k j)

abbrev A0 : FVec Ideal S2x16384x1024 .f32 := m (c.tc.loc main_arg0)
abbrev A1 : FVec Ideal S2x256x1024 .f32 := m (c.tc.loc main_arg1)
abbrev A2 : FVec Ideal S2x6144 .f32 := m (c.tc.loc main_arg2)
abbrev A3 : FVec Ideal S6144 .f32 := m (c.tc.loc main_arg3)
abbrev A4 : FVec Ideal S1024 .f32 := m (c.tc.loc main_arg4)
abbrev A5 : FVec Ideal S1024x5120 .f32 := m (c.tc.loc main_arg5)

/-- The latent rows' projections, batch by batch. -/
def latOut : FVec Ideal S2x16384x5120 .f32 :=
  Host.dotGeneral dot_S2x16384x1024_S1024x5120_S2x16384x5120_2_0_01_1_n_n none
    (addf
      (mulf
        (mulf
          (mulf (A0 m c)
            (broadcastInDim S2x16384x1024 ![0, 1, 2] bcast_S2x16384x1_S2x16384x1024_0_1_2
              (Host.rsqrt
                (addf
                  (Host.divf
                    (broadcastInDim S2x16384x1 ![0, 1] bcast_S2x16384_S2x16384x1_0_1
                      (Host.reduceAdd (mulf (A0 m c) (A0 m c)) (constant S_ FTy.f32 0#32) reducesTo_S2x16384x1024_S2x16384_d2 h_S_))
                    (broadcastInDim S2x16384x1 ![] bcast_S_S2x16384x1 (constant S_ FTy.f32 1149239296#32)))
                  (broadcastInDim S2x16384x1 ![] bcast_S_S2x16384x1 (constant S_ FTy.f32 897988541#32))))))
          (broadcastInDim S2x16384x1024 ![0, 1, 2] bcast_S1x1x1024_S2x16384x1024_0_1_2
            (broadcastInDim S1x1x1024 ![2] bcast_S1024_S1x1x1024_2 (A4 m c))))
        (broadcastInDim S2x16384x1024 ![0, 1, 2] bcast_S2x1x1024_S2x16384x1024_0_1_2
          (addf (broadcastInDim S2x1x1024 ![] bcast_S_S2x1x1024 (constant S_ FTy.f32 1065353216#32))
            (extractStridedSlice S2x1x1024 ![0, 0, 1024]
              (broadcastInDim S2x1x6144 ![0, 2] bcast_S2x6144_S2x1x6144_0_2 (A2 m c)) slices_S2x1x6144_S2x1x1024_0_0_1024))))
      (broadcastInDim S2x16384x1024 ![0, 1, 2] bcast_S2x1x1024_S2x16384x1024_0_1_2
        (extractStridedSlice S2x1x1024 ![0, 0, 0]
          (broadcastInDim S2x1x6144 ![0, 2] bcast_S2x6144_S2x1x6144_0_2 (A2 m c)) slices_S2x1x6144_S2x1x1024_0_0_0)))
    (A5 m c)

/-- The context rows' projections, batch by batch. -/
def conOut : FVec Ideal S2x256x5120 .f32 :=
  Host.dotGeneral dot_S2x256x1024_S1024x5120_S2x256x5120_2_0_01_1_n_n none
    (addf
      (mulf
        (mulf
          (mulf (A1 m c)
            (broadcastInDim S2x256x1024 ![0, 1, 2] bcast_S2x256x1_S2x256x1024_0_1_2
              (Host.rsqrt
                (addf
                  (Host.divf
                    (broadcastInDim S2x256x1 ![0, 1] bcast_S2x256_S2x256x1_0_1
                      (Host.reduceAdd (mulf (A1 m c) (A1 m c)) (constant S_ FTy.f32 0#32) reducesTo_S2x256x1024_S2x256_d2 h_S_))
                    (broadcastInDim S2x256x1 ![] bcast_S_S2x256x1 (constant S_ FTy.f32 1149239296#32)))
                  (broadcastInDim S2x256x1 ![] bcast_S_S2x256x1 (constant S_ FTy.f32 897988541#32))))))
          (broadcastInDim S2x256x1024 ![0, 1, 2] bcast_S1x1x1024_S2x256x1024_0_1_2
            (broadcastInDim S1x1x1024 ![2] bcast_S1024_S1x1x1024_2 (A4 m c))))
        (broadcastInDim S2x256x1024 ![0, 1, 2] bcast_S1x1x1024_S2x256x1024_0_1_2
          (broadcastInDim S1x1x1024 ![2] bcast_S1024_S1x1x1024_2
            (addf (broadcastInDim S1024 ![] bcast_S_S1024 (constant S_ FTy.f32 1065353216#32))
              (extractStridedSlice S1024 ![1024] (A3 m c) slices_S6144_S1024_1024)))))
      (broadcastInDim S2x256x1024 ![0, 1, 2] bcast_S1x1x1024_S2x256x1024_0_1_2
        (broadcastInDim S1x1x1024 ![2] bcast_S1024_S1x1x1024_2
          (extractStridedSlice S1024 ![0] (A3 m c) slices_S6144_S1024_0))))
    (A5 m c)

theorem latOut_apply (b : Fin 2) (n : Fin 16384) (j : Fin 5120) :
    latOut m c (ix3 b n j) = proj ((dataR m c).lat b n) (dataR m c).gain ((dataR m c).modLat b) fun k => (dataR m c).weight k j := by
  pointwise [latOut]
  rfl

theorem conOut_apply (b : Fin 2) (n : Fin 256) (j : Fin 5120) :
    conOut m c (ix3 b n j) = proj ((dataR m c).con b n) (dataR m c).gain (dataR m c).modCon fun k => (dataR m c).weight k j := by
  pointwise [conOut]
  rfl

/-- Latent rows, then context rows. -/
def stacked : FVec Ideal S33280x5120 .f32 :=
  concatenate S33280x5120 0
    [⟨S32768x5120, shapeCast S32768x5120 (latOut m c) shapeCasts_S2x16384x5120_S32768x5120⟩,
      ⟨S512x5120, shapeCast S512x5120 (conOut m c) shapeCasts_S2x256x5120_S512x5120⟩] concatenates_S32768x5120_S512x5120_S33280x5120_d0

theorem stacked_apply (r : Fin 33280) (j : Fin 5120) : stacked m c (ix2 r j) = (dataR m c).out r j := by
  unfold stacked Data.out Data.md
  by_cases h : r.val < 32768
  · refine (concatenate_pair_apply_left (s₁ := S32768x5120) (0 : Fin S33280x5120.rank) _ _ _ (ix2 r j) rfl
      (ix2 ⟨r.val, h⟩ j : S32768x5120.Idx) ?_).trans ?_
    · intro a
      match a with
      | ⟨0, _⟩ => rfl
      | ⟨1, _⟩ => rfl
    · have e : (dataR m c).row r = (dataR m c).lat ⟨r.val / 16384, by omega⟩ ⟨r.val % 16384, by omega⟩ := funext fun k => dif_pos h
      rw [e, dif_pos h, ← latOut_apply]
      refine shapeCast_apply _ _ _ _ ?_
      refine (Shape.rowMajor_val_three (d := ![2, 16384, 5120]) _).trans
        (Eq.trans ?_ (Shape.rowMajor_val_two (d := ![32768, 5120]) (ix2 ⟨r.val, h⟩ j)).symm)
      show (r.val / 16384 * 16384 + r.val % 16384) * 5120 + j.val = r.val * 5120 + j.val
      omega
  · refine (concatenate_pair_apply_right (s₁ := S32768x5120) (s₂ := S512x5120) (0 : Fin S33280x5120.rank) _ _ _ (ix2 r j) rfl rfl
      (ix2 ⟨r.val - 32768, by omega⟩ j : S512x5120.Idx) ?_ ?_).trans ?_
    · intro a ha
      match a with
      | ⟨0, _⟩ => exact absurd rfl ha
      | ⟨1, _⟩ => rfl
    · show r.val - 32768 + 32768 = r.val
      omega
    · have e : (dataR m c).row r = (dataR m c).con ⟨(r.val - 32768) / 256, by omega⟩ ⟨(r.val - 32768) % 256, by omega⟩ := funext fun k => dif_neg h
      rw [e, dif_neg h, ← conOut_apply]
      refine shapeCast_apply _ _ _ _ ?_
      refine (Shape.rowMajor_val_three (d := ![2, 256, 5120]) _).trans
        (Eq.trans ?_ (Shape.rowMajor_val_two (d := ![512, 5120]) (ix2 ⟨r.val - 32768, by omega⟩ j)).symm)
      show ((r.val - 32768) / 256 * 256 + (r.val - 32768) % 256) * 5120 + j.val = (r.val - 32768) * 5120 + j.val
      omega

theorem first_columns (r : Fin 33280) (j : Fin 512) :
    truncf .bf16 (extractStridedSlice S33280x512 ![0, 0] (stacked m c) slices_S33280x5120_S33280x512_0_0) bitsLt_bf16_f32 (ix2 r j)
      = (dataR m c).out r ⟨j.val, by omega⟩ := by
  rw [← stacked_apply]
  pointwise

/-- The reference's run: both results over the projections, the arguments unchanged. -/
theorem run_projections (ρ : Dev nD → PrngReg) : θ_run defs (onTc (τ := τ) (main (F := Ideal))) ⟨m, fun _ => 0, ρ⟩ fun r => ∀ c : Dev nD,
      r.2.mem (c.tc.loc main_v57) = (fun y : S33280x5120.Idx => (dataR m c).out (y 0) (y 1))
      ∧ r.2.mem (c.tc.loc main_v59) = (fun y : S33280x512.Idx => (dataR m c).out (y 0) ⟨(y 1).val, lt_trans (y 1).isLt (by decide)⟩)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (Cert.Reference2Ideal.Value.run m ρ)
  obtain ⟨e0, e1, k⟩ := h c
  refine ⟨e0.trans (funext fun y => ?_), e1.trans (funext fun y => ?_), k⟩
  · rw [show y = ix2 (y 0 : Fin 33280) (y 1 : Fin 5120) from funext fun a => match a with | ⟨0, _⟩ => rfl | ⟨1, _⟩ => rfl]
    exact stacked_apply m c _ _
  · rw [show y = ix2 (y 0 : Fin 33280) (y 1 : Fin 512) from funext fun a => match a with | ⟨0, _⟩ => rfl | ⟨1, _⟩ => rfl]
    exact first_columns m c _ _

end Proj.Ref
-- ==== Proof.MergeRunA.lean ====
module

public import proofs.«01_k».proof.Proof.Gen.Kernel4Ideal.Frame.Runs

@[expose] public section

set_option maxRecDepth 16384

noncomputable section

namespace Cert.Proof.Run4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- A whole memref owned at `x` is its points-to at the raw contents that read `x`. -/
theorem owns_pts (c : Thread nD τ) {sp : Space} {sh : Shape} {e : EltTy} (M : Memref sig c.2.kind sp sh e)
    (h : M.IsWhole) (x : sh.Idx → Elt F e) :
    (owns c M fullShare x : sProp 𝕄) ⊢ M.view.loc c ↦[M.view.set]{fullShare} h.unread x := by
  unfold owns
  iintro ⟨%f, %hf, H⟩
  obtain rfl := h.eq_unread hf
  iexact H

/-- and back. -/
theorem pts_owns (c : Thread nD τ) {sp : Space} {sh : Shape} {e : EltTy} (M : Memref sig c.2.kind sp sh e)
    (h : M.IsWhole) (x : sh.Idx → Elt F e) :
    (M.view.loc c ↦[M.view.set]{fullShare} h.unread x : sProp 𝕄) ⊢ owns c M fullShare x := by
  unfold owns
  iintro H
  iexists _; isplitr
  · ipureintro; exact h.read_unread _
  iexact H

-- the run's term is large
set_option maxHeartbeats 4000000 in
/-- The merge kernel's body run at the first point, over any buffers it may be given: the pieces it stores into each
    result and into the counts it carries between points, and that it leaves the inputs as they were. -/
noncomputable def kernelRun0_A (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1x6144 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1x128 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .i32) (harg25 : arg25.IsWhole) (arg26 : Memref sig .tc .vmem S1x128 .f32) (harg26 : arg26.IsWhole) (arg27 : Memref sig .tc .vmem S1x128 .f32) (harg27 : arg27.IsWhole) (hc0 : cond0_0 i)
    (x0 : Vec F S256x1024 .f32) (x1 : Vec F S256x512 .f32) (x2 : Vec F S256x512 .f32) (x3 : Vec F S256x1024 .f32) (x4 : Vec F S256x1024 .f32) (x5 : Vec F S256x512 .f32) (x6 : Vec F S256x512 .f32) (x7 : Vec F S256x512 .f32) (x8 : Vec F S256x512 .f32) (x9 : Vec F S256x512 .f32) (x10 : Vec F S1x1x6144 .f32) (x11 : Vec F S1x512 .f32) (x12 : Vec F S512x512 .bf16) (x13 : Vec F S1x128 .f32) (x14 : Vec F S512x1024 .bf16) (x15 : Vec F S512x1024 .bf16) (x16 : Vec F S1024x1024 .bf16) (x17 : Vec F S1x1024 .f32) (x18 : Vec F S1024x128 .bf16) (x19 : Vec F S1024x128 .bf16) (x20 : Vec F S1x128 .f32) :
    Σ' (L21 : List (View.Piece (Elt F) S256x1024 .f32)), Σ' (L22 : List (View.Piece (Elt F) S256x1024 .f32)), Σ' (L23 : List (View.Piece (Elt F) S256x128 .f32)), Σ' (L24 : List (View.Piece (Elt F) S256x128 .i32)), Σ' (L25 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LS0)) -∗ K ⟨⟩))
          ⊢ wp frame (wpE (defs₀ (F := F)) Variants.none c none) E (cc0_mixer_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, fun E K => ?run⟩
  case run =>
    refine BIBase.Entails.trans (BIClass.sep_mono (owns_pts (c : Thread nD τ) arg1 harg1 x0) (BIClass.sep_mono (owns_pts (c : Thread nD τ) arg2 harg2 x1) (BIClass.sep_mono (owns_pts (c : Thread nD τ) arg3 harg3 x2) (BIClass.sep_mono (owns_pts (c : Thread nD τ) arg4 harg4 x3) (BIClass.sep_mono (owns_pts (c : Thread nD τ) arg5 harg5 x4) (BIClass.sep_mono (owns_pts (c : Thread nD τ) arg6 harg6 x5) (BIClass.sep_mono (owns_pts (c : Thread nD τ) arg7 harg7 x6) (BIClass.sep_mono (owns_pts (c : Thread nD τ) arg8 harg8 x7) (BIClass.sep_mono (owns_pts (c : Thread nD τ) arg9 harg9 x8) (BIClass.sep_mono (owns_pts (c : Thread nD τ) arg10 harg10 x9) (BIClass.sep_mono (owns_pts (c : Thread nD τ) arg11 harg11 x10) (BIClass.sep_mono (owns_pts (c : Thread nD τ) arg12 harg12 x11) (BIClass.sep_mono (owns_pts (c : Thread nD τ) arg13 harg13 x12) (BIClass.sep_mono (owns_pts (c : Thread nD τ) arg14 harg14 x13) (BIClass.sep_mono (owns_pts (c : Thread nD τ) arg15 harg15 x14) (BIClass.sep_mono (owns_pts (c : Thread nD τ) arg16 harg16 x15) (BIClass.sep_mono (owns_pts (c : Thread nD τ) arg17 harg17 x16) (BIClass.sep_mono (owns_pts (c : Thread nD τ) arg18 harg18 x17) (BIClass.sep_mono (owns_pts (c : Thread nD τ) arg19 harg19 x18) (BIClass.sep_mono (owns_pts (c : Thread nD τ) arg20 harg20 x19) (BIClass.sep_mono (owns_pts (c : Thread nD τ) arg21 harg21 x20) (BIBase.Entails.rfl)))))))))))))))))))))) ?_
    simp only [cc0_mixer_post_eq_skeleton]; unfold cc0_mixer_post_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨H0, H1, H2, H3, H4, H5, H6, H7, H8, H9, H10, H11, H12, H13, H14, H15, H16, H17, H18, H19, H20, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Proof.Run4

end
-- ==== Proof.MergeOut.lean ====
module

public import proofs.«01_k».proof.Proof.MergeRunB

@[expose] public section

set_option maxRecDepth 16384

noncomputable section

namespace Cert.Proof.Run4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

section A

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1x6144 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1x128 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .i32) (harg25 : arg25.IsWhole) (arg26 : Memref sig .tc .vmem S1x128 .f32) (harg26 : arg26.IsWhole) (arg27 : Memref sig .tc .vmem S1x128 .f32) (harg27 : arg27.IsWhole) (hc0 : cond0_0 i)
    (x0 : Vec F S256x1024 .f32) (x1 : Vec F S256x512 .f32) (x2 : Vec F S256x512 .f32) (x3 : Vec F S256x1024 .f32) (x4 : Vec F S256x1024 .f32) (x5 : Vec F S256x512 .f32) (x6 : Vec F S256x512 .f32) (x7 : Vec F S256x512 .f32) (x8 : Vec F S256x512 .f32) (x9 : Vec F S256x512 .f32) (x10 : Vec F S1x1x6144 .f32) (x11 : Vec F S1x512 .f32) (x12 : Vec F S512x512 .bf16) (x13 : Vec F S1x128 .f32) (x14 : Vec F S512x1024 .bf16) (x15 : Vec F S512x1024 .bf16) (x16 : Vec F S1024x1024 .bf16) (x17 : Vec F S1x1024 .f32) (x18 : Vec F S1024x128 .bf16) (x19 : Vec F S1024x128 .bf16) (x20 : Vec F S1x128 .f32)

/-- The pieces of this run cover the result's block. -/
theorem cover0_A_21 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).1 S256x1024.size (by sl_kernel_rfl) y

/-- What this run leaves in the result's buffer. -/
def out0_A_21 : Vec F S256x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).1)

/-- The pieces of this run cover the result's block. -/
theorem cover0_A_22 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.1 S256x1024.size (by sl_kernel_rfl) y

/-- What this run leaves in the result's buffer. -/
def out0_A_22 : Vec F S256x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.1)

/-- The pieces of this run cover the result's block. -/
theorem cover0_A_23 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.1 S256x128.size (by sl_kernel_rfl) y

/-- What this run leaves in the result's buffer. -/
def out0_A_23 : Vec F S256x128 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.1)

/-- The pieces of this run cover the result's block. -/
theorem cover0_A_24 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.1 S256x128.size (by sl_kernel_rfl) y

/-- What this run leaves in the result's buffer. -/
def out0_A_24 : Vec F S256x128 .i32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.1)

/-- The pieces of this run cover the result's block. -/
theorem cover0_A_25 (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.1 S1x128.size (by sl_kernel_rfl) y

/-- What this run leaves in the result's buffer. -/
def out0_A_25 : Vec F S1x128 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.1)

/-- The pieces of this run cover the counts. -/
theorem scover0_A_0 (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.2.1 S1x128.size (by sl_kernel_rfl) y

/-- What this run leaves in the counts. -/
def sout0_A_0 : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.2.2.2.2.1)

end A

section B

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1x6144 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1x128 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .i32) (harg25 : arg25.IsWhole) (arg26 : Memref sig .tc .vmem S1x128 .f32) (harg26 : arg26.IsWhole) (arg27 : Memref sig .tc .vmem S1x128 .f32) (harg27 : arg27.IsWhole) (hc0 : ¬cond0_0 i)
    (x0 : Vec F S256x1024 .f32) (x1 : Vec F S256x512 .f32) (x2 : Vec F S256x512 .f32) (x3 : Vec F S256x1024 .f32) (x4 : Vec F S256x1024 .f32) (x5 : Vec F S256x512 .f32) (x6 : Vec F S256x512 .f32) (x7 : Vec F S256x512 .f32) (x8 : Vec F S256x512 .f32) (x9 : Vec F S256x512 .f32) (x10 : Vec F S1x1x6144 .f32) (x11 : Vec F S1x512 .f32) (x12 : Vec F S512x512 .bf16) (x13 : Vec F S1x128 .f32) (x14 : Vec F S512x1024 .bf16) (x15 : Vec F S512x1024 .bf16) (x16 : Vec F S1024x1024 .bf16) (x17 : Vec F S1x1024 .f32) (x18 : Vec F S1024x128 .bf16) (x19 : Vec F S1024x128 .bf16) (x20 : Vec F S1x128 .f32) (xs0 : Vec F S1x128 .f32)

/-- The pieces of this run cover the result's block. -/
theorem cover0_B_21 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).1 S256x1024.size (by sl_kernel_rfl) y

/-- What this run leaves in the result's buffer. -/
def out0_B_21 : Vec F S256x1024 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).1)

/-- The pieces of this run cover the result's block. -/
theorem cover0_B_22 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.1 S256x1024.size (by sl_kernel_rfl) y

/-- What this run leaves in the result's buffer. -/
def out0_B_22 : Vec F S256x1024 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.1)

/-- The pieces of this run cover the result's block. -/
theorem cover0_B_23 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.1 S256x128.size (by sl_kernel_rfl) y

/-- What this run leaves in the result's buffer. -/
def out0_B_23 : Vec F S256x128 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.1)

/-- The pieces of this run cover the result's block. -/
theorem cover0_B_24 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.1 S256x128.size (by sl_kernel_rfl) y

/-- What this run leaves in the result's buffer. -/
def out0_B_24 : Vec F S256x128 .i32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.1)

/-- The pieces of this run cover the result's block. -/
theorem cover0_B_25 (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.1 S1x128.size (by sl_kernel_rfl) y

/-- What this run leaves in the result's buffer. -/
def out0_B_25 : Vec F S1x128 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.1)

/-- The pieces of this run cover the counts. -/
theorem scover0_B_0 (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.2.1 S1x128.size (by sl_kernel_rfl) y

/-- What this run leaves in the counts. -/
def sout0_B_0 : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.2.2.2.2.1)

end B

variable (m : (ℓ : Loc nD τ sig) → Buf (Elt F) ℓ) (ρ : Dev nD → PrngReg)

/-- What the five results' buffers and the counts hold after the body at point `n`. -/
def outsAt0 (c : Dev nD) : (n : ℕ) → n < cfg0.N → Vec F S256x1024 .f32 × Vec F S256x1024 .f32 × Vec F S256x128 .f32 × Vec F S256x128 .i32 × Vec F S1x128 .f32 × Vec F S1x128 .f32
  | 0, hn => (out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩))
  | n + 1, hn =>
    if h0 : (n + 1) % 130 = 0 then
      (out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩))
    else
      (out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2)

theorem outsAt0_A (c : Dev nD) (t : Fin cfg0.N) (h0 : t.val % 130 = 0) :
    outsAt0 m c t.val t.isLt = (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  obtain ⟨n, hn⟩ := t
  cases n with
  | zero => exact rfl
  | succ n => exact (dif_pos h0).trans rfl

theorem outsAt0_B (c : Dev nD) (t : Fin cfg0.N) (h0 : ¬t.val % 130 = 0) :
    outsAt0 m c t.val t.isLt = (out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

end Cert.Proof.Run4

end
-- ==== Proof.MergeFrame.lean ====
module

public import proofs.«01_k».proof.Proof.MergeOut
public import Idealize.ShloMosaic.Lib.Claim

@[expose] public section

set_option maxRecDepth 16384

noncomputable section

namespace Cert.Proof.Run4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: the counts at what the point before left, the generator at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-- What the pipeline holds: arrays as found, inputs at their blocks, results at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨22, _⟩ => (outsAt0 m c t.val t.isLt).2.1
    | ⟨23, _⟩ => (outsAt0 m c t.val t.isLt).2.2.1
    | ⟨24, _⟩ => (outsAt0 m c t.val t.isLt).2.2.2.1
    | ⟨25, _⟩ => (outsAt0 m c t.val t.isLt).2.2.2.2.1
    | ⟨_ + 26, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t.val t.isLt).1 := by dsimp only [dats]
theorem after0_22 (c : Dev nD) (t : Fin cfg0.N) : (dats m 0 c).after 22 t = (outsAt0 m c t.val t.isLt).2.1 := by dsimp only [dats]
theorem after0_23 (c : Dev nD) (t : Fin cfg0.N) : (dats m 0 c).after 23 t = (outsAt0 m c t.val t.isLt).2.2.1 := by dsimp only [dats]
theorem after0_24 (c : Dev nD) (t : Fin cfg0.N) : (dats m 0 c).after 24 t = (outsAt0 m c t.val t.isLt).2.2.2.1 := by dsimp only [dats]
theorem after0_25 (c : Dev nD) (t : Fin cfg0.N) : (dats m 0 c).after 25 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 19200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 130 := lt_of_lt_of_eq t.isLt (show cfg0.N = 130 from N_0)
  by_cases h0 : t.val % 130 = 0
  · by_cases hz : t.val = 0
    · rw [PhiS_castSucc m c t, PhiS_zero m c _ _ hz, PhiA0_eq]
      rw [outsAt0_A m c t h0]
      unfold out0_A_21 out0_A_22 out0_A_23 out0_A_24 out0_A_25 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 130 := lt_of_lt_of_eq t.isLt (show cfg0.N = 130 from N_0); omega
  · by_cases hz : t.val = 0
    · exfalso; have hN : t.val < 130 := lt_of_lt_of_eq t.isLt (show cfg0.N = 130 from N_0); omega
    · rw [PhiS_castSucc m c t, PhiS_pos m c _ _ hz]
      rw [outsAt0_B m c t h0]
      unfold out0_B_21 out0_B_22 out0_B_23 out0_B_24 out0_B_25 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 130 := N_0; omega)

set_option backward.isDefEq.respectTransparency.types false in
/-- The whole run, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The argument arrays end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Proof.Run4

end
-- ==== Proof.Merge.lean ====
module

public import Idealize.ShloMosaic.Lib.Pointwise

/-! The gated merge that ends the mixer: a token's two branch outputs are gated, mixed, projected and added to the token,
    and the sum is normalised and modulated for the experts. -/

@[expose] public section

noncomputable section

namespace Merge

open Idealize.ShloMosaic

/-- The smooth gate of one number, by its hyperbolic tangent. -/
def gelu (a : EReal) : EReal :=
  a * (Ideal.ofBits FTy.f32 0x3F000000#32
    * (1 + Ideal.tanh (Ideal.ofBits FTy.f32 0x3F4C422A#32 * (a + Ideal.ofBits FTy.f32 0x3D372713#32 * (a * a * a)))))

/-- What one token brings: itself, its projections, the state space branch's output, the recurrence's output. -/
structure Token where
  x : Fin 1024 → EReal
  z : Fin 5120 → EReal
  y : Fin 512 → EReal
  o : Fin 512 → EReal
  md : Fin 6144 → EReal

/-- What all tokens share. -/
structure Weights where
  d : Fin 512 → EReal
  glu : Fin 512 → Fin 512 → EReal
  head : Fin 128 → EReal
  upS : Fin 512 → Fin 1024 → EReal
  upH : Fin 512 → Fin 1024 → EReal
  out : Fin 1024 → Fin 1024 → EReal
  gain : Fin 1024 → EReal

variable (T : Token) (W : Weights)

/-- The state space branch with its skip connection, through the smooth gate. -/
def act (k : Fin 512) : EReal := gelu (T.y k + W.d k * T.z ⟨k, by omega⟩)

/-- The state space branch's final output. -/
def unit (k : Fin 512) : EReal := act T W k * Ideal.logistic (∑ j, act T W j * W.glu j k)

/-- One over the root mean square of head `h`. -/
def headInv (h : Fin 4) : EReal :=
  Ideal.rsqrt (Ideal.div (∑ j : Fin 128, T.o ⟨h * 128 + j, by omega⟩ * T.o ⟨h * 128 + j, by omega⟩) (Ideal.ofBits FTy.f32 0x43000000#32)
    + Ideal.ofBits FTy.f32 0x358637BD#32)

/-- Entry `j` of head `h`, normalised and scaled. -/
def headOut (h : Fin 4) (j : Fin 128) : EReal := T.o ⟨h * 128 + j, by omega⟩ * headInv T h * W.head j

/-- The recurrence's branch: the heads side by side, gated. -/
def gated (k : Fin 512) : EReal :=
  headOut T W ⟨k / 128, by omega⟩ ⟨k % 128, by omega⟩ * (T.z ⟨2560 + k, by omega⟩ * Ideal.logistic (T.z ⟨2560 + k, by omega⟩))

/-- The two branches, lifted and gated. -/
def mixed (k : Fin 1024) : EReal :=
  Ideal.logistic (T.z ⟨3072 + k, by omega⟩) * (∑ j, unit T W j * W.upS j k)
    + Ideal.logistic (T.z ⟨4096 + k, by omega⟩) * (∑ j, gated T W j * W.upH j k)

/-- The mixed branches, projected. -/
def projected (k : Fin 1024) : EReal := ∑ j, mixed T W j * W.out j k

/-- The token after the mixer. -/
def after (k : Fin 1024) : EReal := T.x k + T.md ⟨2048 + k, by omega⟩ * projected T W k

/-- One over the root mean square of the token after the mixer. -/
def inv : EReal :=
  Ideal.rsqrt (Ideal.div (∑ k, after T W k * after T W k) (Ideal.ofBits FTy.f32 0x44800000#32) + Ideal.ofBits FTy.f32 0x358637BD#32)

/-- The token normalised and modulated for the experts. -/
def normed (k : Fin 1024) : EReal :=
  after T W k * inv T W * W.gain k * (1 + T.md ⟨4096 + k, by omega⟩) + T.md ⟨3072 + k, by omega⟩

/-- What the call reads: the stacked tokens, their projections and state space outputs, the recurrence's two directions for
    latents and contexts, the modulations, the weights. -/
structure Data where
  x : Fin 33280 → Fin 1024 → EReal
  z : Fin 33280 → Fin 5120 → EReal
  y : Fin 33280 → Fin 512 → EReal
  fwdLat : Fin 32768 → Fin 512 → EReal
  bwdLat : Fin 32768 → Fin 512 → EReal
  fwdCon : Fin 512 → Fin 512 → EReal
  bwdCon : Fin 512 → Fin 512 → EReal
  modLat : Fin 2 → Fin 6144 → EReal
  modCon : Fin 6144 → EReal
  w : Weights

/-- The recurrence's output for row `r`: both directions added. -/
def Data.o (D : Data) (r : Fin 33280) (k : Fin 512) : EReal :=
  if h : r.val < 32768 then D.fwdLat ⟨r.val, h⟩ k + D.bwdLat ⟨r.val, h⟩ k
  else D.fwdCon ⟨r.val - 32768, by omega⟩ k + D.bwdCon ⟨r.val - 32768, by omega⟩ k

/-- The modulation of row `r`: its batch's for a latent token, the shared one for a context token. -/
def Data.md (D : Data) (r : Fin 33280) : Fin 6144 → EReal :=
  if h : r.val < 32768 then D.modLat ⟨r.val / 16384, by omega⟩ else D.modCon

/-- Row `r` of everything. -/
def Data.token (D : Data) (r : Fin 33280) : Token := ⟨D.x r, D.z r, D.y r, D.o r, D.md r⟩

end Merge
-- ==== Proof.MergeTile.lean ====
module

public import proofs.«01_k».proof.Proof.Gen.Kernel4Ideal.Skeleton
public import proofs.«01_k».proof.Proof.Merge

/-! One tile of the gated merge kernel, row by row. -/

@[expose] public section

noncomputable section

namespace Merge.Ker

open Idealize.ShloMosaic Idealize.ShloMosaic.TcCoe Idealize.SL.Sem
open Cert.Kernel4Ideal Cert.Kernel4Ideal.Gen

/-- The blocks one grid point reads. -/
structure Blocks where
  x : Vec Ideal S256x1024 .f32
  u : Vec Ideal S256x512 .f32
  g : Vec Ideal S256x512 .f32
  gs : Vec Ideal S256x1024 .f32
  gh : Vec Ideal S256x1024 .f32
  y : Vec Ideal S256x512 .f32
  ofl : Vec Ideal S256x512 .f32
  obl : Vec Ideal S256x512 .f32
  ofc : Vec Ideal S256x512 .f32
  obc : Vec Ideal S256x512 .f32
  md : Vec Ideal S1x1x6144 .f32
  d : Vec Ideal S1x512 .f32
  glu : Vec Ideal S512x512 .bf16
  hn : Vec Ideal S1x128 .f32
  us : Vec Ideal S512x1024 .bf16
  uh : Vec Ideal S512x1024 .bf16
  w : Vec Ideal S1024x1024 .bf16
  n2 : Vec Ideal S1x1024 .f32

/-- Row `r` of the blocks is the token `T`, and the shared blocks are the weights `W`; `s` tells a latent point. -/
structure Holds (B : Blocks) (s : BitVec 1) (r : Fin 256) (T : Token) (W : Weights) : Prop where
  x : ∀ k, B.x (ix2 r k) = T.x k
  u : ∀ k : Fin 512, B.u (ix2 r k) = T.z ⟨k, by omega⟩
  g : ∀ k : Fin 512, B.g (ix2 r k) = T.z ⟨2560 + k, by omega⟩
  gs : ∀ k : Fin 1024, B.gs (ix2 r k) = T.z ⟨3072 + k, by omega⟩
  gh : ∀ k : Fin 1024, B.gh (ix2 r k) = T.z ⟨4096 + k, by omega⟩
  y : ∀ k, B.y (ix2 r k) = T.y k
  o : ∀ k, k0_pay5 s (k0_pay4 B.ofl B.obl) B.ofc B.obc (ix2 r k) = T.o k
  md : ∀ k, B.md (ix3 0 0 k) = T.md k
  d : ∀ k, B.d (ix2 0 k) = W.d k
  glu : ∀ j k, B.glu (ix2 j k) = W.glu j k
  hn : ∀ k, B.hn (ix2 0 k) = W.head k
  us : ∀ j k, B.us (ix2 j k) = W.upS j k
  uh : ∀ j k, B.uh (ix2 j k) = W.upH j k
  w : ∀ j k, B.w (ix2 j k) = W.out j k
  n2 : ∀ k, B.n2 (ix2 0 k) = W.gain k

variable (T : Token) (W : Weights)

theorem gelu_eq (a : EReal) : Ideal.ofBits FTy.f32 0x3F000000#32 * a
    * (1 + Ideal.tanh (Ideal.ofBits FTy.f32 0x3F4C422A#32 * (a + Ideal.ofBits FTy.f32 0x3D372713#32 * (a * a * a)))) = gelu a := by
  unfold gelu
  rw [mul_comm _ a, mul_assoc]

theorem unit_apply (y : Vec Ideal S256x512 .f32) (d : Vec Ideal S1x512 .f32) (u : Vec Ideal S256x512 .f32) (w : Vec Ideal S512x512 .bf16)
    (r : Fin 256) (k : Fin 512) (hy : ∀ k, y (ix2 r k) = T.y k) (hd : ∀ k, d (ix2 0 k) = W.d k)
    (hu : ∀ k : Fin 512, u (ix2 r k) = T.z ⟨k, by omega⟩) (hw : ∀ j k, w (ix2 j k) = W.glu j k) :
    k0_pay3 y d u w (ix2 r k) = unit T W k := by
  pointwise [k0_pay3]
  simp only [hy, hd, hu, hw, gelu_eq]
  rfl

theorem head_eq (h : Fin 4) (off : ℕ) (e : off = h.val * 128) (j : Fin 128) :
    T.o ⟨off + j, by omega⟩ * Ideal.rsqrt (Ideal.div (∑ x : Fin 128, T.o ⟨off + x, by omega⟩ * T.o ⟨off + x, by omega⟩)
      (Ideal.ofBits FTy.f32 1124073472#32) + Ideal.ofBits FTy.f32 897988541#32) * W.head j = headOut T W h j := by
  subst e
  rfl

theorem head_eq0 (j : Fin 128) :
    T.o ⟨j, by omega⟩ * Ideal.rsqrt (Ideal.div (∑ x : Fin 128, T.o ⟨x, by omega⟩ * T.o ⟨x, by omega⟩)
      (Ideal.ofBits FTy.f32 1124073472#32) + Ideal.ofBits FTy.f32 897988541#32) * W.head j = headOut T W 0 j := by
  have e := head_eq T W 0 0 rfl j
  simpa only [Nat.zero_add] using e

section Heads

variable (s : BitVec 1) (p a b : Vec Ideal S256x512 .f32) (n : Vec Ideal S1x128 .f32) (r : Fin 256) (j : Fin 128)
    (ho : ∀ k, k0_pay5 s p a b (ix2 r k) = T.o k) (hn : ∀ k, n (ix2 0 k) = W.head k)
include ho hn

theorem head0_apply : k0_pay7 s p a b n (ix2 r j) = headOut T W 0 j := by
  unfold k0_pay7 k0_pay6
  generalize k0_pay5 s p a b = q at ho
  pointwise
  simp only [ho, hn]
  exact head_eq0 T W j

theorem head1_apply : k0_pay8 s p a b n (ix2 r j) = headOut T W 1 j := by
  unfold k0_pay8 k0_pay6
  generalize k0_pay5 s p a b = q at ho
  pointwise
  simp only [ho, hn]
  exact head_eq T W 1 128 rfl j

theorem head2_apply : k0_pay9 s p a b n (ix2 r j) = headOut T W 2 j := by
  unfold k0_pay9 k0_pay6
  generalize k0_pay5 s p a b = q at ho
  pointwise
  simp only [ho, hn]
  exact head_eq T W 2 256 rfl j

end Heads

/-- The four heads side by side. -/
theorem heads_eq (k : Fin 512) :
    (if h : k.val < 128 then headOut T W 0 ⟨k, h⟩
      else if h : k.val - 128 < 128 then headOut T W 1 ⟨k - 128, h⟩
      else if h : k.val - 128 - 128 < 128 then headOut T W 2 ⟨k - 128 - 128, h⟩
      else headOut T W 3 ⟨k - 128 - 128 - 128, by omega⟩) = headOut T W ⟨k / 128, by omega⟩ ⟨k % 128, by omega⟩ := by
  split
  · exact congrArg₂ (headOut T W) (Fin.ext (by show 0 = k.val / 128; omega)) (Fin.ext (by show k.val = k.val % 128; omega))
  · split
    · exact congrArg₂ (headOut T W) (Fin.ext (by show 1 = k.val / 128; omega)) (Fin.ext (by show k.val - 128 = k.val % 128; omega))
    · split
      · exact congrArg₂ (headOut T W) (Fin.ext (by show 2 = k.val / 128; omega)) (Fin.ext (by show k.val - 128 - 128 = k.val % 128; omega))
      · exact congrArg₂ (headOut T W) (Fin.ext (by show 3 = k.val / 128; omega)) (Fin.ext (by show k.val - 128 - 128 - 128 = k.val % 128; omega))

/-- The same, the last head written out. -/
theorem heads_eq' (k : Fin 512) :
    (if h : k.val < 128 then headOut T W 0 ⟨k, h⟩
      else if h : k.val - 128 < 128 then headOut T W 1 ⟨k - 128, h⟩
      else if h : k.val - 128 - 128 < 128 then headOut T W 2 ⟨k - 128 - 128, h⟩
      else T.o ⟨384 + (k - 128 - 128 - 128), by omega⟩ * Ideal.rsqrt (Ideal.div (∑ x : Fin 128, T.o ⟨384 + x, by omega⟩ * T.o ⟨384 + x, by omega⟩)
        (Ideal.ofBits FTy.f32 1124073472#32) + Ideal.ofBits FTy.f32 897988541#32) * W.head ⟨k - 128 - 128 - 128, by omega⟩)
      = headOut T W ⟨k / 128, by omega⟩ ⟨k % 128, by omega⟩ := by
  rw [← heads_eq]
  split
  · rfl
  · split
    · rfl
    · split
      · rfl
      · exact head_eq T W 3 384 rfl ⟨k - 128 - 128 - 128, by omega⟩

theorem projected_apply (v : Vec Ideal S256x512 .f32) (o : Vec Ideal S256x512 .f32) (n : Vec Ideal S1x128 .f32) (h0 h1 h2 : Vec Ideal S256x128 .f32)
    (g : Vec Ideal S256x512 .f32) (gs : Vec Ideal S256x1024 .f32) (us : Vec Ideal S512x1024 .bf16) (gh : Vec Ideal S256x1024 .f32) (uh : Vec Ideal S512x1024 .bf16)
    (w : Vec Ideal S1024x1024 .bf16) (r : Fin 256) (k : Fin 1024)
    (hv : ∀ k, v (ix2 r k) = unit T W k) (ho : ∀ k, o (ix2 r k) = T.o k) (hn : ∀ k, n (ix2 0 k) = W.head k)
    (e0 : ∀ j, h0 (ix2 r j) = headOut T W 0 j) (e1 : ∀ j, h1 (ix2 r j) = headOut T W 1 j) (e2 : ∀ j, h2 (ix2 r j) = headOut T W 2 j)
    (hg : ∀ k : Fin 512, g (ix2 r k) = T.z ⟨2560 + k, by omega⟩) (hgs : ∀ k : Fin 1024, gs (ix2 r k) = T.z ⟨3072 + k, by omega⟩)
    (hgh : ∀ k : Fin 1024, gh (ix2 r k) = T.z ⟨4096 + k, by omega⟩) (hus : ∀ j k, us (ix2 j k) = W.upS j k)
    (huh : ∀ j k, uh (ix2 j k) = W.upH j k) (hw : ∀ j k, w (ix2 j k) = W.out j k) :
    k0_pay10 v o n h0 h1 h2 g gs us gh uh w (ix2 r k) = projected T W k := by
  pointwise [k0_pay10]
  simp only [hv, ho, hn, e0, e1, e2, hg, hgs, hgh, hus, huh, hw]
  simp only [heads_eq']
  rfl

section Stored

variable (B : Blocks) (s : BitVec 1) (r : Fin 256)

/-- The projected branches, as the kernel nests them. -/
def projBlock : FVec Ideal S256x1024 .f32 :=
  k0_pay10 (k0_pay3 B.y B.d B.u B.glu) (k0_pay5 s (k0_pay4 B.ofl B.obl) B.ofc B.obc) (k0_pay6 B.hn)
    (k0_pay7 s (k0_pay4 B.ofl B.obl) B.ofc B.obc B.hn) (k0_pay8 s (k0_pay4 B.ofl B.obl) B.ofc B.obc B.hn)
    (k0_pay9 s (k0_pay4 B.ofl B.obl) B.ofc B.obc B.hn) B.g B.gs B.us B.gh B.uh B.w

/-- The block of tokens stored. -/
def afterBlock : FVec Ideal S256x1024 .f32 := k0_pay12 (projBlock B s) B.x (k0_pay11 (k0_pay2 B.md))

/-- The block of normalised tokens stored. -/
def normedBlock : FVec Ideal S256x1024 .f32 := k0_pay13 (k0_pay2 B.md) (projBlock B s) B.x (k0_pay11 (k0_pay2 B.md)) B.n2

variable {T W B s r} (H : Holds B s r T W)
include H

theorem projBlock_apply (k : Fin 1024) : projBlock B s (ix2 r k) = projected T W k := by
  unfold projBlock
  refine projected_apply T W _ _ _ _ _ _ _ _ _ _ _ _ r k (fun k => unit_apply T W _ _ _ _ r k H.y H.d H.u H.glu) H.o ?_
    (fun j => head0_apply T W _ _ _ _ _ r j H.o H.hn) (fun j => head1_apply T W _ _ _ _ _ r j H.o H.hn)
    (fun j => head2_apply T W _ _ _ _ _ r j H.o H.hn) H.g H.gs H.gh H.us H.uh H.w
  intro k
  rw [← H.hn k]
  pointwise [k0_pay6]

theorem afterBlock_apply (k : Fin 1024) : afterBlock B s (ix2 r k) = after T W k := by
  have e := projBlock_apply H
  unfold afterBlock
  generalize projBlock B s = q at e
  pointwise [k0_pay12, k0_pay11, k0_pay2]
  simp only [e, H.x, H.md]
  rfl

theorem normedBlock_apply (k : Fin 1024) : normedBlock B s (ix2 r k) = normed T W k := by
  have e := afterBlock_apply H
  unfold normedBlock k0_pay13
  change ∀ k, k0_pay12 (projBlock B s) B.x (k0_pay11 (k0_pay2 B.md)) (ix2 r k) = _ at e
  generalize k0_pay12 (projBlock B s) B.x (k0_pay11 (k0_pay2 B.md)) = q at e
  pointwise [k0_pay2]
  simp only [e, H.n2, H.md]
  rfl

end Stored

end Merge.Ker
-- ==== Proof.MergeRead.lean ====
module

public import proofs.«01_k».proof.Proof.Gen.Kernel4Ideal.Frame.Runs
public import proofs.«01_k».proof.Proof.MergeTile
public import Idealize.ShloMosaic.Lib.Pipeline.ValueKit

/-! What the gated merge kernel's blocks hold at each grid point. -/

@[expose] public section

noncomputable section

namespace Merge.Ker

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The arguments, read by coordinates. -/
def dataK : Data where
  x r k := m (c.tc.loc main_arg0) (ix2 r k)
  z r k := m (c.tc.loc main_arg1) (ix2 r k)
  y r k := m (c.tc.loc main_arg2) (ix2 r k)
  fwdLat r k := m (c.tc.loc main_arg3) (ix2 r k)
  bwdLat r k := m (c.tc.loc main_arg4) (ix2 r k)
  fwdCon r k := m (c.tc.loc main_arg5) (ix2 r k)
  bwdCon r k := m (c.tc.loc main_arg6) (ix2 r k)
  modLat b k := m (c.tc.loc main_arg7) (ix2 b k)
  modCon k := m (c.tc.loc main_arg8) (ix1 k)
  w := {
    d := fun k => m (c.tc.loc main_arg9) (ix1 k)
    glu := fun j k => m (c.tc.loc main_arg10) (ix2 j k)
    head := fun k => m (c.tc.loc main_arg11) (ix1 k)
    upS := fun j k => m (c.tc.loc main_arg12) (ix2 j k)
    upH := fun j k => m (c.tc.loc main_arg13) (ix2 j k)
    out := fun j k => m (c.tc.loc main_arg14) (ix2 j k)
    gain := fun k => m (c.tc.loc main_arg15) (ix1 k) }

theorem zero2 : (![0, 0] : Fin 2 → ℕ) = fun _ => 0 := by decide
theorem zero3 : (![0, 0, 0] : Fin 3 → ℕ) = fun _ => 0 := by decide

theorem ext2 {n0 n1 : ℕ} {i j : (⟨2, ![n0, n1]⟩ : Shape).Idx} (h0 : (i 0).val = (j 0).val) (h1 : (i 1).val = (j 1).val) : i = j := by
  funext a
  match a with
  | ⟨0, _⟩ => exact Fin.ext h0
  | ⟨1, _⟩ => exact Fin.ext h1

theorem point_lt (t : Fin cfg0.N) : t.val < 130 := lt_of_lt_of_eq t.isLt (show cfg0.N = 130 from N_0)

/-- Row `r` of point `t`'s block, in the stacked rows. -/
def rowAt (t : Fin cfg0.N) (r : Fin 256) : Fin 33280 := ⟨256 * t.val + r.val, by have := point_lt t; omega⟩

theorem mods_apply (b : Fin 3) (k : Fin 6144) (i : S3x1x6144.Idx) (hb : (i 0).val = b.val) (hk : (i 2).val = k.val) :
    V m c main_v2 i = if h : b.val < 2 then (dataK m c).modLat ⟨b.val, h⟩ k else (dataK m c).modCon k := by
  have h1 : (i 1).val < 1 := (i 1).isLt
  entry_read
  refine (shapeCast_apply _ _ _ (ix2 b k : S3x6144.Idx) ?_).trans ?_
  · refine (Shape.rowMajor_val_two (d := ![3, 6144]) _).trans
      (Eq.trans ?_ (Shape.rowMajor_val_three (d := ![3, 1, 6144]) i).symm)
    show b.val * 6144 + k.val = ((i 0).val * 1 + (i 1).val) * 6144 + (i 2).val
    omega
  · pointwise
    rfl

theorem idx_0 : ∀ t : Fin cfg0.N, win0_0.index t = ![t.val, 0] :=
  (by decide +kernel : ∀ t : Fin grid0.N, win0_0.index t = ![t.val, 0])
theorem idx_1 : ∀ t : Fin cfg0.N, win0_1.index t = ![t.val, 0] :=
  (by decide +kernel : ∀ t : Fin grid0.N, win0_1.index t = ![t.val, 0])
theorem idx_2 : ∀ t : Fin cfg0.N, win0_2.index t = ![t.val, 5] :=
  (by decide +kernel : ∀ t : Fin grid0.N, win0_2.index t = ![t.val, 5])
theorem idx_3 : ∀ t : Fin cfg0.N, win0_3.index t = ![t.val, 3] :=
  (by decide +kernel : ∀ t : Fin grid0.N, win0_3.index t = ![t.val, 3])
theorem idx_4 : ∀ t : Fin cfg0.N, win0_4.index t = ![t.val, 4] :=
  (by decide +kernel : ∀ t : Fin grid0.N, win0_4.index t = ![t.val, 4])
theorem idx_5 : ∀ t : Fin cfg0.N, win0_5.index t = ![t.val, 0] :=
  (by decide +kernel : ∀ t : Fin grid0.N, win0_5.index t = ![t.val, 0])
theorem idx_6 : ∀ t : Fin cfg0.N, win0_6.index t = ![min t.val 127, 0] :=
  (by decide +kernel : ∀ t : Fin grid0.N, win0_6.index t = ![min t.val 127, 0])
theorem idx_7 : ∀ t : Fin cfg0.N, win0_7.index t = ![min t.val 127, 0] :=
  (by decide +kernel : ∀ t : Fin grid0.N, win0_7.index t = ![min t.val 127, 0])
theorem idx_8 : ∀ t : Fin cfg0.N, win0_8.index t = ![t.val - 128, 0] :=
  (by decide +kernel : ∀ t : Fin grid0.N, win0_8.index t = ![t.val - 128, 0])
theorem idx_9 : ∀ t : Fin cfg0.N, win0_9.index t = ![t.val - 128, 0] :=
  (by decide +kernel : ∀ t : Fin grid0.N, win0_9.index t = ![t.val - 128, 0])
theorem idx_10 : ∀ t : Fin cfg0.N, win0_10.index t = ![if t.val < 128 then t.val / 64 else 2, 0, 0] :=
  (by decide +kernel : ∀ t : Fin grid0.N, win0_10.index t = ![if t.val < 128 then t.val / 64 else 2, 0, 0])
theorem idx_11 : ∀ t : Fin cfg0.N, win0_11.index t = ![0, 0] :=
  (by decide +kernel : ∀ t : Fin grid0.N, win0_11.index t = ![0, 0])
theorem idx_12 : ∀ t : Fin cfg0.N, win0_12.index t = ![0, 0] :=
  (by decide +kernel : ∀ t : Fin grid0.N, win0_12.index t = ![0, 0])
theorem idx_13 : ∀ t : Fin cfg0.N, win0_13.index t = ![0, 0] :=
  (by decide +kernel : ∀ t : Fin grid0.N, win0_13.index t = ![0, 0])
theorem idx_14 : ∀ t : Fin cfg0.N, win0_14.index t = ![0, 0] :=
  (by decide +kernel : ∀ t : Fin grid0.N, win0_14.index t = ![0, 0])
theorem idx_15 : ∀ t : Fin cfg0.N, win0_15.index t = ![0, 0] :=
  (by decide +kernel : ∀ t : Fin grid0.N, win0_15.index t = ![0, 0])
theorem idx_16 : ∀ t : Fin cfg0.N, win0_16.index t = ![0, 0] :=
  (by decide +kernel : ∀ t : Fin grid0.N, win0_16.index t = ![0, 0])
theorem idx_17 : ∀ t : Fin cfg0.N, win0_17.index t = ![0, 0] :=
  (by decide +kernel : ∀ t : Fin grid0.N, win0_17.index t = ![0, 0])
theorem idx_21 : ∀ t : Fin cfg0.N, win0_21.index t = ![t.val, 0] :=
  (by decide +kernel : ∀ t : Fin grid0.N, win0_21.index t = ![t.val, 0])
theorem idx_22 : ∀ t : Fin cfg0.N, win0_22.index t = ![t.val, 0] :=
  (by decide +kernel : ∀ t : Fin grid0.N, win0_22.index t = ![t.val, 0])

theorem iblk_0 (t : Fin cfg0.N) (r : Fin 256) (k : Fin 1024) :
    iblk m c 0 t (ix2 r k) = (dataK m c).x (rowAt t r) k := by
  unfold iblk
  rw [View.read_apply]
  show V m c main_arg0 _ = V m c main_arg0 _
  refine congrArg (V m c main_arg0) (ext2 ?_ ?_)
  · show win0_0.index t 0 * 256 + 1 * r.val = _
    rw [idx_0 t]
    show t.val * 256 + 1 * r.val = 256 * t.val + r.val
    omega
  · show win0_0.index t 1 * 1024 + 1 * k.val = _
    rw [idx_0 t]
    show 0 * 1024 + 1 * k.val = k.val
    omega

theorem iblk_1 (t : Fin cfg0.N) (r : Fin 256) (k : Fin 512) :
    iblk m c 1 t (ix2 r k) = (dataK m c).z (rowAt t r) ⟨k, by omega⟩ := by
  unfold iblk
  rw [View.read_apply]
  show V m c main_arg1 _ = V m c main_arg1 _
  refine congrArg (V m c main_arg1) (ext2 ?_ ?_)
  · show win0_1.index t 0 * 256 + 1 * r.val = _
    rw [idx_1 t]
    show t.val * 256 + 1 * r.val = 256 * t.val + r.val
    omega
  · show win0_1.index t 1 * 512 + 1 * k.val = _
    rw [idx_1 t]
    show 0 * 512 + 1 * k.val = k.val
    omega

theorem iblk_2 (t : Fin cfg0.N) (r : Fin 256) (k : Fin 512) :
    iblk m c 2 t (ix2 r k) = (dataK m c).z (rowAt t r) ⟨2560 + k, by omega⟩ := by
  unfold iblk
  rw [View.read_apply]
  show V m c main_arg1 _ = V m c main_arg1 _
  refine congrArg (V m c main_arg1) (ext2 ?_ ?_)
  · show win0_2.index t 0 * 256 + 1 * r.val = _
    rw [idx_2 t]
    show t.val * 256 + 1 * r.val = 256 * t.val + r.val
    omega
  · show win0_2.index t 1 * 512 + 1 * k.val = _
    rw [idx_2 t]
    show 5 * 512 + 1 * k.val = 2560 + k.val
    omega

theorem iblk_3 (t : Fin cfg0.N) (r : Fin 256) (k : Fin 1024) :
    iblk m c 3 t (ix2 r k) = (dataK m c).z (rowAt t r) ⟨3072 + k, by omega⟩ := by
  unfold iblk
  rw [View.read_apply]
  show V m c main_arg1 _ = V m c main_arg1 _
  refine congrArg (V m c main_arg1) (ext2 ?_ ?_)
  · show win0_3.index t 0 * 256 + 1 * r.val = _
    rw [idx_3 t]
    show t.val * 256 + 1 * r.val = 256 * t.val + r.val
    omega
  · show win0_3.index t 1 * 1024 + 1 * k.val = _
    rw [idx_3 t]
    show 3 * 1024 + 1 * k.val = 3072 + k.val
    omega

theorem iblk_4 (t : Fin cfg0.N) (r : Fin 256) (k : Fin 1024) :
    iblk m c 4 t (ix2 r k) = (dataK m c).z (rowAt t r) ⟨4096 + k, by omega⟩ := by
  unfold iblk
  rw [View.read_apply]
  show V m c main_arg1 _ = V m c main_arg1 _
  refine congrArg (V m c main_arg1) (ext2 ?_ ?_)
  · show win0_4.index t 0 * 256 + 1 * r.val = _
    rw [idx_4 t]
    show t.val * 256 + 1 * r.val = 256 * t.val + r.val
    omega
  · show win0_4.index t 1 * 1024 + 1 * k.val = _
    rw [idx_4 t]
    show 4 * 1024 + 1 * k.val = 4096 + k.val
    omega

theorem iblk_5 (t : Fin cfg0.N) (r : Fin 256) (k : Fin 512) :
    iblk m c 5 t (ix2 r k) = (dataK m c).y (rowAt t r) k := by
  unfold iblk
  rw [View.read_apply]
  show V m c main_arg2 _ = V m c main_arg2 _
  refine congrArg (V m c main_arg2) (ext2 ?_ ?_)
  · show win0_5.index t 0 * 256 + 1 * r.val = _
    rw [idx_5 t]
    show t.val * 256 + 1 * r.val = 256 * t.val + r.val
    omega
  · show win0_5.index t 1 * 512 + 1 * k.val = _
    rw [idx_5 t]
    show 0 * 512 + 1 * k.val = k.val
    omega

theorem iblk_6 (t : Fin cfg0.N) (r : Fin 256) (k : Fin 512) :
    iblk m c 6 t (ix2 r k) = (dataK m c).fwdLat ⟨min t.val 127 * 256 + r.val, by have := point_lt t; omega⟩ k := by
  unfold iblk
  rw [View.read_apply]
  show V m c main_arg3 _ = V m c main_arg3 _
  refine congrArg (V m c main_arg3) (ext2 ?_ ?_)
  · show win0_6.index t 0 * 256 + 1 * r.val = _
    rw [idx_6 t]
    show min t.val 127 * 256 + 1 * r.val = min t.val 127 * 256 + r.val
    omega
  · show win0_6.index t 1 * 512 + 1 * k.val = _
    rw [idx_6 t]
    show 0 * 512 + 1 * k.val = k.val
    omega

theorem iblk_7 (t : Fin cfg0.N) (r : Fin 256) (k : Fin 512) :
    iblk m c 7 t (ix2 r k) = (dataK m c).bwdLat ⟨min t.val 127 * 256 + r.val, by have := point_lt t; omega⟩ k := by
  unfold iblk
  rw [View.read_apply]
  show V m c main_arg4 _ = V m c main_arg4 _
  refine congrArg (V m c main_arg4) (ext2 ?_ ?_)
  · show win0_7.index t 0 * 256 + 1 * r.val = _
    rw [idx_7 t]
    show min t.val 127 * 256 + 1 * r.val = min t.val 127 * 256 + r.val
    omega
  · show win0_7.index t 1 * 512 + 1 * k.val = _
    rw [idx_7 t]
    show 0 * 512 + 1 * k.val = k.val
    omega

theorem iblk_8 (t : Fin cfg0.N) (r : Fin 256) (k : Fin 512) :
    iblk m c 8 t (ix2 r k) = (dataK m c).fwdCon ⟨(t.val - 128) * 256 + r.val, by have := point_lt t; omega⟩ k := by
  unfold iblk
  rw [View.read_apply]
  show V m c main_arg5 _ = V m c main_arg5 _
  refine congrArg (V m c main_arg5) (ext2 ?_ ?_)
  · show win0_8.index t 0 * 256 + 1 * r.val = _
    rw [idx_8 t]
    show (t.val - 128) * 256 + 1 * r.val = (t.val - 128) * 256 + r.val
    omega
  · show win0_8.index t 1 * 512 + 1 * k.val = _
    rw [idx_8 t]
    show 0 * 512 + 1 * k.val = k.val
    omega

theorem iblk_9 (t : Fin cfg0.N) (r : Fin 256) (k : Fin 512) :
    iblk m c 9 t (ix2 r k) = (dataK m c).bwdCon ⟨(t.val - 128) * 256 + r.val, by have := point_lt t; omega⟩ k := by
  unfold iblk
  rw [View.read_apply]
  show V m c main_arg6 _ = V m c main_arg6 _
  refine congrArg (V m c main_arg6) (ext2 ?_ ?_)
  · show win0_9.index t 0 * 256 + 1 * r.val = _
    rw [idx_9 t]
    show (t.val - 128) * 256 + 1 * r.val = (t.val - 128) * 256 + r.val
    omega
  · show win0_9.index t 1 * 512 + 1 * k.val = _
    rw [idx_9 t]
    show 0 * 512 + 1 * k.val = k.val
    omega

theorem iblk_10 (t : Fin cfg0.N) (r : Fin 256) (k : Fin 6144) :
    iblk m c 10 t (ix3 0 0 k) = (dataK m c).md (rowAt t r) k := by
  have ht := point_lt t
  unfold iblk
  rw [View.read_apply]
  refine (mods_apply m c ⟨if t.val < 128 then t.val / 64 else 2, by split <;> omega⟩ k _ ?_ ?_).trans ?_
  · show win0_10.index t 0 * 1 + 1 * 0 = _
    rw [idx_10 t]
    show (if t.val < 128 then t.val / 64 else 2) * 1 + 1 * 0 = (if t.val < 128 then t.val / 64 else 2)
    omega
  · show win0_10.index t 2 * 6144 + 1 * k.val = _
    rw [idx_10 t]
    show 0 * 6144 + 1 * k.val = k.val
    omega
  · unfold Data.md rowAt
    by_cases h : t.val < 128
    · have h2 : 256 * t.val + r.val < 32768 := by omega
      have e : (256 * t.val + r.val) / 16384 = t.val / 64 := by omega
      have h3 : t.val / 64 < 2 := by omega
      simp only [h, h2, h3, if_true, dif_pos, e]
    · have h2 : ¬256 * t.val + r.val < 32768 := by omega
      simp only [h, h2, if_false, dif_neg, not_false_iff, not_lt, le_refl, lt_irrefl]

theorem v11_apply (k : Fin 512) : V m c main_v15 (ix2 0 k) = (dataK m c).w.d k := by
  entry_read
  pointwise
  rfl

theorem iblk_11 (t : Fin cfg0.N) (k : Fin 512) : iblk m c 11 t (ix2 0 k) = (dataK m c).w.d k := by
  rw [← v11_apply]
  unfold iblk
  rw [View.read_apply]
  show V m c main_v15 _ = V m c main_v15 _
  refine congrArg (V m c main_v15) (ext2 ?_ ?_)
  · show win0_11.index t 0 * 1 + 1 * 0 = 0
    rw [idx_11 t]
    rfl
  · show win0_11.index t 1 * 512 + 1 * k.val = k.val
    rw [idx_11 t]
    show 0 * 512 + 1 * k.val = k.val
    omega

theorem v12_apply (j : Fin 512) (k : Fin 512) : V m c main_v16 (ix2 j k) = (dataK m c).w.glu j k := by
  entry_read
  pointwise
  rfl

theorem iblk_12 (t : Fin cfg0.N) (j : Fin 512) (k : Fin 512) : iblk m c 12 t (ix2 j k) = (dataK m c).w.glu j k := by
  rw [← v12_apply]
  unfold iblk
  rw [View.read_apply]
  show V m c main_v16 _ = V m c main_v16 _
  refine congrArg (V m c main_v16) (ext2 ?_ ?_)
  · show win0_12.index t 0 * 512 + 1 * j.val = j.val
    rw [idx_12 t]
    show 0 * 512 + 1 * j.val = j.val
    omega
  · show win0_12.index t 1 * 512 + 1 * k.val = k.val
    rw [idx_12 t]
    show 0 * 512 + 1 * k.val = k.val
    omega

theorem v13_apply (k : Fin 128) : V m c main_v17 (ix2 0 k) = (dataK m c).w.head k := by
  entry_read
  pointwise
  rfl

theorem iblk_13 (t : Fin cfg0.N) (k : Fin 128) : iblk m c 13 t (ix2 0 k) = (dataK m c).w.head k := by
  rw [← v13_apply]
  unfold iblk
  rw [View.read_apply]
  show V m c main_v17 _ = V m c main_v17 _
  refine congrArg (V m c main_v17) (ext2 ?_ ?_)
  · show win0_13.index t 0 * 1 + 1 * 0 = 0
    rw [idx_13 t]
    rfl
  · show win0_13.index t 1 * 128 + 1 * k.val = k.val
    rw [idx_13 t]
    show 0 * 128 + 1 * k.val = k.val
    omega

theorem v14_apply (j : Fin 512) (k : Fin 1024) : V m c main_v18 (ix2 j k) = (dataK m c).w.upS j k := by
  entry_read
  pointwise
  rfl

theorem iblk_14 (t : Fin cfg0.N) (j : Fin 512) (k : Fin 1024) : iblk m c 14 t (ix2 j k) = (dataK m c).w.upS j k := by
  rw [← v14_apply]
  unfold iblk
  rw [View.read_apply]
  show V m c main_v18 _ = V m c main_v18 _
  refine congrArg (V m c main_v18) (ext2 ?_ ?_)
  · show win0_14.index t 0 * 512 + 1 * j.val = j.val
    rw [idx_14 t]
    show 0 * 512 + 1 * j.val = j.val
    omega
  · show win0_14.index t 1 * 1024 + 1 * k.val = k.val
    rw [idx_14 t]
    show 0 * 1024 + 1 * k.val = k.val
    omega

theorem v15_apply (j : Fin 512) (k : Fin 1024) : V m c main_v19 (ix2 j k) = (dataK m c).w.upH j k := by
  entry_read
  pointwise
  rfl

theorem iblk_15 (t : Fin cfg0.N) (j : Fin 512) (k : Fin 1024) : iblk m c 15 t (ix2 j k) = (dataK m c).w.upH j k := by
  rw [← v15_apply]
  unfold iblk
  rw [View.read_apply]
  show V m c main_v19 _ = V m c main_v19 _
  refine congrArg (V m c main_v19) (ext2 ?_ ?_)
  · show win0_15.index t 0 * 512 + 1 * j.val = j.val
    rw [idx_15 t]
    show 0 * 512 + 1 * j.val = j.val
    omega
  · show win0_15.index t 1 * 1024 + 1 * k.val = k.val
    rw [idx_15 t]
    show 0 * 1024 + 1 * k.val = k.val
    omega

theorem v16_apply (j : Fin 1024) (k : Fin 1024) : V m c main_v20 (ix2 j k) = (dataK m c).w.out j k := by
  entry_read
  pointwise
  rfl

theorem iblk_16 (t : Fin cfg0.N) (j : Fin 1024) (k : Fin 1024) : iblk m c 16 t (ix2 j k) = (dataK m c).w.out j k := by
  rw [← v16_apply]
  unfold iblk
  rw [View.read_apply]
  show V m c main_v20 _ = V m c main_v20 _
  refine congrArg (V m c main_v20) (ext2 ?_ ?_)
  · show win0_16.index t 0 * 1024 + 1 * j.val = j.val
    rw [idx_16 t]
    show 0 * 1024 + 1 * j.val = j.val
    omega
  · show win0_16.index t 1 * 1024 + 1 * k.val = k.val
    rw [idx_16 t]
    show 0 * 1024 + 1 * k.val = k.val
    omega

theorem v17_apply (k : Fin 1024) : V m c main_v21 (ix2 0 k) = (dataK m c).w.gain k := by
  entry_read
  pointwise
  rfl

theorem iblk_17 (t : Fin cfg0.N) (k : Fin 1024) : iblk m c 17 t (ix2 0 k) = (dataK m c).w.gain k := by
  rw [← v17_apply]
  unfold iblk
  rw [View.read_apply]
  show V m c main_v21 _ = V m c main_v21 _
  refine congrArg (V m c main_v21) (ext2 ?_ ?_)
  · show win0_17.index t 0 * 1 + 1 * 0 = 0
    rw [idx_17 t]
    rfl
  · show win0_17.index t 1 * 1024 + 1 * k.val = k.val
    rw [idx_17 t]
    show 0 * 1024 + 1 * k.val = k.val
    omega

/-- The blocks of point `t`. -/
def blocks (t : Fin cfg0.N) : Blocks where
  x := iblk m c 0 t
  u := iblk m c 1 t
  g := iblk m c 2 t
  gs := iblk m c 3 t
  gh := iblk m c 4 t
  y := iblk m c 5 t
  ofl := iblk m c 6 t
  obl := iblk m c 7 t
  ofc := iblk m c 8 t
  obc := iblk m c 9 t
  md := iblk m c 10 t
  d := iblk m c 11 t
  glu := iblk m c 12 t
  hn := iblk m c 13 t
  us := iblk m c 14 t
  uh := iblk m c 15 t
  w := iblk m c 16 t
  n2 := iblk m c 17 t

/-- Whether point `t` is a latent one, as the kernel decides it. -/
abbrev isLat (t : Fin cfg0.N) : BitVec 1 := Scalar.cmpi .slt (BitVec.ofNat 32 (grid0.coords t 0).val) 128#32

theorem isLat_eq : ∀ t : Fin cfg0.N, isLat t = if t.val < 128 then 1#1 else 0#1 :=
  (by decide +kernel : ∀ t : Fin grid0.N, Scalar.cmpi .slt (BitVec.ofNat 32 (grid0.coords t 0).val) 128#32 = if t.val < 128 then 1#1 else 0#1)

theorem o_apply (t : Fin cfg0.N) (r : Fin 256) (k : Fin 512) :
    k0_pay5 (isLat t) (k0_pay4 (blocks m c t).ofl (blocks m c t).obl) (blocks m c t).ofc (blocks m c t).obc (ix2 r k)
      = (dataK m c).o (rowAt t r) k := by
  have ht := point_lt t
  rw [isLat_eq t]
  unfold Data.o rowAt
  by_cases h : t.val < 128
  · have h2 : 256 * t.val + r.val < 32768 := by omega
    have e : (⟨min t.val 127 * 256 + r.val, by omega⟩ : Fin 32768) = ⟨256 * t.val + r.val, h2⟩ :=
      Fin.ext (by show min t.val 127 * 256 + r.val = 256 * t.val + r.val; omega)
    rw [if_pos h, dif_pos h2, ← e, ← iblk_6 m c t r k, ← iblk_7 m c t r k]
    rfl
  · have h2 : ¬256 * t.val + r.val < 32768 := by omega
    have e : (⟨(t.val - 128) * 256 + r.val, by omega⟩ : Fin 512) = ⟨256 * t.val + r.val - 32768, by omega⟩ :=
      Fin.ext (by show (t.val - 128) * 256 + r.val = 256 * t.val + r.val - 32768; omega)
    rw [if_neg h, dif_neg h2, ← e, ← iblk_8 m c t r k, ← iblk_9 m c t r k]
    rfl

end Merge.Ker
-- ==== Proof.MergeKer.lean ====
module

public import proofs.«01_k».proof.Proof.MergeFrame
public import proofs.«01_k».proof.Proof.MergeRead
public import Idealize.ShloMosaic.Lib.Pipeline.ReadBack

/-! The stacked tokens and the normalised tokens the gated merge kernel leaves. -/

@[expose] public section

noncomputable section

namespace Merge.Ker

open Idealize.ShloMosaic Idealize.ShloMosaic.TcCoe Idealize.ShloMosaic.Tactic Idealize.SL.Sem
open Cert.Kernel4Ideal Cert.Kernel4Ideal.Gen Cert.Proof.Run4

theorem ld_S256x1024 (x : Vec Ideal S256x1024 .f32) : View.ld x (Rect.unit ![0, 0] ![256, 1024] inb_S256x1024_S256x1024_0_0) = x := View.ld_unit_zero zero2 _ x
theorem ld_S256x512 (x : Vec Ideal S256x512 .f32) : View.ld x (Rect.unit ![0, 0] ![256, 512] inb_S256x512_S256x512_0_0) = x := View.ld_unit_zero zero2 _ x
theorem ld_S1x1x6144 (x : Vec Ideal S1x1x6144 .f32) : View.ld x (Rect.unit ![0, 0, 0] ![1, 1, 6144] inb_S1x1x6144_S1x1x6144_0_0_0) = x := View.ld_unit_zero zero3 _ x
theorem ld_S1x512 (x : Vec Ideal S1x512 .f32) : View.ld x (Rect.unit ![0, 0] ![1, 512] inb_S1x512_S1x512_0_0) = x := View.ld_unit_zero zero2 _ x
theorem ld_S512x512 (x : Vec Ideal S512x512 .bf16) : View.ld x (Rect.unit ![0, 0] ![512, 512] inb_S512x512_S512x512_0_0) = x := View.ld_unit_zero zero2 _ x
theorem ld_S1x128 (x : Vec Ideal S1x128 .f32) : View.ld x (Rect.unit ![0, 0] ![1, 128] inb_S1x128_S1x128_0_0) = x := View.ld_unit_zero zero2 _ x
theorem ld_S512x1024 (x : Vec Ideal S512x1024 .bf16) : View.ld x (Rect.unit ![0, 0] ![512, 1024] inb_S512x1024_S512x1024_0_0) = x := View.ld_unit_zero zero2 _ x
theorem ld_S1024x1024 (x : Vec Ideal S1024x1024 .bf16) : View.ld x (Rect.unit ![0, 0] ![1024, 1024] inb_S1024x1024_S1024x1024_0_0) = x := View.ld_unit_zero zero2 _ x
theorem ld_S1x1024 (x : Vec Ideal S1x1024 .f32) : View.ld x (Rect.unit ![0, 0] ![1, 1024] inb_S1x1024_S1x1024_0_0) = x := View.ld_unit_zero zero2 _ x

section A

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1x6144 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1x128 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .i32) (harg25 : arg25.IsWhole) (arg26 : Memref sig .tc .vmem S1x128 .f32) (harg26 : arg26.IsWhole) (arg27 : Memref sig .tc .vmem S1x128 .f32) (harg27 : arg27.IsWhole) (hc0 : cond0_0 i)
    (x0 : Vec Ideal S256x1024 .f32) (x1 : Vec Ideal S256x512 .f32) (x2 : Vec Ideal S256x512 .f32) (x3 : Vec Ideal S256x1024 .f32) (x4 : Vec Ideal S256x1024 .f32) (x5 : Vec Ideal S256x512 .f32) (x6 : Vec Ideal S256x512 .f32) (x7 : Vec Ideal S256x512 .f32) (x8 : Vec Ideal S256x512 .f32) (x9 : Vec Ideal S256x512 .f32) (x10 : Vec Ideal S1x1x6144 .f32) (x11 : Vec Ideal S1x512 .f32) (x12 : Vec Ideal S512x512 .bf16) (x13 : Vec Ideal S1x128 .f32) (x14 : Vec Ideal S512x1024 .bf16) (x15 : Vec Ideal S512x1024 .bf16) (x16 : Vec Ideal S1024x1024 .bf16) (x17 : Vec Ideal S1x1024 .f32) (x18 : Vec Ideal S1024x128 .bf16) (x19 : Vec Ideal S1024x128 .bf16) (x20 : Vec Ideal S1x128 .f32)

/-- The one piece stored. -/
theorem pieces_A_21 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).1
    = [⟨Rect.unit ![0, 0] ![256, 1024] inb_S256x1024_S256x1024_0_0, afterBlock ⟨x0, x1, x2, x3, x4, x5, x6, x7, x8, x9, x10, x11, x12, x13, x14, x15, x16, x17⟩ (Scalar.cmpi .slt (BitVec.ofNat 32 (i 0).val) 128#32)⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, ld_S256x1024, ld_S256x512, ld_S1x1x6144, ld_S1x512, ld_S512x512, ld_S1x128, ld_S512x1024, ld_S1024x1024, ld_S1x1024]
  rfl

theorem out_A_21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 = afterBlock ⟨x0, x1, x2, x3, x4, x5, x6, x7, x8, x9, x10, x11, x12, x13, x14, x15, x16, x17⟩ (Scalar.cmpi .slt (BitVec.ofNat 32 (i 0).val) 128#32) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20), pieces_A_21, View.canon_cons_unit_zero zero2]

/-- The one piece stored. -/
theorem pieces_A_22 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20).2.1
    = [⟨Rect.unit ![0, 0] ![256, 1024] inb_S256x1024_S256x1024_0_0, normedBlock ⟨x0, x1, x2, x3, x4, x5, x6, x7, x8, x9, x10, x11, x12, x13, x14, x15, x16, x17⟩ (Scalar.cmpi .slt (BitVec.ofNat 32 (i 0).val) 128#32)⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, ld_S256x1024, ld_S256x512, ld_S1x1x6144, ld_S1x512, ld_S512x512, ld_S1x128, ld_S512x1024, ld_S1024x1024, ld_S1x1024]
  rfl

theorem out_A_22 : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 = normedBlock ⟨x0, x1, x2, x3, x4, x5, x6, x7, x8, x9, x10, x11, x12, x13, x14, x15, x16, x17⟩ (Scalar.cmpi .slt (BitVec.ofNat 32 (i 0).val) 128#32) := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20), pieces_A_22, View.canon_cons_unit_zero zero2]

end A

section B

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1x6144 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S1024x128 .bf16) (harg20 : arg20.IsWhole) (arg21 : Memref sig .tc .vmem S1x128 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .i32) (harg25 : arg25.IsWhole) (arg26 : Memref sig .tc .vmem S1x128 .f32) (harg26 : arg26.IsWhole) (arg27 : Memref sig .tc .vmem S1x128 .f32) (harg27 : arg27.IsWhole) (hc0 : ¬cond0_0 i)
    (x0 : Vec Ideal S256x1024 .f32) (x1 : Vec Ideal S256x512 .f32) (x2 : Vec Ideal S256x512 .f32) (x3 : Vec Ideal S256x1024 .f32) (x4 : Vec Ideal S256x1024 .f32) (x5 : Vec Ideal S256x512 .f32) (x6 : Vec Ideal S256x512 .f32) (x7 : Vec Ideal S256x512 .f32) (x8 : Vec Ideal S256x512 .f32) (x9 : Vec Ideal S256x512 .f32) (x10 : Vec Ideal S1x1x6144 .f32) (x11 : Vec Ideal S1x512 .f32) (x12 : Vec Ideal S512x512 .bf16) (x13 : Vec Ideal S1x128 .f32) (x14 : Vec Ideal S512x1024 .bf16) (x15 : Vec Ideal S512x1024 .bf16) (x16 : Vec Ideal S1024x1024 .bf16) (x17 : Vec Ideal S1x1024 .f32) (x18 : Vec Ideal S1024x128 .bf16) (x19 : Vec Ideal S1024x128 .bf16) (x20 : Vec Ideal S1x128 .f32) (xs0 : Vec Ideal S1x128 .f32)

/-- The one piece stored. -/
theorem pieces_B_21 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).1
    = [⟨Rect.unit ![0, 0] ![256, 1024] inb_S256x1024_S256x1024_0_0, afterBlock ⟨x0, x1, x2, x3, x4, x5, x6, x7, x8, x9, x10, x11, x12, x13, x14, x15, x16, x17⟩ (Scalar.cmpi .slt (BitVec.ofNat 32 (i 0).val) 128#32)⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, ld_S256x1024, ld_S256x512, ld_S1x1x6144, ld_S1x512, ld_S512x512, ld_S1x128, ld_S512x1024, ld_S1024x1024, ld_S1x1024]
  rfl

theorem out_B_21 : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0 = afterBlock ⟨x0, x1, x2, x3, x4, x5, x6, x7, x8, x9, x10, x11, x12, x13, x14, x15, x16, x17⟩ (Scalar.cmpi .slt (BitVec.ofNat 32 (i 0).val) 128#32) := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0), pieces_B_21, View.canon_cons_unit_zero zero2]

/-- The one piece stored. -/
theorem pieces_B_22 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0).2.1
    = [⟨Rect.unit ![0, 0] ![256, 1024] inb_S256x1024_S256x1024_0_0, normedBlock ⟨x0, x1, x2, x3, x4, x5, x6, x7, x8, x9, x10, x11, x12, x13, x14, x15, x16, x17⟩ (Scalar.cmpi .slt (BitVec.ofNat 32 (i 0).val) 128#32)⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, ld_S256x1024, ld_S256x512, ld_S1x1x6144, ld_S1x512, ld_S512x512, ld_S1x128, ld_S512x1024, ld_S1024x1024, ld_S1x1024]
  rfl

theorem out_B_22 : out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0 = normedBlock ⟨x0, x1, x2, x3, x4, x5, x6, x7, x8, x9, x10, x11, x12, x13, x14, x15, x16, x17⟩ (Scalar.cmpi .slt (BitVec.ofNat 32 (i 0).val) 128#32) := by
  unfold out0_B_22
  rw [View.read_writes_eq_canon _ _ _ (cover0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 xs0), pieces_B_22, View.canon_cons_unit_zero zero2]

end B

variable (m : (ℓ : Loc nD τ sig) → Buf (Elt Ideal) ℓ) (ρ : Dev nD → PrngReg) (c : Dev nD)

set_option maxHeartbeats 8000000 in
/-- Each row of a point's blocks is the row of the arguments it stands for. -/
theorem holds (t : Fin cfg0.N) (r : Fin 256) :
    Holds (blocks m c t) (isLat t) r ((dataK m c).token (rowAt t r)) (dataK m c).w := by
  constructor
  · exact iblk_0 m c t r
  · exact iblk_1 m c t r
  · exact iblk_2 m c t r
  · exact iblk_3 m c t r
  · exact iblk_4 m c t r
  · exact iblk_5 m c t r
  · exact o_apply m c t r
  · exact iblk_10 m c t r
  · exact iblk_11 m c t
  · exact iblk_12 m c t
  · exact iblk_13 m c t
  · exact iblk_14 m c t
  · exact iblk_15 m c t
  · exact iblk_16 m c t
  · exact iblk_17 m c t

set_option maxHeartbeats 4000000 in
/-- What the body leaves in the block, at either kind of point. -/
theorem left21 (t : Fin cfg0.N) : (outsAt0 (F := Ideal) m c t.val t.isLt).1 = afterBlock (blocks m c t) (isLat t) := by
  by_cases h0 : t.val % 130 = 0
  · rw [outsAt0_A m c t h0]
    dsimp only
    rw [out_A_21]
    unfold blocks isLat
    rfl
  · rw [outsAt0_B m c t h0]
    dsimp only
    rw [out_B_21]
    unfold blocks isLat
    rfl

theorem tile21 (t : Fin cfg0.N) (y : S256x1024.Idx) (r : Fin 33280) (j : Fin 1024) (hr : r.val = 256 * t.val + (y 0).val) (hj : j.val = (y 1).val) :
    afterBlock (blocks m c t) (isLat t) y = after ((dataK m c).token r) (dataK m c).w j := by
  have e : y = ix2 (y 0 : Fin 256) (y 1 : Fin 1024) := ext2 rfl rfl
  have er : rowAt t (y 0 : Fin 256) = r := Fin.ext hr.symm
  have ej : (y 1 : Fin 1024) = j := Fin.ext hj.symm
  refine (congrArg _ e).trans ((afterBlock_apply (holds m c t (y 0)) (y 1)).trans ?_)
  rw [er, ej]

theorem arr21 : (dats (F := Ideal) m 0 c).arrAt 21 cfg0.N = fun y : S33280x1024.Idx => after ((dataK m c).token (y 0)) (dataK m c).w (y 1) := by
  refine (dats m 0 c).arrAt_eq_of_covers 21 _ (by decide +kernel) fun t hf y => ?_
  blk_simp
  rw [after0_21, left21]
  refine tile21 m c t y _ _ ?_ ?_
  · show win0_21.index t 0 * 256 + 1 * (y 0).val = _
    rw [idx_21 t]
    show t.val * 256 + 1 * (y 0).val = 256 * t.val + (y 0).val
    omega
  · show win0_21.index t 1 * 1024 + 1 * (y 1).val = _
    rw [idx_21 t]
    show 0 * 1024 + 1 * (y 1).val = (y 1).val
    omega

set_option maxHeartbeats 4000000 in
/-- What the body leaves in the block, at either kind of point. -/
theorem left22 (t : Fin cfg0.N) : (outsAt0 (F := Ideal) m c t.val t.isLt).2.1 = normedBlock (blocks m c t) (isLat t) := by
  by_cases h0 : t.val % 130 = 0
  · rw [outsAt0_A m c t h0]
    dsimp only
    rw [out_A_22]
    unfold blocks isLat
    rfl
  · rw [outsAt0_B m c t h0]
    dsimp only
    rw [out_B_22]
    unfold blocks isLat
    rfl

theorem tile22 (t : Fin cfg0.N) (y : S256x1024.Idx) (r : Fin 33280) (j : Fin 1024) (hr : r.val = 256 * t.val + (y 0).val) (hj : j.val = (y 1).val) :
    normedBlock (blocks m c t) (isLat t) y = normed ((dataK m c).token r) (dataK m c).w j := by
  have e : y = ix2 (y 0 : Fin 256) (y 1 : Fin 1024) := ext2 rfl rfl
  have er : rowAt t (y 0 : Fin 256) = r := Fin.ext hr.symm
  have ej : (y 1 : Fin 1024) = j := Fin.ext hj.symm
  refine (congrArg _ e).trans ((normedBlock_apply (holds m c t (y 0)) (y 1)).trans ?_)
  rw [er, ej]

theorem arr22 : (dats (F := Ideal) m 0 c).arrAt 22 cfg0.N = fun y : S33280x1024.Idx => normed ((dataK m c).token (y 0)) (dataK m c).w (y 1) := by
  refine (dats m 0 c).arrAt_eq_of_covers 22 _ (by decide +kernel) fun t hf y => ?_
  blk_simp
  rw [after0_22, left22]
  refine tile22 m c t y _ _ ?_ ?_
  · show win0_22.index t 0 * 256 + 1 * (y 0).val = _
    rw [idx_22 t]
    show t.val * 256 + 1 * (y 0).val = 256 * t.val + (y 0).val
    omega
  · show win0_22.index t 1 * 1024 + 1 * (y 1).val = _
    rw [idx_22 t]
    show 0 * 1024 + 1 * (y 1).val = (y 1).val
    omega

end Merge.Ker
-- ==== Proof.MergeRef.lean ====
module

public import proofs.«01_k».proof.Proof.Gen.Reference4Ideal.Run
public import proofs.«01_k».proof.Proof.Merge

/-! The gated merge's reference: latent and context rows apart, then stacked. -/

@[expose] public section

noncomputable section

namespace Merge.Ref

open Idealize.ShloMosaic Idealize.ShloMosaic.TcCoe Idealize.SL.Sem Idealize.ShloMosaic.StableHlo
open Cert.Reference4Ideal Cert.Reference4Ideal.Gen Cert.Reference4Ideal.Value

variable (m : (ℓ : Loc nD τ sig) → Buf (Elt Ideal) ℓ) (c : Dev nD)

/-- The arguments, read by coordinates. -/
def dataR : Data where
  x r k := m (c.tc.loc main_arg0) (ix2 r k)
  z r k := m (c.tc.loc main_arg1) (ix2 r k)
  y r k := m (c.tc.loc main_arg2) (ix2 r k)
  fwdLat r k := m (c.tc.loc main_arg3) (ix2 r k)
  bwdLat r k := m (c.tc.loc main_arg4) (ix2 r k)
  fwdCon r k := m (c.tc.loc main_arg5) (ix2 r k)
  bwdCon r k := m (c.tc.loc main_arg6) (ix2 r k)
  modLat b k := m (c.tc.loc main_arg7) (ix2 b k)
  modCon k := m (c.tc.loc main_arg8) (ix1 k)
  w := {
    d := fun k => m (c.tc.loc main_arg9) (ix1 k)
    glu := fun j k => m (c.tc.loc main_arg10) (ix2 j k)
    head := fun k => m (c.tc.loc main_arg11) (ix1 k)
    upS := fun j k => m (c.tc.loc main_arg12) (ix2 j k)
    upH := fun j k => m (c.tc.loc main_arg13) (ix2 j k)
    out := fun j k => m (c.tc.loc main_arg14) (ix2 j k)
    gain := fun k => m (c.tc.loc main_arg15) (ix1 k) }

abbrev L := launchContents m c

/-- The stacked row of a latent token. -/
def latRow (b : Fin 2) (n : Fin 16384) : Fin 33280 := ⟨b * 16384 + n, by omega⟩
/-- The stacked row of a context token. -/
def conRow (b : Fin 2) (n : Fin 256) : Fin 33280 := ⟨32768 + (b * 256 + n), by omega⟩

theorem lat_md (b : Fin 2) (n : Fin 16384) : (dataR m c).md (latRow b n) = (dataR m c).modLat b := by
  unfold Data.md latRow
  rw [dif_pos (by show b.val * 16384 + n.val < 32768; omega)]
  exact congrArg (dataR m c).modLat (Fin.ext (by show (b.val * 16384 + n.val) / 16384 = b.val; omega))

theorem lat_z (b : Fin 2) (n : Fin 16384) (k : Fin 5120) : res_main_v16 (L m c) (ix3 b n k) = (dataR m c).z (latRow b n) k := by
  unfold res_main_v16
  pointwise
  rfl

theorem lat_pre (b : Fin 2) (n : Fin 16384) (k : Fin 512) : res_main_v32 (L m c) (ix3 b n k)
    = (dataR m c).y (latRow b n) k + (dataR m c).w.d k * (dataR m c).z (latRow b n) ⟨k, by omega⟩ := by
  rw [← lat_z]
  unfold res_main_v32
  pointwise
  rfl

theorem lat_act (b : Fin 2) (n : Fin 16384) (k : Fin 512) : res_main_v45 (L m c) (ix3 b n k)
    = act ((dataR m c).token (latRow b n)) (dataR m c).w k := by
  unfold res_main_v45
  pointwise
  simp only [lat_pre]
  rfl

theorem lat_o (b : Fin 2) (h : Fin 4) (n : Fin 16384) (j : Fin 128) : res_main_v55 (L m c) (ix4 b h n j)
    = (dataR m c).o (latRow b n) ⟨h * 128 + j, by omega⟩ := by
  unfold res_main_v55
  pointwise
  unfold Data.o latRow
  rw [dif_pos (by show b.val * 16384 + n.val < 32768; omega)]
  rfl

theorem lat_gate (b : Fin 2) (n : Fin 16384) (k : Fin 512) : res_main_v22 (L m c) (ix3 b n k)
    = (dataR m c).z (latRow b n) ⟨2560 + k, by omega⟩ := by
  rw [← lat_z]
  unfold res_main_v22
  pointwise

theorem lat_after (b : Fin 2) (n : Fin 16384) (k : Fin 1024) : res_main_v93 (L m c) (ix3 b n k)
    = after ((dataR m c).token (latRow b n)) (dataR m c).w k := by
  unfold res_main_v93
  pointwise [res_main_v0]
  simp only [lat_z, lat_act, lat_o, lat_gate]
  have e : after ((dataR m c).token (latRow b n)) (dataR m c).w k = (dataR m c).x (latRow b n) k
      + (dataR m c).modLat b ⟨2048 + k, by omega⟩ * projected ((dataR m c).token (latRow b n)) (dataR m c).w k := by
    rw [← lat_md m c b n]
    rfl
  rw [e]
  rfl

theorem con_md (b : Fin 2) (n : Fin 256) : (dataR m c).md (conRow b n) = (dataR m c).modCon := by
  unfold Data.md conRow
  exact dif_neg (by show ¬32768 + (b.val * 256 + n.val) < 32768; omega)

theorem con_z (b : Fin 2) (n : Fin 256) (k : Fin 5120) : res_main_v116 (L m c) (ix3 b n k) = (dataR m c).z (conRow b n) k := by
  unfold res_main_v116
  pointwise
  rfl

theorem con_pre (b : Fin 2) (n : Fin 256) (k : Fin 512) : res_main_v132 (L m c) (ix3 b n k)
    = (dataR m c).y (conRow b n) k + (dataR m c).w.d k * (dataR m c).z (conRow b n) ⟨k, by omega⟩ := by
  rw [← con_z]
  unfold res_main_v132
  pointwise
  rfl

theorem con_act (b : Fin 2) (n : Fin 256) (k : Fin 512) : res_main_v145 (L m c) (ix3 b n k)
    = act ((dataR m c).token (conRow b n)) (dataR m c).w k := by
  unfold res_main_v145
  pointwise
  simp only [con_pre]
  rfl

theorem con_o (b : Fin 2) (h : Fin 4) (n : Fin 256) (j : Fin 128) : res_main_v155 (L m c) (ix4 b h n j)
    = (dataR m c).o (conRow b n) ⟨h * 128 + j, by omega⟩ := by
  unfold res_main_v155
  pointwise
  unfold Data.o conRow
  rw [dif_neg (by show ¬32768 + (b.val * 256 + n.val) < 32768; omega)]
  simp only [Nat.add_sub_cancel_left]
  rfl

theorem con_gate (b : Fin 2) (n : Fin 256) (k : Fin 512) : res_main_v122 (L m c) (ix3 b n k)
    = (dataR m c).z (conRow b n) ⟨2560 + k, by omega⟩ := by
  rw [← con_z]
  unfold res_main_v122
  pointwise

theorem con_after (b : Fin 2) (n : Fin 256) (k : Fin 1024) : res_main_v194 (L m c) (ix3 b n k)
    = after ((dataR m c).token (conRow b n)) (dataR m c).w k := by
  unfold res_main_v194
  pointwise
  simp only [con_z, con_act, con_o, con_gate]
  have e : after ((dataR m c).token (conRow b n)) (dataR m c).w k = (dataR m c).x (conRow b n) k
      + (dataR m c).modCon ⟨2048 + k, by omega⟩ * projected ((dataR m c).token (conRow b n)) (dataR m c).w k := by
    rw [← con_md m c b n]
    rfl
  rw [e]
  rfl

/-- The latent tokens after the mixer, normalised and modulated. -/
def latNorm : FVec Ideal S2x16384x1024 .f32 :=
  (addf (mulf (mulf (mulf (res_main_v93 (L m c)) (broadcastInDim S2x16384x1024 ![0, 1, 2]
    bcast_S2x16384x1_S2x16384x1024_0_1_2 (Host.rsqrt (addf (Host.divf (broadcastInDim S2x16384x1 ![0, 1]
    bcast_S2x16384_S2x16384x1_0_1 (Host.reduceAdd (mulf (res_main_v93 (L m c)) (res_main_v93 (L m c))) (constant S_ .f32
    0x00000000#32) reducesTo_S2x16384x1024_S2x16384_d2 h_S_)) (broadcastInDim S2x16384x1 ![] bcast_S_S2x16384x1 (constant S_
    .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2]
    bcast_S1024_S1x1x1024_2 (L m c (Proc.devRef .tc main_arg15))))) (broadcastInDim S2x16384x1024 ![0, 1, 2]
    bcast_S2x1x1024_S2x16384x1024_0_1_2 (addf (broadcastInDim S2x1x1024 ![] bcast_S_S2x1x1024 (constant S_ .f32
    0x3F800000#32)) (extractStridedSlice S2x1x1024 ![0, 0, 4096] (res_main_v0 (L m c))
    slices_S2x1x6144_S2x1x1024_0_0_4096)))) (broadcastInDim S2x16384x1024 ![0, 1, 2] bcast_S2x1x1024_S2x16384x1024_0_1_2
    (extractStridedSlice S2x1x1024 ![0, 0, 3072] (res_main_v0 (L m c)) slices_S2x1x6144_S2x1x1024_0_0_3072)))

theorem latNorm_apply (b : Fin 2) (n : Fin 16384) (k : Fin 1024) : latNorm m c (ix3 b n k)
    = normed ((dataR m c).token (latRow b n)) (dataR m c).w k := by
  unfold latNorm
  pointwise [res_main_v0]
  simp only [lat_after]
  have e : normed ((dataR m c).token (latRow b n)) (dataR m c).w k
      = after ((dataR m c).token (latRow b n)) (dataR m c).w k * inv ((dataR m c).token (latRow b n)) (dataR m c).w * (dataR m c).w.gain k
        * (1 + (dataR m c).modLat b ⟨4096 + k, by omega⟩) + (dataR m c).modLat b ⟨3072 + k, by omega⟩ := by
    rw [← lat_md m c b n]
    rfl
  rw [e]
  rfl

/-- The context tokens after the mixer, normalised and modulated. -/
def conNorm : FVec Ideal S2x256x1024 .f32 :=
  (addf (mulf (mulf (mulf (res_main_v194 (L m c)) (broadcastInDim S2x256x1024 ![0, 1, 2] bcast_S2x256x1_S2x256x1024_0_1_2
    (Host.rsqrt (addf (Host.divf (broadcastInDim S2x256x1 ![0, 1] bcast_S2x256_S2x256x1_0_1 (Host.reduceAdd (mulf
    (res_main_v194 (L m c)) (res_main_v194 (L m c))) (constant S_ .f32 0x00000000#32) reducesTo_S2x256x1024_S2x256_d2 h_S_))
    (broadcastInDim S2x256x1 ![] bcast_S_S2x256x1 (constant S_ .f32 0x44800000#32))) (broadcastInDim S2x256x1 ![]
    bcast_S_S2x256x1 (constant S_ .f32 0x358637BD#32)))))) (broadcastInDim S2x256x1024 ![0, 1, 2]
    bcast_S1x1x1024_S2x256x1024_0_1_2 (broadcastInDim S1x1x1024 ![2] bcast_S1024_S1x1x1024_2 (L m c (Proc.devRef .tc
    main_arg15))))) (broadcastInDim S2x256x1024 ![0, 1, 2] bcast_S1x1x1024_S2x256x1024_0_1_2 (broadcastInDim S1x1x1024 ![2]
    bcast_S1024_S1x1x1024_2 (addf (broadcastInDim S1024 ![] bcast_S_S1024 (constant S_ .f32 0x3F800000#32))
    (extractStridedSlice S1024 ![4096] (L m c (Proc.devRef .tc main_arg8)) slices_S6144_S1024_4096))))) (broadcastInDim
    S2x256x1024 ![0, 1, 2] bcast_S1x1x1024_S2x256x1024_0_1_2 (broadcastInDim S1x1x1024 ![2] bcast_S1024_S1x1x1024_2
    (extractStridedSlice S1024 ![3072] (L m c (Proc.devRef .tc main_arg8)) slices_S6144_S1024_3072))))

theorem conNorm_apply (b : Fin 2) (n : Fin 256) (k : Fin 1024) : conNorm m c (ix3 b n k)
    = normed ((dataR m c).token (conRow b n)) (dataR m c).w k := by
  unfold conNorm
  pointwise
  simp only [con_after]
  have e : normed ((dataR m c).token (conRow b n)) (dataR m c).w k
      = after ((dataR m c).token (conRow b n)) (dataR m c).w k * inv ((dataR m c).token (conRow b n)) (dataR m c).w * (dataR m c).w.gain k
        * (1 + (dataR m c).modCon ⟨4096 + k, by omega⟩) + (dataR m c).modCon ⟨3072 + k, by omega⟩ := by
    rw [← con_md m c b n]
    rfl
  rw [e]
  rfl

/-- Latent rows, then context rows. -/
def stack (l : FVec Ideal S2x16384x1024 .f32) (x : FVec Ideal S2x256x1024 .f32) : FVec Ideal S33280x1024 .f32 :=
  concatenate S33280x1024 0
    [⟨S32768x1024, shapeCast S32768x1024 l shapeCasts_S2x16384x1024_S32768x1024⟩,
      ⟨S512x1024, shapeCast S512x1024 x shapeCasts_S2x256x1024_S512x1024⟩] concatenates_S32768x1024_S512x1024_S33280x1024_d0

/-- A stack of rows is known when both parts are. -/
theorem stack_apply (l : FVec Ideal S2x16384x1024 .f32) (x : FVec Ideal S2x256x1024 .f32) (f : Fin 33280 → Fin 1024 → EReal)
    (hl : ∀ b n k, l (ix3 b n k) = f (latRow b n) k) (hx : ∀ b n k, x (ix3 b n k) = f (conRow b n) k)
    (r : Fin 33280) (j : Fin 1024) : stack l x (ix2 r j) = f r j := by
  unfold stack
  pointwise
  simp only [hl, hx]
  split
  · exact congrArg (fun r => f r j) (Fin.ext (by show r.val / 16384 * 16384 + r.val % 16384 = r.val; omega))
  · exact congrArg (fun r => f r j) (Fin.ext (by show 32768 + ((r.val - 32768) / 256 * 256 + (r.val - 32768) % 256) = r.val; omega))

/-- The reference's run: both results, the arguments unchanged. -/
theorem run_merge (ρ : Dev nD → PrngReg) : θ_run defs (onTc (τ := τ) (main (F := Ideal))) ⟨m, fun _ => 0, ρ⟩ fun r => ∀ c : Dev nD,
      r.2.mem (c.tc.loc main_v218) = (fun y : S33280x1024.Idx => after ((dataR m c).token (y 0)) (dataR m c).w (y 1))
      ∧ r.2.mem (c.tc.loc main_v221) = (fun y : S33280x1024.Idx => normed ((dataR m c).token (y 0)) (dataR m c).w (y 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17) := by
  refine (θ_run defs _ _).mono (fun r h c => ?_) (Cert.Reference4Ideal.Value.run m ρ)
  obtain ⟨e0, e1, k⟩ := h c
  refine ⟨e0.trans (funext fun y => ?_), e1.trans (funext fun y => ?_), k⟩
  · rw [show y = ix2 (y 0 : Fin 33280) (y 1 : Fin 1024) from funext fun a => match a with | ⟨0, _⟩ => rfl | ⟨1, _⟩ => rfl]
    exact stack_apply _ _ (fun r j => after ((dataR m c).token r) (dataR m c).w j) (lat_after m c) (con_after m c) _ _
  · rw [show y = ix2 (y 0 : Fin 33280) (y 1 : Fin 1024) from funext fun a => match a with | ⟨0, _⟩ => rfl | ⟨1, _⟩ => rfl]
    exact stack_apply (latNorm m c) (conNorm m c) (fun r j => normed ((dataR m c).token r) (dataR m c).w j) (latNorm_apply m c) (conNorm_apply m c) _ _

end Merge.Ref
-- ==== Proof.ExpBody.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Quiescent
public import Idealize.ShloMosaic.Lib.Pipeline.TableIdle
public import Idealize.ShloMosaic.Lib.Claim
public import Idealize.ShloMosaic.Lib.Writes
public import Idealize.ShloMosaic.Lib.Ring
public import Idealize.ShloMosaic.Lib.Exec
public import Idealize.ShloMosaic.Lib.Tactic

/-!
# The experts' kernel body

One grid point of the experts' kernel does two things, each under a condition on the two tables in
scalar memory. Where the block's expert differs from the previous block's (or at the first block) it
writes the expert's two weight matrices, rounded to bf16, into the two scratch buffers. Where the
block is used it stores the expert's feed-forward layer applied to the block's rows, and where it
isn't it stores zeros. Four runs of the body follow, one for each answer to the two questions.
-/

@[expose] public section

set_option maxRecDepth 16384
set_option Elab.async false

noncomputable section

namespace Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of each block's expert. -/
abbrev blockE : Memref sig .tc .smem S552 .i32 := Memref.whole main_arg0

/-- The table holding the number of used blocks. -/
abbrev usedN : Memref sig .tc .smem S1 .i32 := Memref.whole main_arg1

/-- The scratch buffer of the first weight matrix. -/
abbrev scrA : Memref sig .tc .vmem S1024x2048 .bf16 := Memref.whole cc0_scratch0

/-- The scratch buffer of the second weight matrix. -/
abbrev scrB : Memref sig .tc .vmem S1024x1024 .bf16 := Memref.whole cc0_scratch1

/-- The output's pieces are read back through one of its staging buffers. -/
abbrev outV : View sig .tc .vmem S256x1024 .f32 :=
  (Memref.whole cc0_stg5_0 : Memref sig .tc .vmem S256x1024 .f32).view

/-- The word of the expert table at the grid point. -/
abbrev wordHere (T0 : S552.Idx → Elt F .i32) (i : grid0.Coords) : BitVec 32 :=
  View.readAt (Elt F) blockE.view
    (Rect.unit (s := S552) (k0_off1 i) S1.size (k0_off1_inb i)).toLoadRect T0
    (Shape.Idx.first (numel1_S1.symm ▸ Nat.one_pos))

/-- The word of the expert table at the point before (at the first point, its own). -/
abbrev wordBefore (T0 : S552.Idx → Elt F .i32) (i : grid0.Coords) : BitVec 32 :=
  View.readAt (Elt F) blockE.view
    (Rect.unit (s := S552) (k0_off2 i) S1.size (k0_off2_inb i)).toLoadRect T0
    (Shape.Idx.first (numel1_S1.symm ▸ Nat.one_pos))

/-- The number of used blocks. -/
abbrev wordUsed (T1 : S1.Idx → Elt F .i32) : BitVec 32 :=
  View.readAt (Elt F) usedN.view (Rect.unit (s := S1) ![0] S1.size inb_S1_S1_0).toLoadRect T1
    (Shape.Idx.first (numel1_S1.symm ▸ Nat.one_pos))

/-- The grid point writes the scratch buffers anew. -/
abbrev Recast (T0 : S552.Idx → Elt F .i32) (i : grid0.Coords) : Prop :=
  Scalar.cmpi .ne (Scalar.extui (Scalar.ori
    (Scalar.cmpi .eq (BitVec.ofNat 32 (i 0).val) 0#32)
    (Scalar.cmpi .ne (wordHere T0 i) (wordBefore T0 i)))) 0#32 = 1#1

variable (c : Dev nD) (i : grid0.Coords)
  (arg3 : Memref sig .tc .vmem S256x1024 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S256x1024 .f32) (harg8 : arg8.IsWhole)
  (T0 : S552.Idx → Elt F .i32) (T1 : S1.Idx → Elt F .i32)
  (x0 : S256x1024.Idx → Elt F .f32) (x1 : S1x1x1024x2048.Idx → Elt F .f32)
  (x2 : S1x1x1x2048.Idx → Elt F .f32) (x3 : S1x1x1024x1024.Idx → Elt F .f32)
  (x4 : S1x1x1x1024.Idx → Elt F .f32)

set_option backward.proofsInPublic true in
set_option maxHeartbeats 8000000 in
/-- A used block of a new expert: what the body leaves in the output and the scratch buffers, with its run. -/
def runNewUsed (hc0 : Recast T0 i)
    (h2 : k0_cond2 i (wordUsed T1) = 1#1) (h3 : ¬(k0_cond3 i (wordUsed T1) = 1#1)) :
    Σ' (out0 : List (View.Piece (Elt F) S256x1024 .f32))
      (out1 : Buf (Elt F) ((c : Thread nD τ).loc cc0_scratch0)),
      { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (blockE.view.loc (c : Thread nD τ) ↦{fullShare.right} T0)
          ∗ (usedN.view.loc (c : Thread nD τ) ↦{fullShare.right} T1)
          ∗ (∃ d, owns (c : Thread nD τ) arg8 fullShare d)
          ∗ (scrA.view.loc (c : Thread nD τ) ↦{fullShare} xa0)
          ∗ (scrB.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (blockE.view.loc (c : Thread nD τ) ↦{fullShare.right} T0)
              ∗ (usedN.view.loc (c : Thread nD τ) ↦{fullShare.right} T1)
              ∗ (∃ f, arg8.view.loc (c : Thread nD τ) ↦[arg8.view.set]{fullShare}
                  arg8.view.writes (Elt F) f out0)
              ∗ (scrA.view.loc (c : Thread nD τ) ↦{fullShare} out1)
              ∗ (scrB.view.loc (c : Thread nD τ) ↦{fullShare} out2)) -∗ K ⟨⟩))
          ⊢ wp frame (wpE (defs₀ (F := F)) Variants.none c none) Set.univ
            (cc0_moe_experts i blockE (Memref.isWhole_whole _) usedN (Memref.isWhole_whole _)
              arg3 harg3 arg4 harg4 arg5 harg5 arg6 harg6 arg7 harg7 arg8 harg8
              scrA (Memref.isWhole_whole _) scrB (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scrA.IsWhole := Memref.isWhole_whole _
    have hS1 : scrB.IsWhole := Memref.isWhole_whole _
    have hT0 : blockE.IsWhole := Memref.isWhole_whole _
    have hT1 : usedN.IsWhole := Memref.isWhole_whole _
    sl_exec! (disch := first
      | (guard_target = Scalar.cmpi = _; exact hc0)
      | (guard_target = k0_cond2 _ _ = _; exact h2)
      | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- An unused block of a new expert. -/
def runNewIdle (hc0 : Recast T0 i)
    (h2 : ¬(k0_cond2 i (wordUsed T1) = 1#1)) (h3 : k0_cond3 i (wordUsed T1) = 1#1) :
    Σ' (out0 : List (View.Piece (Elt F) S256x1024 .f32))
      (out1 : Buf (Elt F) ((c : Thread nD τ).loc cc0_scratch0)),
      { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (blockE.view.loc (c : Thread nD τ) ↦{fullShare.right} T0)
          ∗ (usedN.view.loc (c : Thread nD τ) ↦{fullShare.right} T1)
          ∗ (∃ d, owns (c : Thread nD τ) arg8 fullShare d)
          ∗ (scrA.view.loc (c : Thread nD τ) ↦{fullShare} xa0)
          ∗ (scrB.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (blockE.view.loc (c : Thread nD τ) ↦{fullShare.right} T0)
              ∗ (usedN.view.loc (c : Thread nD τ) ↦{fullShare.right} T1)
              ∗ (∃ f, arg8.view.loc (c : Thread nD τ) ↦[arg8.view.set]{fullShare}
                  arg8.view.writes (Elt F) f out0)
              ∗ (scrA.view.loc (c : Thread nD τ) ↦{fullShare} out1)
              ∗ (scrB.view.loc (c : Thread nD τ) ↦{fullShare} out2)) -∗ K ⟨⟩))
          ⊢ wp frame (wpE (defs₀ (F := F)) Variants.none c none) Set.univ
            (cc0_moe_experts i blockE (Memref.isWhole_whole _) usedN (Memref.isWhole_whole _)
              arg3 harg3 arg4 harg4 arg5 harg5 arg6 harg6 arg7 harg7 arg8 harg8
              scrA (Memref.isWhole_whole _) scrB (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scrA.IsWhole := Memref.isWhole_whole _
    have hS1 : scrB.IsWhole := Memref.isWhole_whole _
    have hT0 : blockE.IsWhole := Memref.isWhole_whole _
    have hT1 : usedN.IsWhole := Memref.isWhole_whole _
    sl_exec! (disch := first
      | (guard_target = Scalar.cmpi = _; exact hc0)
      | (guard_target = ¬(k0_cond2 _ _ = _); exact h2)
      | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- A used block of the expert of the block before. -/
def runOldUsed (xa0 : Buf (Elt F) ((c : Thread nD τ).loc cc0_scratch0)) (xa1 : Buf (Elt F) ((c : Thread nD τ).loc cc0_scratch1))
    (hc0 : ¬(Recast T0 i))
    (h2 : k0_cond2 i (wordUsed T1) = 1#1) (h3 : ¬(k0_cond3 i (wordUsed T1) = 1#1)) :
    Σ' (out0 : List (View.Piece (Elt F) S256x1024 .f32))
      (out1 : Buf (Elt F) ((c : Thread nD τ).loc cc0_scratch0)),
      { out2 : Buf (Elt F) ((c : Thread nD τ).loc cc0_scratch1) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (blockE.view.loc (c : Thread nD τ) ↦{fullShare.right} T0)
          ∗ (usedN.view.loc (c : Thread nD τ) ↦{fullShare.right} T1)
          ∗ (∃ d, owns (c : Thread nD τ) arg8 fullShare d)
          ∗ (scrA.view.loc (c : Thread nD τ) ↦{fullShare} xa0)
          ∗ (scrB.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (blockE.view.loc (c : Thread nD τ) ↦{fullShare.right} T0)
              ∗ (usedN.view.loc (c : Thread nD τ) ↦{fullShare.right} T1)
              ∗ (∃ f, arg8.view.loc (c : Thread nD τ) ↦[arg8.view.set]{fullShare}
                  arg8.view.writes (Elt F) f out0)
              ∗ (scrA.view.loc (c : Thread nD τ) ↦{fullShare} out1)
              ∗ (scrB.view.loc (c : Thread nD τ) ↦{fullShare} out2)) -∗ K ⟨⟩))
          ⊢ wp frame (wpE (defs₀ (F := F)) Variants.none c none) Set.univ
            (cc0_moe_experts i blockE (Memref.isWhole_whole _) usedN (Memref.isWhole_whole _)
              arg3 harg3 arg4 harg4 arg5 harg5 arg6 harg6 arg7 harg7 arg8 harg8
              scrA (Memref.isWhole_whole _) scrB (Memref.isWhole_whole _)) K } :=
  ⟨_, _, _, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scrA.IsWhole := Memref.isWhole_whole _
    have hS1 : scrB.IsWhole := Memref.isWhole_whole _
    have hT0 : blockE.IsWhole := Memref.isWhole_whole _
    have hT1 : usedN.IsWhole := Memref.isWhole_whole _
    sl_exec! (disch := first
      | (guard_target = ¬(Scalar.cmpi = _); exact hc0)
      | (guard_target = k0_cond2 _ _ = _; exact h2)
      | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- An unused block of the expert of the block before. -/
def runOldIdle (xa0 : Buf (Elt F) ((c : Thread nD τ).loc cc0_scratch0)) (xa1 : Buf (Elt F) ((c : Thread nD τ).loc cc0_scratch1))
    (hc0 : ¬(Recast T0 i))
    (h2 : ¬(k0_cond2 i (wordUsed T1) = 1#1)) (h3 : k0_cond3 i (wordUsed T1) = 1#1) :
    Σ' (out0 : List (View.Piece (Elt F) S256x1024 .f32))
      (out1 : Buf (Elt F) ((c : Thread nD τ).loc cc0_scratch0)),
      { out2 : Buf (Elt F) ((c : Thread nD τ).loc cc0_scratch1) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (blockE.view.loc (c : Thread nD τ) ↦{fullShare.right} T0)
          ∗ (usedN.view.loc (c : Thread nD τ) ↦{fullShare.right} T1)
          ∗ (∃ d, owns (c : Thread nD τ) arg8 fullShare d)
          ∗ (scrA.view.loc (c : Thread nD τ) ↦{fullShare} xa0)
          ∗ (scrB.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (blockE.view.loc (c : Thread nD τ) ↦{fullShare.right} T0)
              ∗ (usedN.view.loc (c : Thread nD τ) ↦{fullShare.right} T1)
              ∗ (∃ f, arg8.view.loc (c : Thread nD τ) ↦[arg8.view.set]{fullShare}
                  arg8.view.writes (Elt F) f out0)
              ∗ (scrA.view.loc (c : Thread nD τ) ↦{fullShare} out1)
              ∗ (scrB.view.loc (c : Thread nD τ) ↦{fullShare} out2)) -∗ K ⟨⟩))
          ⊢ wp frame (wpE (defs₀ (F := F)) Variants.none c none) Set.univ
            (cc0_moe_experts i blockE (Memref.isWhole_whole _) usedN (Memref.isWhole_whole _)
              arg3 harg3 arg4 harg4 arg5 harg5 arg6 harg6 arg7 harg7 arg8 harg8
              scrA (Memref.isWhole_whole _) scrB (Memref.isWhole_whole _)) K } :=
  ⟨_, _, _, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : scrA.IsWhole := Memref.isWhole_whole _
    have hS1 : scrB.IsWhole := Memref.isWhole_whole _
    have hT0 : blockE.IsWhole := Memref.isWhole_whole _
    have hT1 : usedN.IsWhole := Memref.isWhole_whole _
    sl_exec! (disch := first
      | (guard_target = ¬(Scalar.cmpi = _); exact hc0)
      | (guard_target = ¬(k0_cond2 _ _ = _); exact h2)
      | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Experts
-- ==== Proof.ExpFill.lean ====
module

public import proofs.«01_k».proof.Proof.ExpBody
public import Idealize.ShloMosaic.Lib.VecWindow
public import Idealize.ShloMosaic.Lib.Pipeline.ValueKit

/-!
# What the experts' kernel body leaves

The scratch buffers, filled row block by row block, hold the expert's two weight matrices rounded to
bf16; the output holds the feed-forward layer of the block's rows, or zeros.
-/

@[expose] public section

set_option maxRecDepth 16384

noncomputable section

namespace Experts

open Cert.Kernel3Ideal Cert.Kernel3Ideal.Gen
open Idealize.ShloMosaic
open Idealize.ShloMosaic.TcCoe

variable {F : FTy → Type} [FloatOps F]

/-- The first weight matrix, rounded to bf16. -/
def castA (x : S1x1x1024x2048.Idx → Elt F .f32) : S1024x2048.Idx → Elt F .bf16 :=
  fun y => FloatOps.truncf .bf16 bitsLt_bf16_f32 (x (ix4 0 0 (y 0) (y 1)))

/-- The second weight matrix, rounded to bf16. -/
def castB (x : S1x1x1024x1024.Idx → Elt F .f32) : S1024x1024.Idx → Elt F .bf16 :=
  fun y => FloatOps.truncf .bf16 bitsLt_bf16_f32 (x (ix4 0 0 (y 0) (y 1)))

/-- A row block of the first matrix as it is stored. -/
theorem pay_rowsA (v : Vec F S1x1x256x2048 .f32) (z : S256x2048.Idx) :
    k0_pay7 v z = FloatOps.truncf .bf16 bitsLt_bf16_f32 (v (ix4 0 0 (z 0) (z 1))) := by
  unfold k0_pay7
  refine (shapeCast_apply _ _ _ z rfl).trans ?_
  refine congrArg (FloatOps.truncf .bf16 bitsLt_bf16_f32) (shapeCast_apply _ _ _ (ix4 0 0 (z 0) (z 1)) ?_)
  refine (Shape.rowMajor_val_four (d := ![1, 1, 256, 2048]) _).trans
    (Eq.trans ?_ (Shape.rowMajor_val_two (d := ![256, 2048]) z).symm)
  show ((0 * 1 + 0) * 256 + (z 0).val) * 2048 + (z 1).val = (z 0).val * 2048 + (z 1).val
  omega

/-- A row block of the second matrix as it is stored. -/
theorem pay_rowsB (v : Vec F S1x1x256x1024 .f32) (z : S256x1024.Idx) :
    k0_pay2 v z = FloatOps.truncf .bf16 bitsLt_bf16_f32 (v (ix4 0 0 (z 0) (z 1))) := by
  unfold k0_pay2
  refine (shapeCast_apply _ _ _ z rfl).trans ?_
  refine congrArg (FloatOps.truncf .bf16 bitsLt_bf16_f32) (shapeCast_apply _ _ _ (ix4 0 0 (z 0) (z 1)) ?_)
  refine (Shape.rowMajor_val_four (d := ![1, 1, 256, 1024]) _).trans
    (Eq.trans ?_ (Shape.rowMajor_val_two (d := ![256, 1024]) z).symm)
  show ((0 * 1 + 0) * 256 + (z 0).val) * 1024 + (z 1).val = (z 0).val * 1024 + (z 1).val
  omega

variable (arg4 : Memref sig .tc .vmem S1x1x1024x2048 .f32) (arg6 : Memref sig .tc .vmem S1x1x1024x1024 .f32)
  (x1 : S1x1x1024x2048.Idx → Elt F .f32) (x3 : S1x1x1024x1024.Idx → Elt F .f32)

/-- The stores into the first scratch buffer, the last one first. -/
def fillA : List (View.Piece (Elt F) S1024x2048 .bf16) :=
  [⟨Rect.unit (s := S1024x2048) ![768, 0] S256x2048.size inb_S1024x2048_S256x2048_768_0, k0_pay7 (arg4.view.readAt (Elt F) (Rect.unit (s := S1x1x1024x2048) ![0, 0, 768, 0] S1x1x256x2048.size inb_S1x1x1024x2048_S1x1x256x2048_0_0_768_0).toLoadRect (arg4.view.rep x1))⟩,
   ⟨Rect.unit (s := S1024x2048) ![512, 0] S256x2048.size inb_S1024x2048_S256x2048_512_0, k0_pay7 (arg4.view.readAt (Elt F) (Rect.unit (s := S1x1x1024x2048) ![0, 0, 512, 0] S1x1x256x2048.size inb_S1x1x1024x2048_S1x1x256x2048_0_0_512_0).toLoadRect (arg4.view.rep x1))⟩,
   ⟨Rect.unit (s := S1024x2048) ![256, 0] S256x2048.size inb_S1024x2048_S256x2048_256_0, k0_pay7 (arg4.view.readAt (Elt F) (Rect.unit (s := S1x1x1024x2048) ![0, 0, 256, 0] S1x1x256x2048.size inb_S1x1x1024x2048_S1x1x256x2048_0_0_256_0).toLoadRect (arg4.view.rep x1))⟩,
   ⟨Rect.unit (s := S1024x2048) ![0, 0] S256x2048.size inb_S1024x2048_S256x2048_0_0, k0_pay7 (arg4.view.readAt (Elt F) (Rect.unit (s := S1x1x1024x2048) ![0, 0, 0, 0] S1x1x256x2048.size inb_S1x1x1024x2048_S1x1x256x2048_0_0_0_0).toLoadRect (arg4.view.rep x1))⟩]

/-- The stores into the second scratch buffer, the last one first. -/
def fillB : List (View.Piece (Elt F) S1024x1024 .bf16) :=
  [⟨Rect.unit (s := S1024x1024) ![768, 0] S256x1024.size inb_S1024x1024_S256x1024_768_0, k0_pay2 (arg6.view.readAt (Elt F) (Rect.unit (s := S1x1x1024x1024) ![0, 0, 768, 0] S1x1x256x1024.size inb_S1x1x1024x1024_S1x1x256x1024_0_0_768_0).toLoadRect (arg6.view.rep x3))⟩,
   ⟨Rect.unit (s := S1024x1024) ![512, 0] S256x1024.size inb_S1024x1024_S256x1024_512_0, k0_pay2 (arg6.view.readAt (Elt F) (Rect.unit (s := S1x1x1024x1024) ![0, 0, 512, 0] S1x1x256x1024.size inb_S1x1x1024x1024_S1x1x256x1024_0_0_512_0).toLoadRect (arg6.view.rep x3))⟩,
   ⟨Rect.unit (s := S1024x1024) ![256, 0] S256x1024.size inb_S1024x1024_S256x1024_256_0, k0_pay2 (arg6.view.readAt (Elt F) (Rect.unit (s := S1x1x1024x1024) ![0, 0, 256, 0] S1x1x256x1024.size inb_S1x1x1024x1024_S1x1x256x1024_0_0_256_0).toLoadRect (arg6.view.rep x3))⟩,
   ⟨Rect.unit (s := S1024x1024) ![0, 0] S256x1024.size inb_S1024x1024_S256x1024_0_0, k0_pay2 (arg6.view.readAt (Elt F) (Rect.unit (s := S1x1x1024x1024) ![0, 0, 0, 0] S1x1x256x1024.size inb_S1x1x1024x1024_S1x1x256x1024_0_0_0_0).toLoadRect (arg6.view.rep x3))⟩]

/-- One row block of the first matrix, as stored, is that part of the rounded matrix. -/
theorem pieceA (o : ℕ) (inb : ∀ a, (![o, 0] : Fin 2 → ℕ) a + S256x2048.size a ≤ S1024x2048.size a)
    (inb' : ∀ a, (![0, 0, o, 0] : Fin 4 → ℕ) a + S1x1x256x2048.size a ≤ S1x1x1024x2048.size a)
    (x : (Rect.unit (s := S1024x2048) ![o, 0] S256x2048.size inb).shape.Idx) :
    k0_pay7 (arg4.view.readAt (Elt F) (Rect.unit (s := S1x1x1024x2048) ![0, 0, o, 0] S1x1x256x2048.size inb').toLoadRect
      (arg4.view.rep x1)) x = castA x1 ((Rect.unit (s := S1024x2048) ![o, 0] S256x2048.size inb).emb x) := by
  rw [pay_rowsA, View.readAt_rep_unit _ _ _ rfl inb']
  refine congrArg (fun y => FloatOps.truncf .bf16 bitsLt_bf16_f32 (x1 y)) (funext fun a => Fin.ext ?_)
  match a with
  | ⟨0, _⟩ => rfl
  | ⟨1, _⟩ => rfl
  | ⟨2, _⟩ => rfl
  | ⟨3, _⟩ => rfl

/-- One row block of the second matrix, as stored, is that part of the rounded matrix. -/
theorem pieceB (o : ℕ) (inb : ∀ a, (![o, 0] : Fin 2 → ℕ) a + S256x1024.size a ≤ S1024x1024.size a)
    (inb' : ∀ a, (![0, 0, o, 0] : Fin 4 → ℕ) a + S1x1x256x1024.size a ≤ S1x1x1024x1024.size a)
    (x : (Rect.unit (s := S1024x1024) ![o, 0] S256x1024.size inb).shape.Idx) :
    k0_pay2 (arg6.view.readAt (Elt F) (Rect.unit (s := S1x1x1024x1024) ![0, 0, o, 0] S1x1x256x1024.size inb').toLoadRect
      (arg6.view.rep x3)) x = castB x3 ((Rect.unit (s := S1024x1024) ![o, 0] S256x1024.size inb).emb x) := by
  rw [pay_rowsB, View.readAt_rep_unit _ _ _ rfl inb']
  refine congrArg (fun y => FloatOps.truncf .bf16 bitsLt_bf16_f32 (x3 y)) (funext fun a => Fin.ext ?_)
  match a with
  | ⟨0, _⟩ => rfl
  | ⟨1, _⟩ => rfl
  | ⟨2, _⟩ => rfl
  | ⟨3, _⟩ => rfl

/-- The filled first scratch buffer reads as the rounded matrix. -/
theorem read_fillA (f : scrA.view.ty.Contents (Elt F)) :
    scrA.view.read (Elt F) (scrA.view.writes (Elt F) f (fillA arg4 x1)) = castA x1 := by
  funext y
  refine View.read_writes_apply_of_pieces scrA.view f (castA x1) (fillA arg4 x1) ?_ y
    (View.cover_of_tiledL (fillA arg4 x1) S256x2048.size (by sl_kernel_rfl) y)
  intro p hp
  simp only [fillA, List.mem_cons, List.not_mem_nil, or_false] at hp
  rcases hp with rfl | rfl | rfl | rfl
  · exact fun x => pieceA arg4 x1 768 inb_S1024x2048_S256x2048_768_0 inb_S1x1x1024x2048_S1x1x256x2048_0_0_768_0 x
  · exact fun x => pieceA arg4 x1 512 inb_S1024x2048_S256x2048_512_0 inb_S1x1x1024x2048_S1x1x256x2048_0_0_512_0 x
  · exact fun x => pieceA arg4 x1 256 inb_S1024x2048_S256x2048_256_0 inb_S1x1x1024x2048_S1x1x256x2048_0_0_256_0 x
  · exact fun x => pieceA arg4 x1 0 inb_S1024x2048_S256x2048_0_0 inb_S1x1x1024x2048_S1x1x256x2048_0_0_0_0 x

/-- The filled second scratch buffer reads as the rounded matrix. -/
theorem read_fillB (f : scrB.view.ty.Contents (Elt F)) :
    scrB.view.read (Elt F) (scrB.view.writes (Elt F) f (fillB arg6 x3)) = castB x3 := by
  funext y
  refine View.read_writes_apply_of_pieces scrB.view f (castB x3) (fillB arg6 x3) ?_ y
    (View.cover_of_tiledL (fillB arg6 x3) S256x1024.size (by sl_kernel_rfl) y)
  intro p hp
  simp only [fillB, List.mem_cons, List.not_mem_nil, or_false] at hp
  rcases hp with rfl | rfl | rfl | rfl
  · exact fun x => pieceB arg6 x3 768 inb_S1024x1024_S256x1024_768_0 inb_S1x1x1024x1024_S1x1x256x1024_0_0_768_0 x
  · exact fun x => pieceB arg6 x3 512 inb_S1024x1024_S256x1024_512_0 inb_S1x1x1024x1024_S1x1x256x1024_0_0_512_0 x
  · exact fun x => pieceB arg6 x3 256 inb_S1024x1024_S256x1024_256_0 inb_S1x1x1024x1024_S1x1x256x1024_0_0_256_0 x
  · exact fun x => pieceB arg6 x3 0 inb_S1024x1024_S256x1024_0_0 inb_S1x1x1024x1024_S1x1x256x1024_0_0_0_0 x

variable (c : Dev nD) (i : grid0.Coords)
  (arg3 : Memref sig .tc .vmem S256x1024 .f32) (harg3 : arg3.IsWhole)
  (harg4 : arg4.IsWhole)
  (arg5 : Memref sig .tc .vmem S1x1x1x2048 .f32) (harg5 : arg5.IsWhole)
  (harg6 : arg6.IsWhole)
  (arg7 : Memref sig .tc .vmem S1x1x1x1024 .f32) (harg7 : arg7.IsWhole)
  (arg8 : Memref sig .tc .vmem S256x1024 .f32) (harg8 : arg8.IsWhole)
  (T0 : S552.Idx → Elt F .i32) (T1 : S1.Idx → Elt F .i32)
  (x0 : S256x1024.Idx → Elt F .f32) (x2 : S1x1x1x2048.Idx → Elt F .f32) (x4 : S1x1x1x1024.Idx → Elt F .f32)

/-- The output's one store. -/
def outPiece (v : S256x1024.Idx → Elt F .f32) : List (View.Piece (Elt F) S256x1024 .f32) :=
  [⟨Rect.unit (s := S256x1024) ![0, 0] S256x1024.size inb_S256x1024_S256x1024_0_0, v⟩]

theorem read_outPiece (w : View sig .tc .vmem S256x1024 .f32) (f : w.ty.Contents (Elt F)) (v : S256x1024.Idx → Elt F .f32) :
    w.read (Elt F) (w.writes (Elt F) f (outPiece v)) = v := by
  funext y
  refine View.read_writes_apply_of_pieces w f v (outPiece v) ?_ y
    (View.cover_of_tiledL (outPiece v) S256x1024.size (by sl_kernel_rfl) y)
  intro p hp x
  simp only [outPiece, List.mem_cons, List.not_mem_nil, or_false] at hp
  subst hp
  refine congrArg v (funext fun a => Fin.ext ?_)
  match a with
  | ⟨0, _⟩ => show (x 0).val = 0 + 1 * (x 0).val; omega
  | ⟨1, _⟩ => show (x 1).val = 0 + 1 * (x 1).val; omega

/-- What a used block's output holds: the feed-forward layer under the scratch buffers' matrices. -/
def ffn (x0 : S256x1024.Idx → Elt F .f32) (a : S1024x2048.Idx → Elt F .bf16) (x2 : S1x1x1x2048.Idx → Elt F .f32)
    (b : S1024x1024.Idx → Elt F .bf16) (x4 : S1x1x1x1024.Idx → Elt F .f32) : S256x1024.Idx → Elt F .f32 :=
  k0_pay5 x0 a x2 b x4

theorem newUsed_out (h0) (h2) (h3) :
    (runNewUsed c i arg3 harg3 arg4 harg4 arg5 harg5 arg6 harg6 arg7 harg7 arg8 harg8 T0 T1 x0 x1 x2 x3 x4 h0 h2 h3).1
      = outPiece (ffn x0 (castA x1) x2 (castB x3) x4) := by
  show outPiece (k0_pay5 (arg3.view.readAt (Elt F) (Rect.unit (s := S256x1024) ![0, 0] S256x1024.size inb_S256x1024_S256x1024_0_0).toLoadRect (arg3.view.rep x0))
    (scrA.view.readAt (Elt F) (Rect.unit (s := S1024x2048) ![0, 0] S1024x2048.size inb_S1024x2048_S1024x2048_0_0).toLoadRect (scrA.view.writes (Elt F) scrA.view.junk (fillA arg4 x1)))
    (arg5.view.readAt (Elt F) (Rect.unit (s := S1x1x1x2048) ![0, 0, 0, 0] S1x1x1x2048.size inb_S1x1x1x2048_S1x1x1x2048_0_0_0_0).toLoadRect (arg5.view.rep x2))
    (scrB.view.readAt (Elt F) (Rect.unit (s := S1024x1024) ![0, 0] S1024x1024.size inb_S1024x1024_S1024x1024_0_0).toLoadRect (scrB.view.writes (Elt F) scrB.view.junk (fillB arg6 x3)))
    (arg7.view.readAt (Elt F) (Rect.unit (s := S1x1x1x1024) ![0, 0, 0, 0] S1x1x1x1024.size inb_S1x1x1x1024_S1x1x1x1024_0_0_0_0).toLoadRect (arg7.view.rep x4))) = _
  rw [View.readAt_rep_full, View.readAt_rep_full, View.readAt_rep_full, View.readAt_full, View.readAt_full, read_fillA, read_fillB]
  rfl

theorem newUsed_A (h0) (h2) (h3) :
    (runNewUsed c i arg3 harg3 arg4 harg4 arg5 harg5 arg6 harg6 arg7 harg7 arg8 harg8 T0 T1 x0 x1 x2 x3 x4 h0 h2 h3).2.1
      = castA x1 := by
  unfold runNewUsed
  dsimp only [runNewUsed.sl.HS0_4]
  refine (View.read_whole cc0_scratch0 _).symm.trans ?_
  exact read_fillA arg4 x1 scrA.view.junk

theorem newUsed_B (h0) (h2) (h3) :
    (runNewUsed c i arg3 harg3 arg4 harg4 arg5 harg5 arg6 harg6 arg7 harg7 arg8 harg8 T0 T1 x0 x1 x2 x3 x4 h0 h2 h3).2.2.1
      = castB x3 := by
  unfold runNewUsed
  dsimp only [runNewUsed.sl.HS1_4]
  refine (View.read_whole cc0_scratch1 _).symm.trans ?_
  exact read_fillB arg6 x3 scrB.view.junk

theorem newIdle_out (h0) (h2) (h3) :
    (runNewIdle c i arg3 harg3 arg4 harg4 arg5 harg5 arg6 harg6 arg7 harg7 arg8 harg8 T0 T1 x0 x1 x2 x3 x4 h0 h2 h3).1
      = outPiece k0_pay6 := rfl

theorem newIdle_A (h0) (h2) (h3) :
    (runNewIdle c i arg3 harg3 arg4 harg4 arg5 harg5 arg6 harg6 arg7 harg7 arg8 harg8 T0 T1 x0 x1 x2 x3 x4 h0 h2 h3).2.1
      = castA x1 := by
  unfold runNewIdle
  dsimp only [runNewIdle.sl.HS0_4]
  refine (View.read_whole cc0_scratch0 _).symm.trans ?_
  exact read_fillA arg4 x1 scrA.view.junk

theorem newIdle_B (h0) (h2) (h3) :
    (runNewIdle c i arg3 harg3 arg4 harg4 arg5 harg5 arg6 harg6 arg7 harg7 arg8 harg8 T0 T1 x0 x1 x2 x3 x4 h0 h2 h3).2.2.1
      = castB x3 := by
  unfold runNewIdle
  dsimp only [runNewIdle.sl.HS1_4]
  refine (View.read_whole cc0_scratch1 _).symm.trans ?_
  exact read_fillB arg6 x3 scrB.view.junk

variable (xa0 : S1024x2048.Idx → Elt F .bf16) (xa1 : S1024x1024.Idx → Elt F .bf16)

theorem oldUsed_out (h0) (h2) (h3) :
    (runOldUsed c i arg3 harg3 arg4 harg4 arg5 harg5 arg6 harg6 arg7 harg7 arg8 harg8 T0 T1 x0 x1 x2 x3 x4 xa0 xa1 h0 h2 h3).1
      = outPiece (ffn x0 xa0 x2 xa1 x4) := by
  show outPiece (k0_pay5 (arg3.view.readAt (Elt F) (Rect.unit (s := S256x1024) ![0, 0] S256x1024.size inb_S256x1024_S256x1024_0_0).toLoadRect (arg3.view.rep x0))
    (scrA.view.readAt (Elt F) (Rect.unit (s := S1024x2048) ![0, 0] S1024x2048.size inb_S1024x2048_S1024x2048_0_0).toLoadRect xa0)
    (arg5.view.readAt (Elt F) (Rect.unit (s := S1x1x1x2048) ![0, 0, 0, 0] S1x1x1x2048.size inb_S1x1x1x2048_S1x1x1x2048_0_0_0_0).toLoadRect (arg5.view.rep x2))
    (scrB.view.readAt (Elt F) (Rect.unit (s := S1024x1024) ![0, 0] S1024x1024.size inb_S1024x1024_S1024x1024_0_0).toLoadRect xa1)
    (arg7.view.readAt (Elt F) (Rect.unit (s := S1x1x1x1024) ![0, 0, 0, 0] S1x1x1x1024.size inb_S1x1x1x1024_S1x1x1x1024_0_0_0_0).toLoadRect (arg7.view.rep x4))) = _
  rw [View.readAt_rep_full, View.readAt_rep_full, View.readAt_rep_full, View.readAt_full, View.readAt_full]
  rfl

theorem oldUsed_A (h0) (h2) (h3) :
    (runOldUsed c i arg3 harg3 arg4 harg4 arg5 harg5 arg6 harg6 arg7 harg7 arg8 harg8 T0 T1 x0 x1 x2 x3 x4 xa0 xa1 h0 h2 h3).2.1
      = xa0 := rfl

theorem oldUsed_B (h0) (h2) (h3) :
    (runOldUsed c i arg3 harg3 arg4 harg4 arg5 harg5 arg6 harg6 arg7 harg7 arg8 harg8 T0 T1 x0 x1 x2 x3 x4 xa0 xa1 h0 h2 h3).2.2.1
      = xa1 := rfl

theorem oldIdle_out (h0) (h2) (h3) :
    (runOldIdle c i arg3 harg3 arg4 harg4 arg5 harg5 arg6 harg6 arg7 harg7 arg8 harg8 T0 T1 x0 x1 x2 x3 x4 xa0 xa1 h0 h2 h3).1
      = outPiece k0_pay6 := rfl

theorem oldIdle_A (h0) (h2) (h3) :
    (runOldIdle c i arg3 harg3 arg4 harg4 arg5 harg5 arg6 harg6 arg7 harg7 arg8 harg8 T0 T1 x0 x1 x2 x3 x4 xa0 xa1 h0 h2 h3).2.1
      = xa0 := rfl

theorem oldIdle_B (h0) (h2) (h3) :
    (runOldIdle c i arg3 harg3 arg4 harg4 arg5 harg5 arg6 harg6 arg7 harg7 arg8 harg8 T0 T1 x0 x1 x2 x3 x4 xa0 xa1 h0 h2 h3).2.2.1
      = xa1 := rfl

end Experts
-- ==== Proof.ExpPoint.lean ====
module

public import proofs.«01_k».proof.Proof.ExpFill

/-!
# One grid point of the experts' kernel

What the two tables' words decide, and the body's run at a point in one statement: whatever the scratch
buffers hold before (the expert's matrices already, where the point does not write them), afterwards they
hold the expert's two matrices rounded to bf16 and the output holds the block's result.
-/

@[expose] public section

set_option maxRecDepth 16384
set_option Elab.async false

noncomputable section

namespace Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words -/

theorem coord_lt (i : grid0.Coords) : (i 0).val < 552 := (i 0).isLt

theorem off2_eq (i : grid0.Coords) : k0_off2 i = ![(i 0).val - 1] := by
  have r_i0 : (i 0).val < 552 := (i 0).isLt
  have h_arg0 : Affine.IsInt (BitVec.ofNat 32 (i 0).val) (((i 0).val : Int)) := Affine.ofNat _ (by omega)
  have h_one : Affine.IsInt 1#32 (1) := Affine.ofNat _ (by omega)
  have h_v0 : Affine.IsInt _ (((i 0).val : Int) - 1) := Affine.subi h_arg0 h_one (by omega)
  have h_zero : Affine.IsInt 0#32 (0) := Affine.ofNat _ (by omega)
  have h_v1 : Affine.IsInt _ ((max (((i 0).val : Int) - 1) 0)) := Affine.maxsi h_v0 h_zero (by omega)
  have h_v2 : Affine.IsInt _ ((max (((i 0).val : Int) - 1) 0)) := Affine.indexCast h_v1
  exact Affine.vec_cons h_v2 (by omega) <| Affine.vec_nil

theorem wordHere_eq (T0 : S552.Idx → Elt F .i32) (i : grid0.Coords) :
    wordHere T0 i = T0 (ix1 ⟨(i 0).val, coord_lt i⟩) := by
  refine congrArg T0 (funext fun a => Fin.ext ?_)
  match a with
  | ⟨0, _⟩ => exact (congrFun (k0_off1_eq i) 0 : _)

theorem wordBefore_eq (T0 : S552.Idx → Elt F .i32) (i : grid0.Coords) :
    wordBefore T0 i = T0 (ix1 ⟨(i 0).val - 1, by have := coord_lt i; omega⟩) := by
  refine congrArg T0 (funext fun a => Fin.ext ?_)
  match a with
  | ⟨0, _⟩ => exact (congrFun (off2_eq i) 0 : _)

theorem wordUsed_eq (T1 : S1.Idx → Elt F .i32) : wordUsed T1 = T1 (ix1 0) := by
  refine congrArg T1 (funext fun a => Fin.ext ?_)
  match a with
  | ⟨0, _⟩ => rfl

/-- A point that keeps the scratch buffers is not the first, and its expert is the previous point's. -/
theorem kept (T0 : S552.Idx → Elt F .i32) (i : grid0.Coords) (h : ¬Recast T0 i) :
    (i 0).val ≠ 0 ∧ wordHere T0 i = wordBefore T0 i := by
  constructor
  · intro h0
    apply h
    show Scalar.cmpi .ne (Scalar.extui (Scalar.ori (Scalar.cmpi .eq (BitVec.ofNat 32 (i 0).val) 0#32) _)) 0#32 = 1#1
    rw [h0]
    generalize Scalar.cmpi .ne (wordHere T0 i) (wordBefore T0 i) = q
    revert q
    decide
  · by_contra hne
    apply h
    have e : Scalar.cmpi .ne (wordHere T0 i) (wordBefore T0 i) = 1#1 := by
      show BitVec.ofBool (wordHere T0 i != wordBefore T0 i) = 1#1
      rw [bne_iff_ne.mpr hne]
      rfl
    show Scalar.cmpi .ne (Scalar.extui (Scalar.ori _ (Scalar.cmpi .ne (wordHere T0 i) (wordBefore T0 i)))) 0#32 = 1#1
    rw [e]
    generalize Scalar.cmpi .eq (BitVec.ofNat 32 (i 0).val) 0#32 = q
    revert q
    decide

/-- A block is used when its number is below the number of used blocks. -/
theorem used_iff (i : grid0.Coords) (w : BitVec 32) :
    k0_cond2 i w = 1#1 ↔ (BitVec.ofNat 32 (i 0).val).toInt < w.toInt := by
  show Scalar.cmpi .ne (Scalar.extui (BitVec.ofBool ((BitVec.ofNat 32 (i 0).val).slt w))) 0#32 = 1#1 ↔ _
  rw [show ((BitVec.ofNat 32 (i 0).val).toInt < w.toInt) ↔ (BitVec.ofNat 32 (i 0).val).slt w = true from
    BitVec.slt_iff_toInt_lt.symm]
  generalize (BitVec.ofNat 32 (i 0).val).slt w = b
  revert b
  decide

/-- A block is zeroed when it isn't used. -/
theorem idle_iff (i : grid0.Coords) (w : BitVec 32) : k0_cond3 i w = 1#1 ↔ ¬k0_cond2 i w = 1#1 := by
  rw [used_iff]
  show Scalar.cmpi .ne (Scalar.extui (BitVec.ofBool (w.sle (BitVec.ofNat 32 (i 0).val)))) 0#32 = 1#1 ↔ _
  rw [not_lt, show (w.toInt ≤ (BitVec.ofNat 32 (i 0).val).toInt) ↔ w.sle (BitVec.ofNat 32 (i 0).val) = true from
    BitVec.sle_iff_toInt_le.symm]
  generalize w.sle (BitVec.ofNat 32 (i 0).val) = b
  revert b
  decide

/-! ## The body's run -/

/-- What a point leaves in its output block. -/
def blockOut (i : grid0.Coords) (w : BitVec 32) (x0 : S256x1024.Idx → Elt F .f32) (x1 : S1x1x1024x2048.Idx → Elt F .f32)
    (x2 : S1x1x1x2048.Idx → Elt F .f32) (x3 : S1x1x1024x1024.Idx → Elt F .f32) (x4 : S1x1x1x1024.Idx → Elt F .f32) :
    S256x1024.Idx → Elt F .f32 :=
  if k0_cond2 i w = 1#1 then ffn x0 (castA x1) x2 (castB x3) x4 else k0_pay6

variable (c : Dev nD) (i : grid0.Coords)
  (arg3 : Memref sig .tc .vmem S256x1024 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S256x1024 .f32) (harg8 : arg8.IsWhole)
  (T0 : S552.Idx → Elt F .i32) (T1 : S1.Idx → Elt F .i32)
  (x0 : S256x1024.Idx → Elt F .f32) (x1 : S1x1x1024x2048.Idx → Elt F .f32)
  (x2 : S1x1x1x2048.Idx → Elt F .f32) (x3 : S1x1x1024x1024.Idx → Elt F .f32)
  (x4 : S1x1x1x1024.Idx → Elt F .f32)

set_option maxHeartbeats 4000000 in
/-- The body at a point, whichever way its two conditions fall. -/
theorem body_run (xa0 : S1024x2048.Idx → Elt F .bf16) (xa1 : S1024x1024.Idx → Elt F .bf16)
    (hA : ¬Recast T0 i → xa0 = castA x1) (hB : ¬Recast T0 i → xa1 = castB x3) (K : PUnit → sProp 𝕄) :
    iprop(owns (c : Thread nD τ) arg3 fullShare x0 ∗ owns (c : Thread nD τ) arg4 fullShare x1
      ∗ owns (c : Thread nD τ) arg5 fullShare x2 ∗ owns (c : Thread nD τ) arg6 fullShare x3
      ∗ owns (c : Thread nD τ) arg7 fullShare x4
      ∗ (blockE.view.loc (c : Thread nD τ) ↦{fullShare.right} T0)
      ∗ (usedN.view.loc (c : Thread nD τ) ↦{fullShare.right} T1)
      ∗ (∃ d, owns (c : Thread nD τ) arg8 fullShare d)
      ∗ (scrA.view.loc (c : Thread nD τ) ↦{fullShare} xa0)
      ∗ (scrB.view.loc (c : Thread nD τ) ↦{fullShare} xa1)
      ∗ (iprop(owns (c : Thread nD τ) arg3 fullShare x0 ∗ owns (c : Thread nD τ) arg4 fullShare x1
          ∗ owns (c : Thread nD τ) arg5 fullShare x2 ∗ owns (c : Thread nD τ) arg6 fullShare x3
          ∗ owns (c : Thread nD τ) arg7 fullShare x4
          ∗ (blockE.view.loc (c : Thread nD τ) ↦{fullShare.right} T0)
          ∗ (usedN.view.loc (c : Thread nD τ) ↦{fullShare.right} T1)
          ∗ owns (c : Thread nD τ) arg8 fullShare (blockOut i (wordUsed T1) x0 x1 x2 x3 x4)
          ∗ (scrA.view.loc (c : Thread nD τ) ↦{fullShare} castA x1)
          ∗ (scrB.view.loc (c : Thread nD τ) ↦{fullShare} castB x3)) -∗ K ⟨⟩))
      ⊢ wp frame (wpE (defs₀ (F := F)) Variants.none c none) Set.univ
        (cc0_moe_experts i blockE (Memref.isWhole_whole _) usedN (Memref.isWhole_whole _)
          arg3 harg3 arg4 harg4 arg5 harg5 arg6 harg6 arg7 harg7 arg8 harg8
          scrA (Memref.isWhole_whole _) scrB (Memref.isWhole_whole _)) K := by
  by_cases h2 : k0_cond2 i (wordUsed T1) = 1#1
  · have h3 : ¬k0_cond3 i (wordUsed T1) = 1#1 := fun h => (idle_iff i _).mp h h2
    rw [show blockOut i (wordUsed T1) x0 x1 x2 x3 x4 = ffn x0 (castA x1) x2 (castB x3) x4 from if_pos h2]
    by_cases h0 : Recast T0 i
    · have eo := newUsed_out arg4 arg6 x1 x3 c i arg3 harg3 harg4 arg5 harg5 harg6 arg7 harg7 arg8 harg8 T0 T1 x0 x2 x4 h0 h2 h3
      have ea := newUsed_A arg4 arg6 x1 x3 c i arg3 harg3 harg4 arg5 harg5 harg6 arg7 harg7 arg8 harg8 T0 T1 x0 x2 x4 h0 h2 h3
      have eb := newUsed_B arg4 arg6 x1 x3 c i arg3 harg3 harg4 arg5 harg5 harg6 arg7 harg7 arg8 harg8 T0 T1 x0 x2 x4 h0 h2 h3
      generalize runNewUsed c i arg3 harg3 arg4 harg4 arg5 harg5 arg6 harg6 arg7 harg7 arg8 harg8 T0 T1 x0 x1 x2 x3 x4 h0 h2 h3 = r at eo ea eb
      obtain ⟨o, a, b, R⟩ := r
      dsimp only at eo ea eb
      subst eo ea eb
      replace R := R xa0 xa1 K
      iintro ⟨H0, H1, H2, H3, H4, HT0, HT1, H5, HS0, HS1, Hk⟩
      iapply R
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, ⟨%e5, H5⟩, HS0, HS1⟩
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [H5]
      · unfold owns; iexists _; isplitr; swap
        · iexact H5
        · ipureintro; exact read_outPiece _ _ _
      isplitl [HS0]; · iexact HS0
      iexact HS1
    · rw [← hA h0, ← hB h0]
      have eo := oldUsed_out arg4 arg6 x1 x3 c i arg3 harg3 harg4 arg5 harg5 harg6 arg7 harg7 arg8 harg8 T0 T1 x0 x2 x4 xa0 xa1 h0 h2 h3
      have ea := oldUsed_A arg4 arg6 x1 x3 c i arg3 harg3 harg4 arg5 harg5 harg6 arg7 harg7 arg8 harg8 T0 T1 x0 x2 x4 xa0 xa1 h0 h2 h3
      have eb := oldUsed_B arg4 arg6 x1 x3 c i arg3 harg3 harg4 arg5 harg5 harg6 arg7 harg7 arg8 harg8 T0 T1 x0 x2 x4 xa0 xa1 h0 h2 h3
      generalize runOldUsed c i arg3 harg3 arg4 harg4 arg5 harg5 arg6 harg6 arg7 harg7 arg8 harg8 T0 T1 x0 x1 x2 x3 x4 xa0 xa1 h0 h2 h3 = r at eo ea eb
      obtain ⟨o, a, b, R⟩ := r
      dsimp only at eo ea eb
      subst eo ea eb
      replace R := R K
      iintro ⟨H0, H1, H2, H3, H4, HT0, HT1, H5, HS0, HS1, Hk⟩
      iapply R
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, ⟨%e5, H5⟩, HS0, HS1⟩
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [H5]
      · unfold owns; iexists _; isplitr; swap
        · iexact H5
        · ipureintro; exact read_outPiece _ _ _
      isplitl [HS0]; · iexact HS0
      iexact HS1
  · have h3 : k0_cond3 i (wordUsed T1) = 1#1 := (idle_iff i _).mpr h2
    rw [show blockOut i (wordUsed T1) x0 x1 x2 x3 x4 = k0_pay6 from if_neg h2]
    by_cases h0 : Recast T0 i
    · have eo := newIdle_out arg4 arg6 x1 x3 c i arg3 harg3 harg4 arg5 harg5 harg6 arg7 harg7 arg8 harg8 T0 T1 x0 x2 x4 h0 h2 h3
      have ea := newIdle_A arg4 arg6 x1 x3 c i arg3 harg3 harg4 arg5 harg5 harg6 arg7 harg7 arg8 harg8 T0 T1 x0 x2 x4 h0 h2 h3
      have eb := newIdle_B arg4 arg6 x1 x3 c i arg3 harg3 harg4 arg5 harg5 harg6 arg7 harg7 arg8 harg8 T0 T1 x0 x2 x4 h0 h2 h3
      generalize runNewIdle c i arg3 harg3 arg4 harg4 arg5 harg5 arg6 harg6 arg7 harg7 arg8 harg8 T0 T1 x0 x1 x2 x3 x4 h0 h2 h3 = r at eo ea eb
      obtain ⟨o, a, b, R⟩ := r
      dsimp only at eo ea eb
      subst eo ea eb
      replace R := R xa0 xa1 K
      iintro ⟨H0, H1, H2, H3, H4, HT0, HT1, H5, HS0, HS1, Hk⟩
      iapply R
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, ⟨%e5, H5⟩, HS0, HS1⟩
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [H5]
      · unfold owns; iexists _; isplitr; swap
        · iexact H5
        · ipureintro; exact read_outPiece _ _ _
      isplitl [HS0]; · iexact HS0
      iexact HS1
    · rw [← hA h0, ← hB h0]
      have eo := oldIdle_out arg4 arg6 x1 x3 c i arg3 harg3 harg4 arg5 harg5 harg6 arg7 harg7 arg8 harg8 T0 T1 x0 x2 x4 xa0 xa1 h0 h2 h3
      have ea := oldIdle_A arg4 arg6 x1 x3 c i arg3 harg3 harg4 arg5 harg5 harg6 arg7 harg7 arg8 harg8 T0 T1 x0 x2 x4 xa0 xa1 h0 h2 h3
      have eb := oldIdle_B arg4 arg6 x1 x3 c i arg3 harg3 harg4 arg5 harg5 harg6 arg7 harg7 arg8 harg8 T0 T1 x0 x2 x4 xa0 xa1 h0 h2 h3
      generalize runOldIdle c i arg3 harg3 arg4 harg4 arg5 harg5 arg6 harg6 arg7 harg7 arg8 harg8 T0 T1 x0 x1 x2 x3 x4 xa0 xa1 h0 h2 h3 = r at eo ea eb
      obtain ⟨o, a, b, R⟩ := r
      dsimp only at eo ea eb
      subst eo ea eb
      replace R := R K
      iintro ⟨H0, H1, H2, H3, H4, HT0, HT1, H5, HS0, HS1, Hk⟩
      iapply R
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, ⟨%e5, H5⟩, HS0, HS1⟩
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [H5]
      · unfold owns; iexists _; isplitr; swap
        · iexact H5
        · ipureintro; exact read_outPiece _ _ _
      isplitl [HS0]; · iexact HS0
      iexact HS1

end Experts
-- ==== Proof.ExpRun.lean ====
module

public import proofs.«01_k».proof.Proof.ExpPoint
public import Idealize.ShloMosaic.Lib.Pipeline.ValueKit

/-!
# The experts' kernel, run

From any memory whose expert numbers are below 32, the kernel terminates, its output array ends at what
the grid's points leave block by block, and every other array ends as it began.
-/

@[expose] public section

set_option maxRecDepth 16384
set_option Elab.async false

noncomputable section

namespace Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays where the region starts -/

/-- Core `c`'s arrays where the region starts: the two biases reshaped, the rest as launched. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-! ## The tables -/

/-- The one device. -/
abbrev dev0 : Dev nD := ⟨0, by decide⟩

theorem dev_eq (c : Dev nD) : c = dev0 := Subsingleton.elim (α := Fin 1) c dev0

/-- The table of each block's expert, as launched. -/
abbrev tabE : S552.Idx → Elt F .i32 := m ((dev0 : Thread nD τ).loc main_arg0)

/-- The table of the number of used blocks, as launched. -/
abbrev tabU : S1.Idx → Elt F .i32 := m ((dev0 : Thread nD τ).loc main_arg1)

/-- The tables' contents. -/
def tabs : pre0.Contents (Elt F) := fun
  | ⟨0, _⟩ => tabE m
  | ⟨1, _⟩ => tabU m

/-- A block's entry in the table. -/
def entry (t : Fin 552) : BitVec 32 := tabE m (ix1 t)

/-- Every block's expert is one of the 32. -/
def InRange : Prop := ∀ t : Fin 552, (entry m t).toNat < 32

variable (h : InRange m)

/-- A block's expert. -/
def expert (t : Fin 552) : Fin 32 := ⟨(entry m t).toNat, h t⟩

theorem expert_val (t : Fin 552) : (expert m h t).val = (entry m t).toNat := rfl

theorem map_eq (i : grid0.Coords) : cc0_transform_1 k0_off1_inb numel1_S1 (tabs m) i
    = ![1, (expert m h ⟨(i 0).val, coord_lt i⟩).val, 0, 0] := by
  unfold cc0_transform_1
  have e : ((tabs m).at 0 (Rect.unit (s := S552) ![(Scalar.indexCast (BitVec.ofNat 32 (i 0).val)).toNat] S1.size (k0_off1_inb i)) numel1_S1 : BitVec 32)
      = entry m ⟨(i 0).val, coord_lt i⟩ := by
    refine congrArg (tabE m) (funext fun a => Fin.ext ?_)
    match a with
    | ⟨0, _⟩ => exact (congrFun (k0_off1_eq i) 0 : _)
  funext a
  match a with
  | ⟨0, _⟩ => rfl
  | ⟨1, _⟩ => exact (congrArg BitVec.toNat e).trans (expert_val m h _).symm
  | ⟨2, _⟩ => rfl
  | ⟨3, _⟩ => rfl

include h in
theorem map_inb (s : Fin 4 → ℕ) (i : grid0.Coords) (hs : s 0 ≤ 1 ∧ s 1 ≤ 1) :
    ∀ a, (cc0_transform_1 k0_off1_inb numel1_S1 (tabs m) i a + 1) * (![1, 1, s 2, s 3] : Fin 4 → ℕ) a
      ≤ (![4, 32, s 2, s 3] : Fin 4 → ℕ) a := by
  intro a
  rw [map_eq m h i]
  match a with
  | ⟨0, _⟩ => show (1 + 1) * 1 ≤ 4; omega
  | ⟨1, _⟩ =>
    have := (expert m h ⟨(i 0).val, coord_lt i⟩).isLt
    show ((expert m h ⟨(i 0).val, coord_lt i⟩).val + 1) * 1 ≤ 32
    omega
  | ⟨2, _⟩ => show (0 + 1) * s 2 ≤ s 2; omega
  | ⟨3, _⟩ => show (0 + 1) * s 3 ≤ s 3; omega

include h in
theorem tabs_ok : ok0 (tabs m) :=
  ⟨fun i => ⟨map_inb m h ![1, 1, 1024, 2048] i ⟨le_rfl, le_rfl⟩, .inl rfl⟩,
   fun i => ⟨map_inb m h ![1, 1, 1, 2048] i ⟨le_rfl, le_rfl⟩, .inl rfl⟩,
   fun i => ⟨map_inb m h ![1, 1, 1024, 1024] i ⟨le_rfl, le_rfl⟩, .inl rfl⟩,
   fun i => ⟨map_inb m h ![1, 1, 1, 1024] i ⟨le_rfl, le_rfl⟩, .inl rfl⟩⟩

/-- The tables as the region checks them. -/
def adm : (pcfg0 (F := F)).Adm := ⟨tabs m, tabs_ok m h⟩

/-- The region at these tables. -/
abbrev cfgA : Pipeline.Cfg sig Λ₀ := cfg0 (adm m h)

theorem point_lt (t : Fin (cfgA m h).N) : t.val < 552 := lt_of_lt_of_eq t.isLt (show (cfgA m h).N = 552 from N_0)

theorem crd_val : ∀ t : Fin grid0.N, (grid0.coords t 0).val = t.val := by decide +kernel

/-! ## Blocks, stages and the data of the run -/

/-- A window's block at a point. -/
def iblk (c : Dev nD) (w : Fin (cfgA m h).W) (t : Fin (cfgA m h).N) :
    (((cfgA m h).win w).xblock ((cfgA m h).grid.coords t)).Idx → Elt F ((cfgA m h).win w).elt :=
  (((cfgA m h).win w).blk t).view.read (Elt F) (V m c (Pipeline.arrRef spec0 w))

abbrev ms0 (t : Fin (cfgA m h).N) := spec0_0.stage ((cfgA m h).slots t (0 : Fin 6))
abbrev ms1 (t : Fin (cfgA m h).N) := spec0_1.stage ((cfgA m h).slots t (1 : Fin 6))
abbrev ms2 (t : Fin (cfgA m h).N) := spec0_2.stage ((cfgA m h).slots t (2 : Fin 6))
abbrev ms3 (t : Fin (cfgA m h).N) := spec0_3.stage ((cfgA m h).slots t (3 : Fin 6))
abbrev ms4 (t : Fin (cfgA m h).N) := spec0_4.stage ((cfgA m h).slots t (4 : Fin 6))
abbrev ms5 (t : Fin (cfgA m h).N) := spec0_5.stage ((cfgA m h).slots t (5 : Fin 6))
abbrev hs0 (t : Fin (cfgA m h).N) := hstage0_0 (((cfgA m h).slots t (0 : Fin 6)).cast nbuf0_0)
abbrev hs1 (t : Fin (cfgA m h).N) := hstage0_1 (((cfgA m h).slots t (1 : Fin 6)).cast nbuf0_1)
abbrev hs2 (t : Fin (cfgA m h).N) := hstage0_2 (((cfgA m h).slots t (2 : Fin 6)).cast nbuf0_2)
abbrev hs3 (t : Fin (cfgA m h).N) := hstage0_3 (((cfgA m h).slots t (3 : Fin 6)).cast nbuf0_3)
abbrev hs4 (t : Fin (cfgA m h).N) := hstage0_4 (((cfgA m h).slots t (4 : Fin 6)).cast nbuf0_4)
abbrev hs5 (t : Fin (cfgA m h).N) := hstage0_5 (((cfgA m h).slots t (5 : Fin 6)).cast nbuf0_5)

/-- The grid point of a step. -/
abbrev crd (t : Fin (cfgA m h).N) : grid0.Coords := (cfgA m h).grid.coords t

theorem blkA (c : Dev nD) (t : Fin (cfgA m h).N) (r : Fin 1024) (x : Fin 2048) :
    (iblk m h c (1 : Fin 6) t : S1x1x1024x2048.Idx → Elt F .f32) (ix4 0 0 r x)
      = m ((c : Thread nD τ).loc main_arg3) (ix4 1 (expert m h ⟨t.val, point_lt m h t⟩) r x) := by
  unfold iblk
  rw [View.read_apply]
  show V m c main_arg3 _ = _
  rw [V_of_ne m c main_arg3 (by decide) (by decide)]
  refine congrArg (m ((c : Thread nD τ).loc main_arg3)) (funext fun a => Fin.ext ?_)
  have e := map_eq m h (crd m h t)
  have ec : (crd m h t 0).val = t.val := crd_val t
  match a with
  | ⟨0, _⟩ =>
    show cc0_transform_1 k0_off1_inb numel1_S1 (tabs m) (crd m h t) 0 * 1 + 1 * 0 = 1
    rw [e]; rfl
  | ⟨1, _⟩ =>
    show cc0_transform_1 k0_off1_inb numel1_S1 (tabs m) (crd m h t) 1 * 1 + 1 * 0 = _
    rw [e]
    show (expert m h ⟨(crd m h t 0).val, _⟩).val * 1 + 1 * 0 = (expert m h ⟨t.val, _⟩).val
    simp only [ec]
    omega
  | ⟨2, _⟩ =>
    show cc0_transform_1 k0_off1_inb numel1_S1 (tabs m) (crd m h t) 2 * 1024 + 1 * r.val = r.val
    rw [e]
    show 0 * 1024 + 1 * r.val = r.val
    omega
  | ⟨3, _⟩ =>
    show cc0_transform_1 k0_off1_inb numel1_S1 (tabs m) (crd m h t) 3 * 2048 + 1 * x.val = x.val
    rw [e]
    show 0 * 2048 + 1 * x.val = x.val
    omega

theorem blkB (c : Dev nD) (t : Fin (cfgA m h).N) (r : Fin 1024) (x : Fin 1024) :
    (iblk m h c (3 : Fin 6) t : S1x1x1024x1024.Idx → Elt F .f32) (ix4 0 0 r x)
      = m ((c : Thread nD τ).loc main_arg5) (ix4 1 (expert m h ⟨t.val, point_lt m h t⟩) r x) := by
  unfold iblk
  rw [View.read_apply]
  show V m c main_arg5 _ = _
  rw [V_of_ne m c main_arg5 (by decide) (by decide)]
  refine congrArg (m ((c : Thread nD τ).loc main_arg5)) (funext fun a => Fin.ext ?_)
  have e := map_eq m h (crd m h t)
  have ec : (crd m h t 0).val = t.val := crd_val t
  match a with
  | ⟨0, _⟩ =>
    show cc0_transform_1 k0_off1_inb numel1_S1 (tabs m) (crd m h t) 0 * 1 + 1 * 0 = 1
    rw [e]; rfl
  | ⟨1, _⟩ =>
    show cc0_transform_1 k0_off1_inb numel1_S1 (tabs m) (crd m h t) 1 * 1 + 1 * 0 = _
    rw [e]
    show (expert m h ⟨(crd m h t 0).val, _⟩).val * 1 + 1 * 0 = (expert m h ⟨t.val, _⟩).val
    simp only [ec]
    omega
  | ⟨2, _⟩ =>
    show cc0_transform_1 k0_off1_inb numel1_S1 (tabs m) (crd m h t) 2 * 1024 + 1 * r.val = r.val
    rw [e]
    show 0 * 1024 + 1 * r.val = r.val
    omega
  | ⟨3, _⟩ =>
    show cc0_transform_1 k0_off1_inb numel1_S1 (tabs m) (crd m h t) 3 * 1024 + 1 * x.val = x.val
    rw [e]
    show 0 * 1024 + 1 * x.val = x.val
    omega

/-- What the scratch buffers hold once a point has run: its expert's matrices, rounded. -/
abbrev matA (c : Dev nD) (t : Fin (cfgA m h).N) : S1024x2048.Idx → Elt F .bf16 := castA (iblk m h c (1 : Fin 6) t)
abbrev matB (c : Dev nD) (t : Fin (cfgA m h).N) : S1024x1024.Idx → Elt F .bf16 := castB (iblk m h c (3 : Fin 6) t)

theorem expert_kept (t s : Fin (cfgA m h).N) (hs : s.val + 1 = t.val) (hk : ¬Recast (tabE m) (crd m h t)) :
    expert m h ⟨s.val, point_lt m h s⟩ = expert m h ⟨t.val, point_lt m h t⟩ := by
  have e := (kept (tabE m) (crd m h t) hk).2
  rw [wordHere_eq, wordBefore_eq] at e
  have ec : (crd m h t 0).val = t.val := crd_val t
  rw [Fin.ext_iff, expert_val, expert_val]
  refine congrArg BitVec.toNat (Eq.trans ?_ (e.symm.trans ?_))
  · exact congrArg (fun u => tabE m (ix1 u)) (Fin.ext (show s.val = (crd m h t 0).val - 1 by omega))
  · exact congrArg (fun u => tabE m (ix1 u)) (Fin.ext ec)

theorem matA_kept (c : Dev nD) (t s : Fin (cfgA m h).N) (hs : s.val + 1 = t.val) (hk : ¬Recast (tabE m) (crd m h t)) :
    matA m h c s = matA m h c t := by
  funext y
  refine congrArg (FloatOps.truncf .bf16 bitsLt_bf16_f32) ?_
  rw [blkA m h c s (y 0) (y 1), blkA m h c t (y 0) (y 1), expert_kept m h t s hs hk]

theorem matB_kept (c : Dev nD) (t s : Fin (cfgA m h).N) (hs : s.val + 1 = t.val) (hk : ¬Recast (tabE m) (crd m h t)) :
    matB m h c s = matB m h c t := by
  funext y
  refine congrArg (FloatOps.truncf .bf16 bitsLt_bf16_f32) ?_
  rw [blkB m h c s (y 0) (y 1), blkB m h c t (y 0) (y 1), expert_kept m h t s hs hk]

/-- What a point leaves in its output block. -/
def outBlk (c : Dev nD) (t : Fin (cfgA m h).N) : S256x1024.Idx → Elt F .f32 :=
  blockOut (crd m h t) (wordUsed (tabU m)) (iblk m h c (0 : Fin 6) t) (iblk m h c (1 : Fin 6) t) (iblk m h c (2 : Fin 6) t)
    (iblk m h c (3 : Fin 6) t) (iblk m h c (4 : Fin 6) t)

/-- What holds between the points: the scratch buffers at the last point's matrices (anything before the first),
    the tables, the generator's register. -/
def Phi (c : Dev nD) (t : Fin ((cfgA m h).N + 1)) : sProp 𝕄 :=
  iprop((∃ a, ⌜∀ s : Fin (cfgA m h).N, s.val + 1 = t.val → a = matA m h c s⌝ ∗ (scrA.view.loc (c : Thread nD τ) ↦{fullShare} a))
    ∗ (∃ a, ⌜∀ s : Fin (cfgA m h).N, s.val + 1 = t.val → a = matB m h c s⌝ ∗ (scrB.view.loc (c : Thread nD τ) ↦{fullShare} a))
    ∗ (blockE.view.loc (c : Thread nD τ) ↦{fullShare.right} tabE m)
    ∗ (usedN.view.loc (c : Thread nD τ) ↦{fullShare.right} tabU m)
    ∗ (∃ r, prngReg c r))

/-- The run's data. -/
def dats (_ : Fin 1) (c : Dev nD) : Dat τ (Elt F) Unit ℕ (UR sig nD τ) ℕ (cfgA m h) c where
  A w := V m c (Pipeline.arrRef spec0 w)
  after w t := match w with
    | ⟨0, _⟩ => iblk m h c (0 : Fin 6) t
    | ⟨1, _⟩ => iblk m h c (1 : Fin 6) t
    | ⟨2, _⟩ => iblk m h c (2 : Fin 6) t
    | ⟨3, _⟩ => iblk m h c (3 : Fin 6) t
    | ⟨4, _⟩ => iblk m h c (4 : Fin 6) t
    | ⟨5, _⟩ => outBlk m h c t
  Φ t := Phi m h c t
  q _ := fullShare
  owed _ := 0

theorem after_0 (c : Dev nD) (t : Fin (cfgA m h).N) : (dats m h 0 c).after (0 : Fin 6) t = iblk m h c (0 : Fin 6) t := rfl
theorem after_1 (c : Dev nD) (t : Fin (cfgA m h).N) : (dats m h 0 c).after (1 : Fin 6) t = iblk m h c (1 : Fin 6) t := rfl
theorem after_2 (c : Dev nD) (t : Fin (cfgA m h).N) : (dats m h 0 c).after (2 : Fin 6) t = iblk m h c (2 : Fin 6) t := rfl
theorem after_3 (c : Dev nD) (t : Fin (cfgA m h).N) : (dats m h 0 c).after (3 : Fin 6) t = iblk m h c (3 : Fin 6) t := rfl
theorem after_4 (c : Dev nD) (t : Fin (cfgA m h).N) : (dats m h 0 c).after (4 : Fin 6) t = iblk m h c (4 : Fin 6) t := rfl
theorem after_5 (c : Dev nD) (t : Fin (cfgA m h).N) : (dats m h 0 c).after (5 : Fin 6) t = outBlk m h c t := rfl

theorem before_0 (c : Dev nD) (t : Fin (cfgA m h).N) (d) : (dats m h 0 c).before (0 : Fin 6) t d = iblk m h c (0 : Fin 6) t :=
  ((dats m h 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m h).N) (d) : (dats m h 0 c).before (1 : Fin 6) t d = iblk m h c (1 : Fin 6) t :=
  ((dats m h 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m h).N) (d) : (dats m h 0 c).before (2 : Fin 6) t d = iblk m h c (2 : Fin 6) t :=
  ((dats m h 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m h).N) (d) : (dats m h 0 c).before (3 : Fin 6) t d = iblk m h c (3 : Fin 6) t :=
  ((dats m h 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m h).N) (d) : (dats m h 0 c).before (4 : Fin 6) t d = iblk m h c (4 : Fin 6) t :=
  ((dats m h 0 c).before_in_eq_fetched (4 : Fin 6) rfl (fun _ => rfl) (fun _ _ _ => rfl) (fun t => by rw [after_4]; unfold Dat.blockOf iblk; rfl) t d).trans
    (by unfold Dat.fetched Dat.blockOf iblk; rfl)

/-- No point leaves the output block as it found it: it is stored, or zeroed. -/
theorem idle_5 (t : Fin (cfgA m h).N) : (cfgA m h).idle (5 : Fin 6) ((cfgA m h).grid.coords t) = false := by
  show (!(k0_cond2 (crd m h t) ((tabs m).atD 1 ![0]) == 1#1) && !(k0_cond3 (crd m h t) ((tabs m).atD 1 ![0]) == 1#1)) = false
  generalize (tabs m).atD 1 ![0] = w
  by_cases h2 : k0_cond2 (crd m h t) w = 1#1
  · rw [h2]; rfl
  · rw [(idle_iff (crd m h t) w).mpr h2]
    exact Bool.and_false _

/-! ## The body at every point -/

/-- The body at a point, on its staging buffers. -/
abbrev bodyAt (t : Fin (cfgA m h).N) : Prog (TpuEff nD τ sig (Elt F) Λ₀ .tc) PUnit :=
  cc0_moe_experts (crd m h t) (Memref.whole main_arg0) (Memref.isWhole_whole _) (Memref.whole main_arg1) (Memref.isWhole_whole _) (ms0 m h t) (hs0 m h t) (ms1 m h t) (hs1 m h t) (ms2 m h t) (hs2 m h t) (ms3 m h t) (hs3 m h t) (ms4 m h t) (hs4 m h t) (ms5 m h t) (hs5 m h t) (Memref.whole cc0_scratch0) (Memref.isWhole_whole _) (Memref.whole cc0_scratch1) (Memref.isWhole_whole _)

set_option maxHeartbeats 4000000 in
theorem sound_body (c : Dev nD) (t : Fin (cfgA m h).N) :
    iprop((dats m h 0 c).Φ t.castSucc ∗ (dats m h 0 c).owesAt () t.castSucc
        ∗ (∃ d, owns (c : Thread nD τ) (ms0 m h t) fullShare ((dats m h 0 c).before (0 : Fin 6) t d))
        ∗ (∃ d, owns (c : Thread nD τ) (ms1 m h t) fullShare ((dats m h 0 c).before (1 : Fin 6) t d))
        ∗ (∃ d, owns (c : Thread nD τ) (ms2 m h t) fullShare ((dats m h 0 c).before (2 : Fin 6) t d))
        ∗ (∃ d, owns (c : Thread nD τ) (ms3 m h t) fullShare ((dats m h 0 c).before (3 : Fin 6) t d))
        ∗ (∃ d, owns (c : Thread nD τ) (ms4 m h t) fullShare ((dats m h 0 c).before (4 : Fin 6) t d))
        ∗ (∃ d, owns (c : Thread nD τ) (ms5 m h t) fullShare ((dats m h 0 c).before (5 : Fin 6) t d)))
      ⊢ wp frame (wpE (defs₀ (F := F)) Variants.none c none) Set.univ (bodyAt m h t) fun _ =>
          iprop((dats m h 0 c).Φ t.succ ∗ (dats m h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m h 0 c).before w t d))
                  | true => owns (c : Thread nD τ) (((cfgA m h).win w).stage ((cfgA m h).slots t w)) fullShare ((dats m h 0 c).after w t)
                | false => owns (c : Thread nD τ) (((cfgA m h).win w).stage ((cfgA m h).slots t w)) fullShare ((dats m h 0 c).after w t)) := by
  rw [bigSep_W0]
  rewrite [idle_5 m h t]
  simp only [before_0, before_1, before_2, before_3, before_4, after_0, after_1, after_2, after_3, after_4, after_5]
  rewrite [show (dats m h 0 c).Φ t.succ = Phi m h c t.succ from rfl, show (dats m h 0 c).Φ t.castSucc = Phi m h c t.castSucc from rfl,
    show (dats m h 0 c).owesAt () t.succ = (dats m h 0 c).owesAt () t.castSucc from rfl]
  unfold Phi
  iintro ⟨⟨⟨%a0, %ha0, HS0⟩, ⟨%a1, %ha1, HS1⟩, HT0, HT1, HP⟩, Ho, ⟨%d0, H0⟩, ⟨%d1, H1⟩, ⟨%d2, H2⟩, ⟨%d3, H3⟩, ⟨%d4, H4⟩, ⟨%d5, H5⟩⟩
  iapply (body_run c (crd m h t) (ms0 m h t) (hs0 m h t) (ms1 m h t) (hs1 m h t) (ms2 m h t) (hs2 m h t) (ms3 m h t) (hs3 m h t) (ms4 m h t) (hs4 m h t) (ms5 m h t) (hs5 m h t) (tabE m) (tabU m) (iblk m h c (0 : Fin 6) t) (iblk m h c (1 : Fin 6) t) (iblk m h c (2 : Fin 6) t) (iblk m h c (3 : Fin 6) t) (iblk m h c (4 : Fin 6) t) a0 a1
    (fun hk => by
      have hz : t.val ≠ 0 := fun e => (kept (tabE m) (crd m h t) hk).1 ((crd_val t).trans e)
      have hs : (⟨t.val - 1, by omega⟩ : Fin (cfgA m h).N).val + 1 = t.val := by show t.val - 1 + 1 = t.val; omega
      exact (ha0 ⟨t.val - 1, by omega⟩ hs).trans (matA_kept m h c t _ hs hk))
    (fun hk => by
      have hz : t.val ≠ 0 := fun e => (kept (tabE m) (crd m h t) hk).1 ((crd_val t).trans e)
      have hs : (⟨t.val - 1, by omega⟩ : Fin (cfgA m h).N).val + 1 = t.val := by show t.val - 1 + 1 = t.val; omega
      exact (ha1 ⟨t.val - 1, by omega⟩ hs).trans (matB_kept m h c t _ hs hk)) _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1 HP]
  · isplitl [HS0]
    · iexists _; isplitr; swap
      · iexact HS0
      · ipureintro; intro s hs
        have e : s = t := Fin.ext (by have : s.val + 1 = t.val + 1 := hs; omega)
        rw [e]
    isplitl [HS1]
    · iexists _; isplitr; swap
      · iexact HS1
      · ipureintro; intro s hs
        have e : s = t := Fin.ext (by have : s.val + 1 = t.val + 1 := hs; omega)
        rw [e]
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats m h 0 c) (defs₀ (F := F)) Variants.none () Set.univ := fun t => by
  rw [bigSep_W0]
  exact sound_body m h c t

/-! ## The launch -/

theorem share_eq (c : Dev nD) (w : Fin (cfgA m h).W) : (dats m h 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(Pipeline.ΦA spec0 c ∗ Pipeline.ΦT pre0 (adm m h).1 c) ⊢ (dats m h 0 c).Φ 0 := by
  unfold Pipeline.ΦA Pipeline.ΦT
  rw [prefHeld_eq, scopedRest0_eq, show (dats m h 0 c).Φ 0 = Phi m h c 0 from rfl]
  unfold Phi
  iintro ⟨⟨⟨⟨%a0, HS0⟩, ⟨%a1, HS1⟩⟩, HP⟩, HT0, HT1⟩
  isplitl [HS0]
  · iexists a0; isplitr; swap
    · iexact HS0
    · ipureintro; intro s hs; exact absurd hs (Nat.succ_ne_zero s.val)
  isplitl [HS1]
  · iexists a1; isplitr; swap
    · iexact HS1
    · ipureintro; intro s hs; exact absurd hs (Nat.succ_ne_zero s.val)
  isplitl [HT0]; · iexact HT0
  isplitl [HT1]; · iexact HT1
  iexact HP

theorem phi_exit (c : Dev nD) : (dats m h 0 c).Φ (Fin.last (cfgA m h).N) ⊢ Pipeline.ΦA spec0 c := by
  unfold Pipeline.ΦA
  rw [scopedRest0_eq, show (dats m h 0 c).Φ (Fin.last (cfgA m h).N) = Phi m h c (Fin.last _) from rfl]
  unfold Phi
  iintro ⟨⟨%a0, -, HS0⟩, ⟨%a1, -, HS1⟩, -, -, HP⟩
  isplitl [HS0 HS1]
  · isplitl [HS0]
    · iexists a0; iexact HS0
    iexists a1; iexact HS1
  iexact HP

theorem V_tabs (c : Dev nD) (k : Fin 2) : V m c (pre0.ref k) = (adm m h).1 k := by
  have e := dev_eq c
  subst e
  match k with
  | ⟨0, _⟩ => exact V_of_ne m dev0 main_arg0 (by decide) (by decide)
  | ⟨1, _⟩ => exact V_of_ne m dev0 main_arg1 (by decide) (by decide)

set_option backward.isDefEq.respectTransparency.types false in
set_option maxHeartbeats 4000000 in
/-- The run. -/
theorem run_region : θ_run (defs (F := F)) (onTc (τ := τ) (main (F := F))) (s₀ m ρ)
    (fun r => Pipeline.FramePost (Pipeline.pin pcfgs fun _ => adm m h) (dats m h) 0 (V m) r ∧ r.2.sem = fun _ => 0) :=
  Pipeline.θ_run_frameP_track (Q' := _) pcfgs (fun _ => adm m h) (dats m h) 0 launch0 defs₀ Variants.none m ρ main
    (fun c => (body_obligation m h c).loose) (share_eq m h) (fun _ _ => rfl) (V m) (hmain m Variants.none)
    (fun _ _ => rfl) (V_tabs m h) (phi_intro m h) (phi_exit m h) (hQ' := fun _ h => h)

end Experts
-- ==== Proof.ExpSpec.lean ====
module

public import Idealize.ShloMosaic.Lib.Pointwise

/-! The experts: every block of 256 rows goes through the two-layer network of its expert; a block past the used ones is
    zero. -/

@[expose] public section

noncomputable section

namespace Experts

open Idealize.ShloMosaic

/-- The gated unit of one hidden entry: `g` and `u` clamped, `g` times its sigmoid times `u` plus one. -/
def unit (g u : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- A row through the first layer. -/
def hidden (x : Fin 1024 → EReal) (w : Fin 1024 → Fin 2048 → EReal) (b : Fin 2048 → EReal) (i : Fin 2048) : EReal :=
  (∑ k, x k * w k i) + b i

/-- A row through both layers. -/
def feed (x : Fin 1024 → EReal) (w1 : Fin 1024 → Fin 2048 → EReal) (b1 : Fin 2048 → EReal)
    (w2 : Fin 1024 → Fin 1024 → EReal) (b2 : Fin 1024 → EReal) (j : Fin 1024) : EReal :=
  (∑ k : Fin 1024, unit (hidden x w1 b1 ⟨k, by omega⟩) (hidden x w1 b1 ⟨1024 + k, by omega⟩) * w2 k j) + b2 j

/-- What the experts read: each block's expert, how many blocks are used, the rows, the experts' layers. -/
structure Data where
  expert : Fin 552 → Fin 32
  count : BitVec 32
  row : Fin 552 → Fin 256 → Fin 1024 → EReal
  w1 : Fin 32 → Fin 1024 → Fin 2048 → EReal
  b1 : Fin 32 → Fin 2048 → EReal
  w2 : Fin 32 → Fin 1024 → Fin 1024 → EReal
  b2 : Fin 32 → Fin 1024 → EReal

/-- Entry `j` of row `r` of block `t`. -/
def Data.out (D : Data) (t : Fin 552) (r : Fin 256) (j : Fin 1024) : EReal :=
  if (BitVec.ofNat 32 t.val).toInt < D.count.toInt then
    feed (D.row t r) (D.w1 (D.expert t)) (D.b1 (D.expert t)) (D.w2 (D.expert t)) (D.b2 (D.expert t)) j
  else 0

/-- The data in the arguments' arrays: the experts' layers are the second of four. -/
def dataOf (e : (⟨1, ![552]⟩ : Shape).Idx → BitVec 32) (n : (⟨1, ![1]⟩ : Shape).Idx → BitVec 32)
    (x : (⟨2, ![141312, 1024]⟩ : Shape).Idx → EReal) (w1 : (⟨4, ![4, 32, 1024, 2048]⟩ : Shape).Idx → EReal)
    (b1 : (⟨3, ![4, 32, 2048]⟩ : Shape).Idx → EReal) (w2 : (⟨4, ![4, 32, 1024, 1024]⟩ : Shape).Idx → EReal)
    (b2 : (⟨3, ![4, 32, 1024]⟩ : Shape).Idx → EReal) (h : ∀ t : Fin 552, (e (ix1 t)).toNat < 32) : Data where
  expert t := ⟨(e (ix1 t)).toNat, h t⟩
  count := n (ix1 0)
  row t r k := x (ix2 ⟨256 * t.val + r.val, by omega⟩ k)
  w1 p k i := w1 (ix4 1 p k i)
  b1 p i := b1 (ix3 1 p i)
  w2 p k j := w2 (ix4 1 p k j)
  b2 p j := b2 (ix3 1 p j)

/-- The result as one array. -/
def Data.arr (D : Data) (y : (⟨2, ![141312, 1024]⟩ : Shape).Idx) : EReal :=
  D.out ⟨(y 0).val / 256, by have : (y 0).val < 141312 := (y 0).isLt; omega⟩ ⟨(y 0).val % 256, by omega⟩ (y 1)

end Experts
-- ==== Proof.ExpKer.lean ====
module

public import proofs.«01_k».proof.Proof.ExpRun
public import proofs.«01_k».proof.Proof.ExpSpec

/-! What the experts' kernel leaves: block by block, the rows through their expert's network. -/

@[expose] public section

set_option maxRecDepth 16384
set_option Elab.async false

noncomputable section

namespace Experts

open Cert.Kernel3Ideal Cert.Kernel3Ideal.Gen
open Idealize.ShloMosaic
open Idealize.ShloMosaic.TcCoe Idealize.ShloMosaic.Tactic
open Idealize.SL.Sem

theorem ffn_apply (x0 : Vec Ideal S256x1024 .f32) (a : Vec Ideal S1024x2048 .bf16) (x2 : Vec Ideal S1x1x1x2048 .f32)
    (b : Vec Ideal S1024x1024 .bf16) (x4 : Vec Ideal S1x1x1x1024 .f32) (r : Fin 256) (j : Fin 1024) :
    k0_pay5 x0 a x2 b x4 (ix2 r j)
      = feed (fun k => x0 (ix2 r k)) (fun k i => a (ix2 k i)) (fun i => x2 (ix4 0 0 0 i)) (fun k l => b (ix2 k l))
        (fun l => x4 (ix4 0 0 0 l)) j := by
  pointwise [k0_pay5]
  rfl

theorem zeros_apply (y : S256x1024.Idx) : (k0_pay6 (F := Ideal)) y = 0 := by
  pointwise [k0_pay6]

variable (m : (ℓ : Loc nD τ sig) → Buf (Elt Ideal) ℓ) (h : InRange m)

/-- The experts' data on a core: its arguments, the table read once. -/
def dataK (c : Dev nD) : Data :=
  dataOf (tabE m) (tabU m) (m ((c : Thread nD τ).loc main_arg2)) (m ((c : Thread nD τ).loc main_arg3))
    (m ((c : Thread nD τ).loc main_arg4)) (m ((c : Thread nD τ).loc main_arg5)) (m ((c : Thread nD τ).loc main_arg6)) h

theorem biasA_apply (c : Dev nD) (p : Fin 32) (k : Fin 2048) (i : S4x32x1x2048.Idx) (h0 : (i 0).val = 1)
    (h1 : (i 1).val = p.val) (h3 : (i 3).val = k.val) :
    V m c main_v0 i = m ((c : Thread nD τ).loc main_arg4) (ix3 1 p k) := by
  have h2 : (i 2).val < 1 := (i 2).isLt
  entry_read
  refine shapeCast_apply _ _ _ (ix3 1 p k : S4x32x2048.Idx) ?_
  refine (Shape.rowMajor_val_three (d := ![4, 32, 2048]) _).trans
    (Eq.trans ?_ (Shape.rowMajor_val_four (d := ![4, 32, 1, 2048]) i).symm)
  show (1 * 32 + p.val) * 2048 + k.val = (((i 0).val * 32 + (i 1).val) * 1 + (i 2).val) * 2048 + (i 3).val
  omega

theorem biasB_apply (c : Dev nD) (p : Fin 32) (k : Fin 1024) (i : S4x32x1x1024.Idx) (h0 : (i 0).val = 1)
    (h1 : (i 1).val = p.val) (h3 : (i 3).val = k.val) :
    V m c main_v1 i = m ((c : Thread nD τ).loc main_arg6) (ix3 1 p k) := by
  have h2 : (i 2).val < 1 := (i 2).isLt
  entry_read
  refine shapeCast_apply _ _ _ (ix3 1 p k : S4x32x1024.Idx) ?_
  refine (Shape.rowMajor_val_three (d := ![4, 32, 1024]) _).trans
    (Eq.trans ?_ (Shape.rowMajor_val_four (d := ![4, 32, 1, 1024]) i).symm)
  show (1 * 32 + p.val) * 1024 + k.val = (((i 0).val * 32 + (i 1).val) * 1 + (i 2).val) * 1024 + (i 3).val
  omega

theorem blkBiasA (c : Dev nD) (t : Fin (cfgA m h).N) (k : Fin 2048) :
    (iblk m h c (2 : Fin 6) t : S1x1x1x2048.Idx → Elt Ideal .f32) (ix4 0 0 0 k)
      = m ((c : Thread nD τ).loc main_arg4) (ix3 1 (expert m h ⟨t.val, point_lt m h t⟩) k) := by
  unfold iblk
  rw [View.read_apply]
  have e := map_eq m h (crd m h t)
  have ec : (crd m h t 0).val = t.val := crd_val t
  refine biasA_apply m c _ _ _ ?_ ?_ ?_
  · show cc0_transform_1 k0_off1_inb numel1_S1 (tabs m) (crd m h t) 0 * 1 + 1 * 0 = 1
    rw [e]; rfl
  · show cc0_transform_1 k0_off1_inb numel1_S1 (tabs m) (crd m h t) 1 * 1 + 1 * 0 = _
    rw [e]
    show (expert m h ⟨(crd m h t 0).val, _⟩).val * 1 + 1 * 0 = (expert m h ⟨t.val, _⟩).val
    simp only [ec]
    omega
  · show cc0_transform_1 k0_off1_inb numel1_S1 (tabs m) (crd m h t) 3 * 2048 + 1 * k.val = k.val
    rw [e]
    show 0 * 2048 + 1 * k.val = k.val
    omega

theorem blkBiasB (c : Dev nD) (t : Fin (cfgA m h).N) (k : Fin 1024) :
    (iblk m h c (4 : Fin 6) t : S1x1x1x1024.Idx → Elt Ideal .f32) (ix4 0 0 0 k)
      = m ((c : Thread nD τ).loc main_arg6) (ix3 1 (expert m h ⟨t.val, point_lt m h t⟩) k) := by
  unfold iblk
  rw [View.read_apply]
  have e := map_eq m h (crd m h t)
  have ec : (crd m h t 0).val = t.val := crd_val t
  refine biasB_apply m c _ _ _ ?_ ?_ ?_
  · show cc0_transform_1 k0_off1_inb numel1_S1 (tabs m) (crd m h t) 0 * 1 + 1 * 0 = 1
    rw [e]; rfl
  · show cc0_transform_1 k0_off1_inb numel1_S1 (tabs m) (crd m h t) 1 * 1 + 1 * 0 = _
    rw [e]
    show (expert m h ⟨(crd m h t 0).val, _⟩).val * 1 + 1 * 0 = (expert m h ⟨t.val, _⟩).val
    simp only [ec]
    omega
  · show cc0_transform_1 k0_off1_inb numel1_S1 (tabs m) (crd m h t) 3 * 1024 + 1 * k.val = k.val
    rw [e]
    show 0 * 1024 + 1 * k.val = k.val
    omega

theorem map0 : ∀ t : Fin grid0.N, cc0_transform_0 (grid0.coords t) = ![t.val, 0] := by decide +kernel
theorem map5 : ∀ t : Fin grid0.N, cc0_transform_5 (grid0.coords t) = ![t.val, 0] := by decide +kernel
theorem flush5 : ∀ t : Fin grid0.N, Pipeline.Window.flushOf grid0 true cc0_transform_5 t = true := by decide +kernel

theorem blkRows (c : Dev nD) (t : Fin (cfgA m h).N) (r : Fin 256) (k : Fin 1024) :
    (iblk m h c (0 : Fin 6) t : S256x1024.Idx → Elt Ideal .f32) (ix2 r k)
      = m ((c : Thread nD τ).loc main_arg2) (ix2 ⟨256 * t.val + r.val, by have := point_lt m h t; omega⟩ k) := by
  unfold iblk
  rw [View.read_apply]
  show V m c main_arg2 _ = _
  rw [V_of_ne m c main_arg2 (by decide) (by decide)]
  refine congrArg (m ((c : Thread nD τ).loc main_arg2)) (funext fun a => Fin.ext ?_)
  match a with
  | ⟨0, _⟩ =>
    show cc0_transform_0 (crd m h t) 0 * 256 + 1 * r.val = 256 * t.val + r.val
    rw [map0 t]
    show t.val * 256 + 1 * r.val = 256 * t.val + r.val
    omega
  | ⟨1, _⟩ =>
    show cc0_transform_0 (crd m h t) 1 * 1024 + 1 * k.val = k.val
    rw [map0 t]
    show 0 * 1024 + 1 * k.val = k.val
    omega

theorem castA_apply (x : S1x1x1024x2048.Idx → Elt Ideal .f32) (k : Fin 1024) (i : Fin 2048) : castA x (ix2 k i) = x (ix4 0 0 k i) := rfl
theorem castB_apply (x : S1x1x1024x1024.Idx → Elt Ideal .f32) (k : Fin 1024) (i : Fin 1024) : castB x (ix2 k i) = x (ix4 0 0 k i) := rfl

theorem tile_out (c : Dev nD) (t : Fin (cfgA m h).N) (r : Fin 256) (j : Fin 1024) :
    outBlk m h c t (ix2 r j) = (dataK m h c).out ⟨t.val, point_lt m h t⟩ r j := by
  have ec : (crd m h t 0).val = t.val := crd_val t
  unfold outBlk blockOut Data.out
  rw [wordUsed_eq]
  have hu := used_iff (crd m h t) (tabU m (ix1 0))
  rw [ec] at hu
  by_cases hc : k0_cond2 (crd m h t) (tabU m (ix1 0)) = 1#1
  · rw [if_pos hc]
    refine Eq.trans ?_ (if_pos (hu.mp hc)).symm
    unfold ffn
    rw [ffn_apply]
    simp only [castA_apply, castB_apply, blkRows, blkA, blkB, blkBiasA, blkBiasB]
    rfl
  · rw [if_neg hc]
    exact (zeros_apply _).trans (if_neg (fun e => hc (hu.mpr e))).symm

theorem covers5 : ((cfgA m h).win (5 : Fin 6)).Covers := by
  refine ⟨fun a => match a with | ⟨0, _⟩ => by show 0 < 256; omega | ⟨1, _⟩ => by show 0 < 1024; omega, fun β => ?_⟩
  have b0 : (β (0 : Fin 2)).val < (141312 + 256 - 1) / 256 := (β (0 : Fin 2)).isLt
  have b1 : (β (1 : Fin 2)).val < (1024 + 1024 - 1) / 1024 := (β (1 : Fin 2)).isLt
  have ht : (β (0 : Fin 2)).val < grid0.N := lt_of_lt_of_eq (show (β (0 : Fin 2)).val < 552 by omega) N_0.symm
  refine ⟨⟨(β (0 : Fin 2)).val, ht⟩, flush5 ⟨(β (0 : Fin 2)).val, ht⟩, fun a => ⟨?_, Or.inl ?_⟩⟩
  · show cc0_transform_5 (grid0.coords ⟨(β (0 : Fin 2)).val, ht⟩) a = _
    rw [map5]
    match a with
    | ⟨0, _⟩ => rfl
    | ⟨1, _⟩ => show 0 = (β (1 : Fin 2)).val; omega
  · rfl

theorem arr5 (c : Dev nD) : (dats m h 0 c).arrAt (5 : Fin 6) (cfgA m h).N = fun y : S141312x1024.Idx => (dataK m h c).arr y := by
  refine (dats m h 0 c).arrAt_eq_of_covers (5 : Fin 6) _ (covers5 m h) fun t hf y => ?_
  rw [after_5]
  have ht := point_lt m h t
  have y0 : (y (0 : Fin 2)).val < 256 := (y (0 : Fin 2)).isLt
  have y1 : (y (1 : Fin 2)).val < 1024 := (y (1 : Fin 2)).isLt
  refine Eq.trans (show _ = outBlk m h c t (ix2 ⟨(y (0 : Fin 2)).val, y0⟩ ⟨(y (1 : Fin 2)).val, y1⟩) from ?_) ((tile_out m h c t _ _).trans ?_)
  · refine congrArg (outBlk m h c t) (funext fun a => ?_)
    match a with
    | ⟨0, _⟩ => rfl
    | ⟨1, _⟩ => rfl
  · unfold Data.arr
    have e0 : ((((cfgA m h).win (5 : Fin 6)).blk t).view.emb y (0 : Fin 2)).val = 256 * t.val + (y (0 : Fin 2)).val := by
      show cc0_transform_5 (crd m h t) 0 * 256 + 1 * (y (0 : Fin 2)).val = _
      rw [map5 t]
      show t.val * 256 + 1 * (y (0 : Fin 2)).val = 256 * t.val + (y (0 : Fin 2)).val
      omega
    have e1 : ((((cfgA m h).win (5 : Fin 6)).blk t).view.emb y (1 : Fin 2)).val = (y (1 : Fin 2)).val := by
      show cc0_transform_5 (crd m h t) 1 * 1024 + 1 * (y (1 : Fin 2)).val = _
      rw [map5 t]
      show 0 * 1024 + 1 * (y (1 : Fin 2)).val = (y (1 : Fin 2)).val
      omega
    have q (a b : Fin 552) (r s : Fin 256) (i j : Fin 1024) (ha : a = b) (hr : r = s) (hi : i = j) :
        (dataK m h c).out a r i = (dataK m h c).out b s j := by rw [ha, hr, hi]
    refine q _ _ _ _ _ _ (Fin.ext ?_) (Fin.ext ?_) (Fin.ext e1.symm)
    · show t.val = _ / 256
      rw [e0]; omega
    · show (y (0 : Fin 2)).val = _ % 256
      rw [e0]; omega

end Experts
-- ==== Proof.ExpEnd.lean ====
module

public import proofs.«01_k».proof.Proof.ExpKer

/-! How the experts' kernel ends: its output array, and its arguments as they were. -/

@[expose] public section

set_option maxRecDepth 16384

noncomputable section

namespace Experts

open Cert.Kernel3Ideal Cert.Kernel3Ideal.Gen
open Idealize.ShloMosaic
open Idealize.ShloMosaic.TcCoe
open Idealize.SL.Sem

/-- From a table in range, the output array ends at the points' blocks, the arguments and the semaphores as they were. -/
theorem run_ends {F : FTy → Type} [FloatOps F] (m : (ℓ : Loc nD τ sig) → Buf (Elt F) ℓ) (ρ : Dev nD → PrngReg) (h : InRange m) :
    θ_run (defs (F := F)) (onTc (τ := τ) (main (F := F))) ⟨m, fun _ => 0, ρ⟩ fun r =>
      (∀ c : Dev nD, r.2.mem (c.tc.loc main_v2) = (dats m h 0 c).arrAt (5 : Fin 6) (cfgA m h).N
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)
        ∧ r.2.mem (c.tc.loc main_arg6) = m (c.tc.loc main_arg6))
      ∧ r.2.sem = fun _ => 0 := by
  refine (θ_run defs _ _).mono (fun r hr => ⟨fun c => ?_, hr.2⟩) (run_region m ρ h)
  have hp := hr.1
  have rest (b : Ref sig .tc) (hs : b.isScoped = false) (ha : ∀ w, (spec0 w).arr.view.ref ≠ b) (h0 : b ≠ main_v0) (h1 : b ≠ main_v1) :
      r.2.mem (c.tc.loc b) = m (c.tc.loc b) :=
    (hp.rest_eq c b (Pipeline.mem_restRefs_of b hs ha)).trans (V_of_ne m c b h0 h1)
  exact ⟨hp.out_eq c (5 : Fin 6),
    rest main_arg0 rfl (by decide) (by decide) (by decide),
    rest main_arg1 rfl (by decide) (by decide) (by decide),
    (hp.in_eq c (0 : Fin 6) rfl).trans (V_of_ne m c main_arg2 (by decide) (by decide)),
    (hp.in_eq c (1 : Fin 6) rfl).trans (V_of_ne m c main_arg3 (by decide) (by decide)),
    rest main_arg4 rfl (by decide) (by decide) (by decide),
    (hp.in_eq c (3 : Fin 6) rfl).trans (V_of_ne m c main_arg5 (by decide) (by decide)),
    rest main_arg6 rfl (by decide) (by decide) (by decide)⟩

end Experts
-- ==== Proof.ExpRef.lean ====
module

public import proofs.«01_k».proof.Proof.Gen.Reference3Ideal.Run
public import proofs.«01_k».proof.Proof.ExpSpec
public import Idealize.ShloMosaic.Lib.ValueIdx
public import Idealize.ShloMosaic.Lib.WordArith

/-! The experts' reference: each block's layers gathered, all blocks through the network, the unused ones zeroed. -/

@[expose] public section

set_option maxRecDepth 16384

noncomputable section

namespace Experts.Ref

open Idealize.ShloMosaic Idealize.ShloMosaic.TcCoe Idealize.SL.Sem
open Cert.Reference3Ideal Cert.Reference3Ideal.Gen

variable (m : (ℓ : Loc nD τ sig) → Buf (Elt Ideal) ℓ) (c : Dev nD)

abbrev A0 : IVec S552 32 := m (c.tc.loc main_arg0)
abbrev A1 : IVec S1 32 := m (c.tc.loc main_arg1)
abbrev A2 : FVec Ideal S141312x1024 .f32 := m (c.tc.loc main_arg2)
abbrev A3 : FVec Ideal S4x32x1024x2048 .f32 := m (c.tc.loc main_arg3)
abbrev A4 : FVec Ideal S4x32x2048 .f32 := m (c.tc.loc main_arg4)
abbrev A5 : FVec Ideal S4x32x1024x1024 .f32 := m (c.tc.loc main_arg5)
abbrev A6 : FVec Ideal S4x32x1024 .f32 := m (c.tc.loc main_arg6)

/-! ## The gathered layers -/

/-- The expert numbers, a negative one counted from the end. -/
def wrapped : IVec S552 32 :=
  select (cmpi .slt (A0 m c) (broadcastInDim S552 ![] bcast_S_S552 (constantI S_ 32 0#32)))
    (addi (A0 m c) (broadcastInDim S552 ![] bcast_S_S552 (constantI S_ 32 32#32))) (A0 m c)

/-- A start of zero, counted from the end if negative. -/
def zeroStart (k : BitVec 32) : IVec S552x1 32 :=
  broadcastInDim S552x1 ![] bcast_S_S552x1
    (select (cmpi .slt (constantI S_ 32 0#32) (constantI S_ 32 0#32)) (addi (constantI S_ 32 0#32) (constantI S_ 32 k)) (constantI S_ 32 0#32))

/-- Three starts a block: its expert's, and two zeros. -/
def starts3 (k l : BitVec 32) : IVec S552x3 32 :=
  concatenate S552x3 1
    [⟨S552x1, broadcastInDim S552x1 ![0] bcast_S552_S552x1_0 (wrapped m c)⟩, ⟨S552x1, zeroStart k⟩, ⟨S552x1, zeroStart l⟩]
    concatenates_S552x1_S552x1_S552x1_S552x3_d1

/-- Two starts a block: its expert's, and a zero. -/
def starts2 (k : BitVec 32) : IVec S552x2 32 :=
  concatenate S552x2 1 [⟨S552x1, broadcastInDim S552x1 ![0] bcast_S552_S552x1_0 (wrapped m c)⟩, ⟨S552x1, zeroStart k⟩]
    concatenates_S552x1_S552x1_S552x2_d1

theorem wrapped_apply (t : Fin 552) (ht : (A0 m c (ix1 t)).toNat < 32) : wrapped m c (ix1 t) = A0 m c (ix1 t) := by
  have e : BitVec.slt (A0 m c (ix1 t)) 0#32 = false := by
    rw [BitVec.slt_eq_decide, decide_eq_false_iff_not, BitVec.toInt_eq_toNat_of_lt (by omega)]
    simp
  show (if BitVec.ofBool (BitVec.slt (A0 m c (ix1 t)) 0#32) = 1#1 then _ else A0 m c (ix1 t)) = _
  rw [e]
  exact if_neg (by decide)

theorem starts3_apply (k l : BitVec 32) (t : Fin 552) : starts3 m c k l (ix2 t 0) = wrapped m c (ix1 t) := by
  pointwise [starts3]

theorem starts2_apply (k : BitVec 32) (t : Fin 552) : starts2 m c k (ix2 t 0) = wrapped m c (ix1 t) := by
  unfold starts2
  refine (concatenate_pair_apply_left (s₁ := S552x1) (1 : Fin S552x2.rank) _ _ _ (ix2 t 0) rfl (ix2 t 0 : S552x1.Idx) ?_).trans ?_
  · intro a
    match a with
    | ⟨0, _⟩ => rfl
    | ⟨1, _⟩ => rfl
  · pointwise

/-- An expert number as a start is itself. -/
theorem start_val (w : BitVec 32) (hw : w.toNat < 32) : min w.toInt.toNat (32 - 1) = w.toNat := by
  rw [BitVec.toInt_eq_toNat_of_lt (by omega)]
  simp only [Int.toNat_natCast]
  omega

theorem gatherA (x : FVec Ideal S32x1024x2048 .f32) (idx : IVec S552x3 32) (t : Fin 552) (p : Fin 32) (k : Fin 1024) (i : Fin 2048)
    (w : BitVec 32) (e : idx (ix2 t 0) = w) (hw : w.toNat = p.val) :
    Host.gather gather_S32x1024x2048_S552x3_S552x1x1024x2048_123_n_n_n_012_1_110242048 x idx (ix4 t 0 k i) = x (ix3 p k i) := by
  set d := gather_S32x1024x2048_S552x3_S552x1x1024x2048_123_n_n_n_012_1_110242048
  refine congrArg x (funext fun a => Fin.ext ?_)
  show d.start (ix4 t 0 k i) idx a + d.batchCoord (ix4 t 0 k i) a + d.offCoord (ix4 t 0 k i) a = _
  rw [d.batchCoord_eq_zero _ _ List.not_mem_nil]
  match a with
  | ⟨0, h0⟩ =>
    have es : d.start (ix4 t 0 k i) idx ⟨0, h0⟩ = p.val := by
      unfold GatherDims.start
      refine (dif_pos (show (0 : Fin 3) ∈ ([0, 1, 2] : List (Fin 3)) by decide)).trans ?_
      have e2 : (d.siIdx (ix4 t 0 k i) ⟨0, by decide⟩) = ix2 t 0 := funext fun b => Fin.ext (match b with
        | ⟨0, _⟩ => rfl
        | ⟨1, _⟩ => rfl)
      refine Eq.trans (congrArg (fun q => min (idx q).toInt.toNat (32 - 1)) e2) ?_
      rw [e, start_val w (by omega), hw]
    rw [es]
    rfl
  | ⟨1, h1⟩ =>
    have es : d.start (ix4 t 0 k i) idx ⟨1, h1⟩ = 0 := Nat.le_zero.mp (d.start_le _ _ _)
    rw [es]
    show 0 + 0 + k.val = k.val
    omega
  | ⟨2, h2⟩ =>
    have es : d.start (ix4 t 0 k i) idx ⟨2, h2⟩ = 0 := Nat.le_zero.mp (d.start_le _ _ _)
    rw [es]
    show 0 + 0 + i.val = i.val
    omega

theorem gatherB (x : FVec Ideal S32x1024x1024 .f32) (idx : IVec S552x3 32) (t : Fin 552) (p : Fin 32) (k : Fin 1024) (i : Fin 1024)
    (w : BitVec 32) (e : idx (ix2 t 0) = w) (hw : w.toNat = p.val) :
    Host.gather gather_S32x1024x1024_S552x3_S552x1x1024x1024_123_n_n_n_012_1_110241024 x idx (ix4 t 0 k i) = x (ix3 p k i) := by
  set d := gather_S32x1024x1024_S552x3_S552x1x1024x1024_123_n_n_n_012_1_110241024
  refine congrArg x (funext fun a => Fin.ext ?_)
  show d.start (ix4 t 0 k i) idx a + d.batchCoord (ix4 t 0 k i) a + d.offCoord (ix4 t 0 k i) a = _
  rw [d.batchCoord_eq_zero _ _ List.not_mem_nil]
  match a with
  | ⟨0, h0⟩ =>
    have es : d.start (ix4 t 0 k i) idx ⟨0, h0⟩ = p.val := by
      unfold GatherDims.start
      refine (dif_pos (show (0 : Fin 3) ∈ ([0, 1, 2] : List (Fin 3)) by decide)).trans ?_
      have e2 : (d.siIdx (ix4 t 0 k i) ⟨0, by decide⟩) = ix2 t 0 := funext fun b => Fin.ext (match b with
        | ⟨0, _⟩ => rfl
        | ⟨1, _⟩ => rfl)
      refine Eq.trans (congrArg (fun q => min (idx q).toInt.toNat (32 - 1)) e2) ?_
      rw [e, start_val w (by omega), hw]
    rw [es]
    rfl
  | ⟨1, h1⟩ =>
    have es : d.start (ix4 t 0 k i) idx ⟨1, h1⟩ = 0 := Nat.le_zero.mp (d.start_le _ _ _)
    rw [es]
    show 0 + 0 + k.val = k.val
    omega
  | ⟨2, h2⟩ =>
    have es : d.start (ix4 t 0 k i) idx ⟨2, h2⟩ = 0 := Nat.le_zero.mp (d.start_le _ _ _)
    rw [es]
    show 0 + 0 + i.val = i.val
    omega

theorem gatherBiasA (x : FVec Ideal S32x2048 .f32) (idx : IVec S552x2 32) (t : Fin 552) (p : Fin 32) (i : Fin 2048)
    (w : BitVec 32) (e : idx (ix2 t 0) = w) (hw : w.toNat = p.val) :
    Host.gather gather_S32x2048_S552x2_S552x1x2048_12_n_n_n_01_1_12048 x idx (ix3 t 0 i) = x (ix2 p i) := by
  set d := gather_S32x2048_S552x2_S552x1x2048_12_n_n_n_01_1_12048
  refine congrArg x (funext fun a => Fin.ext ?_)
  show d.start (ix3 t 0 i) idx a + d.batchCoord (ix3 t 0 i) a + d.offCoord (ix3 t 0 i) a = _
  rw [d.batchCoord_eq_zero _ _ List.not_mem_nil]
  match a with
  | ⟨0, h0⟩ =>
    have es : d.start (ix3 t 0 i) idx ⟨0, h0⟩ = p.val := by
      unfold GatherDims.start
      refine (dif_pos (show (0 : Fin 2) ∈ ([0, 1] : List (Fin 2)) by decide)).trans ?_
      have e2 : (d.siIdx (ix3 t 0 i) ⟨0, by decide⟩) = ix2 t 0 := funext fun b => Fin.ext (match b with
        | ⟨0, _⟩ => rfl
        | ⟨1, _⟩ => rfl)
      refine Eq.trans (congrArg (fun q => min (idx q).toInt.toNat (32 - 1)) e2) ?_
      rw [e, start_val w (by omega), hw]
    rw [es]
    rfl
  | ⟨1, h1⟩ =>
    have es : d.start (ix3 t 0 i) idx ⟨1, h1⟩ = 0 := Nat.le_zero.mp (d.start_le _ _ _)
    rw [es]
    show 0 + 0 + i.val = i.val
    omega

theorem gatherBiasB (x : FVec Ideal S32x1024 .f32) (idx : IVec S552x2 32) (t : Fin 552) (p : Fin 32) (i : Fin 1024)
    (w : BitVec 32) (e : idx (ix2 t 0) = w) (hw : w.toNat = p.val) :
    Host.gather gather_S32x1024_S552x2_S552x1x1024_12_n_n_n_01_1_11024 x idx (ix3 t 0 i) = x (ix2 p i) := by
  set d := gather_S32x1024_S552x2_S552x1x1024_12_n_n_n_01_1_11024
  refine congrArg x (funext fun a => Fin.ext ?_)
  show d.start (ix3 t 0 i) idx a + d.batchCoord (ix3 t 0 i) a + d.offCoord (ix3 t 0 i) a = _
  rw [d.batchCoord_eq_zero _ _ List.not_mem_nil]
  match a with
  | ⟨0, h0⟩ =>
    have es : d.start (ix3 t 0 i) idx ⟨0, h0⟩ = p.val := by
      unfold GatherDims.start
      refine (dif_pos (show (0 : Fin 2) ∈ ([0, 1] : List (Fin 2)) by decide)).trans ?_
      have e2 : (d.siIdx (ix3 t 0 i) ⟨0, by decide⟩) = ix2 t 0 := funext fun b => Fin.ext (match b with
        | ⟨0, _⟩ => rfl
        | ⟨1, _⟩ => rfl)
      refine Eq.trans (congrArg (fun q => min (idx q).toInt.toNat (32 - 1)) e2) ?_
      rw [e, start_val w (by omega), hw]
    rw [es]
    rfl
  | ⟨1, h1⟩ =>
    have es : d.start (ix3 t 0 i) idx ⟨1, h1⟩ = 0 := Nat.le_zero.mp (d.start_le _ _ _)
    rw [es]
    show 0 + 0 + i.val = i.val
    omega

/-! ## The layers of every block -/

/-- Each block's first matrix. -/
def matW1 : FVec Ideal S552x1024x2048 .f32 :=
  shapeCast _ (Host.gather gather_S32x1024x2048_S552x3_S552x1x1024x2048_123_n_n_n_012_1_110242048
    (shapeCast _ (extractStridedSlice S1x32x1024x2048 ![1, 0, 0, 0] (A3 m c) slices_S4x32x1024x2048_S1x32x1024x2048_1_0_0_0)
      shapeCasts_S1x32x1024x2048_S32x1024x2048)
    (starts3 m c 1024#32 2048#32)) shapeCasts_S552x1x1024x2048_S552x1024x2048

/-- Each block's first bias. -/
def biasB1 : FVec Ideal S552x2048 .f32 :=
  shapeCast _ (Host.gather gather_S32x2048_S552x2_S552x1x2048_12_n_n_n_01_1_12048
    (shapeCast _ (extractStridedSlice S1x32x2048 ![1, 0, 0] (A4 m c) slices_S4x32x2048_S1x32x2048_1_0_0)
      shapeCasts_S1x32x2048_S32x2048)
    (starts2 m c 2048#32)) shapeCasts_S552x1x2048_S552x2048

/-- Each block's second matrix. -/
def matW2 : FVec Ideal S552x1024x1024 .f32 :=
  shapeCast _ (Host.gather gather_S32x1024x1024_S552x3_S552x1x1024x1024_123_n_n_n_012_1_110241024
    (shapeCast _ (extractStridedSlice S1x32x1024x1024 ![1, 0, 0, 0] (A5 m c) slices_S4x32x1024x1024_S1x32x1024x1024_1_0_0_0)
      shapeCasts_S1x32x1024x1024_S32x1024x1024)
    (starts3 m c 1024#32 1024#32)) shapeCasts_S552x1x1024x1024_S552x1024x1024

/-- Each block's second bias. -/
def biasB2 : FVec Ideal S552x1024 .f32 :=
  shapeCast _ (Host.gather gather_S32x1024_S552x2_S552x1x1024_12_n_n_n_01_1_11024
    (shapeCast _ (extractStridedSlice S1x32x1024 ![1, 0, 0] (A6 m c) slices_S4x32x1024_S1x32x1024_1_0_0)
      shapeCasts_S1x32x1024_S32x1024)
    (starts2 m c 1024#32)) shapeCasts_S552x1x1024_S552x1024

variable (h : ∀ t : Fin 552, (A0 m c (ix1 t)).toNat < 32)

/-- The experts' data in the reference's arguments. -/
def dataR : Data := dataOf (A0 m c) (A1 m c) (A2 m c) (A3 m c) (A4 m c) (A5 m c) (A6 m c) h

theorem matW1_apply (t : Fin 552) (k : Fin 1024) (i : Fin 2048) :
    matW1 m c (ix3 t k i) = (dataR m c h).w1 ((dataR m c h).expert t) k i := by
  unfold matW1
  refine (shapeCast_apply _ _ _ (ix4 t 0 k i : S552x1x1024x2048.Idx) ?_).trans ?_
  · refine (Shape.rowMajor_val_four (d := ![552, 1, 1024, 2048]) _).trans
      (Eq.trans ?_ (Shape.rowMajor_val_three (d := ![552, 1024, 2048]) (ix3 t k i)).symm)
    show ((t.val * 1 + 0) * 1024 + k.val) * 2048 + i.val = (t.val * 1024 + k.val) * 2048 + i.val
    omega
  · refine (gatherA _ _ t ((dataR m c h).expert t) k i _ ((starts3_apply m c _ _ t).trans (wrapped_apply m c t (h t))) rfl).trans ?_
    refine (shapeCast_apply _ _ _ (ix4 0 ((dataR m c h).expert t) k i : S1x32x1024x2048.Idx) ?_).trans ?_
    · refine (Shape.rowMajor_val_four (d := ![1, 32, 1024, 2048]) _).trans
        (Eq.trans ?_ (Shape.rowMajor_val_three (d := ![32, 1024, 2048]) (ix3 ((dataR m c h).expert t) k i)).symm)
      show ((0 * 32 + ((dataR m c h).expert t).val) * 1024 + k.val) * 2048 + i.val = (((dataR m c h).expert t).val * 1024 + k.val) * 2048 + i.val
      omega
    · pointwise
      rfl

theorem matW2_apply (t : Fin 552) (k : Fin 1024) (i : Fin 1024) :
    matW2 m c (ix3 t k i) = (dataR m c h).w2 ((dataR m c h).expert t) k i := by
  unfold matW2
  refine (shapeCast_apply _ _ _ (ix4 t 0 k i : S552x1x1024x1024.Idx) ?_).trans ?_
  · refine (Shape.rowMajor_val_four (d := ![552, 1, 1024, 1024]) _).trans
      (Eq.trans ?_ (Shape.rowMajor_val_three (d := ![552, 1024, 1024]) (ix3 t k i)).symm)
    show ((t.val * 1 + 0) * 1024 + k.val) * 1024 + i.val = (t.val * 1024 + k.val) * 1024 + i.val
    omega
  · refine (gatherB _ _ t ((dataR m c h).expert t) k i _ ((starts3_apply m c _ _ t).trans (wrapped_apply m c t (h t))) rfl).trans ?_
    refine (shapeCast_apply _ _ _ (ix4 0 ((dataR m c h).expert t) k i : S1x32x1024x1024.Idx) ?_).trans ?_
    · refine (Shape.rowMajor_val_four (d := ![1, 32, 1024, 1024]) _).trans
        (Eq.trans ?_ (Shape.rowMajor_val_three (d := ![32, 1024, 1024]) (ix3 ((dataR m c h).expert t) k i)).symm)
      show ((0 * 32 + ((dataR m c h).expert t).val) * 1024 + k.val) * 1024 + i.val = (((dataR m c h).expert t).val * 1024 + k.val) * 1024 + i.val
      omega
    · pointwise
      rfl

theorem biasB1_apply (t : Fin 552) (i : Fin 2048) : biasB1 m c (ix2 t i) = (dataR m c h).b1 ((dataR m c h).expert t) i := by
  unfold biasB1
  refine (shapeCast_apply _ _ _ (ix3 t 0 i : S552x1x2048.Idx) ?_).trans ?_
  · refine (Shape.rowMajor_val_three (d := ![552, 1, 2048]) _).trans
      (Eq.trans ?_ (Shape.rowMajor_val_two (d := ![552, 2048]) (ix2 t i)).symm)
    show (t.val * 1 + 0) * 2048 + i.val = t.val * 2048 + i.val
    omega
  · refine (gatherBiasA _ _ t ((dataR m c h).expert t) i _ ((starts2_apply m c _ t).trans (wrapped_apply m c t (h t))) rfl).trans ?_
    refine (shapeCast_apply _ _ _ (ix3 0 ((dataR m c h).expert t) i : S1x32x2048.Idx) ?_).trans ?_
    · refine (Shape.rowMajor_val_three (d := ![1, 32, 2048]) _).trans
        (Eq.trans ?_ (Shape.rowMajor_val_two (d := ![32, 2048]) (ix2 ((dataR m c h).expert t) i)).symm)
      show (0 * 32 + ((dataR m c h).expert t).val) * 2048 + i.val = ((dataR m c h).expert t).val * 2048 + i.val
      omega
    · pointwise
      rfl

theorem biasB2_apply (t : Fin 552) (i : Fin 1024) : biasB2 m c (ix2 t i) = (dataR m c h).b2 ((dataR m c h).expert t) i := by
  unfold biasB2
  refine (shapeCast_apply _ _ _ (ix3 t 0 i : S552x1x1024.Idx) ?_).trans ?_
  · refine (Shape.rowMajor_val_three (d := ![552, 1, 1024]) _).trans
      (Eq.trans ?_ (Shape.rowMajor_val_two (d := ![552, 1024]) (ix2 t i)).symm)
    show (t.val * 1 + 0) * 1024 + i.val = t.val * 1024 + i.val
    omega
  · refine (gatherBiasB _ _ t ((dataR m c h).expert t) i _ ((starts2_apply m c _ t).trans (wrapped_apply m c t (h t))) rfl).trans ?_
    refine (shapeCast_apply _ _ _ (ix3 0 ((dataR m c h).expert t) i : S1x32x1024.Idx) ?_).trans ?_
    · refine (Shape.rowMajor_val_three (d := ![1, 32, 1024]) _).trans
        (Eq.trans ?_ (Shape.rowMajor_val_two (d := ![32, 1024]) (ix2 ((dataR m c h).expert t) i)).symm)
      show (0 * 32 + ((dataR m c h).expert t).val) * 1024 + i.val = ((dataR m c h).expert t).val * 1024 + i.val
      omega
    · pointwise
      rfl

/-! ## The network over the blocks -/

/-- The rows, block by block. -/
def rows : FVec Ideal S552x256x1024 .f32 := shapeCast _ (A2 m c) shapeCasts_S141312x1024_S552x256x1024

theorem rows_apply (t : Fin 552) (r : Fin 256) (k : Fin 1024) : rows m c (ix3 t r k) = (dataR m c h).row t r k := by
  unfold rows
  refine shapeCast_apply _ _ _ (ix2 ⟨256 * t.val + r.val, by omega⟩ k : S141312x1024.Idx) ?_
  refine (Shape.rowMajor_val_two (d := ![141312, 1024]) _).trans
    (Eq.trans ?_ (Shape.rowMajor_val_three (d := ![552, 256, 1024]) (ix3 t r k)).symm)
  show (256 * t.val + r.val) * 1024 + k.val = (t.val * 256 + r.val) * 1024 + k.val
  omega

/-- The first layer's output. -/
def hid : FVec Ideal S552x256x2048 .f32 :=
  addf (Host.dotGeneral dot_S552x256x1024_S552x1024x2048_S552x256x2048_2_1_1_2_0_0 none (rows m c) (matW1 m c))
    (broadcastInDim S552x256x2048 ![0, 1, 2] bcast_S552x1x2048_S552x256x2048_0_1_2
      (broadcastInDim S552x1x2048 ![0, 2] bcast_S552x2048_S552x1x2048_0_2 (biasB1 m c)))

theorem hid_apply (t : Fin 552) (r : Fin 256) (i : Fin 2048) :
    hid m c (ix3 t r i) = hidden ((dataR m c h).row t r) ((dataR m c h).w1 ((dataR m c h).expert t)) ((dataR m c h).b1 ((dataR m c h).expert t)) i := by
  pointwise [hid]
  simp only [rows_apply m c h, matW1_apply m c h, biasB1_apply m c h]
  rfl

/-- The gate, clamped. -/
def gate : FVec Ideal S552x256x1024 .f32 :=
  minimumf (extractStridedSlice S552x256x1024 ![0, 0, 0] (hid m c) slices_S552x256x2048_S552x256x1024_0_0_0)
    (broadcastInDim S552x256x1024 ![] bcast_S_S552x256x1024 (constant S_ .f32 0x40E00000#32))

/-- The value, clamped. -/
def val : FVec Ideal S552x256x1024 .f32 :=
  minimumf (broadcastInDim S552x256x1024 ![] bcast_S_S552x256x1024 (id (constant S_ .f32 0x40E00000#32)))
    (maximumf (broadcastInDim S552x256x1024 ![] bcast_S_S552x256x1024 (id (constant S_ .f32 0xC0E00000#32)))
      (extractStridedSlice S552x256x1024 ![0, 0, 1024] (hid m c) slices_S552x256x2048_S552x256x1024_0_0_1024))

/-- The gated units. -/
def act : FVec Ideal S552x256x1024 .f32 :=
  mulf
    (mulf (gate m c)
      (Host.divf (broadcastInDim S552x256x1024 ![] bcast_S_S552x256x1024 (constant S_ .f32 0x3F800000#32))
        (addf (broadcastInDim S552x256x1024 ![] bcast_S_S552x256x1024 (constant S_ .f32 0x3F800000#32))
          (Host.exp (Host.negf (mulf (broadcastInDim S552x256x1024 ![] bcast_S_S552x256x1024 (constant S_ .f32 0x3FD9DB23#32)) (gate m c)))))))
    (addf (val m c) (broadcastInDim S552x256x1024 ![] bcast_S_S552x256x1024 (constant S_ .f32 0x3F800000#32)))

theorem act_apply (t : Fin 552) (r : Fin 256) (k : Fin 1024) :
    act m c (ix3 t r k) = unit (hid m c (ix3 t r ⟨k, by omega⟩)) (hid m c (ix3 t r ⟨1024 + k, by omega⟩)) := by
  pointwise [act, gate, val]
  rfl

/-- The second layer's output. -/
def fed : FVec Ideal S552x256x1024 .f32 :=
  addf (Host.dotGeneral dot_S552x256x1024_S552x1024x1024_S552x256x1024_2_1_1_2_0_0 none (act m c) (matW2 m c))
    (broadcastInDim S552x256x1024 ![0, 1, 2] bcast_S552x1x1024_S552x256x1024_0_1_2
      (broadcastInDim S552x1x1024 ![0, 2] bcast_S552x1024_S552x1x1024_0_2 (biasB2 m c)))

theorem fed_apply (t : Fin 552) (r : Fin 256) (j : Fin 1024) :
    fed m c (ix3 t r j) = feed ((dataR m c h).row t r) ((dataR m c h).w1 ((dataR m c h).expert t)) ((dataR m c h).b1 ((dataR m c h).expert t))
      ((dataR m c h).w2 ((dataR m c h).expert t)) ((dataR m c h).b2 ((dataR m c h).expert t)) j := by
  pointwise [fed]
  simp only [act_apply, hid_apply m c h, matW2_apply m c h, biasB2_apply m c h]
  rfl

/-- Whether a block is used. -/
def used : IVec S552 1 :=
  cmpi .slt (iotaInDim S552 32 0) (broadcastInDim S552 ![] bcast_S_S552 (shapeCast _ (A1 m c) shapeCasts_S1_S_))

theorem used_apply (t : Fin 552) :
    used m c (ix1 t) = BitVec.ofBool (BitVec.slt (BitVec.ofNat 32 t.val) (A1 m c (ix1 0))) := by
  have e : (shapeCast S_ (A1 m c) shapeCasts_S1_S_) = fun _ => A1 m c (ix1 0) := funext fun y =>
    congrArg (A1 m c) (funext fun a => match a with | ⟨0, _⟩ => Fin.ext (Nat.lt_one_iff.mp (Fin.isLt _)))
  unfold used
  rw [e]
  rfl

/-- The blocks' outputs, the unused blocks zeroed. -/
def kept : FVec Ideal S552x256x1024 .f32 :=
  select (broadcastInDim S552x256x1024 ![0, 1, 2] bcast_S552x1x1_S552x256x1024_0_1_2 (broadcastInDim S552x1x1 ![0] bcast_S552_S552x1x1_0 (used m c)))
    (fed m c) (broadcastInDim S552x256x1024 ![] bcast_S_S552x256x1024 (id (constant S_ .f32 0x00000000#32)))

theorem kept_apply (t : Fin 552) (r : Fin 256) (j : Fin 1024) : kept m c (ix3 t r j) = (dataR m c h).out t r j := by
  have e : kept m c (ix3 t r j) = if used m c (ix1 t) = 1#1 then fed m c (ix3 t r j) else 0 := by
    pointwise [kept]
    show (if used m c (ix1 t) = 1#1 then fed m c (ix3 t r j) else Ideal.ofBits .f32 0#32) = _
    rw [show Ideal.ofBits .f32 0#32 = 0 from by simp [Ideal.ofBits, Ideal.ieee]]
  rw [e, used_apply, fed_apply m c h]
  unfold Data.out
  refine if_congr ?_ rfl rfl
  rw [show ∀ b : Bool, BitVec.ofBool b = 1#1 ↔ b = true from by decide, BitVec.slt_iff_toInt_lt]
  exact Iff.rfl

/-- The result. -/
def result : FVec Ideal S141312x1024 .f32 := shapeCast _ (kept m c) shapeCasts_S552x256x1024_S141312x1024

theorem result_apply (y : S141312x1024.Idx) : result m c y = (dataR m c h).arr y := by
  unfold result Data.arr
  refine (shapeCast_apply _ _ _ (ix3 (⟨(y 0).val / 256, _⟩ : Fin 552) (⟨(y 0).val % 256, _⟩ : Fin 256) (y 1 : Fin 1024)) ?_).trans (kept_apply m c h _ _ _)
  refine (Shape.rowMajor_val_three (d := ![552, 256, 1024]) _).trans
    (Eq.trans ?_ (Shape.rowMajor_val_two (d := ![141312, 1024]) y).symm)
  show ((y 0).val / 256 * 256 + (y 0).val % 256) * 1024 + (y 1).val = (y 0).val * 1024 + (y 1).val
  omega

theorem res_eq : Value.res_main_v100 m c = result m c := rfl

/-- The reference's run: the result over the experts' data, the arguments unchanged. -/
theorem run_experts (ρ : Dev nD → PrngReg) (h : ∀ (c : Dev nD) (t : Fin 552), (A0 m c (ix1 t)).toNat < 32) :
    θ_run defs (onTc (τ := τ) (main (F := Ideal))) ⟨m, fun _ => 0, ρ⟩ fun r => ∀ c : Dev nD,
      r.2.mem (c.tc.loc main_v100) = (fun y : S141312x1024.Idx => (dataR m c (h c)).arr y)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  refine (θ_run defs _ _).mono (fun r hr c => ?_) (Value.run m ρ)
  obtain ⟨e0, e1⟩ := hr c
  exact ⟨e0.trans ((res_eq m c).trans (funext fun y => result_apply m c (h c) y)), e1⟩

end Experts.Ref
-- ==== Proof.ExpPre.lean ====
module

public import proofs.«01_k».proof.Pre_experts_in_range
public import Idealize.ShloMosaic.Lib.ReduceAll
public import Idealize.ShloMosaic.Lib.Affine
public import Idealize.ShloMosaic.Lib.Pointwise
public import Idealize.ShloMosaic.Lib.WordArith

/-! What the experts' condition says: every entry of the table is one of the 32 experts. -/

@[expose] public section

noncomputable section

namespace Experts

open Idealize.ShloMosaic

theorem preFacts : Cert.Pre_experts_in_range.Facts := by
  constructor <;> decide

open Cert.Pre_experts_in_range in
theorem pre_range {F : FTy → Type} [FloatOps F] [Facts] (a0 : IVec S552 32) (a1 : IVec S1 32) (a2 : FVec F S141312x1024 .f32)
    (a3 : FVec F S4x32x1024x2048 .f32) (a4 : FVec F S4x32x2048 .f32) (a5 : FVec F S4x32x1024x1024 .f32) (a6 : FVec F S4x32x1024 .f32)
    (h : fn a0 a1 a2 a3 a4 a5 a6 = fun _ => 1#1) (t : Fin 552) : (a0 (ix1 t)).toNat < 32 := by
  have e := congrFun h (fun k => k.elim0)
  unfold fn at e
  obtain ⟨e0, e1⟩ := IntOp.andi_eq_one.1 e
  haveI : Subsingleton S_.Idx := ⟨fun a b => funext fun k => k.elim0⟩
  have k0 := Host.reduce_andi_all _ _ _ _ _ e0 (ix1 t)
  have k1 := Host.reduce_andi_all _ _ _ _ _ e1 (ix1 t)
  have q : ∀ b : Bool, BitVec.ofBool b = 1#1 → b = true := by decide
  exact WordArith.toNat_lt_of_zero_sle_of_slt_ofNat _ 32 (by decide) (q _ k0) (q _ k1)

end Experts
-- ==== Proof.lean ====
/- The certificate: the frames of the programs, the two scans' results as one recurrence, the two in-projections' results
   as one row-by-row product, and the two experts' results as one network a block. -/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.Kernel.Frame
public import proofs.«01_k».proof.Proof.Gen.ReferenceIdeal
public import proofs.«01_k».proof.Proof.Arrays
public import proofs.«01_k».proof.Proof.RefRun
public import proofs.«01_k».proof.Proof.RefArrays
public import proofs.«01_k».proof.Proof.Tame
public import proofs.«01_k».proof.Proof.Gen.Kernel2
public import proofs.«01_k».proof.Proof.Gen.Kernel2Ideal
public import proofs.«01_k».proof.Proof.Gen.Kernel2Ideal.Value
public import proofs.«01_k».proof.Proof.Gen.Kernel2.Frame
public import proofs.«01_k».proof.Proof.Gen.Reference2Ideal
public import proofs.«01_k».proof.Proof.ProjKer
public import proofs.«01_k».proof.Proof.ProjRef
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.MergeKer
public import proofs.«01_k».proof.Proof.MergeRef
public import proofs.«01_k».proof.Proof.ExpEnd
public import proofs.«01_k».proof.Proof.ExpRef
public import proofs.«01_k».proof.Proof.ExpPre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Pre_gates_and_values_tame.Facts := Hgrn.preFacts
local instance : Cert.Pre_experts_in_range.Facts := Experts.preFacts

/-- The reference leaves its arguments alone, and has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Hgrn.Ref.run_states m ρ)

/-- Arguments that agree make one recurrence. -/
theorem same_data (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Hgrn.Ref.dataR m' c = Hgrn.Ker.dataK m c := by
  show Hgrn.Ref.dataA _ _ _ = _
  rw [h0, h2, h3]
  rfl

/-- Kernel and reference end with the same three arrays: outputs of the two directions and final states. -/
theorem same_results : Cert.algebraic_KernelIdeal_ReferenceIdeal_pre_gates_and_values_tame := by
  intro m g m' g' hp ha
  have hK := fun c => Hgrn.tame_of_pre m hp c
  have hE := fun c => same_data m m' c (ha c).1 (ha c).2.2.1 (ha c).2.2.2
  have hR := fun c => (hE c).symm ▸ hK c
  refine ⟨fun c y => Hgrn.outArr (Hgrn.Ker.dataK m c) 0 (y 0) (y 1) (y 2), fun c y => Hgrn.outArr (Hgrn.Ker.dataK m c) 1 (y 0) (y 1) (y 2),
    fun c y => Hgrn.stArr (Hgrn.Ker.dataK m c) (y 0) (y 1) (y 2) (y 3) (y 4), ?_, ?_⟩
  · refine (θ_run Cert.KernelIdeal.defs _ _).mono (fun r h c => ?_) (Cert.KernelIdeal.Value.run_blocks m g)
    obtain ⟨e0, e1, e2, k⟩ := h c
    exact ⟨e0.trans (Hgrn.Ker.arr14 m c (hK c)), e1.trans (Hgrn.Ker.arr15 m c (hK c)), e2.trans (Hgrn.Ker.arr16 m c (hK c)), k⟩
  · refine (θ_run Cert.ReferenceIdeal.defs _ _).mono (fun r h c => ?_) (Hgrn.Ref.run_states m' g')
    obtain ⟨e0, e1, e2, k⟩ := h c
    refine ⟨e0.trans ((Hgrn.Ref.fwd_array (hR c)).trans ?_), e1.trans ((Hgrn.Ref.bwd_array (hR c)).trans ?_),
      e2.trans ((Hgrn.Ref.fin_array (hR c)).trans ?_), k⟩
    all_goals rw [hE c]; rfl

/-- The in-projection's reference leaves its arguments alone, and has no semaphore. -/
theorem frame_reference2 : Cert.quiescent_Reference2Ideal := fun m ρ _ =>
  (θ_run Cert.Reference2Ideal.defs _ _).mono
    (fun r h => ⟨fun c => (h c).2.2, sem_eq_zero_of_no_sems (by decide) r.2⟩) (Proj.Ref.run_projections m ρ)

/-- Arguments that agree make one projection. -/
theorem same_rows (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5)) :
    Proj.Ref.dataR m' c = Proj.Ker.dataK m c := by
  unfold Proj.Ref.dataR
  rw [h0, h1, h2, h3, h4, h5]
  rfl

/-- Kernel and reference end with the same projections, and the same first columns of them. -/
theorem same_projections : Cert.algebraic_Kernel2Ideal_Reference2Ideal := by
  intro m g m' g' _ ha
  have hE := fun c => same_rows m m' c (ha c).1 (ha c).2.1 (ha c).2.2.1 (ha c).2.2.2.1 (ha c).2.2.2.2.1 (ha c).2.2.2.2.2
  refine ⟨fun c y => (Proj.Ker.dataK m c).out (y 0) (y 1),
    fun c y => (Proj.Ker.dataK m c).out (y 0) ⟨(y 1).val, lt_trans (show (y 1).val < 512 from (y 1).isLt) (by omega)⟩, ?_, ?_⟩
  · refine (θ_run Cert.Kernel2Ideal.defs _ _).mono (fun r h c => ?_) (Cert.Kernel2Ideal.Value.run_blocks m g)
    obtain ⟨e0, e1, k⟩ := h c
    exact ⟨e0.trans (Proj.Ker.arr4 m c), e1.trans (Proj.Ker.arr5 m c), k⟩
  · refine (θ_run Cert.Reference2Ideal.defs _ _).mono (fun r h c => ?_) (Proj.Ref.run_projections m' g')
    obtain ⟨e0, e1, k⟩ := h c
    refine ⟨e0.trans ?_, e1.trans ?_, k⟩
    all_goals rw [hE c]; rfl

/-- The condition on the experts' kernel's arguments puts its table in range. -/
theorem in_range (m : (ℓ : Loc Cert.Kernel3Ideal.nD Cert.Kernel3Ideal.τ Cert.Kernel3Ideal.sig) → Buf (Elt Ideal) ℓ)
    (hp : Cert.Pre_Kernel3Ideal m) : Experts.InRange m :=
  fun t => Experts.pre_range _ _ _ _ _ _ _ (hp Experts.dev0) t

/-- The two copies of the experts' kernel have one table of bodies. -/
theorem bodies_eq : @Cert.Kernel3.defs₀ Bits _ _ = @Cert.Kernel3Ideal.defs₀ Bits _ _ := by
  unfold Cert.Kernel3.defs₀ Cert.Kernel3Ideal.defs₀
  refine congrArg Defs.onTc (funext fun l => funext fun x => ?_)
  match l, x with
  | 0, (t, s) => rfl

theorem defs_eq : @Cert.Kernel3.defs Bits _ _ = @Cert.Kernel3Ideal.defs Bits _ _ :=
  congrArg (Pipeline.defs (Cert.Kernel3Ideal.pcfgs (F := Bits))) bodies_eq

/-- The experts' kernel, as taken, leaves its arguments alone and its semaphores at zero. -/
theorem frame_kernel3 : Cert.quiescent_Kernel3 := fun m ρ hp => by
  have hr : Experts.InRange (F := Bits) m := fun t => Experts.pre_range _ _ _ _ _ _ _ (hp Experts.dev0) t
  rw [defs_eq]
  exact (θ_run Cert.Kernel3Ideal.defs _ _).mono (fun _ h => ⟨fun c => (h.1 c).2, h.2⟩) (Experts.run_ends (F := Bits) m ρ hr)

/-- So does the experts' kernel over the extended reals. -/
theorem frame_kernel3Ideal : Cert.quiescent_Kernel3Ideal := fun m ρ hp =>
  (θ_run Cert.Kernel3Ideal.defs _ _).mono (fun _ h => ⟨fun c => (h.1 c).2, h.2⟩) (Experts.run_ends m ρ (in_range m hp))

/-- The experts' reference leaves its arguments alone, and has no semaphore. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- Equal arguments are equal data. -/
theorem data_congr {e e' n n' x x' w1 w1' b1 b1' w2 w2' b2 b2'} (he : e' = e) (hn : n' = n) (hx : x' = x) (hw1 : w1' = w1)
    (hb1 : b1' = b1) (hw2 : w2' = w2) (hb2 : b2' = b2) (h : ∀ t : Fin 552, (e (ix1 t)).toNat < 32) (h' : ∀ t : Fin 552, (e' (ix1 t)).toNat < 32) :
    Experts.dataOf e' n' x' w1' b1' w2' b2' h' = Experts.dataOf e n x w1 b1 w2 b2 h := by
  subst he hn hx hw1 hb1 hw2 hb2
  rfl

/-- Kernel and reference end with the same rows. -/
theorem same_experts : Cert.algebraic_Kernel3Ideal_Reference3Ideal := by
  intro m g m' g' hp ha
  have hK := in_range m hp
  have hR : ∀ (c : Dev Cert.Reference3Ideal.nD) (t : Fin 552), (Experts.Ref.A0 m' c (ix1 t)).toNat < 32 := fun c t => by
    have e : Experts.Ref.A0 m' c = Experts.tabE m := (ha c).1.trans (by rw [Experts.dev_eq c])
    rw [e]
    exact hK t
  have hE : ∀ c, Experts.Ref.dataR m' c (hR c) = Experts.dataK m hK c := fun c => by
    obtain ⟨h0, h1, h2, h3, h4, h5, h6⟩ := ha c
    exact data_congr (h0.trans (by rw [Experts.dev_eq c])) (h1.trans (by rw [Experts.dev_eq c])) h2 h3 h4 h5 h6 _ _
  refine ⟨fun c y => (Experts.dataK m hK c).arr y, ?_, ?_⟩
  · refine (θ_run Cert.Kernel3Ideal.defs _ _).mono (fun r h c => ?_) (Experts.run_ends m g hK)
    obtain ⟨e, k⟩ := h.1 c
    exact ⟨e.trans (Experts.arr5 m hK c), k⟩
  · refine (θ_run Cert.Reference3Ideal.defs _ _).mono (fun r h c => ?_) (Experts.Ref.run_experts m' g' hR)
    obtain ⟨e, k⟩ := h c
    exact ⟨e.trans (funext fun y => congrArg (fun D : Experts.Data => D.arr y) (hE c)), k⟩

set_option maxHeartbeats 20000000 in
/-- The two copies of the merge kernel have one table of bodies. -/
theorem bodies_eq4 : @Cert.Kernel4.defs₀ Bits _ _ = @Cert.Kernel4Ideal.defs₀ Bits _ _ := by
  sl_kernel_rfl

set_option maxHeartbeats 20000000 in
theorem defs_eq4 : @Cert.Kernel4.defs Bits _ _ = @Cert.Kernel4Ideal.defs Bits _ _ :=
  congrArg (Pipeline.defs (Cert.Kernel4Ideal.pcfgs (F := Bits))) bodies_eq4

set_option maxHeartbeats 20000000 in
/-- The merge kernel, as taken, leaves its arguments alone and its semaphores at zero. -/
theorem frame_kernel4 : Cert.quiescent_Kernel4 := fun m ρ _ => by
  rw [defs_eq4]
  exact Run4.frame (F := Bits) m ρ

/-- The merge's reference leaves its arguments alone, and has no semaphore. -/
theorem frame_reference4 : Cert.quiescent_Reference4Ideal := fun m ρ _ =>
  (θ_run Cert.Reference4Ideal.defs _ _).mono
    (fun r h => ⟨fun c => (h c).2.2, sem_eq_zero_of_no_sems (by decide) r.2⟩) (Merge.Ref.run_merge m ρ)

/-- Arguments that agree make one merge. -/
theorem same_tokens (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2)
      = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3)
      = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4)
      = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5)
      = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6)
      = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7)
      = m ((c.tc : Thread Cert.Kernel4Ideal.nD Cert.Kernel4Ideal.τ).loc Cert.Kernel4Ideal.main_arg7))
    (h8 : m' ((c.tc : Thread Cert.Reference4Ideal.nD Cert.Reference4Ideal.τ).loc Cert.Reference4Ideal.main_arg8)
      = m ((c.tc : Thread Cert.Kernel4Ideal.nD Cert.Kernel4Ideal.τ).loc Cert.Kernel4Ideal.main_arg8))
    (h9 : m' ((c.tc : Thread Cert.Reference4Ideal.nD Cert.Reference4Ideal.τ).loc Cert.Reference4Ideal.main_arg9)
      = m ((c.tc : Thread Cert.Kernel4Ideal.nD Cert.Kernel4Ideal.τ).loc Cert.Kernel4Ideal.main_arg9))
    (h10 : m' ((c.tc : Thread Cert.Reference4Ideal.nD Cert.Reference4Ideal.τ).loc Cert.Reference4Ideal.main_arg10)
      = m ((c.tc : Thread Cert.Kernel4Ideal.nD Cert.Kernel4Ideal.τ).loc Cert.Kernel4Ideal.main_arg10))
    (h11 : m' ((c.tc : Thread Cert.Reference4Ideal.nD Cert.Reference4Ideal.τ).loc Cert.Reference4Ideal.main_arg11)
      = m ((c.tc : Thread Cert.Kernel4Ideal.nD Cert.Kernel4Ideal.τ).loc Cert.Kernel4Ideal.main_arg11))
    (h12 : m' ((c.tc : Thread Cert.Reference4Ideal.nD Cert.Reference4Ideal.τ).loc Cert.Reference4Ideal.main_arg12)
      = m ((c.tc : Thread Cert.Kernel4Ideal.nD Cert.Kernel4Ideal.τ).loc Cert.Kernel4Ideal.main_arg12))
    (h13 : m' ((c.tc : Thread Cert.Reference4Ideal.nD Cert.Reference4Ideal.τ).loc Cert.Reference4Ideal.main_arg13)
      = m ((c.tc : Thread Cert.Kernel4Ideal.nD Cert.Kernel4Ideal.τ).loc Cert.Kernel4Ideal.main_arg13))
    (h14 : m' ((c.tc : Thread Cert.Reference4Ideal.nD Cert.Reference4Ideal.τ).loc Cert.Reference4Ideal.main_arg14)
      = m ((c.tc : Thread Cert.Kernel4Ideal.nD Cert.Kernel4Ideal.τ).loc Cert.Kernel4Ideal.main_arg14))
    (h15 : m' ((c.tc : Thread Cert.Reference4Ideal.nD Cert.Reference4Ideal.τ).loc Cert.Reference4Ideal.main_arg15)
      = m ((c.tc : Thread Cert.Kernel4Ideal.nD Cert.Kernel4Ideal.τ).loc Cert.Kernel4Ideal.main_arg15)) :
    Merge.Ref.dataR m' c = Merge.Ker.dataK m c := by
  unfold Merge.Ref.dataR
  rw [h0, h1, h2, h3, h4, h5, h6, h7, h8, h9, h10, h11, h12, h13, h14, h15]
  rfl

/-- Kernel and reference end with the same tokens, and the same normalised tokens. -/
theorem same_merge : Cert.algebraic_Kernel4Ideal_Reference4Ideal := by
  intro m g m' g' _ ha
  have hE : ∀ c, Merge.Ref.dataR m' c = Merge.Ker.dataK m c := fun c => by
    obtain ⟨h0, h1, h2, h3, h4, h5, h6, h7, h8, h9, h10, h11, h12, h13, h14, h15, -⟩ := ha c
    exact same_tokens m m' c h0 h1 h2 h3 h4 h5 h6 h7 h8 h9 h10 h11 h12 h13 h14 h15
  refine ⟨fun c y => Merge.after ((Merge.Ker.dataK m c).token (y 0)) (Merge.Ker.dataK m c).w (y 1),
    fun c y => Merge.normed ((Merge.Ker.dataK m c).token (y 0)) (Merge.Ker.dataK m c).w (y 1), ?_, ?_⟩
  · refine (θ_run Cert.Kernel4Ideal.defs _ _).mono (fun r h c => ?_) (θ_run_and (Run4.run_main (F := Ideal) m g) (Run4.unchanged (F := Ideal) m g))
    exact ⟨((h.1 c).1 21).trans (Merge.Ker.arr21 m c), ((h.1 c).1 22).trans (Merge.Ker.arr22 m c), h.2 c⟩
  · refine (θ_run Cert.Reference4Ideal.defs _ _).mono (fun r h c => ?_) (Merge.Ref.run_merge m' g')
    obtain ⟨e0, e1, k⟩ := h c
    refine ⟨e0.trans ?_, e1.trans ?_, k⟩
    all_goals rw [hE c]; rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Hgrn.preFacts, Experts.preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    frame_kernel3, frame_kernel3Ideal, frame_reference3, fun m ρ _ => frame_reference3 m ρ trivial,
    frame_kernel4, fun m ρ _ => Run4.frame (F := Ideal) m ρ, frame_reference4,
    trivial, same_results, trivial, same_projections, trivial, same_experts, trivial, same_merge⟩

end Cert.Proof

end
